-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2 = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_KernelIdeal_ready [hPre_ready : Cert.Pre_ready.Facts] (m : (ℓ : Loc Cert.KernelIdeal.nD Cert.KernelIdeal.τ Cert.KernelIdeal.sig) → Buf (Elt Ideal) ℓ) : Prop :=
  ∀ c : Dev Cert.KernelIdeal.nD,
    (Cert.Pre_ready.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_ready.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_ready.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_ready.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_ready.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_ready.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.1 = (fun _ => 1#1)
    ∧ (Cert.Pre_ready.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2 = (fun _ => 1#1)

def Pre_KernelReferenceIdeal [hPre_ready : Cert.Pre_ready.Facts] (m : (ℓ : Loc Cert.KernelReferenceIdeal.nD Cert.KernelReferenceIdeal.τ Cert.KernelReferenceIdeal.sig) → Buf (Elt Ideal) ℓ) : Prop :=
  ∀ c : Dev Cert.KernelReferenceIdeal.nD,
    (Cert.Pre_ready.fn (F := Ideal) (m ((c.tc : Thread Cert.KernelReferenceIdeal.nD Cert.KernelReferenceIdeal.τ).loc Cert.KernelReferenceIdeal.main_arg0)) (m ((c.tc : Thread Cert.KernelReferenceIdeal.nD Cert.KernelReferenceIdeal.τ).loc Cert.KernelReferenceIdeal.main_arg1)) (m ((c.tc : Thread Cert.KernelReferenceIdeal.nD Cert.KernelReferenceIdeal.τ).loc Cert.KernelReferenceIdeal.main_arg2)) (m ((c.tc : Thread Cert.KernelReferenceIdeal.nD Cert.KernelReferenceIdeal.τ).loc Cert.KernelReferenceIdeal.main_arg3))).1 = (fun _ => 1#1)
    ∧ (Cert.Pre_ready.fn (F := Ideal) (m ((c.tc : Thread Cert.KernelReferenceIdeal.nD Cert.KernelReferenceIdeal.τ).loc Cert.KernelReferenceIdeal.main_arg0)) (m ((c.tc : Thread Cert.KernelReferenceIdeal.nD Cert.KernelReferenceIdeal.τ).loc Cert.KernelReferenceIdeal.main_arg1)) (m ((c.tc : Thread Cert.KernelReferenceIdeal.nD Cert.KernelReferenceIdeal.τ).loc Cert.KernelReferenceIdeal.main_arg2)) (m ((c.tc : Thread Cert.KernelReferenceIdeal.nD Cert.KernelReferenceIdeal.τ).loc Cert.KernelReferenceIdeal.main_arg3))).2.1 = (fun _ => 1#1)
    ∧ (Cert.Pre_ready.fn (F := Ideal) (m ((c.tc : Thread Cert.KernelReferenceIdeal.nD Cert.KernelReferenceIdeal.τ).loc Cert.KernelReferenceIdeal.main_arg0)) (m ((c.tc : Thread Cert.KernelReferenceIdeal.nD Cert.KernelReferenceIdeal.τ).loc Cert.KernelReferenceIdeal.main_arg1)) (m ((c.tc : Thread Cert.KernelReferenceIdeal.nD Cert.KernelReferenceIdeal.τ).loc Cert.KernelReferenceIdeal.main_arg2)) (m ((c.tc : Thread Cert.KernelReferenceIdeal.nD Cert.KernelReferenceIdeal.τ).loc Cert.KernelReferenceIdeal.main_arg3))).2.2.1 = (fun _ => 1#1)
    ∧ (Cert.Pre_ready.fn (F := Ideal) (m ((c.tc : Thread Cert.KernelReferenceIdeal.nD Cert.KernelReferenceIdeal.τ).loc Cert.KernelReferenceIdeal.main_arg0)) (m ((c.tc : Thread Cert.KernelReferenceIdeal.nD Cert.KernelReferenceIdeal.τ).loc Cert.KernelReferenceIdeal.main_arg1)) (m ((c.tc : Thread Cert.KernelReferenceIdeal.nD Cert.KernelReferenceIdeal.τ).loc Cert.KernelReferenceIdeal.main_arg2)) (m ((c.tc : Thread Cert.KernelReferenceIdeal.nD Cert.KernelReferenceIdeal.τ).loc Cert.KernelReferenceIdeal.main_arg3))).2.2.2.1 = (fun _ => 1#1)
    ∧ (Cert.Pre_ready.fn (F := Ideal) (m ((c.tc : Thread Cert.KernelReferenceIdeal.nD Cert.KernelReferenceIdeal.τ).loc Cert.KernelReferenceIdeal.main_arg0)) (m ((c.tc : Thread Cert.KernelReferenceIdeal.nD Cert.KernelReferenceIdeal.τ).loc Cert.KernelReferenceIdeal.main_arg1)) (m ((c.tc : Thread Cert.KernelReferenceIdeal.nD Cert.KernelReferenceIdeal.τ).loc Cert.KernelReferenceIdeal.main_arg2)) (m ((c.tc : Thread Cert.KernelReferenceIdeal.nD Cert.KernelReferenceIdeal.τ).loc Cert.KernelReferenceIdeal.main_arg3))).2.2.2.2.1 = (fun _ => 1#1)
    ∧ (Cert.Pre_ready.fn (F := Ideal) (m ((c.tc : Thread Cert.KernelReferenceIdeal.nD Cert.KernelReferenceIdeal.τ).loc Cert.KernelReferenceIdeal.main_arg0)) (m ((c.tc : Thread Cert.KernelReferenceIdeal.nD Cert.KernelReferenceIdeal.τ).loc Cert.KernelReferenceIdeal.main_arg1)) (m ((c.tc : Thread Cert.KernelReferenceIdeal.nD Cert.KernelReferenceIdeal.τ).loc Cert.KernelReferenceIdeal.main_arg2)) (m ((c.tc : Thread Cert.KernelReferenceIdeal.nD Cert.KernelReferenceIdeal.τ).loc Cert.KernelReferenceIdeal.main_arg3))).2.2.2.2.2.1 = (fun _ => 1#1)
    ∧ (Cert.Pre_ready.fn (F := Ideal) (m ((c.tc : Thread Cert.KernelReferenceIdeal.nD Cert.KernelReferenceIdeal.τ).loc Cert.KernelReferenceIdeal.main_arg0)) (m ((c.tc : Thread Cert.KernelReferenceIdeal.nD Cert.KernelReferenceIdeal.τ).loc Cert.KernelReferenceIdeal.main_arg1)) (m ((c.tc : Thread Cert.KernelReferenceIdeal.nD Cert.KernelReferenceIdeal.τ).loc Cert.KernelReferenceIdeal.main_arg2)) (m ((c.tc : Thread Cert.KernelReferenceIdeal.nD Cert.KernelReferenceIdeal.τ).loc Cert.KernelReferenceIdeal.main_arg3))).2.2.2.2.2.2 = (fun _ => 1#1)

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsReferenceIdeal (m : (ℓ : Loc Cert.WeightsReferenceIdeal.nD Cert.WeightsReferenceIdeal.τ Cert.WeightsReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ready [hKernelIdeal : Cert.KernelIdeal.Facts] [hPre_ready : Cert.Pre_ready.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ready m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelReferenceIdeal [hKernelReferenceIdeal : Cert.KernelReferenceIdeal.Facts] [hPre_ready : Cert.Pre_ready.Facts] : Prop :=
  ∀ (m : (ℓ : Loc Cert.KernelReferenceIdeal.nD Cert.KernelReferenceIdeal.τ Cert.KernelReferenceIdeal.sig) → Buf (Elt Ideal) ℓ) (g : Dev Cert.KernelReferenceIdeal.nD → PrngReg), Pre_KernelReferenceIdeal m →
    θ_run (Cert.KernelReferenceIdeal.defs (F := Ideal)) (onTc (τ := Cert.KernelReferenceIdeal.τ) (Cert.KernelReferenceIdeal.main (F := Ideal))) ⟨m, fun _ => 0, g⟩ (fun r => (∀ c : Dev Cert.KernelReferenceIdeal.nD,
      r.2.mem ((c.tc : Thread Cert.KernelReferenceIdeal.nD Cert.KernelReferenceIdeal.τ).loc Cert.KernelReferenceIdeal.main_arg0) = m ((c.tc : Thread Cert.KernelReferenceIdeal.nD Cert.KernelReferenceIdeal.τ).loc Cert.KernelReferenceIdeal.main_arg0)
      ∧ r.2.mem ((c.tc : Thread Cert.KernelReferenceIdeal.nD Cert.KernelReferenceIdeal.τ).loc Cert.KernelReferenceIdeal.main_arg1) = m ((c.tc : Thread Cert.KernelReferenceIdeal.nD Cert.KernelReferenceIdeal.τ).loc Cert.KernelReferenceIdeal.main_arg1)
      ∧ r.2.mem ((c.tc : Thread Cert.KernelReferenceIdeal.nD Cert.KernelReferenceIdeal.τ).loc Cert.KernelReferenceIdeal.main_arg2) = m ((c.tc : Thread Cert.KernelReferenceIdeal.nD Cert.KernelReferenceIdeal.τ).loc Cert.KernelReferenceIdeal.main_arg2)
      ∧ r.2.mem ((c.tc : Thread Cert.KernelReferenceIdeal.nD Cert.KernelReferenceIdeal.τ).loc Cert.KernelReferenceIdeal.main_arg3) = m ((c.tc : Thread Cert.KernelReferenceIdeal.nD Cert.KernelReferenceIdeal.τ).loc Cert.KernelReferenceIdeal.main_arg3))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1))
      ∧ r.2.sem = fun _ => 0)

def quiescent_WeightsReferenceIdeal [hWeightsReferenceIdeal : Cert.WeightsReferenceIdeal.Facts] : Prop :=
  ∀ (m : (ℓ : Loc Cert.WeightsReferenceIdeal.nD Cert.WeightsReferenceIdeal.τ Cert.WeightsReferenceIdeal.sig) → Buf (Elt Ideal) ℓ) (g : Dev Cert.WeightsReferenceIdeal.nD → PrngReg), Pre_WeightsReferenceIdeal m →
    θ_run (Cert.WeightsReferenceIdeal.defs (F := Ideal)) (onTc (τ := Cert.WeightsReferenceIdeal.τ) (Cert.WeightsReferenceIdeal.main (F := Ideal))) ⟨m, fun _ => 0, g⟩ (fun r => (∀ c : Dev Cert.WeightsReferenceIdeal.nD,
      r.2.mem ((c.tc : Thread Cert.WeightsReferenceIdeal.nD Cert.WeightsReferenceIdeal.τ).loc Cert.WeightsReferenceIdeal.main_arg0) = m ((c.tc : Thread Cert.WeightsReferenceIdeal.nD Cert.WeightsReferenceIdeal.τ).loc Cert.WeightsReferenceIdeal.main_arg0)
      ∧ r.2.mem ((c.tc : Thread Cert.WeightsReferenceIdeal.nD Cert.WeightsReferenceIdeal.τ).loc Cert.WeightsReferenceIdeal.main_arg1) = m ((c.tc : Thread Cert.WeightsReferenceIdeal.nD Cert.WeightsReferenceIdeal.τ).loc Cert.WeightsReferenceIdeal.main_arg1))
      ∧ r.2.sem = fun _ => 0)

def preserves_Kernel_KernelIdeal : Prop :=
  True

def algebraic_KernelIdeal_KernelReferenceIdeal_pre_ready [hKernelIdeal : Cert.KernelIdeal.Facts] [hKernelReferenceIdeal : Cert.KernelReferenceIdeal.Facts] [hPre_ready : Cert.Pre_ready.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.KernelReferenceIdeal.nD Cert.KernelReferenceIdeal.τ Cert.KernelReferenceIdeal.sig) → Buf (Elt Ideal) ℓ) (g' : Dev Cert.KernelReferenceIdeal.nD → PrngReg), Pre_KernelIdeal_ready m →
    (∀ c : Dev Cert.KernelIdeal.nD,
      m' ((c.tc : Thread Cert.KernelReferenceIdeal.nD Cert.KernelReferenceIdeal.τ).loc Cert.KernelReferenceIdeal.main_arg0) = m ((c.tc : Thread Cert.KernelIdeal.nD Cert.KernelIdeal.τ).loc Cert.KernelIdeal.main_arg0)
      ∧ m' ((c.tc : Thread Cert.KernelReferenceIdeal.nD Cert.KernelReferenceIdeal.τ).loc Cert.KernelReferenceIdeal.main_arg1) = m ((c.tc : Thread Cert.KernelIdeal.nD Cert.KernelIdeal.τ).loc Cert.KernelIdeal.main_arg1)
      ∧ m' ((c.tc : Thread Cert.KernelReferenceIdeal.nD Cert.KernelReferenceIdeal.τ).loc Cert.KernelReferenceIdeal.main_arg2) = m ((c.tc : Thread Cert.KernelIdeal.nD Cert.KernelIdeal.τ).loc Cert.KernelIdeal.main_arg2)
      ∧ m' ((c.tc : Thread Cert.KernelReferenceIdeal.nD Cert.KernelReferenceIdeal.τ).loc Cert.KernelReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.KernelReferenceIdeal.defs (F := Ideal)) (onTc (τ := Cert.KernelReferenceIdeal.τ) (Cert.KernelReferenceIdeal.main (F := Ideal))) ⟨m', fun _ => 0, g'⟩ (fun r => ∀ c : Dev Cert.KernelReferenceIdeal.nD,
          r.2.mem ((c.tc : Thread Cert.KernelReferenceIdeal.nD Cert.KernelReferenceIdeal.τ).loc Cert.KernelReferenceIdeal.main_v220) = v0 c
          ∧ r.2.mem ((c.tc : Thread Cert.KernelReferenceIdeal.nD Cert.KernelReferenceIdeal.τ).loc Cert.KernelReferenceIdeal.main_arg0) = m' ((c.tc : Thread Cert.KernelReferenceIdeal.nD Cert.KernelReferenceIdeal.τ).loc Cert.KernelReferenceIdeal.main_arg0)
          ∧ r.2.mem ((c.tc : Thread Cert.KernelReferenceIdeal.nD Cert.KernelReferenceIdeal.τ).loc Cert.KernelReferenceIdeal.main_arg1) = m' ((c.tc : Thread Cert.KernelReferenceIdeal.nD Cert.KernelReferenceIdeal.τ).loc Cert.KernelReferenceIdeal.main_arg1)
          ∧ r.2.mem ((c.tc : Thread Cert.KernelReferenceIdeal.nD Cert.KernelReferenceIdeal.τ).loc Cert.KernelReferenceIdeal.main_arg2) = m' ((c.tc : Thread Cert.KernelReferenceIdeal.nD Cert.KernelReferenceIdeal.τ).loc Cert.KernelReferenceIdeal.main_arg2)
          ∧ r.2.mem ((c.tc : Thread Cert.KernelReferenceIdeal.nD Cert.KernelReferenceIdeal.τ).loc Cert.KernelReferenceIdeal.main_arg3) = m' ((c.tc : Thread Cert.KernelReferenceIdeal.nD Cert.KernelReferenceIdeal.τ).loc Cert.KernelReferenceIdeal.main_arg3))

def preserves_Weights_WeightsIdeal : Prop :=
  True

def algebraic_WeightsIdeal_WeightsReferenceIdeal [hWeightsIdeal : Cert.WeightsIdeal.Facts] [hWeightsReferenceIdeal : Cert.WeightsReferenceIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsReferenceIdeal.nD Cert.WeightsReferenceIdeal.τ Cert.WeightsReferenceIdeal.sig) → Buf (Elt Ideal) ℓ) (g' : Dev Cert.WeightsReferenceIdeal.nD → PrngReg), Pre_WeightsIdeal m →
    (∀ c : Dev Cert.WeightsIdeal.nD,
      m' ((c.tc : Thread Cert.WeightsReferenceIdeal.nD Cert.WeightsReferenceIdeal.τ).loc Cert.WeightsReferenceIdeal.main_arg0) = m ((c.tc : Thread Cert.WeightsIdeal.nD Cert.WeightsIdeal.τ).loc Cert.WeightsIdeal.main_arg0)
      ∧ m' ((c.tc : Thread Cert.WeightsReferenceIdeal.nD Cert.WeightsReferenceIdeal.τ).loc Cert.WeightsReferenceIdeal.main_arg1) = m ((c.tc : Thread Cert.WeightsIdeal.nD Cert.WeightsIdeal.τ).loc Cert.WeightsIdeal.main_arg1)) →
    ∃ (v0 : (c : Dev Cert.WeightsIdeal.nD) → Buf (Elt Ideal) ((c.tc : Thread Cert.WeightsIdeal.nD Cert.WeightsIdeal.τ).loc Cert.WeightsIdeal.main_v2_0)) (v1 : (c : Dev Cert.WeightsIdeal.nD) → Buf (Elt Ideal) ((c.tc : Thread Cert.WeightsIdeal.nD Cert.WeightsIdeal.τ).loc Cert.WeightsIdeal.main_v2_1)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v2_0) = v0 c
          ∧ r.2.mem ((c.tc : Thread Cert.WeightsIdeal.nD Cert.WeightsIdeal.τ).loc Cert.WeightsIdeal.main_v2_1) = v1 c
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1))
      ∧ θ_run (Cert.WeightsReferenceIdeal.defs (F := Ideal)) (onTc (τ := Cert.WeightsReferenceIdeal.τ) (Cert.WeightsReferenceIdeal.main (F := Ideal))) ⟨m', fun _ => 0, g'⟩ (fun r => ∀ c : Dev Cert.WeightsReferenceIdeal.nD,
          r.2.mem ((c.tc : Thread Cert.WeightsReferenceIdeal.nD Cert.WeightsReferenceIdeal.τ).loc Cert.WeightsReferenceIdeal.main_v60) = v0 c
          ∧ r.2.mem ((c.tc : Thread Cert.WeightsReferenceIdeal.nD Cert.WeightsReferenceIdeal.τ).loc Cert.WeightsReferenceIdeal.main_v113) = v1 c
          ∧ r.2.mem ((c.tc : Thread Cert.WeightsReferenceIdeal.nD Cert.WeightsReferenceIdeal.τ).loc Cert.WeightsReferenceIdeal.main_arg0) = m' ((c.tc : Thread Cert.WeightsReferenceIdeal.nD Cert.WeightsReferenceIdeal.τ).loc Cert.WeightsReferenceIdeal.main_arg0)
          ∧ r.2.mem ((c.tc : Thread Cert.WeightsReferenceIdeal.nD Cert.WeightsReferenceIdeal.τ).loc Cert.WeightsReferenceIdeal.main_arg1) = m' ((c.tc : Thread Cert.WeightsReferenceIdeal.nD Cert.WeightsReferenceIdeal.τ).loc Cert.WeightsReferenceIdeal.main_arg1))

def Claim : Prop :=
  ∃ (hKernel : Cert.Kernel.Facts) (hKernelIdeal : Cert.KernelIdeal.Facts) (hKernelReferenceIdeal : Cert.KernelReferenceIdeal.Facts) (hWeights : Cert.Weights.Facts) (hWeightsIdeal : Cert.WeightsIdeal.Facts) (hWeightsReferenceIdeal : Cert.WeightsReferenceIdeal.Facts) (hPre_in_range : Cert.Pre_in_range.Facts) (hPre_ready : Cert.Pre_ready.Facts),
    quiescent_Kernel (hKernel := hKernel) (hPre_in_range := hPre_in_range)
    ∧ quiescent_KernelIdeal (hKernelIdeal := hKernelIdeal) (hPre_in_range := hPre_in_range)
    ∧ quiescent_KernelIdeal_pre_ready (hKernelIdeal := hKernelIdeal) (hPre_ready := hPre_ready)
    ∧ quiescent_KernelReferenceIdeal (hKernelReferenceIdeal := hKernelReferenceIdeal) (hPre_ready := hPre_ready)
    ∧ quiescent_Weights (hWeights := hWeights)
    ∧ quiescent_WeightsIdeal (hWeightsIdeal := hWeightsIdeal)
    ∧ quiescent_WeightsReferenceIdeal (hWeightsReferenceIdeal := hWeightsReferenceIdeal)
    ∧ preserves_Kernel_KernelIdeal
    ∧ algebraic_KernelIdeal_KernelReferenceIdeal_pre_ready (hKernelIdeal := hKernelIdeal) (hKernelReferenceIdeal := hKernelReferenceIdeal) (hPre_ready := hPre_ready)
    ∧ preserves_Weights_WeightsIdeal
    ∧ algebraic_WeightsIdeal_WeightsReferenceIdeal (hWeightsIdeal := hWeightsIdeal) (hWeightsReferenceIdeal := hWeightsReferenceIdeal)
-- ==== Pre_in_range.lean ====
abbrev S8x384x7x7x512 : Shape := ⟨5, ![8, 384, 7, 7, 512]⟩
abbrev S8x8x384 : Shape := ⟨3, ![8, 8, 384]⟩
abbrev S8x384x256 : Shape := ⟨3, ![8, 384, 256]⟩
abbrev S8x1x256 : Shape := ⟨3, ![8, 1, 256]⟩
abbrev S_ : Shape := ⟨0, ![]⟩

class Facts : Prop where
  bcast_S_S8x384x256 : S_.BroadcastsInDim S8x384x256 (![] : Fin 0 → Fin S8x384x256.rank)
  bcast_S_S8x1x256 : S_.BroadcastsInDim S8x1x256 (![] : Fin 0 → Fin S8x1x256.rank)

variable [Facts]

def fn {F : FTy → Type} [FloatOps F] (main_arg0 : IVec S8x384x7x7x512 8) (main_arg1 : FVec F S8x8x384 .f32) (main_arg2 : IVec S8x384x256 32) (main_arg3 : IVec S8x1x256 32) : IVec S8x384x256 1 × IVec S8x384x256 1 × IVec S8x1x256 1 :=
  let main_c : IVec S_ 32 := constantI S_ 32 65535#32
  let main_v0 : IVec S8x384x256 32 := broadcastInDim S8x384x256 ![] bcast_S_S8x384x256 main_c
  let main_v1 : IVec S8x384x256 32 := andi main_arg2 main_v0
  let main_c_0 : IVec S_ 32 := constantI S_ 32 16#32
  let main_v2 : IVec S8x384x256 32 := broadcastInDim S8x384x256 ![] bcast_S_S8x384x256 main_c_0
  let main_v3 : IVec S8x384x256 32 := Host.shrui main_arg2 main_v2
  let main_c_1 : IVec S_ 32 := constantI S_ 32 3080#32
  let main_v4 : IVec S8x384x256 32 := broadcastInDim S8x384x256 ![] bcast_S_S8x384x256 main_c_1
  let main_v5 : IVec S8x384x256 1 := cmpi .slt main_v1 main_v4
  let main_c_2 : IVec S_ 32 := constantI S_ 32 3080#32
  let main_v6 : IVec S8x384x256 32 := broadcastInDim S8x384x256 ![] bcast_S_S8x384x256 main_c_2
  let main_v7 : IVec S8x384x256 1 := cmpi .slt main_v3 main_v6
  let main_c_3 : IVec S_ 32 := constantI S_ 32 768#32
  let main_v8 : IVec S8x1x256 32 := broadcastInDim S8x1x256 ![] bcast_S_S8x1x256 main_c_3
  let main_v9 : IVec S8x1x256 1 := cmpi .sle main_arg3 main_v8
  (main_v5, main_v7, main_v9)
-- ==== Pre_ready.lean ====
abbrev S8x384x7x7x512 : Shape := ⟨5, ![8, 384, 7, 7, 512]⟩
abbrev S8x8x384 : Shape := ⟨3, ![8, 8, 384]⟩
abbrev S8x384x256 : Shape := ⟨3, ![8, 384, 256]⟩
abbrev S8x1x256 : Shape := ⟨3, ![8, 1, 256]⟩
abbrev S_ : Shape := ⟨0, ![]⟩
abbrev S8x1x384 : Shape := ⟨3, ![8, 1, 384]⟩
abbrev S8x1x1 : Shape := ⟨3, ![8, 1, 1]⟩

class Facts : Prop where
  bcast_S_S8x384x256 : S_.BroadcastsInDim S8x384x256 (![] : Fin 0 → Fin S8x384x256.rank)
  bcast_S8x1x256_S8x384x256_0_1_2 : S8x1x256.BroadcastsInDim S8x384x256 (![0, 1, 2] : Fin 3 → Fin S8x384x256.rank)
  bcast_S_S8x1x256 : S_.BroadcastsInDim S8x1x256 (![] : Fin 0 → Fin S8x1x256.rank)
  slices_S8x8x384_S8x1x384_0_4_0 : S8x8x384.Slices ![0, 4, 0] S8x1x384
  bcast_S_S8x1x384 : S_.BroadcastsInDim S8x1x384 (![] : Fin 0 → Fin S8x1x384.rank)
  slices_S8x1x256_S8x1x1_0_0_192 : S8x1x256.Slices ![0, 0, 192] S8x1x1
  bcast_S_S8x1x1 : S_.BroadcastsInDim S8x1x1 (![] : Fin 0 → Fin S8x1x1.rank)

variable [Facts]

def fn_part1 {F : FTy → Type} [FloatOps F] (main_arg3 : IVec S8x1x256 32) (main_v1 : IVec S8x384x256 32) (main_v3 : IVec S8x384x256 32) (main_v4 : IVec S8x384x256 32) (main_v5 : IVec S8x384x256 32) (main_v7 : IVec S8x384x256 1) (main_v9 : IVec S8x384x256 1) (main_v11 : IVec S8x1x256 1) (main_v15 : IVec S8x1x384 1) (main_v16 : IVec S8x384x256 1) (main_c_4 : IVec S_ 32) : IVec S8x384x256 1 × IVec S8x384x256 1 × IVec S8x1x256 1 × IVec S8x1x384 1 × IVec S8x384x256 1 × IVec S8x384x256 1 × IVec S8x1x1 1 :=
  let main_v17 : IVec S8x384x256 32 := broadcastInDim S8x384x256 ![] bcast_S_S8x384x256 main_c_4
  let main_v18 : IVec S8x384x256 1 := cmpi .sge main_v1 main_v17
  let main_v19 : IVec S8x384x256 1 := ori main_v16 main_v18
  let main_c_5 : IVec S_ 32 := constantI S_ 32 384#32
  let main_v20 : IVec S8x384x256 32 := broadcastInDim S8x384x256 ![] bcast_S_S8x384x256 main_c_5
  let main_v21 : IVec S8x384x256 32 := addi main_v4 main_v20
  let main_v22 : IVec S8x384x256 1 := cmpi .slt main_v21 main_v5
  let main_c_6 : IVec S_ 32 := constantI S_ 32 3072#32
  let main_v23 : IVec S8x384x256 32 := broadcastInDim S8x384x256 ![] bcast_S_S8x384x256 main_c_6
  let main_v24 : IVec S8x384x256 1 := cmpi .sge main_v3 main_v23
  let main_v25 : IVec S8x384x256 1 := ori main_v22 main_v24
  let main_v26 : IVec S8x1x1 32 := (extractStridedSlice S8x1x1 ![0, 0, 192] · slices_S8x1x256_S8x1x1_0_0_192) main_arg3
  let main_c_7 : IVec S_ 32 := constantI S_ 32 0#32
  let main_v27 : IVec S8x1x1 32 := broadcastInDim S8x1x1 ![] bcast_S_S8x1x1 main_c_7
  let main_v28 : IVec S8x1x1 1 := cmpi .sle main_v26 main_v27
  (main_v7, main_v9, main_v11, main_v15, main_v19, main_v25, main_v28)

def fn {F : FTy → Type} [FloatOps F] (main_arg0 : IVec S8x384x7x7x512 8) (main_arg1 : FVec F S8x8x384 .f32) (main_arg2 : IVec S8x384x256 32) (main_arg3 : IVec S8x1x256 32) : IVec S8x384x256 1 × IVec S8x384x256 1 × IVec S8x1x256 1 × IVec S8x1x384 1 × IVec S8x384x256 1 × IVec S8x384x256 1 × IVec S8x1x1 1 :=
  let main_c : IVec S_ 32 := constantI S_ 32 65535#32
  let main_v0 : IVec S8x384x256 32 := broadcastInDim S8x384x256 ![] bcast_S_S8x384x256 main_c
  let main_v1 : IVec S8x384x256 32 := andi main_arg2 main_v0
  let main_c_0 : IVec S_ 32 := constantI S_ 32 16#32
  let main_v2 : IVec S8x384x256 32 := broadcastInDim S8x384x256 ![] bcast_S_S8x384x256 main_c_0
  let main_v3 : IVec S8x384x256 32 := Host.shrui main_arg2 main_v2
  let main_v4 : IVec S8x384x256 32 := iotaInDim S8x384x256 32 1
  let main_v5 : IVec S8x384x256 32 := broadcastInDim S8x384x256 ![0, 1, 2] bcast_S8x1x256_S8x384x256_0_1_2 main_arg3
  let main_c_1 : IVec S_ 32 := constantI S_ 32 3080#32
  let main_v6 : IVec S8x384x256 32 := broadcastInDim S8x384x256 ![] bcast_S_S8x384x256 main_c_1
  let main_v7 : IVec S8x384x256 1 := cmpi .slt main_v1 main_v6
  let main_c_2 : IVec S_ 32 := constantI S_ 32 3080#32
  let main_v8 : IVec S8x384x256 32 := broadcastInDim S8x384x256 ![] bcast_S_S8x384x256 main_c_2
  let main_v9 : IVec S8x384x256 1 := cmpi .slt main_v3 main_v8
  let main_c_3 : IVec S_ 32 := constantI S_ 32 768#32
  let main_v10 : IVec S8x1x256 32 := broadcastInDim S8x1x256 ![] bcast_S_S8x1x256 main_c_3
  let main_v11 : IVec S8x1x256 1 := cmpi .sle main_arg3 main_v10
  let main_v12 : FVec F S8x1x384 .f32 := (extractStridedSlice S8x1x384 ![0, 4, 0] · slices_S8x8x384_S8x1x384_0_4_0) main_arg1
  let main_v13 : FVec F S8x1x384 .f32 := Host.absf main_v12
  let main_cst : FVec F S_ .f32 := constant S_ .f32 0x7F800000#32
  let main_v14 : FVec F S8x1x384 .f32 := broadcastInDim S8x1x384 ![] bcast_S_S8x1x384 main_cst
  let main_v15 : IVec S8x1x384 1 := cmpf .olt main_v13 main_v14
  let main_v16 : IVec S8x384x256 1 := cmpi .slt main_v4 main_v5
  let main_c_4 : IVec S_ 32 := constantI S_ 32 3072#32
  fn_part1 (F := F) main_arg3 main_v1 main_v3 main_v4 main_v5 main_v7 main_v9 main_v11 main_v15 main_v16 main_c_4
-- ==== Kernel.lean ====
abbrev S8x384x7x7x512 : Shape := ⟨5, ![8, 384, 7, 7, 512]⟩
abbrev S8x8x384 : Shape := ⟨3, ![8, 8, 384]⟩
abbrev S8x384x256 : Shape := ⟨3, ![8, 384, 256]⟩
abbrev S8x1x256 : Shape := ⟨3, ![8, 1, 256]⟩
abbrev S8x7x7x384x512 : Shape := ⟨5, ![8, 7, 7, 384, 512]⟩
abbrev S8x49x384x512 : Shape := ⟨4, ![8, 49, 384, 512]⟩
abbrev S8x6144x512 : Shape := ⟨3, ![8, 6144, 512]⟩
abbrev S1x49x384x512 : Shape := ⟨4, ![1, 49, 384, 512]⟩
abbrev S1x8x384 : Shape := ⟨3, ![1, 8, 384]⟩
abbrev S1x384x256 : Shape := ⟨3, ![1, 384, 256]⟩
abbrev S1x1x256 : Shape := ⟨3, ![1, 1, 256]⟩
abbrev S1x6144x512 : Shape := ⟨3, ![1, 6144, 512]⟩
abbrev S4x5784x128 : Shape := ⟨3, ![4, 5784, 128]⟩
abbrev S3080x128 : Shape := ⟨2, ![3080, 128]⟩
abbrev S8x128 : Shape := ⟨2, ![8, 128]⟩
abbrev S1x1x32x128 : Shape := ⟨4, ![1, 1, 32, 128]⟩
abbrev S32x128 : Shape := ⟨2, ![32, 128]⟩
abbrev S1x8x128 : Shape := ⟨3, ![1, 8, 128]⟩
abbrev S1x8x1 : Shape := ⟨3, ![1, 8, 1]⟩
abbrev S8x1 : Shape := ⟨2, ![8, 1]⟩
abbrev S1x1x1 : Shape := ⟨3, ![1, 1, 1]⟩
abbrev S1x128 : Shape := ⟨2, ![1, 128]⟩
abbrev S32x256 : Shape := ⟨2, ![32, 256]⟩
abbrev S96x256 : Shape := ⟨2, ![96, 256]⟩
abbrev S32x512 : Shape := ⟨2, ![32, 512]⟩
abbrev S256x512 : Shape := ⟨2, ![256, 512]⟩
abbrev S96x512 : Shape := ⟨2, ![96, 512]⟩
abbrev S1x8x512 : Shape := ⟨3, ![1, 8, 512]⟩
abbrev S8x512 : Shape := ⟨2, ![8, 512]⟩

abbrev nBuf : Space → Nat
  | .hbm => 7
  | .vmem => 8
  | .smem => 4
  | _ => 0

abbrev bufTy : (tb : Table) → Fin (tcTables nBuf tb) → BufTy
  | .hbm, ⟨0, _⟩ => ⟨S8x384x7x7x512, .i8⟩
  | .hbm, ⟨1, _⟩ => ⟨S8x8x384, .f32⟩
  | .hbm, ⟨2, _⟩ => ⟨S8x384x256, .i32⟩
  | .hbm, ⟨3, _⟩ => ⟨S8x1x256, .i32⟩
  | .hbm, ⟨4, _⟩ => ⟨S8x7x7x384x512, .i8⟩
  | .hbm, ⟨5, _⟩ => ⟨S8x49x384x512, .i8⟩
  | .hbm, ⟨6, _⟩ => ⟨S8x6144x512, .f32⟩
  | .local _ .vmem, ⟨0, _⟩ => ⟨S1x49x384x512, .i8⟩
  | .local _ .vmem, ⟨1, _⟩ => ⟨S1x49x384x512, .i8⟩
  | .local _ .vmem, ⟨2, _⟩ => ⟨S1x8x384, .f32⟩
  | .local _ .vmem, ⟨3, _⟩ => ⟨S1x8x384, .f32⟩
  | .local _ .vmem, ⟨4, _⟩ => ⟨S1x6144x512, .f32⟩
  | .local _ .vmem, ⟨5, _⟩ => ⟨S1x6144x512, .f32⟩
  | .local _ .vmem, ⟨6, _⟩ => ⟨S4x5784x128, .i32⟩
  | .local _ .vmem, ⟨7, _⟩ => ⟨S3080x128, .f32⟩
  | .local _ .smem, ⟨0, _⟩ => ⟨S1x384x256, .i32⟩
  | .local _ .smem, ⟨1, _⟩ => ⟨S1x384x256, .i32⟩
  | .local _ .smem, ⟨2, _⟩ => ⟨S1x1x256, .i32⟩
  | .local _ .smem, ⟨3, _⟩ => ⟨S1x1x256, .i32⟩
  | _, _ => ⟨S8x384x7x7x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg2_0 : Ref sig .tc := ⟨.smem, 0, rfl⟩
abbrev cc0_stg2_1 : Ref sig .tc := ⟨.smem, 1, rfl⟩
abbrev cc0_stg3_0 : Ref sig .tc := ⟨.smem, 2, rfl⟩
abbrev cc0_stg3_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c12_i32 : BitVec 32 := 12#32
  let v3 : BitVec 32 := Scalar.addi c0_i32_1 c12_i32
  let c1_i32 : BitVec 32 := 1#32
  ⟨c0_i32_1, v3, c1_i32⟩
@[reducible] def k0_t2_loop : Scf.Loop 32 :=
  let c0_i32_11 : BitVec 32 := 0#32
  let c7_i32_12 : BitVec 32 := 7#32
  let v25 : BitVec 32 := Scalar.addi c0_i32_11 c7_i32_12
  let c1_i32_13 : BitVec 32 := 1#32
  ⟨c0_i32_11, v25, c1_i32_13⟩
@[reducible] def k0_t3_loop : Scf.Loop 32 :=
  let c0_i32_15 : BitVec 32 := 0#32
  let c4_i32 : BitVec 32 := 4#32
  let v26 : BitVec 32 := Scalar.addi c0_i32_15 c4_i32
  let c1_i32_16 : BitVec 32 := 1#32
  ⟨c0_i32_15, v26, c1_i32_16⟩
def k0_mult1 (k0_t3 : Fin k0_t3_loop.trips) : BitVec 32 :=
  let c0_i32_15 : BitVec 32 := 0#32
  let c1_i32_16 : BitVec 32 := 1#32
  let arg10 : BitVec 32 := Scf.iv c0_i32_15 c1_i32_16 k0_t3
  let c128_i32 : BitVec 32 := 128#32
  let v29 : BitVec 32 := Scalar.muli arg10 c128_i32
  v29
def k0_off1 (k0_t1 : Fin k0_t1_loop.trips) (k0_t2 : Fin k0_t2_loop.trips) (k0_t3 : Fin k0_t3_loop.trips) (c0_i32_19 : BitVec 32) : Fin 4 → Nat :=
  let c0 : Index := 0#32
  let c0_i32_11 : BitVec 32 := 0#32
  let c1_i32_13 : BitVec 32 := 1#32
  let arg9 : BitVec 32 := Scf.iv c0_i32_11 c1_i32_13 k0_t2
  let c7_i32_18 : BitVec 32 := 7#32
  let v27 : BitVec 32 := Scalar.muli arg9 c7_i32_18
  let v28 : BitVec 32 := Scalar.addi v27 c0_i32_19
  let v31 : Index := Scalar.indexCast v28
  let c0_i32_1 : BitVec 32 := 0#32
  let c1_i32 : BitVec 32 := 1#32
  let arg8 : BitVec 32 := Scf.iv c0_i32_1 c1_i32 k0_t1
  let c32_i32 : BitVec 32 := 32#32
  let v24 : BitVec 32 := Scalar.muli arg8 c32_i32
  let v32 : Index := Scalar.indexCast v24
  let c0_i32_15 : BitVec 32 := 0#32
  let c1_i32_16 : BitVec 32 := 1#32
  let arg10 : BitVec 32 := Scf.iv c0_i32_15 c1_i32_16 k0_t3
  let c128_i32 : BitVec 32 := 128#32
  let v29 : BitVec 32 := Scalar.muli arg10 c128_i32
  let v30 : BitVec 32 := v29
  let v33 : Index := Scalar.indexCast v30
  ![0, v31.toNat, v32.toNat, v33.toNat]
def k0_mult2 (k0_t3 : Fin k0_t3_loop.trips) : BitVec 32 :=
  let c0_i32_15 : BitVec 32 := 0#32
  let c1_i32_16 : BitVec 32 := 1#32
  let arg10 : BitVec 32 := Scf.iv c0_i32_15 c1_i32_16 k0_t3
  let c128_i32_22 : BitVec 32 := 128#32
  let v39 : BitVec 32 := Scalar.muli arg10 c128_i32_22
  v39
def k0_mult3 (k0_t3 : Fin k0_t3_loop.trips) : BitVec 32 :=
  let c0_i32_15 : BitVec 32 := 0#32
  let c1_i32_16 : BitVec 32 := 1#32
  let arg10 : BitVec 32 := Scf.iv c0_i32_15 c1_i32_16 k0_t3
  let c128_i32_25 : BitVec 32 := 128#32
  let v49 : BitVec 32 := Scalar.muli arg10 c128_i32_25
  v49
def k0_mult4 (k0_t3 : Fin k0_t3_loop.trips) : BitVec 32 :=
  let c0_i32_15 : BitVec 32 := 0#32
  let c1_i32_16 : BitVec 32 := 1#32
  let arg10 : BitVec 32 := Scf.iv c0_i32_15 c1_i32_16 k0_t3
  let c128_i32_29 : BitVec 32 := 128#32
  let v59 : BitVec 32 := Scalar.muli arg10 c128_i32_29
  v59
def k0_mult5 (k0_t3 : Fin k0_t3_loop.trips) : BitVec 32 :=
  let c0_i32_15 : BitVec 32 := 0#32
  let c1_i32_16 : BitVec 32 := 1#32
  let arg10 : BitVec 32 := Scf.iv c0_i32_15 c1_i32_16 k0_t3
  let c128_i32_33 : BitVec 32 := 128#32
  let v69 : BitVec 32 := Scalar.muli arg10 c128_i32_33
  v69
def k0_mult6 (k0_t3 : Fin k0_t3_loop.trips) : BitVec 32 :=
  let c0_i32_15 : BitVec 32 := 0#32
  let c1_i32_16 : BitVec 32 := 1#32
  let arg10 : BitVec 32 := Scf.iv c0_i32_15 c1_i32_16 k0_t3
  let c128_i32_37 : BitVec 32 := 128#32
  let v79 : BitVec 32 := Scalar.muli arg10 c128_i32_37
  v79
def k0_mult7 (k0_t3 : Fin k0_t3_loop.trips) : BitVec 32 :=
  let c0_i32_15 : BitVec 32 := 0#32
  let c1_i32_16 : BitVec 32 := 1#32
  let arg10 : BitVec 32 := Scf.iv c0_i32_15 c1_i32_16 k0_t3
  let c128_i32_40 : BitVec 32 := 128#32
  let v89 : BitVec 32 := Scalar.muli arg10 c128_i32_40
  v89
def k0_off2 (k0_t1 : Fin k0_t1_loop.trips) (k0_t2 : Fin k0_t2_loop.trips) (k0_t3 : Fin k0_t3_loop.trips) (c0_i32_51 : BitVec 32) (c0_i32_53 : BitVec 32) : Fin 3 → Nat :=
  let c0_i32_15 : BitVec 32 := 0#32
  let c1_i32_16 : BitVec 32 := 1#32
  let arg10 : BitVec 32 := Scf.iv c0_i32_15 c1_i32_16 k0_t3
  let v139 : Index := Scalar.indexCast arg10
  let c0_i32_1 : BitVec 32 := 0#32
  let c1_i32 : BitVec 32 := 1#32
  let arg8 : BitVec 32 := Scf.iv c0_i32_1 c1_i32 k0_t1
  let c32_i32 : BitVec 32 := 32#32
  let v24 : BitVec 32 := Scalar.muli arg8 c32_i32
  let v134 : BitVec 32 := Scalar.addi v24 c0_i32_51
  let c15_i32 : BitVec 32 := 15#32
  let v135 : BitVec 32 := Scalar.muli v134 c15_i32
  let c2_i32_52 : BitVec 32 := 2#32
  let c0_i32_11 : BitVec 32 := 0#32
  let c1_i32_13 : BitVec 32 := 1#32
  let arg9 : BitVec 32 := Scf.iv c0_i32_11 c1_i32_13 k0_t2
  let v136 : BitVec 32 := Scalar.muli c2_i32_52 arg9
  let v137 : BitVec 32 := Scalar.addi v135 v136
  let v138 : BitVec 32 := Scalar.addi v137 c0_i32_53
  let v140 : Index := Scalar.indexCast v138
  let c0_54 : Index := 0#32
  ![v139.toNat, v140.toNat, 0]
@[reducible] def k0_t4_loop : Scf.Loop 32 :=
  let c0_i32_3 : BitVec 32 := 0#32
  let c384_i32 : BitVec 32 := 384#32
  let v4 : BitVec 32 := Scalar.addi c0_i32_3 c384_i32
  let c1_i32_4 : BitVec 32 := 1#32
  ⟨c0_i32_3, v4, c1_i32_4⟩
def k0_off3 (k0_t4 : Fin k0_t4_loop.trips) : Fin 3 → Nat :=
  let c0 : Index := 0#32
  let c0_11 : Index := 0#32
  let c0_i32_3 : BitVec 32 := 0#32
  let c1_i32_4 : BitVec 32 := 1#32
  let arg8 : BitVec 32 := Scf.iv c0_i32_3 c1_i32_4 k0_t4
  let v24 : Index := Scalar.indexCast arg8
  ![0, 0, v24.toNat]
def k0_mult8 (k0_t4 : Fin k0_t4_loop.trips) : BitVec 32 :=
  let c0_i32_3 : BitVec 32 := 0#32
  let c1_i32_4 : BitVec 32 := 1#32
  let arg8 : BitVec 32 := Scf.iv c0_i32_3 c1_i32_4 k0_t4
  let c8_i32 : BitVec 32 := 8#32
  let v29 : BitVec 32 := Scalar.muli arg8 c8_i32
  v29
def k0_off4 (k0_t4 : Fin k0_t4_loop.trips) : Fin 2 → Nat :=
  let c0_i32_3 : BitVec 32 := 0#32
  let c1_i32_4 : BitVec 32 := 1#32
  let arg8 : BitVec 32 := Scf.iv c0_i32_3 c1_i32_4 k0_t4
  let c8_i32 : BitVec 32 := 8#32
  let v29 : BitVec 32 := Scalar.muli arg8 c8_i32
  let v30 : BitVec 32 := v29
  let v31 : Index := Scalar.indexCast v30
  let c0_12 : Index := 0#32
  ![v31.toNat, 0]
@[reducible] def k0_t5_loop : Scf.Loop 32 :=
  let c0_i32_11 : BitVec 32 := 0#32
  let c8_i32 : BitVec 32 := 8#32
  let v24 : BitVec 32 := Scalar.addi c0_i32_11 c8_i32
  let c1_i32_12 : BitVec 32 := 1#32
  ⟨c0_i32_11, v24, c1_i32_12⟩
def k0_off5 (arg11 : BitVec 32) (arg12 : BitVec 32) : Fin 3 → Nat :=
  let c0 : Index := 0#32
  let c48_i32 : BitVec 32 := 48#32
  let v34 : BitVec 1 := Scalar.cmpi .sge arg12 c48_i32
  let c48_i32_17 : BitVec 32 := 48#32
  let v35 : BitVec 32 := Scalar.subi arg12 c48_i32_17
  let v36 : BitVec 32 := Scalar.select v34 v35 arg12
  let c8_i32_18 : BitVec 32 := 8#32
  let v37 : BitVec 32 := Scalar.muli v36 c8_i32_18
  let c0_i32_20 : BitVec 32 := 0#32
  let v45 : BitVec 32 := Scalar.addi v37 c0_i32_20
  let c0_i32_21 : BitVec 32 := 0#32
  let v46 : BitVec 32 := Scalar.addi v45 c0_i32_21
  let v47 : Index := Scalar.indexCast v46
  let v48 : Index := Scalar.indexCast arg11
  ![0, v47.toNat, v48.toNat]

def k0_off6 (arg12 : BitVec 32) (v49 : BitVec 32) : Fin 3 → Nat :=
  let c0_25 : Index := 0#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v50 : BitVec 32 := Scalar.shrui v49 v38
  let c65535_i32 : BitVec 32 := 65535#32
  let v51 : BitVec 32 := Scalar.andi v50 c65535_i32
  let c3_i32_22 : BitVec 32 := 3#32
  let v52 : BitVec 32 := Scalar.shrui v51 c3_i32_22
  let c15_i32_24 : BitVec 32 := 15#32
  let v54 : BitVec 32 := Scalar.muli v52 c15_i32_24
  let c2_i32 : BitVec 32 := 2#32
  let c7_i32_23 : BitVec 32 := 7#32
  let v53 : BitVec 32 := Scalar.andi v51 c7_i32_23
  let v55 : BitVec 32 := Scalar.muli c2_i32 v53
  let v56 : BitVec 32 := Scalar.addi v54 v55
  let v57 : Index := Scalar.indexCast v56
  let c0_26 : Index := 0#32
  ![0, v57.toNat, 0]

def k0_off7 (arg12 : BitVec 32) (v49 : BitVec 32) : Fin 3 → Nat :=
  let c1 : Index := 1#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v50 : BitVec 32 := Scalar.shrui v49 v38
  let c65535_i32 : BitVec 32 := 65535#32
  let v51 : BitVec 32 := Scalar.andi v50 c65535_i32
  let c3_i32_22 : BitVec 32 := 3#32
  let v52 : BitVec 32 := Scalar.shrui v51 c3_i32_22
  let c15_i32_24 : BitVec 32 := 15#32
  let v54 : BitVec 32 := Scalar.muli v52 c15_i32_24
  let c2_i32 : BitVec 32 := 2#32
  let c7_i32_23 : BitVec 32 := 7#32
  let v53 : BitVec 32 := Scalar.andi v51 c7_i32_23
  let v55 : BitVec 32 := Scalar.muli c2_i32 v53
  let v56 : BitVec 32 := Scalar.addi v54 v55
  let v60 : Index := Scalar.indexCast v56
  let c0_27 : Index := 0#32
  ![1, v60.toNat, 0]
def k0_off8 (arg12 : BitVec 32) (v49 : BitVec 32) : Fin 3 → Nat :=
  let c2 : Index := 2#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v50 : BitVec 32 := Scalar.shrui v49 v38
  let c65535_i32 : BitVec 32 := 65535#32
  let v51 : BitVec 32 := Scalar.andi v50 c65535_i32
  let c3_i32_22 : BitVec 32 := 3#32
  let v52 : BitVec 32 := Scalar.shrui v51 c3_i32_22
  let c15_i32_24 : BitVec 32 := 15#32
  let v54 : BitVec 32 := Scalar.muli v52 c15_i32_24
  let c2_i32 : BitVec 32 := 2#32
  let c7_i32_23 : BitVec 32 := 7#32
  let v53 : BitVec 32 := Scalar.andi v51 c7_i32_23
  let v55 : BitVec 32 := Scalar.muli c2_i32 v53
  let v56 : BitVec 32 := Scalar.addi v54 v55
  let v63 : Index := Scalar.indexCast v56
  let c0_28 : Index := 0#32
  ![2, v63.toNat, 0]
def k0_off9 (arg12 : BitVec 32) (v49 : BitVec 32) : Fin 3 → Nat :=
  let c3 : Index := 3#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v50 : BitVec 32 := Scalar.shrui v49 v38
  let c65535_i32 : BitVec 32 := 65535#32
  let v51 : BitVec 32 := Scalar.andi v50 c65535_i32
  let c3_i32_22 : BitVec 32 := 3#32
  let v52 : BitVec 32 := Scalar.shrui v51 c3_i32_22
  let c15_i32_24 : BitVec 32 := 15#32
  let v54 : BitVec 32 := Scalar.muli v52 c15_i32_24
  let c2_i32 : BitVec 32 := 2#32
  let c7_i32_23 : BitVec 32 := 7#32
  let v53 : BitVec 32 := Scalar.andi v51 c7_i32_23
  let v55 : BitVec 32 := Scalar.muli c2_i32 v53
  let v56 : BitVec 32 := Scalar.addi v54 v55
  let v66 : Index := Scalar.indexCast v56
  let c0_29 : Index := 0#32
  ![3, v66.toNat, 0]
def k0_mult9 (arg12 : BitVec 32) (v49 : BitVec 32) : BitVec 32 :=
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v50 : BitVec 32 := Scalar.shrui v49 v38
  let c65535_i32 : BitVec 32 := 65535#32
  let v51 : BitVec 32 := Scalar.andi v50 c65535_i32
  let c3_i32_22 : BitVec 32 := 3#32
  let v52 : BitVec 32 := Scalar.shrui v51 c3_i32_22
  let c8_i32_30 : BitVec 32 := 8#32
  let v69 : BitVec 32 := Scalar.muli v52 c8_i32_30
  v69
def k0_off10 (arg12 : BitVec 32) (v49 : BitVec 32) : Fin 2 → Nat :=
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v50 : BitVec 32 := Scalar.shrui v49 v38
  let c65535_i32 : BitVec 32 := 65535#32
  let v51 : BitVec 32 := Scalar.andi v50 c65535_i32
  let c3_i32_22 : BitVec 32 := 3#32
  let v52 : BitVec 32 := Scalar.shrui v51 c3_i32_22
  let c8_i32_30 : BitVec 32 := 8#32
  let v69 : BitVec 32 := Scalar.muli v52 c8_i32_30
  let v70 : BitVec 32 := v69
  let v71 : Index := Scalar.indexCast v70
  let c0_31 : Index := 0#32
  ![v71.toNat, 0]

def k0_chk2 (arg12 : BitVec 32) (v49 : BitVec 32) : Prop :=
  (∀ a, (k0_off6 arg12 v49) a + S1x8x128.size a ≤ S4x5784x128.size a) ∧
  (∀ a, (k0_off7 arg12 v49) a + S1x8x128.size a ≤ S4x5784x128.size a) ∧
  (∀ a, (k0_off8 arg12 v49) a + S1x8x128.size a ≤ S4x5784x128.size a) ∧
  (∀ a, (k0_off9 arg12 v49) a + S1x8x128.size a ≤ S4x5784x128.size a) ∧
  (8 ∣ (k0_mult9 arg12 v49).toNat) ∧
  (∀ a, (k0_off10 arg12 v49) a + S8x128.size a ≤ S3080x128.size a)
theorem k0_off6_inb : ∀ (arg12 : BitVec 32) (v49 : BitVec 32) (k0_hw2 : k0_chk2 arg12 v49), ∀ a, (k0_off6 arg12 v49) a + S1x8x128.size a ≤ S4x5784x128.size a := fun arg12 v49 k0_hw2 => k0_hw2.1
theorem k0_off7_inb : ∀ (arg12 : BitVec 32) (v49 : BitVec 32) (k0_hw2 : k0_chk2 arg12 v49), ∀ a, (k0_off7 arg12 v49) a + S1x8x128.size a ≤ S4x5784x128.size a := fun arg12 v49 k0_hw2 => k0_hw2.2.1
theorem k0_off8_inb : ∀ (arg12 : BitVec 32) (v49 : BitVec 32) (k0_hw2 : k0_chk2 arg12 v49), ∀ a, (k0_off8 arg12 v49) a + S1x8x128.size a ≤ S4x5784x128.size a := fun arg12 v49 k0_hw2 => k0_hw2.2.2.1
theorem k0_off9_inb : ∀ (arg12 : BitVec 32) (v49 : BitVec 32) (k0_hw2 : k0_chk2 arg12 v49), ∀ a, (k0_off9 arg12 v49) a + S1x8x128.size a ≤ S4x5784x128.size a := fun arg12 v49 k0_hw2 => k0_hw2.2.2.2.1
theorem k0_mult9_dvd : ∀ (arg12 : BitVec 32) (v49 : BitVec 32) (k0_hw2 : k0_chk2 arg12 v49), 8 ∣ (k0_mult9 arg12 v49).toNat := fun arg12 v49 k0_hw2 => k0_hw2.2.2.2.2.1
theorem k0_off10_inb : ∀ (arg12 : BitVec 32) (v49 : BitVec 32) (k0_hw2 : k0_chk2 arg12 v49), ∀ a, (k0_off10 arg12 v49) a + S8x128.size a ≤ S3080x128.size a := fun arg12 v49 k0_hw2 => k0_hw2.2.2.2.2.2

def k0_off11 (arg11 : BitVec 32) (arg12 : BitVec 32) : Fin 3 → Nat :=
  let c0_34 : Index := 0#32
  let c48_i32 : BitVec 32 := 48#32
  let v34 : BitVec 1 := Scalar.cmpi .sge arg12 c48_i32
  let c48_i32_17 : BitVec 32 := 48#32
  let v35 : BitVec 32 := Scalar.subi arg12 c48_i32_17
  let v36 : BitVec 32 := Scalar.select v34 v35 arg12
  let c8_i32_18 : BitVec 32 := 8#32
  let v37 : BitVec 32 := Scalar.muli v36 c8_i32_18
  let c0_i32_32 : BitVec 32 := 0#32
  let v74 : BitVec 32 := Scalar.addi v37 c0_i32_32
  let c1_i32_33 : BitVec 32 := 1#32
  let v75 : BitVec 32 := Scalar.addi v74 c1_i32_33
  let v76 : Index := Scalar.indexCast v75
  let v77 : Index := Scalar.indexCast arg11
  ![0, v76.toNat, v77.toNat]
def k0_off12 (arg12 : BitVec 32) (v78 : BitVec 32) : Fin 3 → Nat :=
  let c0_40 : Index := 0#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v79 : BitVec 32 := Scalar.shrui v78 v38
  let c65535_i32_35 : BitVec 32 := 65535#32
  let v80 : BitVec 32 := Scalar.andi v79 c65535_i32_35
  let c3_i32_36 : BitVec 32 := 3#32
  let v81 : BitVec 32 := Scalar.shrui v80 c3_i32_36
  let c15_i32_38 : BitVec 32 := 15#32
  let v83 : BitVec 32 := Scalar.muli v81 c15_i32_38
  let c2_i32_39 : BitVec 32 := 2#32
  let c7_i32_37 : BitVec 32 := 7#32
  let v82 : BitVec 32 := Scalar.andi v80 c7_i32_37
  let v84 : BitVec 32 := Scalar.muli c2_i32_39 v82
  let v85 : BitVec 32 := Scalar.addi v83 v84
  let v86 : Index := Scalar.indexCast v85
  let c0_41 : Index := 0#32
  ![0, v86.toNat, 0]

def k0_off13 (arg12 : BitVec 32) (v78 : BitVec 32) : Fin 3 → Nat :=
  let c1_42 : Index := 1#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v79 : BitVec 32 := Scalar.shrui v78 v38
  let c65535_i32_35 : BitVec 32 := 65535#32
  let v80 : BitVec 32 := Scalar.andi v79 c65535_i32_35
  let c3_i32_36 : BitVec 32 := 3#32
  let v81 : BitVec 32 := Scalar.shrui v80 c3_i32_36
  let c15_i32_38 : BitVec 32 := 15#32
  let v83 : BitVec 32 := Scalar.muli v81 c15_i32_38
  let c2_i32_39 : BitVec 32 := 2#32
  let c7_i32_37 : BitVec 32 := 7#32
  let v82 : BitVec 32 := Scalar.andi v80 c7_i32_37
  let v84 : BitVec 32 := Scalar.muli c2_i32_39 v82
  let v85 : BitVec 32 := Scalar.addi v83 v84
  let v89 : Index := Scalar.indexCast v85
  let c0_43 : Index := 0#32
  ![1, v89.toNat, 0]
def k0_off14 (arg12 : BitVec 32) (v78 : BitVec 32) : Fin 3 → Nat :=
  let c2_44 : Index := 2#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v79 : BitVec 32 := Scalar.shrui v78 v38
  let c65535_i32_35 : BitVec 32 := 65535#32
  let v80 : BitVec 32 := Scalar.andi v79 c65535_i32_35
  let c3_i32_36 : BitVec 32 := 3#32
  let v81 : BitVec 32 := Scalar.shrui v80 c3_i32_36
  let c15_i32_38 : BitVec 32 := 15#32
  let v83 : BitVec 32 := Scalar.muli v81 c15_i32_38
  let c2_i32_39 : BitVec 32 := 2#32
  let c7_i32_37 : BitVec 32 := 7#32
  let v82 : BitVec 32 := Scalar.andi v80 c7_i32_37
  let v84 : BitVec 32 := Scalar.muli c2_i32_39 v82
  let v85 : BitVec 32 := Scalar.addi v83 v84
  let v92 : Index := Scalar.indexCast v85
  let c0_45 : Index := 0#32
  ![2, v92.toNat, 0]
def k0_off15 (arg12 : BitVec 32) (v78 : BitVec 32) : Fin 3 → Nat :=
  let c3_46 : Index := 3#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v79 : BitVec 32 := Scalar.shrui v78 v38
  let c65535_i32_35 : BitVec 32 := 65535#32
  let v80 : BitVec 32 := Scalar.andi v79 c65535_i32_35
  let c3_i32_36 : BitVec 32 := 3#32
  let v81 : BitVec 32 := Scalar.shrui v80 c3_i32_36
  let c15_i32_38 : BitVec 32 := 15#32
  let v83 : BitVec 32 := Scalar.muli v81 c15_i32_38
  let c2_i32_39 : BitVec 32 := 2#32
  let c7_i32_37 : BitVec 32 := 7#32
  let v82 : BitVec 32 := Scalar.andi v80 c7_i32_37
  let v84 : BitVec 32 := Scalar.muli c2_i32_39 v82
  let v85 : BitVec 32 := Scalar.addi v83 v84
  let v95 : Index := Scalar.indexCast v85
  let c0_47 : Index := 0#32
  ![3, v95.toNat, 0]
def k0_mult10 (arg12 : BitVec 32) (v78 : BitVec 32) : BitVec 32 :=
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v79 : BitVec 32 := Scalar.shrui v78 v38
  let c65535_i32_35 : BitVec 32 := 65535#32
  let v80 : BitVec 32 := Scalar.andi v79 c65535_i32_35
  let c3_i32_36 : BitVec 32 := 3#32
  let v81 : BitVec 32 := Scalar.shrui v80 c3_i32_36
  let c8_i32_48 : BitVec 32 := 8#32
  let v98 : BitVec 32 := Scalar.muli v81 c8_i32_48
  v98
def k0_off16 (arg12 : BitVec 32) (v78 : BitVec 32) : Fin 2 → Nat :=
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v79 : BitVec 32 := Scalar.shrui v78 v38
  let c65535_i32_35 : BitVec 32 := 65535#32
  let v80 : BitVec 32 := Scalar.andi v79 c65535_i32_35
  let c3_i32_36 : BitVec 32 := 3#32
  let v81 : BitVec 32 := Scalar.shrui v80 c3_i32_36
  let c8_i32_48 : BitVec 32 := 8#32
  let v98 : BitVec 32 := Scalar.muli v81 c8_i32_48
  let v99 : BitVec 32 := v98
  let v100 : Index := Scalar.indexCast v99
  let c0_49 : Index := 0#32
  ![v100.toNat, 0]

def k0_chk3 (arg12 : BitVec 32) (v78 : BitVec 32) : Prop :=
  (∀ a, (k0_off12 arg12 v78) a + S1x8x128.size a ≤ S4x5784x128.size a) ∧
  (∀ a, (k0_off13 arg12 v78) a + S1x8x128.size a ≤ S4x5784x128.size a) ∧
  (∀ a, (k0_off14 arg12 v78) a + S1x8x128.size a ≤ S4x5784x128.size a) ∧
  (∀ a, (k0_off15 arg12 v78) a + S1x8x128.size a ≤ S4x5784x128.size a) ∧
  (8 ∣ (k0_mult10 arg12 v78).toNat) ∧
  (∀ a, (k0_off16 arg12 v78) a + S8x128.size a ≤ S3080x128.size a)
theorem k0_off12_inb : ∀ (arg12 : BitVec 32) (v78 : BitVec 32) (k0_hw3 : k0_chk3 arg12 v78), ∀ a, (k0_off12 arg12 v78) a + S1x8x128.size a ≤ S4x5784x128.size a := fun arg12 v78 k0_hw3 => k0_hw3.1
theorem k0_off13_inb : ∀ (arg12 : BitVec 32) (v78 : BitVec 32) (k0_hw3 : k0_chk3 arg12 v78), ∀ a, (k0_off13 arg12 v78) a + S1x8x128.size a ≤ S4x5784x128.size a := fun arg12 v78 k0_hw3 => k0_hw3.2.1
theorem k0_off14_inb : ∀ (arg12 : BitVec 32) (v78 : BitVec 32) (k0_hw3 : k0_chk3 arg12 v78), ∀ a, (k0_off14 arg12 v78) a + S1x8x128.size a ≤ S4x5784x128.size a := fun arg12 v78 k0_hw3 => k0_hw3.2.2.1
theorem k0_off15_inb : ∀ (arg12 : BitVec 32) (v78 : BitVec 32) (k0_hw3 : k0_chk3 arg12 v78), ∀ a, (k0_off15 arg12 v78) a + S1x8x128.size a ≤ S4x5784x128.size a := fun arg12 v78 k0_hw3 => k0_hw3.2.2.2.1
theorem k0_mult10_dvd : ∀ (arg12 : BitVec 32) (v78 : BitVec 32) (k0_hw3 : k0_chk3 arg12 v78), 8 ∣ (k0_mult10 arg12 v78).toNat := fun arg12 v78 k0_hw3 => k0_hw3.2.2.2.2.1
theorem k0_off16_inb : ∀ (arg12 : BitVec 32) (v78 : BitVec 32) (k0_hw3 : k0_chk3 arg12 v78), ∀ a, (k0_off16 arg12 v78) a + S8x128.size a ≤ S3080x128.size a := fun arg12 v78 k0_hw3 => k0_hw3.2.2.2.2.2

def k0_off17 (arg11 : BitVec 32) (arg12 : BitVec 32) : Fin 3 → Nat :=
  let c0_54 : Index := 0#32
  let c48_i32 : BitVec 32 := 48#32
  let v34 : BitVec 1 := Scalar.cmpi .sge arg12 c48_i32
  let c48_i32_17 : BitVec 32 := 48#32
  let v35 : BitVec 32 := Scalar.subi arg12 c48_i32_17
  let v36 : BitVec 32 := Scalar.select v34 v35 arg12
  let c8_i32_18 : BitVec 32 := 8#32
  let v37 : BitVec 32 := Scalar.muli v36 c8_i32_18
  let c0_i32_52 : BitVec 32 := 0#32
  let v109 : BitVec 32 := Scalar.addi v37 c0_i32_52
  let c2_i32_53 : BitVec 32 := 2#32
  let v110 : BitVec 32 := Scalar.addi v109 c2_i32_53
  let v111 : Index := Scalar.indexCast v110
  let v112 : Index := Scalar.indexCast arg11
  ![0, v111.toNat, v112.toNat]
def k0_off18 (arg12 : BitVec 32) (v113 : BitVec 32) : Fin 3 → Nat :=
  let c0_60 : Index := 0#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v114 : BitVec 32 := Scalar.shrui v113 v38
  let c65535_i32_55 : BitVec 32 := 65535#32
  let v115 : BitVec 32 := Scalar.andi v114 c65535_i32_55
  let c3_i32_56 : BitVec 32 := 3#32
  let v116 : BitVec 32 := Scalar.shrui v115 c3_i32_56
  let c15_i32_58 : BitVec 32 := 15#32
  let v118 : BitVec 32 := Scalar.muli v116 c15_i32_58
  let c2_i32_59 : BitVec 32 := 2#32
  let c7_i32_57 : BitVec 32 := 7#32
  let v117 : BitVec 32 := Scalar.andi v115 c7_i32_57
  let v119 : BitVec 32 := Scalar.muli c2_i32_59 v117
  let v120 : BitVec 32 := Scalar.addi v118 v119
  let v121 : Index := Scalar.indexCast v120
  let c0_61 : Index := 0#32
  ![0, v121.toNat, 0]

def k0_off19 (arg12 : BitVec 32) (v113 : BitVec 32) : Fin 3 → Nat :=
  let c1_62 : Index := 1#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v114 : BitVec 32 := Scalar.shrui v113 v38
  let c65535_i32_55 : BitVec 32 := 65535#32
  let v115 : BitVec 32 := Scalar.andi v114 c65535_i32_55
  let c3_i32_56 : BitVec 32 := 3#32
  let v116 : BitVec 32 := Scalar.shrui v115 c3_i32_56
  let c15_i32_58 : BitVec 32 := 15#32
  let v118 : BitVec 32 := Scalar.muli v116 c15_i32_58
  let c2_i32_59 : BitVec 32 := 2#32
  let c7_i32_57 : BitVec 32 := 7#32
  let v117 : BitVec 32 := Scalar.andi v115 c7_i32_57
  let v119 : BitVec 32 := Scalar.muli c2_i32_59 v117
  let v120 : BitVec 32 := Scalar.addi v118 v119
  let v124 : Index := Scalar.indexCast v120
  let c0_63 : Index := 0#32
  ![1, v124.toNat, 0]
def k0_off20 (arg12 : BitVec 32) (v113 : BitVec 32) : Fin 3 → Nat :=
  let c2_64 : Index := 2#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v114 : BitVec 32 := Scalar.shrui v113 v38
  let c65535_i32_55 : BitVec 32 := 65535#32
  let v115 : BitVec 32 := Scalar.andi v114 c65535_i32_55
  let c3_i32_56 : BitVec 32 := 3#32
  let v116 : BitVec 32 := Scalar.shrui v115 c3_i32_56
  let c15_i32_58 : BitVec 32 := 15#32
  let v118 : BitVec 32 := Scalar.muli v116 c15_i32_58
  let c2_i32_59 : BitVec 32 := 2#32
  let c7_i32_57 : BitVec 32 := 7#32
  let v117 : BitVec 32 := Scalar.andi v115 c7_i32_57
  let v119 : BitVec 32 := Scalar.muli c2_i32_59 v117
  let v120 : BitVec 32 := Scalar.addi v118 v119
  let v127 : Index := Scalar.indexCast v120
  let c0_65 : Index := 0#32
  ![2, v127.toNat, 0]
def k0_off21 (arg12 : BitVec 32) (v113 : BitVec 32) : Fin 3 → Nat :=
  let c3_66 : Index := 3#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v114 : BitVec 32 := Scalar.shrui v113 v38
  let c65535_i32_55 : BitVec 32 := 65535#32
  let v115 : BitVec 32 := Scalar.andi v114 c65535_i32_55
  let c3_i32_56 : BitVec 32 := 3#32
  let v116 : BitVec 32 := Scalar.shrui v115 c3_i32_56
  let c15_i32_58 : BitVec 32 := 15#32
  let v118 : BitVec 32 := Scalar.muli v116 c15_i32_58
  let c2_i32_59 : BitVec 32 := 2#32
  let c7_i32_57 : BitVec 32 := 7#32
  let v117 : BitVec 32 := Scalar.andi v115 c7_i32_57
  let v119 : BitVec 32 := Scalar.muli c2_i32_59 v117
  let v120 : BitVec 32 := Scalar.addi v118 v119
  let v130 : Index := Scalar.indexCast v120
  let c0_67 : Index := 0#32
  ![3, v130.toNat, 0]
def k0_mult11 (arg12 : BitVec 32) (v113 : BitVec 32) : BitVec 32 :=
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v114 : BitVec 32 := Scalar.shrui v113 v38
  let c65535_i32_55 : BitVec 32 := 65535#32
  let v115 : BitVec 32 := Scalar.andi v114 c65535_i32_55
  let c3_i32_56 : BitVec 32 := 3#32
  let v116 : BitVec 32 := Scalar.shrui v115 c3_i32_56
  let c8_i32_68 : BitVec 32 := 8#32
  let v133 : BitVec 32 := Scalar.muli v116 c8_i32_68
  v133
def k0_off22 (arg12 : BitVec 32) (v113 : BitVec 32) : Fin 2 → Nat :=
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v114 : BitVec 32 := Scalar.shrui v113 v38
  let c65535_i32_55 : BitVec 32 := 65535#32
  let v115 : BitVec 32 := Scalar.andi v114 c65535_i32_55
  let c3_i32_56 : BitVec 32 := 3#32
  let v116 : BitVec 32 := Scalar.shrui v115 c3_i32_56
  let c8_i32_68 : BitVec 32 := 8#32
  let v133 : BitVec 32 := Scalar.muli v116 c8_i32_68
  let v134 : BitVec 32 := v133
  let v135 : Index := Scalar.indexCast v134
  let c0_69 : Index := 0#32
  ![v135.toNat, 0]

def k0_chk4 (arg12 : BitVec 32) (v113 : BitVec 32) : Prop :=
  (∀ a, (k0_off18 arg12 v113) a + S1x8x128.size a ≤ S4x5784x128.size a) ∧
  (∀ a, (k0_off19 arg12 v113) a + S1x8x128.size a ≤ S4x5784x128.size a) ∧
  (∀ a, (k0_off20 arg12 v113) a + S1x8x128.size a ≤ S4x5784x128.size a) ∧
  (∀ a, (k0_off21 arg12 v113) a + S1x8x128.size a ≤ S4x5784x128.size a) ∧
  (8 ∣ (k0_mult11 arg12 v113).toNat) ∧
  (∀ a, (k0_off22 arg12 v113) a + S8x128.size a ≤ S3080x128.size a)
theorem k0_off18_inb : ∀ (arg12 : BitVec 32) (v113 : BitVec 32) (k0_hw4 : k0_chk4 arg12 v113), ∀ a, (k0_off18 arg12 v113) a + S1x8x128.size a ≤ S4x5784x128.size a := fun arg12 v113 k0_hw4 => k0_hw4.1
theorem k0_off19_inb : ∀ (arg12 : BitVec 32) (v113 : BitVec 32) (k0_hw4 : k0_chk4 arg12 v113), ∀ a, (k0_off19 arg12 v113) a + S1x8x128.size a ≤ S4x5784x128.size a := fun arg12 v113 k0_hw4 => k0_hw4.2.1
theorem k0_off20_inb : ∀ (arg12 : BitVec 32) (v113 : BitVec 32) (k0_hw4 : k0_chk4 arg12 v113), ∀ a, (k0_off20 arg12 v113) a + S1x8x128.size a ≤ S4x5784x128.size a := fun arg12 v113 k0_hw4 => k0_hw4.2.2.1
theorem k0_off21_inb : ∀ (arg12 : BitVec 32) (v113 : BitVec 32) (k0_hw4 : k0_chk4 arg12 v113), ∀ a, (k0_off21 arg12 v113) a + S1x8x128.size a ≤ S4x5784x128.size a := fun arg12 v113 k0_hw4 => k0_hw4.2.2.2.1
theorem k0_mult11_dvd : ∀ (arg12 : BitVec 32) (v113 : BitVec 32) (k0_hw4 : k0_chk4 arg12 v113), 8 ∣ (k0_mult11 arg12 v113).toNat := fun arg12 v113 k0_hw4 => k0_hw4.2.2.2.2.1
theorem k0_off22_inb : ∀ (arg12 : BitVec 32) (v113 : BitVec 32) (k0_hw4 : k0_chk4 arg12 v113), ∀ a, (k0_off22 arg12 v113) a + S8x128.size a ≤ S3080x128.size a := fun arg12 v113 k0_hw4 => k0_hw4.2.2.2.2.2

def k0_off23 (arg11 : BitVec 32) (arg12 : BitVec 32) : Fin 3 → Nat :=
  let c0_74 : Index := 0#32
  let c48_i32 : BitVec 32 := 48#32
  let v34 : BitVec 1 := Scalar.cmpi .sge arg12 c48_i32
  let c48_i32_17 : BitVec 32 := 48#32
  let v35 : BitVec 32 := Scalar.subi arg12 c48_i32_17
  let v36 : BitVec 32 := Scalar.select v34 v35 arg12
  let c8_i32_18 : BitVec 32 := 8#32
  let v37 : BitVec 32 := Scalar.muli v36 c8_i32_18
  let c0_i32_72 : BitVec 32 := 0#32
  let v144 : BitVec 32 := Scalar.addi v37 c0_i32_72
  let c3_i32_73 : BitVec 32 := 3#32
  let v145 : BitVec 32 := Scalar.addi v144 c3_i32_73
  let v146 : Index := Scalar.indexCast v145
  let v147 : Index := Scalar.indexCast arg11
  ![0, v146.toNat, v147.toNat]
def k0_off24 (arg12 : BitVec 32) (v148 : BitVec 32) : Fin 3 → Nat :=
  let c0_80 : Index := 0#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v149 : BitVec 32 := Scalar.shrui v148 v38
  let c65535_i32_75 : BitVec 32 := 65535#32
  let v150 : BitVec 32 := Scalar.andi v149 c65535_i32_75
  let c3_i32_76 : BitVec 32 := 3#32
  let v151 : BitVec 32 := Scalar.shrui v150 c3_i32_76
  let c15_i32_78 : BitVec 32 := 15#32
  let v153 : BitVec 32 := Scalar.muli v151 c15_i32_78
  let c2_i32_79 : BitVec 32 := 2#32
  let c7_i32_77 : BitVec 32 := 7#32
  let v152 : BitVec 32 := Scalar.andi v150 c7_i32_77
  let v154 : BitVec 32 := Scalar.muli c2_i32_79 v152
  let v155 : BitVec 32 := Scalar.addi v153 v154
  let v156 : Index := Scalar.indexCast v155
  let c0_81 : Index := 0#32
  ![0, v156.toNat, 0]

def k0_off25 (arg12 : BitVec 32) (v148 : BitVec 32) : Fin 3 → Nat :=
  let c1_82 : Index := 1#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v149 : BitVec 32 := Scalar.shrui v148 v38
  let c65535_i32_75 : BitVec 32 := 65535#32
  let v150 : BitVec 32 := Scalar.andi v149 c65535_i32_75
  let c3_i32_76 : BitVec 32 := 3#32
  let v151 : BitVec 32 := Scalar.shrui v150 c3_i32_76
  let c15_i32_78 : BitVec 32 := 15#32
  let v153 : BitVec 32 := Scalar.muli v151 c15_i32_78
  let c2_i32_79 : BitVec 32 := 2#32
  let c7_i32_77 : BitVec 32 := 7#32
  let v152 : BitVec 32 := Scalar.andi v150 c7_i32_77
  let v154 : BitVec 32 := Scalar.muli c2_i32_79 v152
  let v155 : BitVec 32 := Scalar.addi v153 v154
  let v159 : Index := Scalar.indexCast v155
  let c0_83 : Index := 0#32
  ![1, v159.toNat, 0]
def k0_off26 (arg12 : BitVec 32) (v148 : BitVec 32) : Fin 3 → Nat :=
  let c2_84 : Index := 2#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v149 : BitVec 32 := Scalar.shrui v148 v38
  let c65535_i32_75 : BitVec 32 := 65535#32
  let v150 : BitVec 32 := Scalar.andi v149 c65535_i32_75
  let c3_i32_76 : BitVec 32 := 3#32
  let v151 : BitVec 32 := Scalar.shrui v150 c3_i32_76
  let c15_i32_78 : BitVec 32 := 15#32
  let v153 : BitVec 32 := Scalar.muli v151 c15_i32_78
  let c2_i32_79 : BitVec 32 := 2#32
  let c7_i32_77 : BitVec 32 := 7#32
  let v152 : BitVec 32 := Scalar.andi v150 c7_i32_77
  let v154 : BitVec 32 := Scalar.muli c2_i32_79 v152
  let v155 : BitVec 32 := Scalar.addi v153 v154
  let v162 : Index := Scalar.indexCast v155
  let c0_85 : Index := 0#32
  ![2, v162.toNat, 0]
def k0_off27 (arg12 : BitVec 32) (v148 : BitVec 32) : Fin 3 → Nat :=
  let c3_86 : Index := 3#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v149 : BitVec 32 := Scalar.shrui v148 v38
  let c65535_i32_75 : BitVec 32 := 65535#32
  let v150 : BitVec 32 := Scalar.andi v149 c65535_i32_75
  let c3_i32_76 : BitVec 32 := 3#32
  let v151 : BitVec 32 := Scalar.shrui v150 c3_i32_76
  let c15_i32_78 : BitVec 32 := 15#32
  let v153 : BitVec 32 := Scalar.muli v151 c15_i32_78
  let c2_i32_79 : BitVec 32 := 2#32
  let c7_i32_77 : BitVec 32 := 7#32
  let v152 : BitVec 32 := Scalar.andi v150 c7_i32_77
  let v154 : BitVec 32 := Scalar.muli c2_i32_79 v152
  let v155 : BitVec 32 := Scalar.addi v153 v154
  let v165 : Index := Scalar.indexCast v155
  let c0_87 : Index := 0#32
  ![3, v165.toNat, 0]
def k0_mult12 (arg12 : BitVec 32) (v148 : BitVec 32) : BitVec 32 :=
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v149 : BitVec 32 := Scalar.shrui v148 v38
  let c65535_i32_75 : BitVec 32 := 65535#32
  let v150 : BitVec 32 := Scalar.andi v149 c65535_i32_75
  let c3_i32_76 : BitVec 32 := 3#32
  let v151 : BitVec 32 := Scalar.shrui v150 c3_i32_76
  let c8_i32_88 : BitVec 32 := 8#32
  let v168 : BitVec 32 := Scalar.muli v151 c8_i32_88
  v168
def k0_off28 (arg12 : BitVec 32) (v148 : BitVec 32) : Fin 2 → Nat :=
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v149 : BitVec 32 := Scalar.shrui v148 v38
  let c65535_i32_75 : BitVec 32 := 65535#32
  let v150 : BitVec 32 := Scalar.andi v149 c65535_i32_75
  let c3_i32_76 : BitVec 32 := 3#32
  let v151 : BitVec 32 := Scalar.shrui v150 c3_i32_76
  let c8_i32_88 : BitVec 32 := 8#32
  let v168 : BitVec 32 := Scalar.muli v151 c8_i32_88
  let v169 : BitVec 32 := v168
  let v170 : Index := Scalar.indexCast v169
  let c0_89 : Index := 0#32
  ![v170.toNat, 0]

def k0_chk5 (arg12 : BitVec 32) (v148 : BitVec 32) : Prop :=
  (∀ a, (k0_off24 arg12 v148) a + S1x8x128.size a ≤ S4x5784x128.size a) ∧
  (∀ a, (k0_off25 arg12 v148) a + S1x8x128.size a ≤ S4x5784x128.size a) ∧
  (∀ a, (k0_off26 arg12 v148) a + S1x8x128.size a ≤ S4x5784x128.size a) ∧
  (∀ a, (k0_off27 arg12 v148) a + S1x8x128.size a ≤ S4x5784x128.size a) ∧
  (8 ∣ (k0_mult12 arg12 v148).toNat) ∧
  (∀ a, (k0_off28 arg12 v148) a + S8x128.size a ≤ S3080x128.size a)
theorem k0_off24_inb : ∀ (arg12 : BitVec 32) (v148 : BitVec 32) (k0_hw5 : k0_chk5 arg12 v148), ∀ a, (k0_off24 arg12 v148) a + S1x8x128.size a ≤ S4x5784x128.size a := fun arg12 v148 k0_hw5 => k0_hw5.1
theorem k0_off25_inb : ∀ (arg12 : BitVec 32) (v148 : BitVec 32) (k0_hw5 : k0_chk5 arg12 v148), ∀ a, (k0_off25 arg12 v148) a + S1x8x128.size a ≤ S4x5784x128.size a := fun arg12 v148 k0_hw5 => k0_hw5.2.1
theorem k0_off26_inb : ∀ (arg12 : BitVec 32) (v148 : BitVec 32) (k0_hw5 : k0_chk5 arg12 v148), ∀ a, (k0_off26 arg12 v148) a + S1x8x128.size a ≤ S4x5784x128.size a := fun arg12 v148 k0_hw5 => k0_hw5.2.2.1
theorem k0_off27_inb : ∀ (arg12 : BitVec 32) (v148 : BitVec 32) (k0_hw5 : k0_chk5 arg12 v148), ∀ a, (k0_off27 arg12 v148) a + S1x8x128.size a ≤ S4x5784x128.size a := fun arg12 v148 k0_hw5 => k0_hw5.2.2.2.1
theorem k0_mult12_dvd : ∀ (arg12 : BitVec 32) (v148 : BitVec 32) (k0_hw5 : k0_chk5 arg12 v148), 8 ∣ (k0_mult12 arg12 v148).toNat := fun arg12 v148 k0_hw5 => k0_hw5.2.2.2.2.1
theorem k0_off28_inb : ∀ (arg12 : BitVec 32) (v148 : BitVec 32) (k0_hw5 : k0_chk5 arg12 v148), ∀ a, (k0_off28 arg12 v148) a + S8x128.size a ≤ S3080x128.size a := fun arg12 v148 k0_hw5 => k0_hw5.2.2.2.2.2

def k0_off29 (arg11 : BitVec 32) (arg12 : BitVec 32) : Fin 3 → Nat :=
  let c0_113 : Index := 0#32
  let c48_i32 : BitVec 32 := 48#32
  let v34 : BitVec 1 := Scalar.cmpi .sge arg12 c48_i32
  let c48_i32_17 : BitVec 32 := 48#32
  let v35 : BitVec 32 := Scalar.subi arg12 c48_i32_17
  let v36 : BitVec 32 := Scalar.select v34 v35 arg12
  let c8_i32_18 : BitVec 32 := 8#32
  let v37 : BitVec 32 := Scalar.muli v36 c8_i32_18
  let c4_i32_111 : BitVec 32 := 4#32
  let v267 : BitVec 32 := Scalar.addi v37 c4_i32_111
  let c0_i32_112 : BitVec 32 := 0#32
  let v268 : BitVec 32 := Scalar.addi v267 c0_i32_112
  let v269 : Index := Scalar.indexCast v268
  let v270 : Index := Scalar.indexCast arg11
  ![0, v269.toNat, v270.toNat]
def k0_off30 (arg12 : BitVec 32) (v271 : BitVec 32) : Fin 3 → Nat :=
  let c0_119 : Index := 0#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v272 : BitVec 32 := Scalar.shrui v271 v38
  let c65535_i32_114 : BitVec 32 := 65535#32
  let v273 : BitVec 32 := Scalar.andi v272 c65535_i32_114
  let c3_i32_115 : BitVec 32 := 3#32
  let v274 : BitVec 32 := Scalar.shrui v273 c3_i32_115
  let c15_i32_117 : BitVec 32 := 15#32
  let v276 : BitVec 32 := Scalar.muli v274 c15_i32_117
  let c2_i32_118 : BitVec 32 := 2#32
  let c7_i32_116 : BitVec 32 := 7#32
  let v275 : BitVec 32 := Scalar.andi v273 c7_i32_116
  let v277 : BitVec 32 := Scalar.muli c2_i32_118 v275
  let v278 : BitVec 32 := Scalar.addi v276 v277
  let v279 : Index := Scalar.indexCast v278
  let c0_120 : Index := 0#32
  ![0, v279.toNat, 0]

def k0_off31 (arg12 : BitVec 32) (v271 : BitVec 32) : Fin 3 → Nat :=
  let c1_121 : Index := 1#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v272 : BitVec 32 := Scalar.shrui v271 v38
  let c65535_i32_114 : BitVec 32 := 65535#32
  let v273 : BitVec 32 := Scalar.andi v272 c65535_i32_114
  let c3_i32_115 : BitVec 32 := 3#32
  let v274 : BitVec 32 := Scalar.shrui v273 c3_i32_115
  let c15_i32_117 : BitVec 32 := 15#32
  let v276 : BitVec 32 := Scalar.muli v274 c15_i32_117
  let c2_i32_118 : BitVec 32 := 2#32
  let c7_i32_116 : BitVec 32 := 7#32
  let v275 : BitVec 32 := Scalar.andi v273 c7_i32_116
  let v277 : BitVec 32 := Scalar.muli c2_i32_118 v275
  let v278 : BitVec 32 := Scalar.addi v276 v277
  let v282 : Index := Scalar.indexCast v278
  let c0_122 : Index := 0#32
  ![1, v282.toNat, 0]
def k0_off32 (arg12 : BitVec 32) (v271 : BitVec 32) : Fin 3 → Nat :=
  let c2_123 : Index := 2#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v272 : BitVec 32 := Scalar.shrui v271 v38
  let c65535_i32_114 : BitVec 32 := 65535#32
  let v273 : BitVec 32 := Scalar.andi v272 c65535_i32_114
  let c3_i32_115 : BitVec 32 := 3#32
  let v274 : BitVec 32 := Scalar.shrui v273 c3_i32_115
  let c15_i32_117 : BitVec 32 := 15#32
  let v276 : BitVec 32 := Scalar.muli v274 c15_i32_117
  let c2_i32_118 : BitVec 32 := 2#32
  let c7_i32_116 : BitVec 32 := 7#32
  let v275 : BitVec 32 := Scalar.andi v273 c7_i32_116
  let v277 : BitVec 32 := Scalar.muli c2_i32_118 v275
  let v278 : BitVec 32 := Scalar.addi v276 v277
  let v285 : Index := Scalar.indexCast v278
  let c0_124 : Index := 0#32
  ![2, v285.toNat, 0]
def k0_off33 (arg12 : BitVec 32) (v271 : BitVec 32) : Fin 3 → Nat :=
  let c3_125 : Index := 3#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v272 : BitVec 32 := Scalar.shrui v271 v38
  let c65535_i32_114 : BitVec 32 := 65535#32
  let v273 : BitVec 32 := Scalar.andi v272 c65535_i32_114
  let c3_i32_115 : BitVec 32 := 3#32
  let v274 : BitVec 32 := Scalar.shrui v273 c3_i32_115
  let c15_i32_117 : BitVec 32 := 15#32
  let v276 : BitVec 32 := Scalar.muli v274 c15_i32_117
  let c2_i32_118 : BitVec 32 := 2#32
  let c7_i32_116 : BitVec 32 := 7#32
  let v275 : BitVec 32 := Scalar.andi v273 c7_i32_116
  let v277 : BitVec 32 := Scalar.muli c2_i32_118 v275
  let v278 : BitVec 32 := Scalar.addi v276 v277
  let v288 : Index := Scalar.indexCast v278
  let c0_126 : Index := 0#32
  ![3, v288.toNat, 0]
def k0_mult13 (arg12 : BitVec 32) (v271 : BitVec 32) : BitVec 32 :=
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v272 : BitVec 32 := Scalar.shrui v271 v38
  let c65535_i32_114 : BitVec 32 := 65535#32
  let v273 : BitVec 32 := Scalar.andi v272 c65535_i32_114
  let c3_i32_115 : BitVec 32 := 3#32
  let v274 : BitVec 32 := Scalar.shrui v273 c3_i32_115
  let c8_i32_127 : BitVec 32 := 8#32
  let v291 : BitVec 32 := Scalar.muli v274 c8_i32_127
  v291
def k0_off34 (arg12 : BitVec 32) (v271 : BitVec 32) : Fin 2 → Nat :=
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v272 : BitVec 32 := Scalar.shrui v271 v38
  let c65535_i32_114 : BitVec 32 := 65535#32
  let v273 : BitVec 32 := Scalar.andi v272 c65535_i32_114
  let c3_i32_115 : BitVec 32 := 3#32
  let v274 : BitVec 32 := Scalar.shrui v273 c3_i32_115
  let c8_i32_127 : BitVec 32 := 8#32
  let v291 : BitVec 32 := Scalar.muli v274 c8_i32_127
  let v292 : BitVec 32 := v291
  let v293 : Index := Scalar.indexCast v292
  let c0_128 : Index := 0#32
  ![v293.toNat, 0]

def k0_chk6 (arg12 : BitVec 32) (v271 : BitVec 32) : Prop :=
  (∀ a, (k0_off30 arg12 v271) a + S1x8x128.size a ≤ S4x5784x128.size a) ∧
  (∀ a, (k0_off31 arg12 v271) a + S1x8x128.size a ≤ S4x5784x128.size a) ∧
  (∀ a, (k0_off32 arg12 v271) a + S1x8x128.size a ≤ S4x5784x128.size a) ∧
  (∀ a, (k0_off33 arg12 v271) a + S1x8x128.size a ≤ S4x5784x128.size a) ∧
  (8 ∣ (k0_mult13 arg12 v271).toNat) ∧
  (∀ a, (k0_off34 arg12 v271) a + S8x128.size a ≤ S3080x128.size a)
theorem k0_off30_inb : ∀ (arg12 : BitVec 32) (v271 : BitVec 32) (k0_hw6 : k0_chk6 arg12 v271), ∀ a, (k0_off30 arg12 v271) a + S1x8x128.size a ≤ S4x5784x128.size a := fun arg12 v271 k0_hw6 => k0_hw6.1
theorem k0_off31_inb : ∀ (arg12 : BitVec 32) (v271 : BitVec 32) (k0_hw6 : k0_chk6 arg12 v271), ∀ a, (k0_off31 arg12 v271) a + S1x8x128.size a ≤ S4x5784x128.size a := fun arg12 v271 k0_hw6 => k0_hw6.2.1
theorem k0_off32_inb : ∀ (arg12 : BitVec 32) (v271 : BitVec 32) (k0_hw6 : k0_chk6 arg12 v271), ∀ a, (k0_off32 arg12 v271) a + S1x8x128.size a ≤ S4x5784x128.size a := fun arg12 v271 k0_hw6 => k0_hw6.2.2.1
theorem k0_off33_inb : ∀ (arg12 : BitVec 32) (v271 : BitVec 32) (k0_hw6 : k0_chk6 arg12 v271), ∀ a, (k0_off33 arg12 v271) a + S1x8x128.size a ≤ S4x5784x128.size a := fun arg12 v271 k0_hw6 => k0_hw6.2.2.2.1
theorem k0_mult13_dvd : ∀ (arg12 : BitVec 32) (v271 : BitVec 32) (k0_hw6 : k0_chk6 arg12 v271), 8 ∣ (k0_mult13 arg12 v271).toNat := fun arg12 v271 k0_hw6 => k0_hw6.2.2.2.2.1
theorem k0_off34_inb : ∀ (arg12 : BitVec 32) (v271 : BitVec 32) (k0_hw6 : k0_chk6 arg12 v271), ∀ a, (k0_off34 arg12 v271) a + S8x128.size a ≤ S3080x128.size a := fun arg12 v271 k0_hw6 => k0_hw6.2.2.2.2.2

def k0_off35 (arg11 : BitVec 32) (arg12 : BitVec 32) : Fin 3 → Nat :=
  let c0_131 : Index := 0#32
  let c48_i32 : BitVec 32 := 48#32
  let v34 : BitVec 1 := Scalar.cmpi .sge arg12 c48_i32
  let c48_i32_17 : BitVec 32 := 48#32
  let v35 : BitVec 32 := Scalar.subi arg12 c48_i32_17
  let v36 : BitVec 32 := Scalar.select v34 v35 arg12
  let c8_i32_18 : BitVec 32 := 8#32
  let v37 : BitVec 32 := Scalar.muli v36 c8_i32_18
  let c4_i32_129 : BitVec 32 := 4#32
  let v296 : BitVec 32 := Scalar.addi v37 c4_i32_129
  let c1_i32_130 : BitVec 32 := 1#32
  let v297 : BitVec 32 := Scalar.addi v296 c1_i32_130
  let v298 : Index := Scalar.indexCast v297
  let v299 : Index := Scalar.indexCast arg11
  ![0, v298.toNat, v299.toNat]
def k0_off36 (arg12 : BitVec 32) (v300 : BitVec 32) : Fin 3 → Nat :=
  let c0_137 : Index := 0#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v301 : BitVec 32 := Scalar.shrui v300 v38
  let c65535_i32_132 : BitVec 32 := 65535#32
  let v302 : BitVec 32 := Scalar.andi v301 c65535_i32_132
  let c3_i32_133 : BitVec 32 := 3#32
  let v303 : BitVec 32 := Scalar.shrui v302 c3_i32_133
  let c15_i32_135 : BitVec 32 := 15#32
  let v305 : BitVec 32 := Scalar.muli v303 c15_i32_135
  let c2_i32_136 : BitVec 32 := 2#32
  let c7_i32_134 : BitVec 32 := 7#32
  let v304 : BitVec 32 := Scalar.andi v302 c7_i32_134
  let v306 : BitVec 32 := Scalar.muli c2_i32_136 v304
  let v307 : BitVec 32 := Scalar.addi v305 v306
  let v308 : Index := Scalar.indexCast v307
  let c0_138 : Index := 0#32
  ![0, v308.toNat, 0]

def k0_off37 (arg12 : BitVec 32) (v300 : BitVec 32) : Fin 3 → Nat :=
  let c1_139 : Index := 1#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v301 : BitVec 32 := Scalar.shrui v300 v38
  let c65535_i32_132 : BitVec 32 := 65535#32
  let v302 : BitVec 32 := Scalar.andi v301 c65535_i32_132
  let c3_i32_133 : BitVec 32 := 3#32
  let v303 : BitVec 32 := Scalar.shrui v302 c3_i32_133
  let c15_i32_135 : BitVec 32 := 15#32
  let v305 : BitVec 32 := Scalar.muli v303 c15_i32_135
  let c2_i32_136 : BitVec 32 := 2#32
  let c7_i32_134 : BitVec 32 := 7#32
  let v304 : BitVec 32 := Scalar.andi v302 c7_i32_134
  let v306 : BitVec 32 := Scalar.muli c2_i32_136 v304
  let v307 : BitVec 32 := Scalar.addi v305 v306
  let v311 : Index := Scalar.indexCast v307
  let c0_140 : Index := 0#32
  ![1, v311.toNat, 0]
def k0_off38 (arg12 : BitVec 32) (v300 : BitVec 32) : Fin 3 → Nat :=
  let c2_141 : Index := 2#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v301 : BitVec 32 := Scalar.shrui v300 v38
  let c65535_i32_132 : BitVec 32 := 65535#32
  let v302 : BitVec 32 := Scalar.andi v301 c65535_i32_132
  let c3_i32_133 : BitVec 32 := 3#32
  let v303 : BitVec 32 := Scalar.shrui v302 c3_i32_133
  let c15_i32_135 : BitVec 32 := 15#32
  let v305 : BitVec 32 := Scalar.muli v303 c15_i32_135
  let c2_i32_136 : BitVec 32 := 2#32
  let c7_i32_134 : BitVec 32 := 7#32
  let v304 : BitVec 32 := Scalar.andi v302 c7_i32_134
  let v306 : BitVec 32 := Scalar.muli c2_i32_136 v304
  let v307 : BitVec 32 := Scalar.addi v305 v306
  let v314 : Index := Scalar.indexCast v307
  let c0_142 : Index := 0#32
  ![2, v314.toNat, 0]
def k0_off39 (arg12 : BitVec 32) (v300 : BitVec 32) : Fin 3 → Nat :=
  let c3_143 : Index := 3#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v301 : BitVec 32 := Scalar.shrui v300 v38
  let c65535_i32_132 : BitVec 32 := 65535#32
  let v302 : BitVec 32 := Scalar.andi v301 c65535_i32_132
  let c3_i32_133 : BitVec 32 := 3#32
  let v303 : BitVec 32 := Scalar.shrui v302 c3_i32_133
  let c15_i32_135 : BitVec 32 := 15#32
  let v305 : BitVec 32 := Scalar.muli v303 c15_i32_135
  let c2_i32_136 : BitVec 32 := 2#32
  let c7_i32_134 : BitVec 32 := 7#32
  let v304 : BitVec 32 := Scalar.andi v302 c7_i32_134
  let v306 : BitVec 32 := Scalar.muli c2_i32_136 v304
  let v307 : BitVec 32 := Scalar.addi v305 v306
  let v317 : Index := Scalar.indexCast v307
  let c0_144 : Index := 0#32
  ![3, v317.toNat, 0]
def k0_mult14 (arg12 : BitVec 32) (v300 : BitVec 32) : BitVec 32 :=
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v301 : BitVec 32 := Scalar.shrui v300 v38
  let c65535_i32_132 : BitVec 32 := 65535#32
  let v302 : BitVec 32 := Scalar.andi v301 c65535_i32_132
  let c3_i32_133 : BitVec 32 := 3#32
  let v303 : BitVec 32 := Scalar.shrui v302 c3_i32_133
  let c8_i32_145 : BitVec 32 := 8#32
  let v320 : BitVec 32 := Scalar.muli v303 c8_i32_145
  v320
def k0_off40 (arg12 : BitVec 32) (v300 : BitVec 32) : Fin 2 → Nat :=
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v301 : BitVec 32 := Scalar.shrui v300 v38
  let c65535_i32_132 : BitVec 32 := 65535#32
  let v302 : BitVec 32 := Scalar.andi v301 c65535_i32_132
  let c3_i32_133 : BitVec 32 := 3#32
  let v303 : BitVec 32 := Scalar.shrui v302 c3_i32_133
  let c8_i32_145 : BitVec 32 := 8#32
  let v320 : BitVec 32 := Scalar.muli v303 c8_i32_145
  let v321 : BitVec 32 := v320
  let v322 : Index := Scalar.indexCast v321
  let c0_146 : Index := 0#32
  ![v322.toNat, 0]

def k0_chk7 (arg12 : BitVec 32) (v300 : BitVec 32) : Prop :=
  (∀ a, (k0_off36 arg12 v300) a + S1x8x128.size a ≤ S4x5784x128.size a) ∧
  (∀ a, (k0_off37 arg12 v300) a + S1x8x128.size a ≤ S4x5784x128.size a) ∧
  (∀ a, (k0_off38 arg12 v300) a + S1x8x128.size a ≤ S4x5784x128.size a) ∧
  (∀ a, (k0_off39 arg12 v300) a + S1x8x128.size a ≤ S4x5784x128.size a) ∧
  (8 ∣ (k0_mult14 arg12 v300).toNat) ∧
  (∀ a, (k0_off40 arg12 v300) a + S8x128.size a ≤ S3080x128.size a)
theorem k0_off36_inb : ∀ (arg12 : BitVec 32) (v300 : BitVec 32) (k0_hw7 : k0_chk7 arg12 v300), ∀ a, (k0_off36 arg12 v300) a + S1x8x128.size a ≤ S4x5784x128.size a := fun arg12 v300 k0_hw7 => k0_hw7.1
theorem k0_off37_inb : ∀ (arg12 : BitVec 32) (v300 : BitVec 32) (k0_hw7 : k0_chk7 arg12 v300), ∀ a, (k0_off37 arg12 v300) a + S1x8x128.size a ≤ S4x5784x128.size a := fun arg12 v300 k0_hw7 => k0_hw7.2.1
theorem k0_off38_inb : ∀ (arg12 : BitVec 32) (v300 : BitVec 32) (k0_hw7 : k0_chk7 arg12 v300), ∀ a, (k0_off38 arg12 v300) a + S1x8x128.size a ≤ S4x5784x128.size a := fun arg12 v300 k0_hw7 => k0_hw7.2.2.1
theorem k0_off39_inb : ∀ (arg12 : BitVec 32) (v300 : BitVec 32) (k0_hw7 : k0_chk7 arg12 v300), ∀ a, (k0_off39 arg12 v300) a + S1x8x128.size a ≤ S4x5784x128.size a := fun arg12 v300 k0_hw7 => k0_hw7.2.2.2.1
theorem k0_mult14_dvd : ∀ (arg12 : BitVec 32) (v300 : BitVec 32) (k0_hw7 : k0_chk7 arg12 v300), 8 ∣ (k0_mult14 arg12 v300).toNat := fun arg12 v300 k0_hw7 => k0_hw7.2.2.2.2.1
theorem k0_off40_inb : ∀ (arg12 : BitVec 32) (v300 : BitVec 32) (k0_hw7 : k0_chk7 arg12 v300), ∀ a, (k0_off40 arg12 v300) a + S8x128.size a ≤ S3080x128.size a := fun arg12 v300 k0_hw7 => k0_hw7.2.2.2.2.2

def k0_off41 (arg11 : BitVec 32) (arg12 : BitVec 32) : Fin 3 → Nat :=
  let c0_151 : Index := 0#32
  let c48_i32 : BitVec 32 := 48#32
  let v34 : BitVec 1 := Scalar.cmpi .sge arg12 c48_i32
  let c48_i32_17 : BitVec 32 := 48#32
  let v35 : BitVec 32 := Scalar.subi arg12 c48_i32_17
  let v36 : BitVec 32 := Scalar.select v34 v35 arg12
  let c8_i32_18 : BitVec 32 := 8#32
  let v37 : BitVec 32 := Scalar.muli v36 c8_i32_18
  let c4_i32_149 : BitVec 32 := 4#32
  let v331 : BitVec 32 := Scalar.addi v37 c4_i32_149
  let c2_i32_150 : BitVec 32 := 2#32
  let v332 : BitVec 32 := Scalar.addi v331 c2_i32_150
  let v333 : Index := Scalar.indexCast v332
  let v334 : Index := Scalar.indexCast arg11
  ![0, v333.toNat, v334.toNat]
def k0_off42 (arg12 : BitVec 32) (v335 : BitVec 32) : Fin 3 → Nat :=
  let c0_157 : Index := 0#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v336 : BitVec 32 := Scalar.shrui v335 v38
  let c65535_i32_152 : BitVec 32 := 65535#32
  let v337 : BitVec 32 := Scalar.andi v336 c65535_i32_152
  let c3_i32_153 : BitVec 32 := 3#32
  let v338 : BitVec 32 := Scalar.shrui v337 c3_i32_153
  let c15_i32_155 : BitVec 32 := 15#32
  let v340 : BitVec 32 := Scalar.muli v338 c15_i32_155
  let c2_i32_156 : BitVec 32 := 2#32
  let c7_i32_154 : BitVec 32 := 7#32
  let v339 : BitVec 32 := Scalar.andi v337 c7_i32_154
  let v341 : BitVec 32 := Scalar.muli c2_i32_156 v339
  let v342 : BitVec 32 := Scalar.addi v340 v341
  let v343 : Index := Scalar.indexCast v342
  let c0_158 : Index := 0#32
  ![0, v343.toNat, 0]

def k0_off43 (arg12 : BitVec 32) (v335 : BitVec 32) : Fin 3 → Nat :=
  let c1_159 : Index := 1#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v336 : BitVec 32 := Scalar.shrui v335 v38
  let c65535_i32_152 : BitVec 32 := 65535#32
  let v337 : BitVec 32 := Scalar.andi v336 c65535_i32_152
  let c3_i32_153 : BitVec 32 := 3#32
  let v338 : BitVec 32 := Scalar.shrui v337 c3_i32_153
  let c15_i32_155 : BitVec 32 := 15#32
  let v340 : BitVec 32 := Scalar.muli v338 c15_i32_155
  let c2_i32_156 : BitVec 32 := 2#32
  let c7_i32_154 : BitVec 32 := 7#32
  let v339 : BitVec 32 := Scalar.andi v337 c7_i32_154
  let v341 : BitVec 32 := Scalar.muli c2_i32_156 v339
  let v342 : BitVec 32 := Scalar.addi v340 v341
  let v346 : Index := Scalar.indexCast v342
  let c0_160 : Index := 0#32
  ![1, v346.toNat, 0]
def k0_off44 (arg12 : BitVec 32) (v335 : BitVec 32) : Fin 3 → Nat :=
  let c2_161 : Index := 2#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v336 : BitVec 32 := Scalar.shrui v335 v38
  let c65535_i32_152 : BitVec 32 := 65535#32
  let v337 : BitVec 32 := Scalar.andi v336 c65535_i32_152
  let c3_i32_153 : BitVec 32 := 3#32
  let v338 : BitVec 32 := Scalar.shrui v337 c3_i32_153
  let c15_i32_155 : BitVec 32 := 15#32
  let v340 : BitVec 32 := Scalar.muli v338 c15_i32_155
  let c2_i32_156 : BitVec 32 := 2#32
  let c7_i32_154 : BitVec 32 := 7#32
  let v339 : BitVec 32 := Scalar.andi v337 c7_i32_154
  let v341 : BitVec 32 := Scalar.muli c2_i32_156 v339
  let v342 : BitVec 32 := Scalar.addi v340 v341
  let v349 : Index := Scalar.indexCast v342
  let c0_162 : Index := 0#32
  ![2, v349.toNat, 0]
def k0_off45 (arg12 : BitVec 32) (v335 : BitVec 32) : Fin 3 → Nat :=
  let c3_163 : Index := 3#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v336 : BitVec 32 := Scalar.shrui v335 v38
  let c65535_i32_152 : BitVec 32 := 65535#32
  let v337 : BitVec 32 := Scalar.andi v336 c65535_i32_152
  let c3_i32_153 : BitVec 32 := 3#32
  let v338 : BitVec 32 := Scalar.shrui v337 c3_i32_153
  let c15_i32_155 : BitVec 32 := 15#32
  let v340 : BitVec 32 := Scalar.muli v338 c15_i32_155
  let c2_i32_156 : BitVec 32 := 2#32
  let c7_i32_154 : BitVec 32 := 7#32
  let v339 : BitVec 32 := Scalar.andi v337 c7_i32_154
  let v341 : BitVec 32 := Scalar.muli c2_i32_156 v339
  let v342 : BitVec 32 := Scalar.addi v340 v341
  let v352 : Index := Scalar.indexCast v342
  let c0_164 : Index := 0#32
  ![3, v352.toNat, 0]
def k0_mult15 (arg12 : BitVec 32) (v335 : BitVec 32) : BitVec 32 :=
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v336 : BitVec 32 := Scalar.shrui v335 v38
  let c65535_i32_152 : BitVec 32 := 65535#32
  let v337 : BitVec 32 := Scalar.andi v336 c65535_i32_152
  let c3_i32_153 : BitVec 32 := 3#32
  let v338 : BitVec 32 := Scalar.shrui v337 c3_i32_153
  let c8_i32_165 : BitVec 32 := 8#32
  let v355 : BitVec 32 := Scalar.muli v338 c8_i32_165
  v355
def k0_off46 (arg12 : BitVec 32) (v335 : BitVec 32) : Fin 2 → Nat :=
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v336 : BitVec 32 := Scalar.shrui v335 v38
  let c65535_i32_152 : BitVec 32 := 65535#32
  let v337 : BitVec 32 := Scalar.andi v336 c65535_i32_152
  let c3_i32_153 : BitVec 32 := 3#32
  let v338 : BitVec 32 := Scalar.shrui v337 c3_i32_153
  let c8_i32_165 : BitVec 32 := 8#32
  let v355 : BitVec 32 := Scalar.muli v338 c8_i32_165
  let v356 : BitVec 32 := v355
  let v357 : Index := Scalar.indexCast v356
  let c0_166 : Index := 0#32
  ![v357.toNat, 0]

def k0_chk8 (arg12 : BitVec 32) (v335 : BitVec 32) : Prop :=
  (∀ a, (k0_off42 arg12 v335) a + S1x8x128.size a ≤ S4x5784x128.size a) ∧
  (∀ a, (k0_off43 arg12 v335) a + S1x8x128.size a ≤ S4x5784x128.size a) ∧
  (∀ a, (k0_off44 arg12 v335) a + S1x8x128.size a ≤ S4x5784x128.size a) ∧
  (∀ a, (k0_off45 arg12 v335) a + S1x8x128.size a ≤ S4x5784x128.size a) ∧
  (8 ∣ (k0_mult15 arg12 v335).toNat) ∧
  (∀ a, (k0_off46 arg12 v335) a + S8x128.size a ≤ S3080x128.size a)
theorem k0_off42_inb : ∀ (arg12 : BitVec 32) (v335 : BitVec 32) (k0_hw8 : k0_chk8 arg12 v335), ∀ a, (k0_off42 arg12 v335) a + S1x8x128.size a ≤ S4x5784x128.size a := fun arg12 v335 k0_hw8 => k0_hw8.1
theorem k0_off43_inb : ∀ (arg12 : BitVec 32) (v335 : BitVec 32) (k0_hw8 : k0_chk8 arg12 v335), ∀ a, (k0_off43 arg12 v335) a + S1x8x128.size a ≤ S4x5784x128.size a := fun arg12 v335 k0_hw8 => k0_hw8.2.1
theorem k0_off44_inb : ∀ (arg12 : BitVec 32) (v335 : BitVec 32) (k0_hw8 : k0_chk8 arg12 v335), ∀ a, (k0_off44 arg12 v335) a + S1x8x128.size a ≤ S4x5784x128.size a := fun arg12 v335 k0_hw8 => k0_hw8.2.2.1
theorem k0_off45_inb : ∀ (arg12 : BitVec 32) (v335 : BitVec 32) (k0_hw8 : k0_chk8 arg12 v335), ∀ a, (k0_off45 arg12 v335) a + S1x8x128.size a ≤ S4x5784x128.size a := fun arg12 v335 k0_hw8 => k0_hw8.2.2.2.1
theorem k0_mult15_dvd : ∀ (arg12 : BitVec 32) (v335 : BitVec 32) (k0_hw8 : k0_chk8 arg12 v335), 8 ∣ (k0_mult15 arg12 v335).toNat := fun arg12 v335 k0_hw8 => k0_hw8.2.2.2.2.1
theorem k0_off46_inb : ∀ (arg12 : BitVec 32) (v335 : BitVec 32) (k0_hw8 : k0_chk8 arg12 v335), ∀ a, (k0_off46 arg12 v335) a + S8x128.size a ≤ S3080x128.size a := fun arg12 v335 k0_hw8 => k0_hw8.2.2.2.2.2

def k0_off47 (arg11 : BitVec 32) (arg12 : BitVec 32) : Fin 3 → Nat :=
  let c0_171 : Index := 0#32
  let c48_i32 : BitVec 32 := 48#32
  let v34 : BitVec 1 := Scalar.cmpi .sge arg12 c48_i32
  let c48_i32_17 : BitVec 32 := 48#32
  let v35 : BitVec 32 := Scalar.subi arg12 c48_i32_17
  let v36 : BitVec 32 := Scalar.select v34 v35 arg12
  let c8_i32_18 : BitVec 32 := 8#32
  let v37 : BitVec 32 := Scalar.muli v36 c8_i32_18
  let c4_i32_169 : BitVec 32 := 4#32
  let v366 : BitVec 32 := Scalar.addi v37 c4_i32_169
  let c3_i32_170 : BitVec 32 := 3#32
  let v367 : BitVec 32 := Scalar.addi v366 c3_i32_170
  let v368 : Index := Scalar.indexCast v367
  let v369 : Index := Scalar.indexCast arg11
  ![0, v368.toNat, v369.toNat]

def k0_chk1 (arg11 : BitVec 32) (arg12 : BitVec 32) : Prop :=
  (∀ a, (k0_off5 arg11 arg12) a + S1x1x1.size a ≤ S1x384x256.size a) ∧
  (∀ a, (k0_off11 arg11 arg12) a + S1x1x1.size a ≤ S1x384x256.size a) ∧
  (∀ a, (k0_off17 arg11 arg12) a + S1x1x1.size a ≤ S1x384x256.size a) ∧
  (∀ a, (k0_off23 arg11 arg12) a + S1x1x1.size a ≤ S1x384x256.size a) ∧
  (∀ a, (k0_off29 arg11 arg12) a + S1x1x1.size a ≤ S1x384x256.size a) ∧
  (∀ a, (k0_off35 arg11 arg12) a + S1x1x1.size a ≤ S1x384x256.size a) ∧
  (∀ a, (k0_off41 arg11 arg12) a + S1x1x1.size a ≤ S1x384x256.size a) ∧
  (∀ a, (k0_off47 arg11 arg12) a + S1x1x1.size a ≤ S1x384x256.size a)
theorem k0_off5_inb : ∀ (arg11 : BitVec 32) (arg12 : BitVec 32) (k0_hw1 : k0_chk1 arg11 arg12), ∀ a, (k0_off5 arg11 arg12) a + S1x1x1.size a ≤ S1x384x256.size a := fun arg11 arg12 k0_hw1 => k0_hw1.1
theorem k0_off11_inb : ∀ (arg11 : BitVec 32) (arg12 : BitVec 32) (k0_hw1 : k0_chk1 arg11 arg12), ∀ a, (k0_off11 arg11 arg12) a + S1x1x1.size a ≤ S1x384x256.size a := fun arg11 arg12 k0_hw1 => k0_hw1.2.1
theorem k0_off17_inb : ∀ (arg11 : BitVec 32) (arg12 : BitVec 32) (k0_hw1 : k0_chk1 arg11 arg12), ∀ a, (k0_off17 arg11 arg12) a + S1x1x1.size a ≤ S1x384x256.size a := fun arg11 arg12 k0_hw1 => k0_hw1.2.2.1
theorem k0_off23_inb : ∀ (arg11 : BitVec 32) (arg12 : BitVec 32) (k0_hw1 : k0_chk1 arg11 arg12), ∀ a, (k0_off23 arg11 arg12) a + S1x1x1.size a ≤ S1x384x256.size a := fun arg11 arg12 k0_hw1 => k0_hw1.2.2.2.1
theorem k0_off29_inb : ∀ (arg11 : BitVec 32) (arg12 : BitVec 32) (k0_hw1 : k0_chk1 arg11 arg12), ∀ a, (k0_off29 arg11 arg12) a + S1x1x1.size a ≤ S1x384x256.size a := fun arg11 arg12 k0_hw1 => k0_hw1.2.2.2.2.1
theorem k0_off35_inb : ∀ (arg11 : BitVec 32) (arg12 : BitVec 32) (k0_hw1 : k0_chk1 arg11 arg12), ∀ a, (k0_off35 arg11 arg12) a + S1x1x1.size a ≤ S1x384x256.size a := fun arg11 arg12 k0_hw1 => k0_hw1.2.2.2.2.2.1
theorem k0_off41_inb : ∀ (arg11 : BitVec 32) (arg12 : BitVec 32) (k0_hw1 : k0_chk1 arg11 arg12), ∀ a, (k0_off41 arg11 arg12) a + S1x1x1.size a ≤ S1x384x256.size a := fun arg11 arg12 k0_hw1 => k0_hw1.2.2.2.2.2.2.1
theorem k0_off47_inb : ∀ (arg11 : BitVec 32) (arg12 : BitVec 32) (k0_hw1 : k0_chk1 arg11 arg12), ∀ a, (k0_off47 arg11 arg12) a + S1x1x1.size a ≤ S1x384x256.size a := fun arg11 arg12 k0_hw1 => k0_hw1.2.2.2.2.2.2.2

def k0_off48 (arg12 : BitVec 32) (v370 : BitVec 32) : Fin 3 → Nat :=
  let c0_177 : Index := 0#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v371 : BitVec 32 := Scalar.shrui v370 v38
  let c65535_i32_172 : BitVec 32 := 65535#32
  let v372 : BitVec 32 := Scalar.andi v371 c65535_i32_172
  let c3_i32_173 : BitVec 32 := 3#32
  let v373 : BitVec 32 := Scalar.shrui v372 c3_i32_173
  let c15_i32_175 : BitVec 32 := 15#32
  let v375 : BitVec 32 := Scalar.muli v373 c15_i32_175
  let c2_i32_176 : BitVec 32 := 2#32
  let c7_i32_174 : BitVec 32 := 7#32
  let v374 : BitVec 32 := Scalar.andi v372 c7_i32_174
  let v376 : BitVec 32 := Scalar.muli c2_i32_176 v374
  let v377 : BitVec 32 := Scalar.addi v375 v376
  let v378 : Index := Scalar.indexCast v377
  let c0_178 : Index := 0#32
  ![0, v378.toNat, 0]

def k0_off49 (arg12 : BitVec 32) (v370 : BitVec 32) : Fin 3 → Nat :=
  let c1_179 : Index := 1#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v371 : BitVec 32 := Scalar.shrui v370 v38
  let c65535_i32_172 : BitVec 32 := 65535#32
  let v372 : BitVec 32 := Scalar.andi v371 c65535_i32_172
  let c3_i32_173 : BitVec 32 := 3#32
  let v373 : BitVec 32 := Scalar.shrui v372 c3_i32_173
  let c15_i32_175 : BitVec 32 := 15#32
  let v375 : BitVec 32 := Scalar.muli v373 c15_i32_175
  let c2_i32_176 : BitVec 32 := 2#32
  let c7_i32_174 : BitVec 32 := 7#32
  let v374 : BitVec 32 := Scalar.andi v372 c7_i32_174
  let v376 : BitVec 32 := Scalar.muli c2_i32_176 v374
  let v377 : BitVec 32 := Scalar.addi v375 v376
  let v381 : Index := Scalar.indexCast v377
  let c0_180 : Index := 0#32
  ![1, v381.toNat, 0]
def k0_off50 (arg12 : BitVec 32) (v370 : BitVec 32) : Fin 3 → Nat :=
  let c2_181 : Index := 2#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v371 : BitVec 32 := Scalar.shrui v370 v38
  let c65535_i32_172 : BitVec 32 := 65535#32
  let v372 : BitVec 32 := Scalar.andi v371 c65535_i32_172
  let c3_i32_173 : BitVec 32 := 3#32
  let v373 : BitVec 32 := Scalar.shrui v372 c3_i32_173
  let c15_i32_175 : BitVec 32 := 15#32
  let v375 : BitVec 32 := Scalar.muli v373 c15_i32_175
  let c2_i32_176 : BitVec 32 := 2#32
  let c7_i32_174 : BitVec 32 := 7#32
  let v374 : BitVec 32 := Scalar.andi v372 c7_i32_174
  let v376 : BitVec 32 := Scalar.muli c2_i32_176 v374
  let v377 : BitVec 32 := Scalar.addi v375 v376
  let v384 : Index := Scalar.indexCast v377
  let c0_182 : Index := 0#32
  ![2, v384.toNat, 0]
def k0_off51 (arg12 : BitVec 32) (v370 : BitVec 32) : Fin 3 → Nat :=
  let c3_183 : Index := 3#32
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v371 : BitVec 32 := Scalar.shrui v370 v38
  let c65535_i32_172 : BitVec 32 := 65535#32
  let v372 : BitVec 32 := Scalar.andi v371 c65535_i32_172
  let c3_i32_173 : BitVec 32 := 3#32
  let v373 : BitVec 32 := Scalar.shrui v372 c3_i32_173
  let c15_i32_175 : BitVec 32 := 15#32
  let v375 : BitVec 32 := Scalar.muli v373 c15_i32_175
  let c2_i32_176 : BitVec 32 := 2#32
  let c7_i32_174 : BitVec 32 := 7#32
  let v374 : BitVec 32 := Scalar.andi v372 c7_i32_174
  let v376 : BitVec 32 := Scalar.muli c2_i32_176 v374
  let v377 : BitVec 32 := Scalar.addi v375 v376
  let v387 : Index := Scalar.indexCast v377
  let c0_184 : Index := 0#32
  ![3, v387.toNat, 0]
def k0_mult16 (arg12 : BitVec 32) (v370 : BitVec 32) : BitVec 32 :=
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v371 : BitVec 32 := Scalar.shrui v370 v38
  let c65535_i32_172 : BitVec 32 := 65535#32
  let v372 : BitVec 32 := Scalar.andi v371 c65535_i32_172
  let c3_i32_173 : BitVec 32 := 3#32
  let v373 : BitVec 32 := Scalar.shrui v372 c3_i32_173
  let c8_i32_185 : BitVec 32 := 8#32
  let v390 : BitVec 32 := Scalar.muli v373 c8_i32_185
  v390
def k0_off52 (arg12 : BitVec 32) (v370 : BitVec 32) : Fin 2 → Nat :=
  let c48_i32 : BitVec 32 := 48#32
  let v34 : BitVec 1 := Scalar.cmpi .sge arg12 c48_i32
  let c16_i32 : BitVec 32 := 16#32
  let c0_i32_19 : BitVec 32 := 0#32
  let v38 : BitVec 32 := Scalar.select v34 c16_i32 c0_i32_19
  let v371 : BitVec 32 := Scalar.shrui v370 v38
  let c65535_i32_172 : BitVec 32 := 65535#32
  let v372 : BitVec 32 := Scalar.andi v371 c65535_i32_172
  let c3_i32_173 : BitVec 32 := 3#32
  let v373 : BitVec 32 := Scalar.shrui v372 c3_i32_173
  let c8_i32_185 : BitVec 32 := 8#32
  let v390 : BitVec 32 := Scalar.muli v373 c8_i32_185
  let v391 : BitVec 32 := v390
  let v392 : Index := Scalar.indexCast v391
  let c0_186 : Index := 0#32
  ![v392.toNat, 0]

def k0_chk9 (arg12 : BitVec 32) (v370 : BitVec 32) : Prop :=
  (∀ a, (k0_off48 arg12 v370) a + S1x8x128.size a ≤ S4x5784x128.size a) ∧
  (∀ a, (k0_off49 arg12 v370) a + S1x8x128.size a ≤ S4x5784x128.size a) ∧
  (∀ a, (k0_off50 arg12 v370) a + S1x8x128.size a ≤ S4x5784x128.size a) ∧
  (∀ a, (k0_off51 arg12 v370) a + S1x8x128.size a ≤ S4x5784x128.size a) ∧
  (8 ∣ (k0_mult16 arg12 v370).toNat) ∧
  (∀ a, (k0_off52 arg12 v370) a + S8x128.size a ≤ S3080x128.size a)
theorem k0_off48_inb : ∀ (arg12 : BitVec 32) (v370 : BitVec 32) (k0_hw9 : k0_chk9 arg12 v370), ∀ a, (k0_off48 arg12 v370) a + S1x8x128.size a ≤ S4x5784x128.size a := fun arg12 v370 k0_hw9 => k0_hw9.1
theorem k0_off49_inb : ∀ (arg12 : BitVec 32) (v370 : BitVec 32) (k0_hw9 : k0_chk9 arg12 v370), ∀ a, (k0_off49 arg12 v370) a + S1x8x128.size a ≤ S4x5784x128.size a := fun arg12 v370 k0_hw9 => k0_hw9.2.1
theorem k0_off50_inb : ∀ (arg12 : BitVec 32) (v370 : BitVec 32) (k0_hw9 : k0_chk9 arg12 v370), ∀ a, (k0_off50 arg12 v370) a + S1x8x128.size a ≤ S4x5784x128.size a := fun arg12 v370 k0_hw9 => k0_hw9.2.2.1
theorem k0_off51_inb : ∀ (arg12 : BitVec 32) (v370 : BitVec 32) (k0_hw9 : k0_chk9 arg12 v370), ∀ a, (k0_off51 arg12 v370) a + S1x8x128.size a ≤ S4x5784x128.size a := fun arg12 v370 k0_hw9 => k0_hw9.2.2.2.1
theorem k0_mult16_dvd : ∀ (arg12 : BitVec 32) (v370 : BitVec 32) (k0_hw9 : k0_chk9 arg12 v370), 8 ∣ (k0_mult16 arg12 v370).toNat := fun arg12 v370 k0_hw9 => k0_hw9.2.2.2.2.1
theorem k0_off52_inb : ∀ (arg12 : BitVec 32) (v370 : BitVec 32) (k0_hw9 : k0_chk9 arg12 v370), ∀ a, (k0_off52 arg12 v370) a + S8x128.size a ≤ S3080x128.size a := fun arg12 v370 k0_hw9 => k0_hw9.2.2.2.2.2

def k0_mult17 (arg11 : BitVec 32) : BitVec 32 :=
  let c191_i32 : BitVec 32 := 191#32
  let v26 : BitVec 32 := Scalar.minsi arg11 c191_i32
  let c15_i32 : BitVec 32 := 15#32
  let v30 : BitVec 32 := Scalar.andi v26 c15_i32
  let c4_i32 : BitVec 32 := 4#32
  let v31 : BitVec 32 := Scalar.muli v30 c4_i32
  let c0_i32_210 : BitVec 32 := 0#32
  let v545 : BitVec 32 := Scalar.addi v31 c0_i32_210
  let c96_i32 : BitVec 32 := 96#32
  let v546 : BitVec 32 := Scalar.muli v545 c96_i32
  let c4_i32_15 : BitVec 32 := 4#32
  let v32 : BitVec 32 := Scalar.shrsi v26 c4_i32_15
  let c8_i32_16 : BitVec 32 := 8#32
  let v33 : BitVec 32 := Scalar.muli v32 c8_i32_16
  let v547 : BitVec 32 := Scalar.addi v546 v33
  v547

def k0_off53 (arg11 : BitVec 32) (c0_i32_210 : BitVec 32) : Fin 3 → Nat :=
  let c0_211 : Index := 0#32
  let c191_i32 : BitVec 32 := 191#32
  let v26 : BitVec 32 := Scalar.minsi arg11 c191_i32
  let c15_i32 : BitVec 32 := 15#32
  let v30 : BitVec 32 := Scalar.andi v26 c15_i32
  let c4_i32 : BitVec 32 := 4#32
  let v31 : BitVec 32 := Scalar.muli v30 c4_i32
  let v545 : BitVec 32 := Scalar.addi v31 c0_i32_210
  let c96_i32 : BitVec 32 := 96#32
  let v546 : BitVec 32 := Scalar.muli v545 c96_i32
  let c4_i32_15 : BitVec 32 := 4#32
  let v32 : BitVec 32 := Scalar.shrsi v26 c4_i32_15
  let c8_i32_16 : BitVec 32 := 8#32
  let v33 : BitVec 32 := Scalar.muli v32 c8_i32_16
  let v547 : BitVec 32 := Scalar.addi v546 v33
  let v548 : BitVec 32 := v547
  let v549 : Index := Scalar.indexCast v548
  let c0_212 : Index := 0#32
  ![0, v549.toNat, 0]
def k0_mult18 (arg11 : BitVec 32) : BitVec 32 :=
  let c191_i32 : BitVec 32 := 191#32
  let v26 : BitVec 32 := Scalar.minsi arg11 c191_i32
  let c15_i32 : BitVec 32 := 15#32
  let v30 : BitVec 32 := Scalar.andi v26 c15_i32
  let c4_i32 : BitVec 32 := 4#32
  let v31 : BitVec 32 := Scalar.muli v30 c4_i32
  let c1_i32_216 : BitVec 32 := 1#32
  let v560 : BitVec 32 := Scalar.addi v31 c1_i32_216
  let c96_i32_217 : BitVec 32 := 96#32
  let v561 : BitVec 32 := Scalar.muli v560 c96_i32_217
  let c4_i32_15 : BitVec 32 := 4#32
  let v32 : BitVec 32 := Scalar.shrsi v26 c4_i32_15
  let c8_i32_16 : BitVec 32 := 8#32
  let v33 : BitVec 32 := Scalar.muli v32 c8_i32_16
  let v562 : BitVec 32 := Scalar.addi v561 v33
  v562
def k0_mult19 (arg11 : BitVec 32) : BitVec 32 :=
  let c191_i32 : BitVec 32 := 191#32
  let v26 : BitVec 32 := Scalar.minsi arg11 c191_i32
  let c15_i32 : BitVec 32 := 15#32
  let v30 : BitVec 32 := Scalar.andi v26 c15_i32
  let c4_i32 : BitVec 32 := 4#32
  let v31 : BitVec 32 := Scalar.muli v30 c4_i32
  let c2_i32_223 : BitVec 32 := 2#32
  let v575 : BitVec 32 := Scalar.addi v31 c2_i32_223
  let c96_i32_224 : BitVec 32 := 96#32
  let v576 : BitVec 32 := Scalar.muli v575 c96_i32_224
  let c4_i32_15 : BitVec 32 := 4#32
  let v32 : BitVec 32 := Scalar.shrsi v26 c4_i32_15
  let c8_i32_16 : BitVec 32 := 8#32
  let v33 : BitVec 32 := Scalar.muli v32 c8_i32_16
  let v577 : BitVec 32 := Scalar.addi v576 v33
  v577
def k0_mult20 (arg11 : BitVec 32) : BitVec 32 :=
  let c191_i32 : BitVec 32 := 191#32
  let v26 : BitVec 32 := Scalar.minsi arg11 c191_i32
  let c15_i32 : BitVec 32 := 15#32
  let v30 : BitVec 32 := Scalar.andi v26 c15_i32
  let c4_i32 : BitVec 32 := 4#32
  let v31 : BitVec 32 := Scalar.muli v30 c4_i32
  let c3_i32_230 : BitVec 32 := 3#32
  let v590 : BitVec 32 := Scalar.addi v31 c3_i32_230
  let c96_i32_231 : BitVec 32 := 96#32
  let v591 : BitVec 32 := Scalar.muli v590 c96_i32_231
  let c4_i32_15 : BitVec 32 := 4#32
  let v32 : BitVec 32 := Scalar.shrsi v26 c4_i32_15
  let c8_i32_16 : BitVec 32 := 8#32
  let v33 : BitVec 32 := Scalar.muli v32 c8_i32_16
  let v592 : BitVec 32 := Scalar.addi v591 v33
  v592
def k0_off54 (arg11 : BitVec 32) : Fin 3 → Nat :=
  let c0_238 : Index := 0#32
  let c0_239 : Index := 0#32
  let v606 : Index := Scalar.indexCast arg11
  ![0, 0, v606.toNat]

def k0_chk10 (arg11 : BitVec 32) : Prop :=
  (8 ∣ (k0_mult17 arg11).toNat) ∧
  (∀ (r : Fin 4), ∀ a, (k0_off53 arg11 (BitVec.ofNat 32 r.val)) a + S1x8x512.size a ≤ S1x6144x512.size a) ∧
  (8 ∣ (k0_mult18 arg11).toNat) ∧
  (8 ∣ (k0_mult19 arg11).toNat) ∧
  (8 ∣ (k0_mult20 arg11).toNat) ∧
  (∀ a, (k0_off54 arg11) a + S1x1x1.size a ≤ S1x1x256.size a)
theorem k0_mult17_dvd : ∀ (arg11 : BitVec 32) (k0_hw10 : k0_chk10 arg11), 8 ∣ (k0_mult17 arg11).toNat := fun arg11 k0_hw10 => k0_hw10.1
theorem k0_off53_inb : ∀ (arg11 : BitVec 32) (k0_hw10 : k0_chk10 arg11), ∀ (r : Fin 4), ∀ a, (k0_off53 arg11 (BitVec.ofNat 32 r.val)) a + S1x8x512.size a ≤ S1x6144x512.size a := fun arg11 k0_hw10 r => k0_hw10.2.1 r
theorem k0_mult18_dvd : ∀ (arg11 : BitVec 32) (k0_hw10 : k0_chk10 arg11), 8 ∣ (k0_mult18 arg11).toNat := fun arg11 k0_hw10 => k0_hw10.2.2.1
theorem k0_mult19_dvd : ∀ (arg11 : BitVec 32) (k0_hw10 : k0_chk10 arg11), 8 ∣ (k0_mult19 arg11).toNat := fun arg11 k0_hw10 => k0_hw10.2.2.2.1
theorem k0_mult20_dvd : ∀ (arg11 : BitVec 32) (k0_hw10 : k0_chk10 arg11), 8 ∣ (k0_mult20 arg11).toNat := fun arg11 k0_hw10 => k0_hw10.2.2.2.2.1
theorem k0_off54_inb : ∀ (arg11 : BitVec 32) (k0_hw10 : k0_chk10 arg11), ∀ a, (k0_off54 arg11) a + S1x1x1.size a ≤ S1x1x256.size a := fun arg11 k0_hw10 => k0_hw10.2.2.2.2.2

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x49x384x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x384x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S1x1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6144x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelReferenceIdeal.lean ====
abbrev S8x384x7x7x512 : Shape := ⟨5, ![8, 384, 7, 7, 512]⟩
abbrev S8x8x384 : Shape := ⟨3, ![8, 8, 384]⟩
abbrev S8x384x256 : Shape := ⟨3, ![8, 384, 256]⟩
abbrev S8x1x256 : Shape := ⟨3, ![8, 1, 256]⟩
abbrev S150528x512 : Shape := ⟨2, ![150528, 512]⟩
abbrev S8x384x49x512 : Shape := ⟨4, ![8, 384, 49, 512]⟩
abbrev S8x1x384 : Shape := ⟨3, ![8, 1, 384]⟩
abbrev S8x384 : Shape := ⟨2, ![8, 384]⟩
abbrev S8x64x384x7 : Shape := ⟨4, ![8, 64, 384, 7]⟩
abbrev S_ : Shape := ⟨0, ![]⟩
abbrev S8x96x384x7 : Shape := ⟨4, ![8, 96, 384, 7]⟩
abbrev S8x384x192 : Shape := ⟨3, ![8, 384, 192]⟩
abbrev S8x768x192 : Shape := ⟨3, ![8, 768, 192]⟩
abbrev S8x768x192x384x7 : Shape := ⟨5, ![8, 768, 192, 384, 7]⟩
abbrev S8x192x384x7 : Shape := ⟨4, ![8, 192, 384, 7]⟩
abbrev S8x12x16x384x7 : Shape := ⟨5, ![8, 12, 16, 384, 7]⟩
abbrev S8x12x8x16x4x384x7 : Shape := ⟨7, ![8, 12, 8, 16, 4, 384, 7]⟩
abbrev S8x16x4x12x8x384x7 : Shape := ⟨7, ![8, 16, 4, 12, 8, 384, 7]⟩
abbrev S8x64x96x384x7 : Shape := ⟨5, ![8, 64, 96, 384, 7]⟩
abbrev S8x64x96x384x7x7 : Shape := ⟨6, ![8, 64, 96, 384, 7, 7]⟩
abbrev S8x6144x18816 : Shape := ⟨3, ![8, 6144, 18816]⟩
abbrev S8x18816x512 : Shape := ⟨3, ![8, 18816, 512]⟩
abbrev S8x6144x512 : Shape := ⟨3, ![8, 6144, 512]⟩

abbrev nBuf : Space → Nat
  | .hbm => 277
  | .vmem => 2
  | .smem => 0
  | _ => 0

abbrev hbmTy0_0 (i : Nat) : BufTy := match i % 128 with
  | 0 => ⟨S8x384x7x7x512, .i8⟩
  | 1 => ⟨S8x8x384, .f32⟩
  | 2 => ⟨S8x384x256, .i32⟩
  | 3 => ⟨S8x1x256, .i32⟩
  | 4 => ⟨S150528x512, .i8⟩
  | 5 => ⟨S150528x512, .f32⟩
  | 6 => ⟨S8x384x49x512, .f32⟩
  | 7 => ⟨S8x1x384, .f32⟩
  | 8 => ⟨S8x384, .f32⟩
  | 9 => ⟨S8x1x384, .f32⟩
  | 10 => ⟨S8x384, .f32⟩
  | 11 => ⟨S8x64x384x7, .f32⟩
  | 12 => ⟨S8x64x384x7, .f32⟩
  | 13 => ⟨S8x64x384x7, .i32⟩
  | 14 => ⟨S8x64x384x7, .f32⟩
  | 15 => ⟨S8x64x384x7, .i32⟩
  | 16 => ⟨S8x64x384x7, .f32⟩
  | 17 => ⟨S8x64x384x7, .f32⟩
  | 18 => ⟨S_, .f32⟩
  | 19 => ⟨S8x64x384x7, .f32⟩
  | 20 => ⟨S8x64x384x7, .f32⟩
  | 21 => ⟨S_, .f32⟩
  | 22 => ⟨S8x64x384x7, .f32⟩
  | 23 => ⟨S8x64x384x7, .f32⟩
  | 24 => ⟨S8x64x384x7, .f32⟩
  | 25 => ⟨S_, .f32⟩
  | 26 => ⟨S8x64x384x7, .f32⟩
  | 27 => ⟨S8x64x384x7, .i1⟩
  | 28 => ⟨S_, .f32⟩
  | 29 => ⟨S8x64x384x7, .f32⟩
  | 30 => ⟨S8x64x384x7, .i1⟩
  | 31 => ⟨S8x64x384x7, .i1⟩
  | 32 => ⟨S_, .f32⟩
  | 33 => ⟨S8x64x384x7, .f32⟩
  | 34 => ⟨S8x64x384x7, .f32⟩
  | 35 => ⟨S8x64x384x7, .f32⟩
  | 36 => ⟨S8x64x384x7, .i32⟩
  | 37 => ⟨S_, .i32⟩
  | 38 => ⟨S8x64x384x7, .i32⟩
  | 39 => ⟨S8x64x384x7, .i1⟩
  | 40 => ⟨S_, .i32⟩
  | 41 => ⟨S8x64x384x7, .i32⟩
  | 42 => ⟨S8x64x384x7, .i32⟩
  | 43 => ⟨S_, .i32⟩
  | 44 => ⟨S8x64x384x7, .i32⟩
  | 45 => ⟨S_, .i32⟩
  | 46 => ⟨S8x64x384x7, .i32⟩
  | 47 => ⟨S8x64x384x7, .i32⟩
  | 48 => ⟨S8x64x384x7, .i32⟩
  | 49 => ⟨S8x64x384x7, .f32⟩
  | 50 => ⟨S8x64x384x7, .f32⟩
  | 51 => ⟨S8x64x384x7, .f32⟩
  | 52 => ⟨S8x64x384x7, .f32⟩
  | 53 => ⟨S_, .f32⟩
  | 54 => ⟨S8x64x384x7, .f32⟩
  | 55 => ⟨S8x64x384x7, .f32⟩
  | 56 => ⟨S_, .f32⟩
  | 57 => ⟨S8x64x384x7, .f32⟩
  | 58 => ⟨S8x64x384x7, .i1⟩
  | 59 => ⟨S8x64x384x7, .f32⟩
  | 60 => ⟨S8x64x384x7, .i1⟩
  | 61 => ⟨S8x64x384x7, .f32⟩
  | 62 => ⟨S8x64x384x7, .f32⟩
  | 63 => ⟨S8x64x384x7, .f32⟩
  | 64 => ⟨S8x64x384x7, .f32⟩
  | 65 => ⟨S8x64x384x7, .f32⟩
  | 66 => ⟨S8x64x384x7, .i32⟩
  | 67 => ⟨S8x64x384x7, .f32⟩
  | 68 => ⟨S8x64x384x7, .i32⟩
  | 69 => ⟨S8x64x384x7, .f32⟩
  | 70 => ⟨S8x64x384x7, .f32⟩
  | 71 => ⟨S_, .f32⟩
  | 72 => ⟨S8x64x384x7, .f32⟩
  | 73 => ⟨S8x64x384x7, .f32⟩
  | 74 => ⟨S_, .f32⟩
  | 75 => ⟨S8x64x384x7, .f32⟩
  | 76 => ⟨S8x64x384x7, .f32⟩
  | 77 => ⟨S8x64x384x7, .f32⟩
  | 78 => ⟨S_, .f32⟩
  | 79 => ⟨S8x64x384x7, .f32⟩
  | 80 => ⟨S8x64x384x7, .i1⟩
  | 81 => ⟨S_, .f32⟩
  | 82 => ⟨S8x64x384x7, .f32⟩
  | 83 => ⟨S8x64x384x7, .i1⟩
  | 84 => ⟨S8x64x384x7, .i1⟩
  | 85 => ⟨S_, .f32⟩
  | 86 => ⟨S8x64x384x7, .f32⟩
  | 87 => ⟨S8x64x384x7, .f32⟩
  | 88 => ⟨S8x64x384x7, .f32⟩
  | 89 => ⟨S8x64x384x7, .i32⟩
  | 90 => ⟨S_, .i32⟩
  | 91 => ⟨S8x64x384x7, .i32⟩
  | 92 => ⟨S8x64x384x7, .i1⟩
  | 93 => ⟨S_, .i32⟩
  | 94 => ⟨S8x64x384x7, .i32⟩
  | 95 => ⟨S8x64x384x7, .i32⟩
  | 96 => ⟨S_, .i32⟩
  | 97 => ⟨S8x64x384x7, .i32⟩
  | 98 => ⟨S_, .i32⟩
  | 99 => ⟨S8x64x384x7, .i32⟩
  | 100 => ⟨S8x64x384x7, .i32⟩
  | 101 => ⟨S8x64x384x7, .i32⟩
  | 102 => ⟨S8x64x384x7, .f32⟩
  | 103 => ⟨S8x64x384x7, .f32⟩
  | 104 => ⟨S8x64x384x7, .f32⟩
  | 105 => ⟨S8x64x384x7, .f32⟩
  | 106 => ⟨S_, .f32⟩
  | 107 => ⟨S8x64x384x7, .f32⟩
  | 108 => ⟨S8x64x384x7, .f32⟩
  | 109 => ⟨S_, .f32⟩
  | 110 => ⟨S8x64x384x7, .f32⟩
  | 111 => ⟨S8x64x384x7, .i1⟩
  | 112 => ⟨S8x64x384x7, .f32⟩
  | 113 => ⟨S8x64x384x7, .i1⟩
  | 114 => ⟨S8x64x384x7, .f32⟩
  | 115 => ⟨S8x64x384x7, .f32⟩
  | 116 => ⟨S8x64x384x7, .f32⟩
  | 117 => ⟨S8x64x384x7, .f32⟩
  | 118 => ⟨S8x1x384, .f32⟩
  | 119 => ⟨S8x384, .f32⟩
  | 120 => ⟨S8x1x384, .f32⟩
  | 121 => ⟨S8x384, .f32⟩
  | 122 => ⟨S8x96x384x7, .f32⟩
  | 123 => ⟨S8x96x384x7, .f32⟩
  | 124 => ⟨S8x96x384x7, .i32⟩
  | 125 => ⟨S8x96x384x7, .f32⟩
  | 126 => ⟨S8x96x384x7, .i32⟩
  | 127 => ⟨S8x96x384x7, .f32⟩
  | _ => ⟨S8x384x7x7x512, .i8⟩

abbrev hbmTy0_1 (i : Nat) : BufTy := match i % 128 with
  | 0 => ⟨S8x96x384x7, .f32⟩
  | 1 => ⟨S_, .f32⟩
  | 2 => ⟨S8x96x384x7, .f32⟩
  | 3 => ⟨S8x96x384x7, .f32⟩
  | 4 => ⟨S_, .f32⟩
  | 5 => ⟨S8x96x384x7, .f32⟩
  | 6 => ⟨S8x96x384x7, .f32⟩
  | 7 => ⟨S8x96x384x7, .f32⟩
  | 8 => ⟨S_, .f32⟩
  | 9 => ⟨S8x96x384x7, .f32⟩
  | 10 => ⟨S8x96x384x7, .i1⟩
  | 11 => ⟨S_, .f32⟩
  | 12 => ⟨S8x96x384x7, .f32⟩
  | 13 => ⟨S8x96x384x7, .i1⟩
  | 14 => ⟨S8x96x384x7, .i1⟩
  | 15 => ⟨S_, .f32⟩
  | 16 => ⟨S8x96x384x7, .f32⟩
  | 17 => ⟨S8x96x384x7, .f32⟩
  | 18 => ⟨S8x96x384x7, .f32⟩
  | 19 => ⟨S8x96x384x7, .i32⟩
  | 20 => ⟨S_, .i32⟩
  | 21 => ⟨S8x96x384x7, .i32⟩
  | 22 => ⟨S8x96x384x7, .i1⟩
  | 23 => ⟨S_, .i32⟩
  | 24 => ⟨S8x96x384x7, .i32⟩
  | 25 => ⟨S8x96x384x7, .i32⟩
  | 26 => ⟨S_, .i32⟩
  | 27 => ⟨S8x96x384x7, .i32⟩
  | 28 => ⟨S_, .i32⟩
  | 29 => ⟨S8x96x384x7, .i32⟩
  | 30 => ⟨S8x96x384x7, .i32⟩
  | 31 => ⟨S8x96x384x7, .i32⟩
  | 32 => ⟨S8x96x384x7, .f32⟩
  | 33 => ⟨S8x96x384x7, .f32⟩
  | 34 => ⟨S8x96x384x7, .f32⟩
  | 35 => ⟨S8x96x384x7, .f32⟩
  | 36 => ⟨S_, .f32⟩
  | 37 => ⟨S8x96x384x7, .f32⟩
  | 38 => ⟨S8x96x384x7, .f32⟩
  | 39 => ⟨S_, .f32⟩
  | 40 => ⟨S8x96x384x7, .f32⟩
  | 41 => ⟨S8x96x384x7, .i1⟩
  | 42 => ⟨S8x96x384x7, .f32⟩
  | 43 => ⟨S8x96x384x7, .i1⟩
  | 44 => ⟨S8x96x384x7, .f32⟩
  | 45 => ⟨S8x96x384x7, .f32⟩
  | 46 => ⟨S8x96x384x7, .f32⟩
  | 47 => ⟨S8x96x384x7, .f32⟩
  | 48 => ⟨S8x96x384x7, .f32⟩
  | 49 => ⟨S8x96x384x7, .i32⟩
  | 50 => ⟨S8x96x384x7, .f32⟩
  | 51 => ⟨S8x96x384x7, .i32⟩
  | 52 => ⟨S8x96x384x7, .f32⟩
  | 53 => ⟨S8x96x384x7, .f32⟩
  | 54 => ⟨S_, .f32⟩
  | 55 => ⟨S8x96x384x7, .f32⟩
  | 56 => ⟨S8x96x384x7, .f32⟩
  | 57 => ⟨S_, .f32⟩
  | 58 => ⟨S8x96x384x7, .f32⟩
  | 59 => ⟨S8x96x384x7, .f32⟩
  | 60 => ⟨S8x96x384x7, .f32⟩
  | 61 => ⟨S_, .f32⟩
  | 62 => ⟨S8x96x384x7, .f32⟩
  | 63 => ⟨S8x96x384x7, .i1⟩
  | 64 => ⟨S_, .f32⟩
  | 65 => ⟨S8x96x384x7, .f32⟩
  | 66 => ⟨S8x96x384x7, .i1⟩
  | 67 => ⟨S8x96x384x7, .i1⟩
  | 68 => ⟨S_, .f32⟩
  | 69 => ⟨S8x96x384x7, .f32⟩
  | 70 => ⟨S8x96x384x7, .f32⟩
  | 71 => ⟨S8x96x384x7, .f32⟩
  | 72 => ⟨S8x96x384x7, .i32⟩
  | 73 => ⟨S_, .i32⟩
  | 74 => ⟨S8x96x384x7, .i32⟩
  | 75 => ⟨S8x96x384x7, .i1⟩
  | 76 => ⟨S_, .i32⟩
  | 77 => ⟨S8x96x384x7, .i32⟩
  | 78 => ⟨S8x96x384x7, .i32⟩
  | 79 => ⟨S_, .i32⟩
  | 80 => ⟨S8x96x384x7, .i32⟩
  | 81 => ⟨S_, .i32⟩
  | 82 => ⟨S8x96x384x7, .i32⟩
  | 83 => ⟨S8x96x384x7, .i32⟩
  | 84 => ⟨S8x96x384x7, .i32⟩
  | 85 => ⟨S8x96x384x7, .f32⟩
  | 86 => ⟨S8x96x384x7, .f32⟩
  | 87 => ⟨S8x96x384x7, .f32⟩
  | 88 => ⟨S8x96x384x7, .f32⟩
  | 89 => ⟨S_, .f32⟩
  | 90 => ⟨S8x96x384x7, .f32⟩
  | 91 => ⟨S8x96x384x7, .f32⟩
  | 92 => ⟨S_, .f32⟩
  | 93 => ⟨S8x96x384x7, .f32⟩
  | 94 => ⟨S8x96x384x7, .i1⟩
  | 95 => ⟨S8x96x384x7, .f32⟩
  | 96 => ⟨S8x96x384x7, .i1⟩
  | 97 => ⟨S8x96x384x7, .f32⟩
  | 98 => ⟨S8x96x384x7, .f32⟩
  | 99 => ⟨S8x96x384x7, .f32⟩
  | 100 => ⟨S8x96x384x7, .f32⟩
  | 101 => ⟨S8x384x192, .i32⟩
  | 102 => ⟨S_, .i32⟩
  | 103 => ⟨S8x384x192, .i32⟩
  | 104 => ⟨S8x384x192, .i32⟩
  | 105 => ⟨S_, .i32⟩
  | 106 => ⟨S8x384x192, .i32⟩
  | 107 => ⟨S8x384x192, .i32⟩
  | 108 => ⟨S8x768x192, .i32⟩
  | 109 => ⟨S8x768x192x384x7, .i32⟩
  | 110 => ⟨S8x768x192x384x7, .i32⟩
  | 111 => ⟨S8x768x192x384x7, .i32⟩
  | 112 => ⟨S_, .i32⟩
  | 113 => ⟨S8x768x192x384x7, .i32⟩
  | 114 => ⟨S8x768x192x384x7, .i32⟩
  | 115 => ⟨S_, .i32⟩
  | 116 => ⟨S8x768x192x384x7, .i32⟩
  | 117 => ⟨S8x768x192x384x7, .i32⟩
  | 118 => ⟨S8x768x192x384x7, .i1⟩
  | 119 => ⟨S8x768x192x384x7, .i1⟩
  | 120 => ⟨S8x768x192x384x7, .i1⟩
  | 121 => ⟨S_, .i32⟩
  | 122 => ⟨S8x768x192x384x7, .i32⟩
  | 123 => ⟨S8x768x192x384x7, .i32⟩
  | 124 => ⟨S8x768x192x384x7, .i1⟩
  | 125 => ⟨S8x768x192x384x7, .i1⟩
  | 126 => ⟨S_, .f32⟩
  | 127 => ⟨S8x768x192x384x7, .f32⟩
  | _ => ⟨S8x384x7x7x512, .i8⟩

abbrev hbmTy0_2 (i : Nat) : BufTy := match i % 128 with
  | 0 => ⟨S_, .f32⟩
  | 1 => ⟨S8x768x192x384x7, .f32⟩
  | 2 => ⟨S8x768x192x384x7, .f32⟩
  | 3 => ⟨S_, .f32⟩
  | 4 => ⟨S8x192x384x7, .f32⟩
  | 5 => ⟨S8x12x16x384x7, .f32⟩
  | 6 => ⟨S8x12x8x16x4x384x7, .f32⟩
  | 7 => ⟨S8x16x4x12x8x384x7, .f32⟩
  | 8 => ⟨S8x64x96x384x7, .f32⟩
  | 9 => ⟨S8x64x96x384x7x7, .f32⟩
  | 10 => ⟨S8x64x96x384x7x7, .f32⟩
  | 11 => ⟨S8x64x96x384x7x7, .f32⟩
  | 12 => ⟨S8x64x96x384x7x7, .f32⟩
  | 13 => ⟨S8x64x96x384x7x7, .f32⟩
  | 14 => ⟨S8x6144x18816, .f32⟩
  | 15 => ⟨S8x1x384, .f32⟩
  | 16 => ⟨S8x384, .f32⟩
  | 17 => ⟨S8x384x49x512, .f32⟩
  | 18 => ⟨S8x384x49x512, .f32⟩
  | 19 => ⟨S8x18816x512, .f32⟩
  | 20 => ⟨S8x6144x512, .f32⟩
  | _ => ⟨S8x384x7x7x512, .i8⟩

abbrev hbmTy (i : Nat) : BufTy := match i / 128 with
  | 0 => hbmTy0_0 i
  | 1 => hbmTy0_1 i
  | 2 => hbmTy0_2 i
  | _ => ⟨S8x384x7x7x512, .i8⟩

abbrev bufTy : (tb : Table) → Fin (tcTables nBuf tb) → BufTy
  | .hbm, ⟨i, _⟩ => hbmTy i
  | .local _ .vmem, ⟨0, _⟩ => ⟨S150528x512, .i8⟩
  | .local _ .vmem, ⟨1, _⟩ => ⟨S150528x512, .f32⟩
  | _, _ => ⟨S8x384x7x7x512, .i8⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_11 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_c_14 : Ref sig .tc := ⟨.hbm, 90, rfl⟩
abbrev main_v70 : Ref sig .tc := ⟨.hbm, 91, rfl⟩
abbrev main_v71 : Ref sig .tc := ⟨.hbm, 92, rfl⟩
abbrev main_c_15 : Ref sig .tc := ⟨.hbm, 93, rfl⟩
abbrev main_v72 : Ref sig .tc := ⟨.hbm, 94, rfl⟩
abbrev main_v73 : Ref sig .tc := ⟨.hbm, 95, rfl⟩
abbrev main_c_16 : Ref sig .tc := ⟨.hbm, 96, rfl⟩
abbrev main_v74 : Ref sig .tc := ⟨.hbm, 97, rfl⟩
abbrev main_c_17 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_18 : Ref sig .tc := ⟨.hbm, 106, rfl⟩
abbrev main_v82 : Ref sig .tc := ⟨.hbm, 107, rfl⟩
abbrev main_v83 : Ref sig .tc := ⟨.hbm, 108, rfl⟩
abbrev main_cst_19 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_20 : Ref sig .tc := ⟨.hbm, 129, rfl⟩
abbrev main_v103 : Ref sig .tc := ⟨.hbm, 130, rfl⟩
abbrev main_v104 : Ref sig .tc := ⟨.hbm, 131, rfl⟩
abbrev main_cst_21 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_22 : Ref sig .tc := ⟨.hbm, 136, rfl⟩
abbrev main_v108 : Ref sig .tc := ⟨.hbm, 137, rfl⟩
abbrev main_v109 : Ref sig .tc := ⟨.hbm, 138, rfl⟩
abbrev main_cst_23 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_24 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_c_25 : Ref sig .tc := ⟨.hbm, 148, rfl⟩
abbrev main_v117 : Ref sig .tc := ⟨.hbm, 149, rfl⟩
abbrev main_v118 : Ref sig .tc := ⟨.hbm, 150, rfl⟩
abbrev main_c_26 : Ref sig .tc := ⟨.hbm, 151, rfl⟩
abbrev main_v119 : Ref sig .tc := ⟨.hbm, 152, rfl⟩
abbrev main_v120 : Ref sig .tc := ⟨.hbm, 153, rfl⟩
abbrev main_c_27 : Ref sig .tc := ⟨.hbm, 154, rfl⟩
abbrev main_v121 : Ref sig .tc := ⟨.hbm, 155, rfl⟩
abbrev main_c_28 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_29 : Ref sig .tc := ⟨.hbm, 164, rfl⟩
abbrev main_v129 : Ref sig .tc := ⟨.hbm, 165, rfl⟩
abbrev main_v130 : Ref sig .tc := ⟨.hbm, 166, rfl⟩
abbrev main_cst_30 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_cst_31 : Ref sig .tc := ⟨.hbm, 182, rfl⟩
abbrev main_v145 : Ref sig .tc := ⟨.hbm, 183, rfl⟩
abbrev main_v146 : Ref sig .tc := ⟨.hbm, 184, rfl⟩
abbrev main_cst_32 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_cst_33 : Ref sig .tc := ⟨.hbm, 189, rfl⟩
abbrev main_v150 : Ref sig .tc := ⟨.hbm, 190, rfl⟩
abbrev main_v151 : Ref sig .tc := ⟨.hbm, 191, rfl⟩
abbrev main_cst_34 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_cst_35 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_c_36 : Ref sig .tc := ⟨.hbm, 201, rfl⟩
abbrev main_v159 : Ref sig .tc := ⟨.hbm, 202, rfl⟩
abbrev main_v160 : Ref sig .tc := ⟨.hbm, 203, rfl⟩
abbrev main_c_37 : Ref sig .tc := ⟨.hbm, 204, rfl⟩
abbrev main_v161 : Ref sig .tc := ⟨.hbm, 205, rfl⟩
abbrev main_v162 : Ref sig .tc := ⟨.hbm, 206, rfl⟩
abbrev main_c_38 : Ref sig .tc := ⟨.hbm, 207, rfl⟩
abbrev main_v163 : Ref sig .tc := ⟨.hbm, 208, rfl⟩
abbrev main_c_39 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_40 : Ref sig .tc := ⟨.hbm, 217, rfl⟩
abbrev main_v171 : Ref sig .tc := ⟨.hbm, 218, rfl⟩
abbrev main_v172 : Ref sig .tc := ⟨.hbm, 219, rfl⟩
abbrev main_cst_41 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_c_42 : Ref sig .tc := ⟨.hbm, 230, rfl⟩
abbrev main_v182 : Ref sig .tc := ⟨.hbm, 231, rfl⟩
abbrev main_v183 : Ref sig .tc := ⟨.hbm, 232, rfl⟩
abbrev main_c_43 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_c_44 : Ref sig .tc := ⟨.hbm, 240, rfl⟩
abbrev main_v190 : Ref sig .tc := ⟨.hbm, 241, rfl⟩
abbrev main_v191 : Ref sig .tc := ⟨.hbm, 242, rfl⟩
abbrev main_c_45 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_c_46 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_cst_47 : Ref sig .tc := ⟨.hbm, 254, rfl⟩
abbrev main_v201 : Ref sig .tc := ⟨.hbm, 255, rfl⟩
abbrev main_cst_48 : Ref sig .tc := ⟨.hbm, 256, rfl⟩
abbrev main_v202 : Ref sig .tc := ⟨.hbm, 257, rfl⟩
abbrev main_v203 : Ref sig .tc := ⟨.hbm, 258, rfl⟩
abbrev main_cst_49 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S150528x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S150528x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Weights.lean ====
abbrev S8x384 : Shape := ⟨2, ![8, 384]⟩
abbrev S8x384x4 : Shape := ⟨3, ![8, 384, 4]⟩
abbrev S8x4x384 : Shape := ⟨3, ![8, 4, 384]⟩
abbrev S8x1x384 : Shape := ⟨3, ![8, 1, 384]⟩
abbrev S8x7x4x384 : Shape := ⟨4, ![8, 7, 4, 384]⟩
abbrev S8x8x384 : Shape := ⟨3, ![8, 8, 384]⟩
abbrev S8x384x256 : Shape := ⟨3, ![8, 384, 256]⟩
abbrev S8x1x256 : Shape := ⟨3, ![8, 1, 256]⟩
abbrev S1x4x384 : Shape := ⟨3, ![1, 4, 384]⟩
abbrev S1x1x384 : Shape := ⟨3, ![1, 1, 384]⟩
abbrev S1x7x4x384 : Shape := ⟨4, ![1, 7, 4, 384]⟩
abbrev S1x8x384 : Shape := ⟨3, ![1, 8, 384]⟩
abbrev S1x384x256 : Shape := ⟨3, ![1, 384, 256]⟩
abbrev S1x1x256 : Shape := ⟨3, ![1, 1, 256]⟩
abbrev S1x384 : Shape := ⟨2, ![1, 384]⟩
abbrev S1x1x1x384 : Shape := ⟨4, ![1, 1, 1, 384]⟩
abbrev S16x384 : Shape := ⟨2, ![16, 384]⟩
abbrev S384x16 : Shape := ⟨2, ![384, 16]⟩
abbrev S1x128 : Shape := ⟨2, ![1, 128]⟩
abbrev S384x128 : Shape := ⟨2, ![384, 128]⟩
abbrev S384x1 : Shape := ⟨2, ![384, 1]⟩
abbrev S768x128 : Shape := ⟨2, ![768, 128]⟩
abbrev S768x256 : Shape := ⟨2, ![768, 256]⟩
abbrev S256x256 : Shape := ⟨2, ![256, 256]⟩
abbrev S1x256 : Shape := ⟨2, ![1, 256]⟩
abbrev S384x256 : Shape := ⟨2, ![384, 256]⟩

abbrev nBuf : Space → Nat
  | .hbm => 9
  | .vmem => 14
  | .smem => 0
  | _ => 0

abbrev bufTy : (tb : Table) → Fin (tcTables nBuf tb) → BufTy
  | .hbm, ⟨0, _⟩ => ⟨S8x384, .f32⟩
  | .hbm, ⟨1, _⟩ => ⟨S8x384x4, .f32⟩
  | .hbm, ⟨2, _⟩ => ⟨S8x4x384, .f32⟩
  | .hbm, ⟨3, _⟩ => ⟨S8x1x384, .f32⟩
  | .hbm, ⟨4, _⟩ => ⟨S8x7x4x384, .f32⟩
  | .hbm, ⟨5, _⟩ => ⟨S8x7x4x384, .f32⟩
  | .hbm, ⟨6, _⟩ => ⟨S8x8x384, .f32⟩
  | .hbm, ⟨7, _⟩ => ⟨S8x384x256, .i32⟩
  | .hbm, ⟨8, _⟩ => ⟨S8x1x256, .i32⟩
  | .local _ .vmem, ⟨0, _⟩ => ⟨S1x4x384, .f32⟩
  | .local _ .vmem, ⟨1, _⟩ => ⟨S1x4x384, .f32⟩
  | .local _ .vmem, ⟨2, _⟩ => ⟨S1x1x384, .f32⟩
  | .local _ .vmem, ⟨3, _⟩ => ⟨S1x1x384, .f32⟩
  | .local _ .vmem, ⟨4, _⟩ => ⟨S1x7x4x384, .f32⟩
  | .local _ .vmem, ⟨5, _⟩ => ⟨S1x7x4x384, .f32⟩
  | .local _ .vmem, ⟨6, _⟩ => ⟨S1x7x4x384, .f32⟩
  | .local _ .vmem, ⟨7, _⟩ => ⟨S1x7x4x384, .f32⟩
  | .local _ .vmem, ⟨8, _⟩ => ⟨S1x8x384, .f32⟩
  | .local _ .vmem, ⟨9, _⟩ => ⟨S1x8x384, .f32⟩
  | .local _ .vmem, ⟨10, _⟩ => ⟨S1x384x256, .i32⟩
  | .local _ .vmem, ⟨11, _⟩ => ⟨S1x384x256, .i32⟩
  | .local _ .vmem, ⟨12, _⟩ => ⟨S1x1x256, .i32⟩
  | .local _ .vmem, ⟨13, _⟩ => ⟨S1x1x256, .i32⟩
  | _, _ => ⟨S8x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x7x4x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x7x4x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x384x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WeightsReferenceIdeal.lean ====
abbrev S8x384 : Shape := ⟨2, ![8, 384]⟩
abbrev S8x384x4 : Shape := ⟨3, ![8, 384, 4]⟩
abbrev S8x384x1 : Shape := ⟨3, ![8, 384, 1]⟩
abbrev S_ : Shape := ⟨0, ![]⟩
abbrev S8x7x4x384 : Shape := ⟨4, ![8, 7, 4, 384]⟩

abbrev nBuf : Space → Nat
  | .hbm => 150
  | .vmem => 0
  | .smem => 0
  | _ => 0

abbrev hbmTy0_0 (i : Nat) : BufTy := match i % 128 with
  | 0 => ⟨S8x384, .f32⟩
  | 1 => ⟨S8x384x4, .f32⟩
  | 2 => ⟨S8x384x1, .f32⟩
  | 3 => ⟨S8x384, .f32⟩
  | 4 => ⟨S8x384x1, .f32⟩
  | 5 => ⟨S8x384, .f32⟩
  | 6 => ⟨S8x384x1, .f32⟩
  | 7 => ⟨S8x384, .f32⟩
  | 8 => ⟨S8x384x1, .f32⟩
  | 9 => ⟨S8x384, .f32⟩
  | 10 => ⟨S_, .f32⟩
  | 11 => ⟨S8x384, .f32⟩
  | 12 => ⟨S8x384, .f32⟩
  | 13 => ⟨S_, .f32⟩
  | 14 => ⟨S8x384, .f32⟩
  | 15 => ⟨S8x384, .f32⟩
  | 16 => ⟨S_, .f32⟩
  | 17 => ⟨S8x384, .f32⟩
  | 18 => ⟨S8x384, .f32⟩
  | 19 => ⟨S_, .f32⟩
  | 20 => ⟨S8x384, .f32⟩
  | 21 => ⟨S8x384, .f32⟩
  | 22 => ⟨S8x384, .f32⟩
  | 23 => ⟨S_, .f32⟩
  | 24 => ⟨S8x384, .f32⟩
  | 25 => ⟨S8x384, .f32⟩
  | 26 => ⟨S8x7x4x384, .f32⟩
  | 27 => ⟨S8x7x4x384, .f32⟩
  | 28 => ⟨S8x7x4x384, .i32⟩
  | 29 => ⟨S8x7x4x384, .f32⟩
  | 30 => ⟨S8x7x4x384, .i32⟩
  | 31 => ⟨S_, .i32⟩
  | 32 => ⟨S8x7x4x384, .i32⟩
  | 33 => ⟨S8x7x4x384, .i32⟩
  | 34 => ⟨S8x7x4x384, .f32⟩
  | 35 => ⟨S8x7x4x384, .f32⟩
  | 36 => ⟨S8x7x4x384, .f32⟩
  | 37 => ⟨S_, .f32⟩
  | 38 => ⟨S8x7x4x384, .f32⟩
  | 39 => ⟨S8x7x4x384, .f32⟩
  | 40 => ⟨S8x7x4x384, .f32⟩
  | 41 => ⟨S_, .f32⟩
  | 42 => ⟨S8x7x4x384, .f32⟩
  | 43 => ⟨S8x7x4x384, .f32⟩
  | 44 => ⟨S8x7x4x384, .f32⟩
  | 45 => ⟨S_, .f32⟩
  | 46 => ⟨S8x7x4x384, .f32⟩
  | 47 => ⟨S8x7x4x384, .i1⟩
  | 48 => ⟨S_, .f32⟩
  | 49 => ⟨S8x7x4x384, .f32⟩
  | 50 => ⟨S8x7x4x384, .i1⟩
  | 51 => ⟨S8x7x4x384, .i1⟩
  | 52 => ⟨S_, .f32⟩
  | 53 => ⟨S8x7x4x384, .f32⟩
  | 54 => ⟨S8x7x4x384, .f32⟩
  | 55 => ⟨S8x7x4x384, .f32⟩
  | 56 => ⟨S8x7x4x384, .i32⟩
  | 57 => ⟨S_, .i32⟩
  | 58 => ⟨S8x7x4x384, .i32⟩
  | 59 => ⟨S8x7x4x384, .i1⟩
  | 60 => ⟨S_, .i32⟩
  | 61 => ⟨S8x7x4x384, .i32⟩
  | 62 => ⟨S8x7x4x384, .i32⟩
  | 63 => ⟨S8x7x4x384, .f32⟩
  | 64 => ⟨S8x7x4x384, .f32⟩
  | 65 => ⟨S8x7x4x384, .f32⟩
  | 66 => ⟨S8x7x4x384, .f32⟩
  | 67 => ⟨S_, .f32⟩
  | 68 => ⟨S8x7x4x384, .f32⟩
  | 69 => ⟨S8x7x4x384, .f32⟩
  | 70 => ⟨S_, .i32⟩
  | 71 => ⟨S8x7x4x384, .i32⟩
  | 72 => ⟨S8x7x4x384, .i32⟩
  | 73 => ⟨S_, .i32⟩
  | 74 => ⟨S8x7x4x384, .i32⟩
  | 75 => ⟨S8x7x4x384, .i1⟩
  | 76 => ⟨S8x7x4x384, .f32⟩
  | 77 => ⟨S_, .f32⟩
  | 78 => ⟨S8x7x4x384, .f32⟩
  | 79 => ⟨S8x7x4x384, .f32⟩
  | 80 => ⟨S_, .f32⟩
  | 81 => ⟨S8x384, .f32⟩
  | 82 => ⟨S8x384, .f32⟩
  | 83 => ⟨S_, .f32⟩
  | 84 => ⟨S8x384, .f32⟩
  | 85 => ⟨S8x384, .f32⟩
  | 86 => ⟨S_, .f32⟩
  | 87 => ⟨S8x384, .f32⟩
  | 88 => ⟨S8x384, .f32⟩
  | 89 => ⟨S_, .f32⟩
  | 90 => ⟨S8x384, .f32⟩
  | 91 => ⟨S8x384, .f32⟩
  | 92 => ⟨S8x384, .f32⟩
  | 93 => ⟨S_, .f32⟩
  | 94 => ⟨S8x384, .f32⟩
  | 95 => ⟨S8x384, .f32⟩
  | 96 => ⟨S8x7x4x384, .f32⟩
  | 97 => ⟨S8x7x4x384, .f32⟩
  | 98 => ⟨S8x7x4x384, .i32⟩
  | 99 => ⟨S8x7x4x384, .f32⟩
  | 100 => ⟨S8x7x4x384, .i32⟩
  | 101 => ⟨S_, .i32⟩
  | 102 => ⟨S8x7x4x384, .i32⟩
  | 103 => ⟨S8x7x4x384, .i32⟩
  | 104 => ⟨S8x7x4x384, .f32⟩
  | 105 => ⟨S8x7x4x384, .f32⟩
  | 106 => ⟨S8x7x4x384, .f32⟩
  | 107 => ⟨S_, .f32⟩
  | 108 => ⟨S8x7x4x384, .f32⟩
  | 109 => ⟨S8x7x4x384, .f32⟩
  | 110 => ⟨S8x7x4x384, .f32⟩
  | 111 => ⟨S_, .f32⟩
  | 112 => ⟨S8x7x4x384, .f32⟩
  | 113 => ⟨S8x7x4x384, .f32⟩
  | 114 => ⟨S8x7x4x384, .f32⟩
  | 115 => ⟨S_, .f32⟩
  | 116 => ⟨S8x7x4x384, .f32⟩
  | 117 => ⟨S8x7x4x384, .i1⟩
  | 118 => ⟨S_, .f32⟩
  | 119 => ⟨S8x7x4x384, .f32⟩
  | 120 => ⟨S8x7x4x384, .i1⟩
  | 121 => ⟨S8x7x4x384, .i1⟩
  | 122 => ⟨S_, .f32⟩
  | 123 => ⟨S8x7x4x384, .f32⟩
  | 124 => ⟨S8x7x4x384, .f32⟩
  | 125 => ⟨S8x7x4x384, .f32⟩
  | 126 => ⟨S8x7x4x384, .i32⟩
  | 127 => ⟨S_, .i32⟩
  | _ => ⟨S8x384, .f32⟩

abbrev hbmTy0_1 (i : Nat) : BufTy := match i % 128 with
  | 0 => ⟨S8x7x4x384, .i32⟩
  | 1 => ⟨S8x7x4x384, .i1⟩
  | 2 => ⟨S_, .i32⟩
  | 3 => ⟨S8x7x4x384, .i32⟩
  | 4 => ⟨S8x7x4x384, .i32⟩
  | 5 => ⟨S8x7x4x384, .f32⟩
  | 6 => ⟨S8x7x4x384, .f32⟩
  | 7 => ⟨S8x7x4x384, .f32⟩
  | 8 => ⟨S8x7x4x384, .f32⟩
  | 9 => ⟨S_, .f32⟩
  | 10 => ⟨S8x7x4x384, .f32⟩
  | 11 => ⟨S8x7x4x384, .f32⟩
  | 12 => ⟨S_, .i32⟩
  | 13 => ⟨S8x7x4x384, .i32⟩
  | 14 => ⟨S8x7x4x384, .i32⟩
  | 15 => ⟨S_, .i32⟩
  | 16 => ⟨S8x7x4x384, .i32⟩
  | 17 => ⟨S8x7x4x384, .i1⟩
  | 18 => ⟨S8x7x4x384, .f32⟩
  | 19 => ⟨S_, .f32⟩
  | 20 => ⟨S8x7x4x384, .f32⟩
  | 21 => ⟨S8x7x4x384, .f32⟩
  | _ => ⟨S8x384, .f32⟩

abbrev hbmTy (i : Nat) : BufTy := match i / 128 with
  | 0 => hbmTy0_0 i
  | 1 => hbmTy0_1 i
  | _ => ⟨S8x384, .f32⟩

abbrev bufTy : (tb : Table) → Fin (tcTables nBuf tb) → BufTy
  | .hbm, ⟨i, _⟩ => hbmTy i
  | _, _ => ⟨S8x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_9 : Ref sig .tc := ⟨.hbm, 57, rfl⟩
abbrev main_v44 : Ref sig .tc := ⟨.hbm, 58, rfl⟩
abbrev main_v45 : Ref sig .tc := ⟨.hbm, 59, rfl⟩
abbrev main_c_10 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_c_12 : Ref sig .tc := ⟨.hbm, 70, rfl⟩
abbrev main_v54 : Ref sig .tc := ⟨.hbm, 71, rfl⟩
abbrev main_v55 : Ref sig .tc := ⟨.hbm, 72, rfl⟩
abbrev main_c_13 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_14 : Ref sig .tc := ⟨.hbm, 77, rfl⟩
abbrev main_v59 : Ref sig .tc := ⟨.hbm, 78, rfl⟩
abbrev main_v60 : Ref sig .tc := ⟨.hbm, 79, rfl⟩
abbrev main_cst_15 : Ref sig .tc := ⟨.hbm, 80, rfl⟩
abbrev main_v61 : Ref sig .tc := ⟨.hbm, 81, rfl⟩
abbrev main_v62 : Ref sig .tc := ⟨.hbm, 82, rfl⟩
abbrev main_cst_16 : Ref sig .tc := ⟨.hbm, 83, rfl⟩
abbrev main_v63 : Ref sig .tc := ⟨.hbm, 84, rfl⟩
abbrev main_v64 : Ref sig .tc := ⟨.hbm, 85, rfl⟩
abbrev main_cst_17 : Ref sig .tc := ⟨.hbm, 86, rfl⟩
abbrev main_v65 : Ref sig .tc := ⟨.hbm, 87, rfl⟩
abbrev main_v66 : Ref sig .tc := ⟨.hbm, 88, rfl⟩
abbrev main_cst_18 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_19 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c_20 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_21 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_22 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_23 : Ref sig .tc := ⟨.hbm, 115, rfl⟩
abbrev main_v88 : Ref sig .tc := ⟨.hbm, 116, rfl⟩
abbrev main_v89 : Ref sig .tc := ⟨.hbm, 117, rfl⟩
abbrev main_cst_24 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_25 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_26 : Ref sig .tc := ⟨.hbm, 127, rfl⟩
abbrev main_v97 : Ref sig .tc := ⟨.hbm, 128, rfl⟩
abbrev main_v98 : Ref sig .tc := ⟨.hbm, 129, rfl⟩
abbrev main_c_27 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_28 : Ref sig .tc := ⟨.hbm, 137, rfl⟩
abbrev main_v105 : Ref sig .tc := ⟨.hbm, 138, rfl⟩
abbrev main_v106 : Ref sig .tc := ⟨.hbm, 139, rfl⟩
abbrev main_c_29 : Ref sig .tc := ⟨.hbm, 140, rfl⟩
abbrev main_v107 : Ref sig .tc := ⟨.hbm, 141, rfl⟩
abbrev main_v108 : Ref sig .tc := ⟨.hbm, 142, rfl⟩
abbrev main_c_30 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_31 : Ref sig .tc := ⟨.hbm, 147, rfl⟩
abbrev main_v112 : Ref sig .tc := ⟨.hbm, 148, rfl⟩
abbrev main_v113 : Ref sig .tc := ⟨.hbm, 149, rfl⟩

abbrev nD : Nat := 1
abbrev τ : Topo := Topo.v7x

variable {F : FTy → Type} [FloatOps F]
-- ==== Proof.Pre.Words.lean ====
/-
  What the stated precondition says of the words: its three boolean arrays all ones, read at one element each.
-/
module

public import proofs.«01_k».proof.Defs
public import proofs.«01_k».proof.Proof.Gen.Pre_in_range

@[expose] public section

namespace Cert.Proof

open Idealize.ShloMosaic

theorem ofBool_eq_one (p : Bool) : (BitVec.ofBool p = 1#1) ↔ p = true := by cases p <;> decide

theorem low_ok (v : BitVec 32) (h : IntOp.cmpi .slt (IntOp.andi v 65535#32) 3080#32 = 1#1) : v.toNat % 65536 < 3080 := by
  have e : (IntOp.andi v 65535#32).toNat = v.toNat % 65536 := by
    show (v &&& 65535#32).toNat = _
    rw [BitVec.toNat_and]; exact Nat.and_two_pow_sub_one_eq_mod _ 16
  simp only [IntOp.cmpi, ofBool_eq_one, BitVec.slt_eq_decide, decide_eq_true_eq, BitVec.toInt_eq_toNat_cond, e, BitVec.toNat_ofNat,
    Nat.reducePow, Nat.reduceMod] at h
  omega

theorem high_ok (v : BitVec 32) (h : IntOp.cmpi .slt (IntOp.shrui .host v 16#32) 3080#32 = 1#1) : v.toNat / 65536 < 3080 := by
  have e : (IntOp.shrui .host v 16#32).toNat = v.toNat / 65536 := by
    show (v >>> (16 : Nat)).toNat = _
    rw [BitVec.toNat_ushiftRight, Nat.shiftRight_eq_div_pow]
  have := v.isLt
  simp only [IntOp.cmpi, ofBool_eq_one, BitVec.slt_eq_decide, decide_eq_true_eq, BitVec.toInt_eq_toNat_cond, e, BitVec.toNat_ofNat,
    Nat.reducePow, Nat.reduceMod] at h
  omega

theorem count_ok (v : BitVec 32) (h : IntOp.cmpi .sle v 768#32 = 1#1) : v.toInt ≤ 768 := by
  simp only [IntOp.cmpi, ofBool_eq_one, BitVec.sle_eq_decide, decide_eq_true_eq] at h
  exact h

/-- The precondition, word by word: both halves of every list word below 3080, every column length at most 768. -/
theorem in_range_words {F : FTy → Type} [FloatOps F] [Cert.Pre_in_range.Facts]
    (a0 : IVec Cert.Pre_in_range.S8x384x7x7x512 8) (a1 : FVec F Cert.Pre_in_range.S8x8x384 .f32)
    (a2 : IVec Cert.Pre_in_range.S8x384x256 32) (a3 : IVec Cert.Pre_in_range.S8x1x256 32)
    (h : (Cert.Pre_in_range.fn (F := F) a0 a1 a2 a3).1 = (fun _ => 1#1) ∧ (Cert.Pre_in_range.fn (F := F) a0 a1 a2 a3).2.1 = (fun _ => 1#1)
      ∧ (Cert.Pre_in_range.fn (F := F) a0 a1 a2 a3).2.2 = (fun _ => 1#1)) :
    (∀ x, (a2 x).toNat % 65536 < 3080 ∧ (a2 x).toNat / 65536 < 3080) ∧ ∀ x, (a3 x).toInt ≤ 768 :=
  ⟨fun x => ⟨low_ok _ (congrFun h.1 x), high_ok _ (congrFun h.2.1 x)⟩, fun x => count_ok _ (congrFun h.2.2 x)⟩

end Cert.Proof

end
-- ==== Proof.WV.Block.lean ====
/-
  The weights kernel, one image: the block of interpolation weights that it leaves for each axis, index by index.
-/
module

public import proofs.«01_k».proof.Proof.Gen.WeightsIdeal.Value

@[expose] public section

noncomputable section

namespace Cert.Proof.WV

open Cert.WeightsIdeal Cert.WeightsIdeal.Gen
open Idealize.ShloMosaic Idealize.ShloMosaic.TcCoe Idealize.SL.Sem

variable {F : FTy → Type} [FloatOps F]

/-- The weights of one sample of a row of rois, on an axis of `S` cells (`S1 = S - 1`), by the words of the constants: the
    sample lies at `st + p * bn + io * bn / 2`; `hi` asks for the weight of the cell above it, else of the cell below. -/
def axisV (S S1 : BitVec 32) (st bn : FVec F S1x384 .f32) (p io : BitVec 32) (hi : Bool) : FVec F S1x384 .f32 :=
  let bc : BitVec 32 → FVec F S1x384 .f32 := fun w => broadcast S1x384 (Scalar.ofBits .f32 w)
  let pos : FVec F S1x384 .f32 := addf (addf st (mulf (bc p) bn)) (divf (mulf (bc io) bn) (bc 0x40000000#32))
  let ok : IVec S1x384 1 := andi (cmpf .oge pos (bc 0xBF800000#32)) (cmpf .ole pos (bc S))
  let pc : FVec F S1x384 .f32 := maximumf pos (bc 0x00000000#32)
  let low : FVec F S1x384 .f32 := floor pc
  let edge : IVec S1x384 1 := cmpf .oge low (bc S1)
  let low' : FVec F S1x384 .f32 := select edge (bc S1) low
  let l : FVec F S1x384 .f32 := subf (select edge low' pc) low'
  select ok (match hi with | true => l | false => subf (bc 0x3F800000#32) l) (bc 0x00000000#32)

/-- The bin number `p` as a word of a float. -/
def binWord : Fin 7 → BitVec 32 := ![0x00000000#32, 0x3F800000#32, 0x40000000#32, 0x40400000#32, 0x40800000#32, 0x40A00000#32, 0x40C00000#32]
/-- `i + 1/2` of the sample that column `k` of the weights is of, as a word of a float. -/
def halfWord : Fin 4 → BitVec 32 := ![0x3F000000#32, 0x3F000000#32, 0x3FC00000#32, 0x3FC00000#32]
/-- Whether column `k` holds the weight of the upper cell. -/
def upper : Fin 4 → Bool := ![false, true, false, true]

/-- The block of weights on one axis, from the rows of starts and bin sizes. -/
def axisBlock (S S1 : BitVec 32) (st bn : FVec F S1x384 .f32) : Vec F S1x7x4x384 .f32 :=
  fun y => axisV S S1 st bn (binWord (y 1)) (halfWord (y 2)) (upper (y 2)) (fun a => match a with | ⟨0, _⟩ => ⟨0, Nat.one_pos⟩ | ⟨1, _⟩ => y 3)

/-- One stored row of the block: bin `p`, column `k`. -/
theorem row_eq (S S1 : BitVec 32) (st bn : FVec F S1x384 .f32) (p : Fin 7) (k : Fin 4)
    (inb : ∀ a, (![0, p.val, k.val, 0] : Fin 4 → Nat) a + S1x1x1x384.size a ≤ S1x7x4x384.size a) (w : Vec F S1x1x1x384 .f32)
    (hw : w = shapeCast S1x1x1x384 (axisV S S1 st bn (binWord p) (halfWord k) (upper k)) shapeCasts_S1x384_S1x1x1x384) (x : S1x1x1x384.Idx) :
    w x = axisBlock S S1 st bn ((Rect.unit (s := S1x7x4x384) ![0, p.val, k.val, 0] S1x1x1x384.size inb).emb x) := by
  have h0 : (x 0).val < 1 := (x 0).isLt
  have h1 : (x 1).val < 1 := (x 1).isLt
  have h2 : (x 2).val < 1 := (x 2).isLt
  rw [hw, shapeCast_apply _ _ x (fun a => match a with | ⟨0, _⟩ => ⟨0, Nat.one_pos⟩ | ⟨1, _⟩ => x 3 : S1x384.Idx)
    (by rw [Shape.rowMajor_val_two, Shape.rowMajor_val_four]
        show 0 * 384 + (x 3).val = (((x 0).val * 1 + (x 1).val) * 1 + (x 2).val) * 384 + (x 3).val
        omega)]
  have e1 : ((Rect.unit (s := S1x7x4x384) ![0, p.val, k.val, 0] S1x1x1x384.size inb).emb x) 1 = p := Fin.ext (by
    show p.val + 1 * (x 1).val = p.val; omega)
  have e2 : ((Rect.unit (s := S1x7x4x384) ![0, p.val, k.val, 0] S1x1x1x384.size inb).emb x) 2 = k := Fin.ext (by
    show k.val + 1 * (x 2).val = k.val; omega)
  have e3 : ((Rect.unit (s := S1x7x4x384) ![0, p.val, k.val, 0] S1x1x1x384.size inb).emb x) 3 = x 3 := Fin.ext (by
    show 0 + 1 * (x 3).val = (x 3).val; omega)
  unfold axisBlock
  rw [e1, e2, e3]

/-- What one image leaves in the block of the y axis. -/
theorem out_y (x0 : Vec F S1x4x384 .f32) (x1 : Vec F S1x1x384 .f32) :
    out0_2 x0 x1 = axisBlock 0x42800000#32 0x427C0000#32 (k0_pay425 x0 x1) (k0_pay427 x0 x1) := by
  funext y
  unfold out0_2
  refine View.canon_apply_of_pieces (axisBlock 0x42800000#32 0x427C0000#32 (k0_pay425 x0 x1) (k0_pay427 x0 x1)) _ ?_ y (cover0_2 _ _ _ _ _ _ _ _ _ _ _ _ _ _ _ _ _ _ _ _ _ _ _ _ _ _ _ _ y)
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, fun _ h => nomatch h⟩
  · exact fun x => row_eq _ _ _ _ 6 3 _ _ rfl x
  · exact fun x => row_eq _ _ _ _ 6 2 _ _ rfl x
  · exact fun x => row_eq _ _ _ _ 6 1 _ _ rfl x
  · exact fun x => row_eq _ _ _ _ 6 0 _ _ rfl x
  · exact fun x => row_eq _ _ _ _ 5 3 _ _ rfl x
  · exact fun x => row_eq _ _ _ _ 5 2 _ _ rfl x
  · exact fun x => row_eq _ _ _ _ 5 1 _ _ rfl x
  · exact fun x => row_eq _ _ _ _ 5 0 _ _ rfl x
  · exact fun x => row_eq _ _ _ _ 4 3 _ _ rfl x
  · exact fun x => row_eq _ _ _ _ 4 2 _ _ rfl x
  · exact fun x => row_eq _ _ _ _ 4 1 _ _ rfl x
  · exact fun x => row_eq _ _ _ _ 4 0 _ _ rfl x
  · exact fun x => row_eq _ _ _ _ 3 3 _ _ rfl x
  · exact fun x => row_eq _ _ _ _ 3 2 _ _ rfl x
  · exact fun x => row_eq _ _ _ _ 3 1 _ _ rfl x
  · exact fun x => row_eq _ _ _ _ 3 0 _ _ rfl x
  · exact fun x => row_eq _ _ _ _ 2 3 _ _ rfl x
  · exact fun x => row_eq _ _ _ _ 2 2 _ _ rfl x
  · exact fun x => row_eq _ _ _ _ 2 1 _ _ rfl x
  · exact fun x => row_eq _ _ _ _ 2 0 _ _ rfl x
  · exact fun x => row_eq _ _ _ _ 1 3 _ _ rfl x
  · exact fun x => row_eq _ _ _ _ 1 2 _ _ rfl x
  · exact fun x => row_eq _ _ _ _ 1 1 _ _ rfl x
  · exact fun x => row_eq _ _ _ _ 1 0 _ _ rfl x
  · exact fun x => row_eq _ _ _ _ 0 3 _ _ rfl x
  · exact fun x => row_eq _ _ _ _ 0 2 _ _ rfl x
  · exact fun x => row_eq _ _ _ _ 0 1 _ _ rfl x
  · exact fun x => row_eq _ _ _ _ 0 0 _ _ rfl x

/-- What one image leaves in the block of the x axis. -/
theorem out_x (x0 : Vec F S1x4x384 .f32) (x1 : Vec F S1x1x384 .f32) :
    out0_3 x0 x1 = axisBlock 0x42C00000#32 0x42BE0000#32 (k0_pay424 x0 x1) (k0_pay426 x0 x1) := by
  funext y
  unfold out0_3
  refine View.canon_apply_of_pieces (axisBlock 0x42C00000#32 0x42BE0000#32 (k0_pay424 x0 x1) (k0_pay426 x0 x1)) _ ?_ y (cover0_3 _ _ _ _ _ _ _ _ _ _ _ _ _ _ _ _ _ _ _ _ _ _ _ _ _ _ _ _ y)
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, fun _ h => nomatch h⟩
  · exact fun x => row_eq _ _ _ _ 6 3 _ _ rfl x
  · exact fun x => row_eq _ _ _ _ 6 2 _ _ rfl x
  · exact fun x => row_eq _ _ _ _ 6 1 _ _ rfl x
  · exact fun x => row_eq _ _ _ _ 6 0 _ _ rfl x
  · exact fun x => row_eq _ _ _ _ 5 3 _ _ rfl x
  · exact fun x => row_eq _ _ _ _ 5 2 _ _ rfl x
  · exact fun x => row_eq _ _ _ _ 5 1 _ _ rfl x
  · exact fun x => row_eq _ _ _ _ 5 0 _ _ rfl x
  · exact fun x => row_eq _ _ _ _ 4 3 _ _ rfl x
  · exact fun x => row_eq _ _ _ _ 4 2 _ _ rfl x
  · exact fun x => row_eq _ _ _ _ 4 1 _ _ rfl x
  · exact fun x => row_eq _ _ _ _ 4 0 _ _ rfl x
  · exact fun x => row_eq _ _ _ _ 3 3 _ _ rfl x
  · exact fun x => row_eq _ _ _ _ 3 2 _ _ rfl x
  · exact fun x => row_eq _ _ _ _ 3 1 _ _ rfl x
  · exact fun x => row_eq _ _ _ _ 3 0 _ _ rfl x
  · exact fun x => row_eq _ _ _ _ 2 3 _ _ rfl x
  · exact fun x => row_eq _ _ _ _ 2 2 _ _ rfl x
  · exact fun x => row_eq _ _ _ _ 2 1 _ _ rfl x
  · exact fun x => row_eq _ _ _ _ 2 0 _ _ rfl x
  · exact fun x => row_eq _ _ _ _ 1 3 _ _ rfl x
  · exact fun x => row_eq _ _ _ _ 1 2 _ _ rfl x
  · exact fun x => row_eq _ _ _ _ 1 1 _ _ rfl x
  · exact fun x => row_eq _ _ _ _ 1 0 _ _ rfl x
  · exact fun x => row_eq _ _ _ _ 0 3 _ _ rfl x
  · exact fun x => row_eq _ _ _ _ 0 2 _ _ rfl x
  · exact fun x => row_eq _ _ _ _ 0 1 _ _ rfl x
  · exact fun x => row_eq _ _ _ _ 0 0 _ _ rfl x

end Cert.Proof.WV

end
-- ==== Proof.WV.Scalar.lean ====
/-
  One interpolation weight over the extended reals: with the cell number kept as a float and with it as an integer.
-/
module

public import Idealize.ShloMosaic.PureOps.Ideal
public import Idealize.ShloMosaic.PureOps.Ideal.Laws
public import Idealize.ShloMosaic.PureOps.Vector
public import Mathlib.Tactic.NormNum
public import Mathlib.Tactic.Positivity

@[expose] public section

noncomputable section

namespace Cert.Proof.WV

open Idealize.ShloMosaic

variable {F : FTy → Type} [FloatOps F]

/-- One weight, the cell number kept as a float. -/
def axisK (S S1 : BitVec 32) (st bn p io : F .f32) (hi : Bool) : F .f32 :=
  let bc : BitVec 32 → F .f32 := fun w => Scalar.ofBits .f32 w
  let pos : F .f32 := FloatOps.addf (FloatOps.addf st (FloatOps.mulf p bn)) (FloatOps.divf (FloatOps.mulf io bn) (bc 0x40000000#32))
  let ok : BitVec 1 := IntOp.andi (FloatOps.cmpf .oge pos (bc 0xBF800000#32)) (FloatOps.cmpf .ole pos (bc S))
  let pc : F .f32 := FloatOps.maximumf pos (bc 0x00000000#32)
  let low : F .f32 := FloatOps.floor pc
  let edge : BitVec 1 := FloatOps.cmpf .oge low (bc S1)
  let low' : F .f32 := Scalar.select edge (bc S1) low
  let l : F .f32 := FloatOps.subf (Scalar.select edge low' pc) low'
  Scalar.select ok (match hi with | true => l | false => FloatOps.subf (bc 0x3F800000#32) l) (bc 0x00000000#32)

/-- One weight, the cell number turned into an integer; `lower` says whether the lower cell's is asked for. -/
def axisR (S N1 : BitVec 32) (st bn p ih : F .f32) (lower : BitVec 1) : F .f32 :=
  let bc : BitVec 32 → F .f32 := fun w => Scalar.ofBits .f32 w
  let pos : F .f32 := FloatOps.addf (FloatOps.addf st (FloatOps.mulf p bn)) (FloatOps.hostDivf (FloatOps.mulf ih bn) (bc 0x40000000#32))
  let ok : BitVec 1 := IntOp.andi (FloatOps.cmpf .oge pos (bc 0xBF800000#32)) (FloatOps.cmpf .ole pos (bc S))
  let pc : F .f32 := FloatOps.maximumf pos (bc 0x00000000#32)
  let low : BitVec 32 := FloatOps.fptosi 32 (FloatOps.hostUnary .floor pc)
  let edge : BitVec 1 := IntOp.cmpi .sge low N1
  let low' : BitVec 32 := Scalar.select edge N1 low
  let l : F .f32 := FloatOps.subf (Scalar.select edge (FloatOps.sitofp .f32 low') pc) (FloatOps.sitofp .f32 low')
  Scalar.select ok (Scalar.select lower (FloatOps.subf (bc 0x3F800000#32) l) l) (bc 0x00000000#32)

/-- The offset above its cell of a position `pc ≥ 0`, cut at the last cell `n`: the integer and the float form agree. -/
theorem offset_eq (n : Nat) (hn : n < 1000) (pc : EReal) (h0 : 0 ≤ pc) :
    (Scalar.select (IntOp.cmpi .sge (Ideal.fptosi 32 (Ideal.liftRound Int.floor pc)) (BitVec.ofNat 32 n))
        (((Scalar.select (IntOp.cmpi .sge (Ideal.fptosi 32 (Ideal.liftRound Int.floor pc)) (BitVec.ofNat 32 n)) (BitVec.ofNat 32 n)
          (Ideal.fptosi 32 (Ideal.liftRound Int.floor pc))).toInt : ℝ) : EReal) pc : EReal)
      - (((Scalar.select (IntOp.cmpi .sge (Ideal.fptosi 32 (Ideal.liftRound Int.floor pc)) (BitVec.ofNat 32 n)) (BitVec.ofNat 32 n)
          (Ideal.fptosi 32 (Ideal.liftRound Int.floor pc))).toInt : ℝ) : EReal)
    = (Scalar.select (Ideal.cmp .oge (Ideal.liftRound Int.floor pc) ((n : ℝ) : EReal))
        (Scalar.select (Ideal.cmp .oge (Ideal.liftRound Int.floor pc) ((n : ℝ) : EReal)) ((n : ℝ) : EReal) (Ideal.liftRound Int.floor pc)) pc : EReal)
      - Scalar.select (Ideal.cmp .oge (Ideal.liftRound Int.floor pc) ((n : ℝ) : EReal)) ((n : ℝ) : EReal) (Ideal.liftRound Int.floor pc) := by
  have hN : (BitVec.ofNat 32 n).toInt = n := by
    have h : (BitVec.ofNat 32 n).toNat = n := by rw [BitVec.toNat_ofNat]; omega
    rw [BitVec.toInt_eq_toNat_of_lt (by omega), h]
  have hsel1 : ∀ {α : Type} (a b : α), Scalar.select 1#1 a b = a := fun _ _ => rfl
  have hsel0 : ∀ {α : Type} (a b : α), Scalar.select 0#1 a b = b := fun _ _ => rfl
  have key : ∀ (k : BitVec 32) (f : EReal), (((n : ℝ) : EReal) ≤ f → (n : Int) ≤ k.toInt) → (¬ ((n : ℝ) : EReal) ≤ f → k.toInt < n ∧ f = ((k.toInt : ℝ) : EReal)) →
      (Scalar.select (IntOp.cmpi .sge k (BitVec.ofNat 32 n))
        (((Scalar.select (IntOp.cmpi .sge k (BitVec.ofNat 32 n)) (BitVec.ofNat 32 n) k).toInt : ℝ) : EReal) pc : EReal)
      - (((Scalar.select (IntOp.cmpi .sge k (BitVec.ofNat 32 n)) (BitVec.ofNat 32 n) k).toInt : ℝ) : EReal)
      = (Scalar.select (Ideal.cmp .oge f ((n : ℝ) : EReal))
        (Scalar.select (Ideal.cmp .oge f ((n : ℝ) : EReal)) ((n : ℝ) : EReal) f) pc : EReal)
      - Scalar.select (Ideal.cmp .oge f ((n : ℝ) : EReal)) ((n : ℝ) : EReal) f := by
    intro k f h1 h2
    by_cases hle : ((n : ℝ) : EReal) ≤ f
    · have e1 : IntOp.cmpi .sge k (BitVec.ofNat 32 n) = 1#1 := by
        show BitVec.ofBool ((BitVec.ofNat 32 n).sle k) = 1#1
        have : (BitVec.ofNat 32 n).sle k = true := by rw [BitVec.sle_eq_decide, decide_eq_true_eq, hN]; exact h1 hle
        rw [this]; rfl
      have e2 : Ideal.cmp .oge f ((n : ℝ) : EReal) = 1#1 := by
        show BitVec.ofBool (decide (((n : ℝ) : EReal) ≤ f)) = 1#1
        rw [decide_eq_true hle]; rfl
      rw [e1, e2, hsel1, hsel1, hsel1, hsel1, hN, Int.cast_natCast]
    · obtain ⟨h3, h4⟩ := h2 hle
      have e1 : IntOp.cmpi .sge k (BitVec.ofNat 32 n) = 0#1 := by
        show BitVec.ofBool ((BitVec.ofNat 32 n).sle k) = 0#1
        have : (BitVec.ofNat 32 n).sle k = false := by rw [BitVec.sle_eq_decide, decide_eq_false_iff_not, hN]; omega
        rw [this]; rfl
      have e2 : Ideal.cmp .oge f ((n : ℝ) : EReal) = 0#1 := by
        show BitVec.ofBool (decide (((n : ℝ) : EReal) ≤ f)) = 0#1
        rw [decide_eq_false hle]; rfl
      rw [e1, e2, hsel0, hsel0, hsel0, hsel0, h4]
  refine key _ _ ?_ ?_
  all_goals
    induction pc using EReal.rec with
    | bot => exact absurd h0 (by simp)
    | top =>
      rw [Ideal.liftRound_top, Ideal.fptosi, Ideal.toIntClamped_top]
      first
      | intro _; rw [show (BitVec.ofInt 32 ((2 ^ (32 - 1) : Nat) - 1)).toInt = 2147483647 from rfl]; omega
      | intro h; exact absurd le_top h
    | coe r =>
      have hr : (0 : ℝ) ≤ r := by exact_mod_cast h0
      have hf : 0 ≤ ⌊r⌋ := Int.floor_nonneg.mpr hr
      have hc : Ideal.toIntClamped (-(2 ^ (32 - 1) : Nat)) ((2 ^ (32 - 1) : Nat) - 1) (((⌊r⌋ : ℝ)) : EReal) = min 2147483647 ⌊r⌋ := by
        rw [Ideal.toIntClamped_coe, if_pos (by exact_mod_cast hf), Int.floor_intCast]
        show max (-2147483648 : Int) (min 2147483647 ⌊r⌋) = _
        omega
      have hk : (Ideal.fptosi 32 (Ideal.liftRound Int.floor ((r : ℝ) : EReal))).toInt = min 2147483647 ⌊r⌋ := by
        rw [Ideal.liftRound_coe, Ideal.fptosi, hc, BitVec.toInt_ofInt]
        exact Int.bmod_eq_of_le (by omega) (by omega)
      rw [hk, Ideal.liftRound_coe, EReal.coe_le_coe_iff]
      first
      | intro h
        have : (n : Int) ≤ ⌊r⌋ := by exact_mod_cast h
        omega
      | intro h
        have : ¬ (n : Int) ≤ ⌊r⌋ := fun h' => h (by exact_mod_cast h')
        have e : min 2147483647 ⌊r⌋ = ⌊r⌋ := by omega
        exact ⟨by omega, by rw [e]⟩

/-- The two forms of a weight agree, where the words name the same numbers. -/
theorem axis_eq (S S1 : BitVec 32) (n : Nat) (hn : n < 1000) (hS1 : Ideal.ofBits .f32 S1 = ((n : ℝ) : EReal)) (st bn p io : EReal) (hi : Bool) :
    axisR (F := Ideal) S (BitVec.ofNat 32 n) st bn p io (BitVec.ofBool (!hi)) = axisK (F := Ideal) S S1 st bn p io hi := by
  have hz : (0 : EReal) ≤ max (st + p * bn + Ideal.div (io * bn) (Ideal.ofBits .f32 0x40000000#32)) (Ideal.ofBits .f32 0x00000000#32) := by
    rw [Ideal.ofBits_zero_f32]; exact le_max_right _ _
  have h := offset_eq n hn _ hz
  rw [← hS1] at h
  cases hi
  · show Scalar.select _ (_ - (_ - _)) _ = Scalar.select _ (_ - (_ - _)) _
    exact congrArg (fun l : EReal => Scalar.select (IntOp.andi (Ideal.cmp .oge (st + p * bn + Ideal.div (io * bn) (Ideal.ofBits .f32 0x40000000#32)) (Ideal.ofBits .f32 0xBF800000#32)) (Ideal.cmp .ole (st + p * bn + Ideal.div (io * bn) (Ideal.ofBits .f32 0x40000000#32)) (Ideal.ofBits .f32 S))) (Ideal.ofBits .f32 0x3F800000#32 - l) (Ideal.ofBits .f32 0x00000000#32)) h
  · exact congrArg (fun l : EReal => Scalar.select (IntOp.andi (Ideal.cmp .oge (st + p * bn + Ideal.div (io * bn) (Ideal.ofBits .f32 0x40000000#32)) (Ideal.ofBits .f32 0xBF800000#32)) (Ideal.cmp .ole (st + p * bn + Ideal.div (io * bn) (Ideal.ofBits .f32 0x40000000#32)) (Ideal.ofBits .f32 S))) l (Ideal.ofBits .f32 0x00000000#32)) h

/-- The words of the bin numbers, of the samples' offsets and of the two last cells, as numbers. -/
theorem word_0 : Ideal.ofBits .f32 0x00000000#32 = ((0 : ℝ) : EReal) := by simp [Ideal.ofBits, Ideal.ieee]
theorem word_1 : Ideal.ofBits .f32 0x3F800000#32 = ((1 : ℝ) : EReal) := by simp [Ideal.ofBits, Ideal.ieee]; norm_num; rw [← EReal.coe_mul]; exact congrArg Real.toEReal (by norm_num)
theorem word_2 : Ideal.ofBits .f32 0x40000000#32 = ((2 : ℝ) : EReal) := by simp [Ideal.ofBits, Ideal.ieee]; norm_num; rw [← EReal.coe_mul]; exact congrArg Real.toEReal (by norm_num)
theorem word_3 : Ideal.ofBits .f32 0x40400000#32 = ((3 : ℝ) : EReal) := by simp [Ideal.ofBits, Ideal.ieee]; norm_num; rw [← EReal.coe_mul]; exact congrArg Real.toEReal (by norm_num)
theorem word_4 : Ideal.ofBits .f32 0x40800000#32 = ((4 : ℝ) : EReal) := by simp [Ideal.ofBits, Ideal.ieee]; norm_num; rw [← EReal.coe_mul]; exact congrArg Real.toEReal (by norm_num)
theorem word_5 : Ideal.ofBits .f32 0x40A00000#32 = ((5 : ℝ) : EReal) := by simp [Ideal.ofBits, Ideal.ieee]; norm_num; rw [← EReal.coe_mul]; exact congrArg Real.toEReal (by norm_num)
theorem word_6 : Ideal.ofBits .f32 0x40C00000#32 = ((6 : ℝ) : EReal) := by simp [Ideal.ofBits, Ideal.ieee]; norm_num; rw [← EReal.coe_mul]; exact congrArg Real.toEReal (by norm_num)
theorem word_half : Ideal.ofBits .f32 0x3F000000#32 = ((1 / 2 : ℝ) : EReal) := by simp [Ideal.ofBits, Ideal.ieee]; norm_num; rw [← EReal.coe_mul]; exact congrArg Real.toEReal (by norm_num)
theorem word_threehalves : Ideal.ofBits .f32 0x3FC00000#32 = ((3 / 2 : ℝ) : EReal) := by simp [Ideal.ofBits, Ideal.ieee]; norm_num; rw [← EReal.coe_mul]; exact congrArg Real.toEReal (by norm_num)
theorem word_63 : Ideal.ofBits .f32 0x427C0000#32 = (((63 : ℕ) : ℝ) : EReal) := by simp [Ideal.ofBits, Ideal.ieee]; norm_num; rw [← EReal.coe_mul]; exact congrArg Real.toEReal (by norm_num)
theorem word_95 : Ideal.ofBits .f32 0x42BE0000#32 = (((95 : ℕ) : ℝ) : EReal) := by simp [Ideal.ofBits, Ideal.ieee]; norm_num; rw [← EReal.coe_mul]; exact congrArg Real.toEReal (by norm_num)

end Cert.Proof.WV

end
-- ==== Proof.WV.Arrays.lean ====
/-
  The weights kernel: the two arrays it leaves, index by index, from the boxes.
-/
module

public import proofs.«01_k».proof.Proof.WV.Block
public import proofs.«01_k».proof.Proof.WV.Scalar
public import Idealize.ShloMosaic.Lib.StableHlo.RunRead

@[expose] public section

noncomputable section

namespace Cert.Proof.WV

open Cert.WeightsIdeal Cert.WeightsIdeal.Gen
open Idealize.ShloMosaic Idealize.ShloMosaic.TcCoe Idealize.SL.Sem

variable {F : FTy → Type} [FloatOps F] (m : (ℓ : Loc nD τ sig) → Buf (Elt F) ℓ)

theorem axisV_apply (S S1 : BitVec 32) (st bn : FVec F S1x384 .f32) (p io : BitVec 32) (hi : Bool) (i : S1x384.Idx) :
    axisV S S1 st bn p io hi i = axisK S S1 (st i) (bn i) (Scalar.ofBits .f32 p) (Scalar.ofBits .f32 io) hi := by
  cases hi <;> rfl

/-- The start of a roi on an axis, from the box's lower coordinate. -/
def startOf (lo : F .f32) : F .f32 := FloatOps.subf (FloatOps.mulf lo (Scalar.ofBits .f32 0x3D800000#32)) (Scalar.ofBits .f32 0x3F000000#32)
/-- The size of a bin on an axis, from the box's coordinates. -/
def binOf (lo hi : F .f32) : F .f32 := FloatOps.divf (FloatOps.subf (startOf hi) (startOf lo)) (Scalar.ofBits .f32 0x40E00000#32)

/-- The index of image `b`, roi `s`, coordinate `k` in the boxes. -/
def boxIdx (b : Fin 8) (s : Fin 384) (k : Fin 4) : S8x384x4.Idx := fun a => match a with | ⟨0, _⟩ => b | ⟨1, _⟩ => s | ⟨2, _⟩ => k
/-- Row `k`, lane `s` of one image's transposed boxes. -/
def rowIdx (s : Fin 384) (k : Fin 4) : S1x4x384.Idx := fun a => match a with | ⟨0, _⟩ => ⟨0, Nat.one_pos⟩ | ⟨1, _⟩ => k | ⟨2, _⟩ => s
def tIdx (b : Fin 8) (s : Fin 384) (k : Fin 4) : S8x4x384.Idx := fun a => match a with | ⟨0, _⟩ => b | ⟨1, _⟩ => k | ⟨2, _⟩ => s

theorem V_boxes (c : Dev nD) : V m c main_v0 = transpose S8x4x384 [0, 2, 1] (m ((c : Thread nD τ).loc main_arg1)) transposes_S8x384x4_S8x4x384_0_2_1 := by
  show StableHlo.after hostOps0 (fun b => m (c, b)) (Proc.devRef .tc main_v0) = _
  after_results

theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- The block of the transposed boxes at point `t`. -/
theorem boxes_at (c : Dev nD) (t : Fin cfg0.N) (b : Fin 8) (hb : b.val = t.val) (s : Fin 384) (k : Fin 4) :
    iblk m c 0 t (rowIdx s k) = m ((c : Thread nD τ).loc main_arg1) (boxIdx b s k) := by
  have hi := index0 t
  have e : ((cfg0.win 0).blk t).view.emb (rowIdx s k) = tIdx b s k := by
    funext a
    refine Fin.ext ?_
    match a with
    | ⟨0, _⟩ => show win0_0.index t 0 * 1 + 1 * 0 = b.val; omega
    | ⟨1, _⟩ => show win0_0.index t 1 * 4 + 1 * k.val = k.val; omega
    | ⟨2, _⟩ => show win0_0.index t 2 * 384 + 1 * s.val = s.val; omega
  refine (congrArg (V m c main_v0) e).trans ?_
  rw [V_boxes]
  exact transpose_apply _ _ _ _ (boxIdx b s k) (fun a => match a with | ⟨0, _⟩ => rfl | ⟨1, _⟩ => rfl | ⟨2, _⟩ => rfl)

/-- The rows of starts and of bin sizes, at a lane. -/
theorem start_at (x0 : Vec F S1x4x384 .f32) (k : Fin 4) (inb : ∀ a, (![0, k.val, 0] : Fin 3 → Nat) a + S1x1x384.size a ≤ S1x4x384.size a) (i : S1x384.Idx) :
    shapeCast S1x384 (View.ld x0 (Rect.unit (s := S1x4x384) ![0, k.val, 0] S1x1x384.size inb)) shapeCasts_S1x1x384_S1x384 i = x0 (rowIdx (i 1) k) := by
  have h0 : (i 0).val < 1 := (i 0).isLt
  rw [shapeCast_apply _ _ i (fun a => match a with | ⟨0, _⟩ => ⟨0, Nat.one_pos⟩ | ⟨1, _⟩ => ⟨0, Nat.one_pos⟩ | ⟨2, _⟩ => i 1 : S1x1x384.Idx)
    (by rw [Shape.rowMajor_val_two, Shape.rowMajor_val_three]
        show (0 * 1 + 0) * 384 + (i 1).val = (i 0).val * 384 + (i 1).val
        omega)]
  refine congrArg x0 (funext fun a => Fin.ext ?_)
  match a with
  | ⟨0, _⟩ => rfl
  | ⟨1, _⟩ => show k.val + 1 * 0 = k.val; omega
  | ⟨2, _⟩ => show 0 + 1 * (i 1).val = (i 1).val; omega

theorem st_y (x0 : Vec F S1x4x384 .f32) (x1 : Vec F S1x1x384 .f32) (i : S1x384.Idx) : k0_pay425 x0 x1 i = startOf (x0 (rowIdx (i 1) 1)) := by
  exact congrArg startOf (start_at x0 1 (by decide) i)
theorem bn_y (x0 : Vec F S1x4x384 .f32) (x1 : Vec F S1x1x384 .f32) (i : S1x384.Idx) : k0_pay427 x0 x1 i = binOf (x0 (rowIdx (i 1) 1)) (x0 (rowIdx (i 1) 3)) := by
  exact congrArg₂ binOf (start_at x0 1 (by decide) i) (start_at x0 3 (by decide) i)

theorem index2 : ∀ t : Fin cfg0.N, win0_2.index t 0 = t.val ∧ win0_2.index t 1 = 0 ∧ win0_2.index t 2 = 0 ∧ win0_2.index t 3 = 0 :=
  (by decide +kernel : ∀ t : Fin grid0.N, win0_2.index t 0 = t.val ∧ win0_2.index t 1 = 0 ∧ win0_2.index t 2 = 0 ∧ win0_2.index t 3 = 0)

/-- The array of weights of the y axis after the run. -/
theorem arr_y (c : Dev nD) (i : S8x7x4x384.Idx) :
    (dats m 0 c).arrAt 2 cfg0.N i = axisK 0x42800000#32 0x427C0000#32
      (startOf (m ((c : Thread nD τ).loc main_arg1) (boxIdx (i 0) (i 3) 1)))
      (binOf (m ((c : Thread nD τ).loc main_arg1) (boxIdx (i 0) (i 3) 1)) (m ((c : Thread nD τ).loc main_arg1) (boxIdx (i 0) (i 3) 3)))
      (Scalar.ofBits .f32 (binWord (i 1))) (Scalar.ofBits .f32 (halfWord (i 2))) (upper (i 2)) := by
  obtain ⟨t, ht⟩ : ∃ t : Fin cfg0.N, t.val = (i 0).val := ⟨⟨(i 0).val, (i 0).isLt⟩, rfl⟩
  have hx := index2 t
  let x : S1x7x4x384.Idx := fun a => match a with | ⟨0, _⟩ => ⟨0, Nat.one_pos⟩ | ⟨1, _⟩ => i 1 | ⟨2, _⟩ => i 2 | ⟨3, _⟩ => i 3
  have h := congrFun ((Cert.WeightsIdeal.Value.blocks2 m c t (flush0_2 t)).trans (Cert.WeightsIdeal.Value.flushed2 m c t)) x
  have e : ((cfg0.win 2).blk t).view.emb x = i := by
    funext a
    refine Fin.ext ?_
    match a with
    | ⟨0, _⟩ => show win0_2.index t 0 * 1 + 1 * 0 = (i 0).val; omega
    | ⟨1, _⟩ => show win0_2.index t 1 * 7 + 1 * (i 1).val = (i 1).val; omega
    | ⟨2, _⟩ => show win0_2.index t 2 * 4 + 1 * (i 2).val = (i 2).val; omega
    | ⟨3, _⟩ => show win0_2.index t 3 * 384 + 1 * (i 3).val = (i 3).val; omega
  refine (congrArg ((dats m 0 c).arrAt 2 cfg0.N) e).symm.trans (h.trans ?_)
  rw [out_y]
  show axisV _ _ _ _ (binWord (i 1)) (halfWord (i 2)) (upper (i 2)) _ = _
  rw [axisV_apply, st_y, bn_y]
  exact congrArg₂ (fun a b => axisK 0x42800000#32 0x427C0000#32 (startOf a) (binOf a b) (Scalar.ofBits .f32 (binWord (i 1))) (Scalar.ofBits .f32 (halfWord (i 2))) (upper (i 2)))
    (boxes_at m c t (i 0) ht.symm (i 3) 1) (boxes_at m c t (i 0) ht.symm (i 3) 3)

theorem st_x (x0 : Vec F S1x4x384 .f32) (x1 : Vec F S1x1x384 .f32) (i : S1x384.Idx) : k0_pay424 x0 x1 i = startOf (x0 (rowIdx (i 1) 0)) := by
  exact congrArg startOf (start_at x0 0 (by decide) i)
theorem bn_x (x0 : Vec F S1x4x384 .f32) (x1 : Vec F S1x1x384 .f32) (i : S1x384.Idx) : k0_pay426 x0 x1 i = binOf (x0 (rowIdx (i 1) 0)) (x0 (rowIdx (i 1) 2)) := by
  exact congrArg₂ binOf (start_at x0 0 (by decide) i) (start_at x0 2 (by decide) i)

theorem index3 : ∀ t : Fin cfg0.N, win0_3.index t 0 = t.val ∧ win0_3.index t 1 = 0 ∧ win0_3.index t 2 = 0 ∧ win0_3.index t 3 = 0 :=
  (by decide +kernel : ∀ t : Fin grid0.N, win0_3.index t 0 = t.val ∧ win0_3.index t 1 = 0 ∧ win0_3.index t 2 = 0 ∧ win0_3.index t 3 = 0)

/-- The array of weights of the x axis after the run. -/
theorem arr_x (c : Dev nD) (i : S8x7x4x384.Idx) :
    (dats m 0 c).arrAt 3 cfg0.N i = axisK 0x42C00000#32 0x42BE0000#32
      (startOf (m ((c : Thread nD τ).loc main_arg1) (boxIdx (i 0) (i 3) 0)))
      (binOf (m ((c : Thread nD τ).loc main_arg1) (boxIdx (i 0) (i 3) 0)) (m ((c : Thread nD τ).loc main_arg1) (boxIdx (i 0) (i 3) 2)))
      (Scalar.ofBits .f32 (binWord (i 1))) (Scalar.ofBits .f32 (halfWord (i 2))) (upper (i 2)) := by
  obtain ⟨t, ht⟩ : ∃ t : Fin cfg0.N, t.val = (i 0).val := ⟨⟨(i 0).val, (i 0).isLt⟩, rfl⟩
  have hx := index3 t
  let x : S1x7x4x384.Idx := fun a => match a with | ⟨0, _⟩ => ⟨0, Nat.one_pos⟩ | ⟨1, _⟩ => i 1 | ⟨2, _⟩ => i 2 | ⟨3, _⟩ => i 3
  have h := congrFun ((Cert.WeightsIdeal.Value.blocks3 m c t (flush0_3 t)).trans (Cert.WeightsIdeal.Value.flushed3 m c t)) x
  have e : ((cfg0.win 3).blk t).view.emb x = i := by
    funext a
    refine Fin.ext ?_
    match a with
    | ⟨0, _⟩ => show win0_3.index t 0 * 1 + 1 * 0 = (i 0).val; omega
    | ⟨1, _⟩ => show win0_3.index t 1 * 7 + 1 * (i 1).val = (i 1).val; omega
    | ⟨2, _⟩ => show win0_3.index t 2 * 4 + 1 * (i 2).val = (i 2).val; omega
    | ⟨3, _⟩ => show win0_3.index t 3 * 384 + 1 * (i 3).val = (i 3).val; omega
  refine (congrArg ((dats m 0 c).arrAt 3 cfg0.N) e).symm.trans (h.trans ?_)
  rw [out_x]
  show axisV _ _ _ _ (binWord (i 1)) (halfWord (i 2)) (upper (i 2)) _ = _
  rw [axisV_apply, st_x, bn_x]
  exact congrArg₂ (fun a b => axisK 0x42C00000#32 0x42BE0000#32 (startOf a) (binOf a b) (Scalar.ofBits .f32 (binWord (i 1))) (Scalar.ofBits .f32 (halfWord (i 2))) (upper (i 2)))
    (boxes_at m c t (i 0) ht.symm (i 3) 0) (boxes_at m c t (i 0) ht.symm (i 3) 2)

end Cert.Proof.WV

end
-- ==== Proof.WV.Ref.lean ====
/-
  The reference's two arrays of weights, index by index, and that they are the kernel's.
-/
module

public import proofs.«01_k».proof.Proof.WV.Arrays
public import proofs.«01_k».proof.Proof.Gen.WeightsReferenceIdeal.Run

@[expose] public section

noncomputable section

namespace Cert.Proof.WV

open Cert.WeightsReferenceIdeal Cert.WeightsReferenceIdeal.Gen Cert.WeightsReferenceIdeal.Value
open Idealize.ShloMosaic Idealize.ShloMosaic.TcCoe Idealize.SL.Sem

variable {F : FTy → Type} [FloatOps F]

/-- The reference's array on one axis, from its starts and bin sizes. -/
def refArr (S N1 : BitVec 32) (st bn : FVec F S8x384 .f32) : FVec F S8x7x4x384 .f32 :=
  select (andi (cmpf .oge (addf (addf (broadcastInDim S8x7x4x384 ![0, 3] bcast_S8x384_S8x7x4x384_0_3 st) (mulf (sitofp .f32 (iotaInDim S8x7x4x384 32 1)) (broadcastInDim S8x7x4x384 ![0, 3] bcast_S8x384_S8x7x4x384_0_3 bn))) (Host.divf (mulf (addf (sitofp .f32 (Host.shrui (iotaInDim S8x7x4x384 32 2) (broadcastInDim S8x7x4x384 ![] bcast_S_S8x7x4x384 (constantI S_ 32 1#32)))) (broadcastInDim S8x7x4x384 ![] bcast_S_S8x7x4x384 (constant S_ .f32 0x3F000000#32))) (broadcastInDim S8x7x4x384 ![0, 3] bcast_S8x384_S8x7x4x384_0_3 bn)) (broadcastInDim S8x7x4x384 ![] bcast_S_S8x7x4x384 (constant S_ .f32 0x40000000#32)))) (broadcastInDim S8x7x4x384 ![] bcast_S_S8x7x4x384 (constant S_ .f32 0xBF800000#32))) (cmpf .ole (addf (addf (broadcastInDim S8x7x4x384 ![0, 3] bcast_S8x384_S8x7x4x384_0_3 st) (mulf (sitofp .f32 (iotaInDim S8x7x4x384 32 1)) (broadcastInDim S8x7x4x384 ![0, 3] bcast_S8x384_S8x7x4x384_0_3 bn))) (Host.divf (mulf (addf (sitofp .f32 (Host.shrui (iotaInDim S8x7x4x384 32 2) (broadcastInDim S8x7x4x384 ![] bcast_S_S8x7x4x384 (constantI S_ 32 1#32)))) (broadcastInDim S8x7x4x384 ![] bcast_S_S8x7x4x384 (constant S_ .f32 0x3F000000#32))) (broadcastInDim S8x7x4x384 ![0, 3] bcast_S8x384_S8x7x4x384_0_3 bn)) (broadcastInDim S8x7x4x384 ![] bcast_S_S8x7x4x384 (constant S_ .f32 0x40000000#32)))) (broadcastInDim S8x7x4x384 ![] bcast_S_S8x7x4x384 (constant S_ .f32 S)))) (select (cmpi .eq (andi (iotaInDim S8x7x4x384 32 2) (broadcastInDim S8x7x4x384 ![] bcast_S_S8x7x4x384 (constantI S_ 32 1#32))) (broadcastInDim S8x7x4x384 ![] bcast_S_S8x7x4x384 (constantI S_ 32 0#32))) (subf (broadcastInDim S8x7x4x384 ![] bcast_S_S8x7x4x384 (constant S_ .f32 0x3F800000#32)) (subf (select (cmpi .sge (fptosi 32 (Host.floor (maximumf (addf (addf (broadcastInDim S8x7x4x384 ![0, 3] bcast_S8x384_S8x7x4x384_0_3 st) (mulf (sitofp .f32 (iotaInDim S8x7x4x384 32 1)) (broadcastInDim S8x7x4x384 ![0, 3] bcast_S8x384_S8x7x4x384_0_3 bn))) (Host.divf (mulf (addf (sitofp .f32 (Host.shrui (iotaInDim S8x7x4x384 32 2) (broadcastInDim S8x7x4x384 ![] bcast_S_S8x7x4x384 (constantI S_ 32 1#32)))) (broadcastInDim S8x7x4x384 ![] bcast_S_S8x7x4x384 (constant S_ .f32 0x3F000000#32))) (broadcastInDim S8x7x4x384 ![0, 3] bcast_S8x384_S8x7x4x384_0_3 bn)) (broadcastInDim S8x7x4x384 ![] bcast_S_S8x7x4x384 (constant S_ .f32 0x40000000#32)))) (broadcastInDim S8x7x4x384 ![] bcast_S_S8x7x4x384 (constant S_ .f32 0x00000000#32))))) (broadcastInDim S8x7x4x384 ![] bcast_S_S8x7x4x384 (constantI S_ 32 N1))) (sitofp .f32 (select (cmpi .sge (fptosi 32 (Host.floor (maximumf (addf (addf (broadcastInDim S8x7x4x384 ![0, 3] bcast_S8x384_S8x7x4x384_0_3 st) (mulf (sitofp .f32 (iotaInDim S8x7x4x384 32 1)) (broadcastInDim S8x7x4x384 ![0, 3] bcast_S8x384_S8x7x4x384_0_3 bn))) (Host.divf (mulf (addf (sitofp .f32 (Host.shrui (iotaInDim S8x7x4x384 32 2) (broadcastInDim S8x7x4x384 ![] bcast_S_S8x7x4x384 (constantI S_ 32 1#32)))) (broadcastInDim S8x7x4x384 ![] bcast_S_S8x7x4x384 (constant S_ .f32 0x3F000000#32))) (broadcastInDim S8x7x4x384 ![0, 3] bcast_S8x384_S8x7x4x384_0_3 bn)) (broadcastInDim S8x7x4x384 ![] bcast_S_S8x7x4x384 (constant S_ .f32 0x40000000#32)))) (broadcastInDim S8x7x4x384 ![] bcast_S_S8x7x4x384 (constant S_ .f32 0x00000000#32))))) (broadcastInDim S8x7x4x384 ![] bcast_S_S8x7x4x384 (constantI S_ 32 N1))) (broadcastInDim S8x7x4x384 ![] bcast_S_S8x7x4x384 (constantI S_ 32 N1)) (fptosi 32 (Host.floor (maximumf (addf (addf (broadcastInDim S8x7x4x384 ![0, 3] bcast_S8x384_S8x7x4x384_0_3 st) (mulf (sitofp .f32 (iotaInDim S8x7x4x384 32 1)) (broadcastInDim S8x7x4x384 ![0, 3] bcast_S8x384_S8x7x4x384_0_3 bn))) (Host.divf (mulf (addf (sitofp .f32 (Host.shrui (iotaInDim S8x7x4x384 32 2) (broadcastInDim S8x7x4x384 ![] bcast_S_S8x7x4x384 (constantI S_ 32 1#32)))) (broadcastInDim S8x7x4x384 ![] bcast_S_S8x7x4x384 (constant S_ .f32 0x3F000000#32))) (broadcastInDim S8x7x4x384 ![0, 3] bcast_S8x384_S8x7x4x384_0_3 bn)) (broadcastInDim S8x7x4x384 ![] bcast_S_S8x7x4x384 (constant S_ .f32 0x40000000#32)))) (broadcastInDim S8x7x4x384 ![] bcast_S_S8x7x4x384 (constant S_ .f32 0x00000000#32))))))) (maximumf (addf (addf (broadcastInDim S8x7x4x384 ![0, 3] bcast_S8x384_S8x7x4x384_0_3 st) (mulf (sitofp .f32 (iotaInDim S8x7x4x384 32 1)) (broadcastInDim S8x7x4x384 ![0, 3] bcast_S8x384_S8x7x4x384_0_3 bn))) (Host.divf (mulf (addf (sitofp .f32 (Host.shrui (iotaInDim S8x7x4x384 32 2) (broadcastInDim S8x7x4x384 ![] bcast_S_S8x7x4x384 (constantI S_ 32 1#32)))) (broadcastInDim S8x7x4x384 ![] bcast_S_S8x7x4x384 (constant S_ .f32 0x3F000000#32))) (broadcastInDim S8x7x4x384 ![0, 3] bcast_S8x384_S8x7x4x384_0_3 bn)) (broadcastInDim S8x7x4x384 ![] bcast_S_S8x7x4x384 (constant S_ .f32 0x40000000#32)))) (broadcastInDim S8x7x4x384 ![] bcast_S_S8x7x4x384 (constant S_ .f32 0x00000000#32)))) (sitofp .f32 (select (cmpi .sge (fptosi 32 (Host.floor (maximumf (addf (addf (broadcastInDim S8x7x4x384 ![0, 3] bcast_S8x384_S8x7x4x384_0_3 st) (mulf (sitofp .f32 (iotaInDim S8x7x4x384 32 1)) (broadcastInDim S8x7x4x384 ![0, 3] bcast_S8x384_S8x7x4x384_0_3 bn))) (Host.divf (mulf (addf (sitofp .f32 (Host.shrui (iotaInDim S8x7x4x384 32 2) (broadcastInDim S8x7x4x384 ![] bcast_S_S8x7x4x384 (constantI S_ 32 1#32)))) (broadcastInDim S8x7x4x384 ![] bcast_S_S8x7x4x384 (constant S_ .f32 0x3F000000#32))) (broadcastInDim S8x7x4x384 ![0, 3] bcast_S8x384_S8x7x4x384_0_3 bn)) (broadcastInDim S8x7x4x384 ![] bcast_S_S8x7x4x384 (constant S_ .f32 0x40000000#32)))) (broadcastInDim S8x7x4x384 ![] bcast_S_S8x7x4x384 (constant S_ .f32 0x00000000#32))))) (broadcastInDim S8x7x4x384 ![] bcast_S_S8x7x4x384 (constantI S_ 32 N1))) (broadcastInDim S8x7x4x384 ![] bcast_S_S8x7x4x384 (constantI S_ 32 N1)) (fptosi 32 (Host.floor (maximumf (addf (addf (broadcastInDim S8x7x4x384 ![0, 3] bcast_S8x384_S8x7x4x384_0_3 st) (mulf (sitofp .f32 (iotaInDim S8x7x4x384 32 1)) (broadcastInDim S8x7x4x384 ![0, 3] bcast_S8x384_S8x7x4x384_0_3 bn))) (Host.divf (mulf (addf (sitofp .f32 (Host.shrui (iotaInDim S8x7x4x384 32 2) (broadcastInDim S8x7x4x384 ![] bcast_S_S8x7x4x384 (constantI S_ 32 1#32)))) (broadcastInDim S8x7x4x384 ![] bcast_S_S8x7x4x384 (constant S_ .f32 0x3F000000#32))) (broadcastInDim S8x7x4x384 ![0, 3] bcast_S8x384_S8x7x4x384_0_3 bn)) (broadcastInDim S8x7x4x384 ![] bcast_S_S8x7x4x384 (constant S_ .f32 0x40000000#32)))) (broadcastInDim S8x7x4x384 ![] bcast_S_S8x7x4x384 (constant S_ .f32 0x00000000#32))))))))) (subf (select (cmpi .sge (fptosi 32 (Host.floor (maximumf (addf (addf (broadcastInDim S8x7x4x384 ![0, 3] bcast_S8x384_S8x7x4x384_0_3 st) (mulf (sitofp .f32 (iotaInDim S8x7x4x384 32 1)) (broadcastInDim S8x7x4x384 ![0, 3] bcast_S8x384_S8x7x4x384_0_3 bn))) (Host.divf (mulf (addf (sitofp .f32 (Host.shrui (iotaInDim S8x7x4x384 32 2) (broadcastInDim S8x7x4x384 ![] bcast_S_S8x7x4x384 (constantI S_ 32 1#32)))) (broadcastInDim S8x7x4x384 ![] bcast_S_S8x7x4x384 (constant S_ .f32 0x3F000000#32))) (broadcastInDim S8x7x4x384 ![0, 3] bcast_S8x384_S8x7x4x384_0_3 bn)) (broadcastInDim S8x7x4x384 ![] bcast_S_S8x7x4x384 (constant S_ .f32 0x40000000#32)))) (broadcastInDim S8x7x4x384 ![] bcast_S_S8x7x4x384 (constant S_ .f32 0x00000000#32))))) (broadcastInDim S8x7x4x384 ![] bcast_S_S8x7x4x384 (constantI S_ 32 N1))) (sitofp .f32 (select (cmpi .sge (fptosi 32 (Host.floor (maximumf (addf (addf (broadcastInDim S8x7x4x384 ![0, 3] bcast_S8x384_S8x7x4x384_0_3 st) (mulf (sitofp .f32 (iotaInDim S8x7x4x384 32 1)) (broadcastInDim S8x7x4x384 ![0, 3] bcast_S8x384_S8x7x4x384_0_3 bn))) (Host.divf (mulf (addf (sitofp .f32 (Host.shrui (iotaInDim S8x7x4x384 32 2) (broadcastInDim S8x7x4x384 ![] bcast_S_S8x7x4x384 (constantI S_ 32 1#32)))) (broadcastInDim S8x7x4x384 ![] bcast_S_S8x7x4x384 (constant S_ .f32 0x3F000000#32))) (broadcastInDim S8x7x4x384 ![0, 3] bcast_S8x384_S8x7x4x384_0_3 bn)) (broadcastInDim S8x7x4x384 ![] bcast_S_S8x7x4x384 (constant S_ .f32 0x40000000#32)))) (broadcastInDim S8x7x4x384 ![] bcast_S_S8x7x4x384 (constant S_ .f32 0x00000000#32))))) (broadcastInDim S8x7x4x384 ![] bcast_S_S8x7x4x384 (constantI S_ 32 N1))) (broadcastInDim S8x7x4x384 ![] bcast_S_S8x7x4x384 (constantI S_ 32 N1)) (fptosi 32 (Host.floor (maximumf (addf (addf (broadcastInDim S8x7x4x384 ![0, 3] bcast_S8x384_S8x7x4x384_0_3 st) (mulf (sitofp .f32 (iotaInDim S8x7x4x384 32 1)) (broadcastInDim S8x7x4x384 ![0, 3] bcast_S8x384_S8x7x4x384_0_3 bn))) (Host.divf (mulf (addf (sitofp .f32 (Host.shrui (iotaInDim S8x7x4x384 32 2) (broadcastInDim S8x7x4x384 ![] bcast_S_S8x7x4x384 (constantI S_ 32 1#32)))) (broadcastInDim S8x7x4x384 ![] bcast_S_S8x7x4x384 (constant S_ .f32 0x3F000000#32))) (broadcastInDim S8x7x4x384 ![0, 3] bcast_S8x384_S8x7x4x384_0_3 bn)) (broadcastInDim S8x7x4x384 ![] bcast_S_S8x7x4x384 (constant S_ .f32 0x40000000#32)))) (broadcastInDim S8x7x4x384 ![] bcast_S_S8x7x4x384 (constant S_ .f32 0x00000000#32))))))) (maximumf (addf (addf (broadcastInDim S8x7x4x384 ![0, 3] bcast_S8x384_S8x7x4x384_0_3 st) (mulf (sitofp .f32 (iotaInDim S8x7x4x384 32 1)) (broadcastInDim S8x7x4x384 ![0, 3] bcast_S8x384_S8x7x4x384_0_3 bn))) (Host.divf (mulf (addf (sitofp .f32 (Host.shrui (iotaInDim S8x7x4x384 32 2) (broadcastInDim S8x7x4x384 ![] bcast_S_S8x7x4x384 (constantI S_ 32 1#32)))) (broadcastInDim S8x7x4x384 ![] bcast_S_S8x7x4x384 (constant S_ .f32 0x3F000000#32))) (broadcastInDim S8x7x4x384 ![0, 3] bcast_S8x384_S8x7x4x384_0_3 bn)) (broadcastInDim S8x7x4x384 ![] bcast_S_S8x7x4x384 (constant S_ .f32 0x40000000#32)))) (broadcastInDim S8x7x4x384 ![] bcast_S_S8x7x4x384 (constant S_ .f32 0x00000000#32)))) (sitofp .f32 (select (cmpi .sge (fptosi 32 (Host.floor (maximumf (addf (addf (broadcastInDim S8x7x4x384 ![0, 3] bcast_S8x384_S8x7x4x384_0_3 st) (mulf (sitofp .f32 (iotaInDim S8x7x4x384 32 1)) (broadcastInDim S8x7x4x384 ![0, 3] bcast_S8x384_S8x7x4x384_0_3 bn))) (Host.divf (mulf (addf (sitofp .f32 (Host.shrui (iotaInDim S8x7x4x384 32 2) (broadcastInDim S8x7x4x384 ![] bcast_S_S8x7x4x384 (constantI S_ 32 1#32)))) (broadcastInDim S8x7x4x384 ![] bcast_S_S8x7x4x384 (constant S_ .f32 0x3F000000#32))) (broadcastInDim S8x7x4x384 ![0, 3] bcast_S8x384_S8x7x4x384_0_3 bn)) (broadcastInDim S8x7x4x384 ![] bcast_S_S8x7x4x384 (constant S_ .f32 0x40000000#32)))) (broadcastInDim S8x7x4x384 ![] bcast_S_S8x7x4x384 (constant S_ .f32 0x00000000#32))))) (broadcastInDim S8x7x4x384 ![] bcast_S_S8x7x4x384 (constantI S_ 32 N1))) (broadcastInDim S8x7x4x384 ![] bcast_S_S8x7x4x384 (constantI S_ 32 N1)) (fptosi 32 (Host.floor (maximumf (addf (addf (broadcastInDim S8x7x4x384 ![0, 3] bcast_S8x384_S8x7x4x384_0_3 st) (mulf (sitofp .f32 (iotaInDim S8x7x4x384 32 1)) (broadcastInDim S8x7x4x384 ![0, 3] bcast_S8x384_S8x7x4x384_0_3 bn))) (Host.divf (mulf (addf (sitofp .f32 (Host.shrui (iotaInDim S8x7x4x384 32 2) (broadcastInDim S8x7x4x384 ![] bcast_S_S8x7x4x384 (constantI S_ 32 1#32)))) (broadcastInDim S8x7x4x384 ![] bcast_S_S8x7x4x384 (constant S_ .f32 0x3F000000#32))) (broadcastInDim S8x7x4x384 ![0, 3] bcast_S8x384_S8x7x4x384_0_3 bn)) (broadcastInDim S8x7x4x384 ![] bcast_S_S8x7x4x384 (constant S_ .f32 0x40000000#32)))) (broadcastInDim S8x7x4x384 ![] bcast_S_S8x7x4x384 (constant S_ .f32 0x00000000#32))))))))) (broadcastInDim S8x7x4x384 ![] bcast_S_S8x7x4x384 (constant S_ .f32 0x00000000#32))

/-- Its starts, from the lower coordinates. -/
def refStart (lo : FVec F S8x384 .f32) : FVec F S8x384 .f32 := subf (mulf lo (broadcastInDim S8x384 ![] bcast_S_S8x384 (constant S_ .f32 0x3D800000#32))) (broadcastInDim S8x384 ![] bcast_S_S8x384 (constant S_ .f32 0x3F000000#32))
/-- Its bin sizes. -/
def refBin (lo hi : FVec F S8x384 .f32) : FVec F S8x384 .f32 := Host.divf (subf (refStart hi) (refStart lo)) (broadcastInDim S8x384 ![] bcast_S_S8x384 (constant S_ .f32 0x40E00000#32))
/-- Coordinate 0 of the boxes. -/
def coord0 (v : FVec F S8x384x4 .f32) : FVec F S8x384 .f32 := (shapeCast S8x384 (extractStridedSlice S8x384x1 ![0, 0, 0] v slices_S8x384x4_S8x384x1_0_0_0) shapeCasts_S8x384x1_S8x384)
/-- Coordinate 1 of the boxes. -/
def coord1 (v : FVec F S8x384x4 .f32) : FVec F S8x384 .f32 := (shapeCast S8x384 (extractStridedSlice S8x384x1 ![0, 0, 1] v slices_S8x384x4_S8x384x1_0_0_1) shapeCasts_S8x384x1_S8x384)
/-- Coordinate 2 of the boxes. -/
def coord2 (v : FVec F S8x384x4 .f32) : FVec F S8x384 .f32 := (shapeCast S8x384 (extractStridedSlice S8x384x1 ![0, 0, 2] v slices_S8x384x4_S8x384x1_0_0_2) shapeCasts_S8x384x1_S8x384)
/-- Coordinate 3 of the boxes. -/
def coord3 (v : FVec F S8x384x4 .f32) : FVec F S8x384 .f32 := (shapeCast S8x384 (extractStridedSlice S8x384x1 ![0, 0, 3] v slices_S8x384x4_S8x384x1_0_0_3) shapeCasts_S8x384x1_S8x384)

/-- The image and the roi of an index. -/
def imgRoi (b : Fin 8) (s : Fin 384) : S8x384.Idx := fun a => match a with | ⟨0, _⟩ => b | ⟨1, _⟩ => s

theorem bcast_at (x : FVec F S8x384 .f32) (i : S8x7x4x384.Idx) :
    broadcastInDim S8x7x4x384 ![0, 3] bcast_S8x384_S8x7x4x384_0_3 x i = x (imgRoi (i 0) (i 3)) :=
  broadcastInDim_apply _ _ _ _ _ (fun a => match a with | ⟨0, _⟩ => rfl | ⟨1, _⟩ => rfl)

/-- The reference's array at an index. -/
theorem refArr_apply (S N1 : BitVec 32) (st bn : FVec F S8x384 .f32) (i : S8x7x4x384.Idx) :
    refArr S N1 st bn i = axisR S N1 (st (imgRoi (i 0) (i 3))) (bn (imgRoi (i 0) (i 3)))
      (FloatOps.sitofp .f32 (BitVec.ofNat 32 (i 1).val))
      (FloatOps.addf (FloatOps.sitofp .f32 (IntOp.shrui .host (BitVec.ofNat 32 (i 2).val) 1#32)) (Scalar.ofBits .f32 0x3F000000#32))
      (IntOp.cmpi .eq (IntOp.andi (BitVec.ofNat 32 (i 2).val) 1#32) 0#32) := by
  rw [← bcast_at st i, ← bcast_at bn i]
  rfl

theorem coord0_at (v : FVec F S8x384x4 .f32) (b : Fin 8) (s : Fin 384) : coord0 v (imgRoi b s) = v (boxIdx b s 0) := by
  unfold coord0
  rw [shapeCast_apply _ _ _ (fun a => match a with | ⟨0, _⟩ => b | ⟨1, _⟩ => s | ⟨2, _⟩ => ⟨0, Nat.one_pos⟩ : S8x384x1.Idx)
    (by rw [Shape.rowMajor_val_two, Shape.rowMajor_val_three]
        show (b.val * 384 + s.val) * 1 + 0 = b.val * 384 + s.val
        omega)]
  exact extractStridedSlice_apply _ _ _ _ _ (fun a => match a with | ⟨0, _⟩ => (Nat.zero_add _).symm | ⟨1, _⟩ => (Nat.zero_add _).symm | ⟨2, _⟩ => rfl)
theorem coord1_at (v : FVec F S8x384x4 .f32) (b : Fin 8) (s : Fin 384) : coord1 v (imgRoi b s) = v (boxIdx b s 1) := by
  unfold coord1
  rw [shapeCast_apply _ _ _ (fun a => match a with | ⟨0, _⟩ => b | ⟨1, _⟩ => s | ⟨2, _⟩ => ⟨0, Nat.one_pos⟩ : S8x384x1.Idx)
    (by rw [Shape.rowMajor_val_two, Shape.rowMajor_val_three]
        show (b.val * 384 + s.val) * 1 + 0 = b.val * 384 + s.val
        omega)]
  exact extractStridedSlice_apply _ _ _ _ _ (fun a => match a with | ⟨0, _⟩ => (Nat.zero_add _).symm | ⟨1, _⟩ => (Nat.zero_add _).symm | ⟨2, _⟩ => rfl)
theorem coord2_at (v : FVec F S8x384x4 .f32) (b : Fin 8) (s : Fin 384) : coord2 v (imgRoi b s) = v (boxIdx b s 2) := by
  unfold coord2
  rw [shapeCast_apply _ _ _ (fun a => match a with | ⟨0, _⟩ => b | ⟨1, _⟩ => s | ⟨2, _⟩ => ⟨0, Nat.one_pos⟩ : S8x384x1.Idx)
    (by rw [Shape.rowMajor_val_two, Shape.rowMajor_val_three]
        show (b.val * 384 + s.val) * 1 + 0 = b.val * 384 + s.val
        omega)]
  exact extractStridedSlice_apply _ _ _ _ _ (fun a => match a with | ⟨0, _⟩ => (Nat.zero_add _).symm | ⟨1, _⟩ => (Nat.zero_add _).symm | ⟨2, _⟩ => rfl)
theorem coord3_at (v : FVec F S8x384x4 .f32) (b : Fin 8) (s : Fin 384) : coord3 v (imgRoi b s) = v (boxIdx b s 3) := by
  unfold coord3
  rw [shapeCast_apply _ _ _ (fun a => match a with | ⟨0, _⟩ => b | ⟨1, _⟩ => s | ⟨2, _⟩ => ⟨0, Nat.one_pos⟩ : S8x384x1.Idx)
    (by rw [Shape.rowMajor_val_two, Shape.rowMajor_val_three]
        show (b.val * 384 + s.val) * 1 + 0 = b.val * 384 + s.val
        omega)]
  exact extractStridedSlice_apply _ _ _ _ _ (fun a => match a with | ⟨0, _⟩ => (Nat.zero_add _).symm | ⟨1, _⟩ => (Nat.zero_add _).symm | ⟨2, _⟩ => rfl)

/-- Bin numbers and sample offsets as numbers: the integers the reference converts are the words the kernel holds. -/
theorem bin_num (p : Fin 7) : FloatOps.sitofp (F := Ideal) .f32 (BitVec.ofNat 32 p.val) = Scalar.ofBits (F := Ideal) .f32 (binWord p) := by
  show (((BitVec.ofNat 32 p.val).toInt : ℝ) : EReal) = Ideal.ofBits .f32 (binWord p)
  have h : ((BitVec.ofNat 32 p.val).toInt : ℝ) = (p.val : ℝ) := by
    have : (BitVec.ofNat 32 p.val).toInt = p.val := by revert p; decide
    rw [this, Int.cast_natCast]
  rw [h]
  match p with
  | 0 => exact (congrArg Real.toEReal (by norm_num)).trans word_0.symm
  | 1 => exact (congrArg Real.toEReal (by norm_num)).trans word_1.symm
  | 2 => exact (congrArg Real.toEReal (by norm_num)).trans word_2.symm
  | 3 => exact (congrArg Real.toEReal (by norm_num)).trans word_3.symm
  | 4 => exact (congrArg Real.toEReal (by norm_num)).trans word_4.symm
  | 5 => exact (congrArg Real.toEReal (by norm_num)).trans word_5.symm
  | 6 => exact (congrArg Real.toEReal (by norm_num)).trans word_6.symm

theorem half_num (k : Fin 4) :
    FloatOps.addf (F := Ideal) (φ := .f32) (FloatOps.sitofp (F := Ideal) .f32 (IntOp.shrui .host (BitVec.ofNat 32 k.val) 1#32)) (Scalar.ofBits (F := Ideal) .f32 0x3F000000#32)
      = Scalar.ofBits (F := Ideal) .f32 (halfWord k) := by
  show (((IntOp.shrui .host (BitVec.ofNat 32 k.val) 1#32).toInt : ℝ) : EReal) + Ideal.ofBits .f32 0x3F000000#32 = Ideal.ofBits .f32 (halfWord k)
  have h : (IntOp.shrui .host (BitVec.ofNat 32 k.val) 1#32).toInt = ((k.val / 2 : Nat) : Int) := by
    rw [show IntOp.shrui .host (BitVec.ofNat 32 k.val) 1#32 = BitVec.ofNat 32 k.val >>> 1#32 from if_pos (by decide)]
    revert k; decide
  rw [h, word_half, ← EReal.coe_add]
  match k with
  | 0 => exact (congrArg Real.toEReal (by norm_num)).trans word_half.symm
  | 1 => exact (congrArg Real.toEReal (by norm_num)).trans word_half.symm
  | 2 => exact (congrArg Real.toEReal (by norm_num)).trans word_threehalves.symm
  | 3 => exact (congrArg Real.toEReal (by norm_num)).trans word_threehalves.symm

theorem lower_word : ∀ k : Fin 4, IntOp.cmpi .eq (IntOp.andi (BitVec.ofNat 32 k.val) 1#32) 0#32 = BitVec.ofBool (!upper k) := by decide

theorem ref_y (m : (ℓ : Loc nD τ sig) → Buf (Elt F) ℓ) (c : Dev nD) :
    res_main_v60 m c = refArr 0x42800000#32 63#32 (refStart (coord1 (m ((c.tc : Thread nD τ).loc main_arg1)))) (refBin (coord1 (m ((c.tc : Thread nD τ).loc main_arg1))) (coord3 (m ((c.tc : Thread nD τ).loc main_arg1)))) := rfl

/-- The kernel's array of weights of the y axis is the reference's, from the same boxes. -/
theorem same_y (m : (ℓ : Loc Cert.WeightsIdeal.nD Cert.WeightsIdeal.τ Cert.WeightsIdeal.sig) → Buf (Elt Ideal) ℓ) (m' : (ℓ : Loc nD τ sig) → Buf (Elt Ideal) ℓ) (c : Dev nD)
    (h : m' ((c.tc : Thread nD τ).loc main_arg1) = m ((c.tc : Thread Cert.WeightsIdeal.nD Cert.WeightsIdeal.τ).loc Cert.WeightsIdeal.main_arg1)) :
    res_main_v60 m' c = (Cert.WeightsIdeal.Gen.dats m 0 c).arrAt 2 Cert.WeightsIdeal.cfg0.N := by
  funext i
  refine Eq.trans ?_ (arr_y m c i).symm
  rw [ref_y, h, refArr_apply]
  have e1 : (refStart (F := Ideal) (coord1 (m ((c.tc : Thread Cert.WeightsIdeal.nD Cert.WeightsIdeal.τ).loc Cert.WeightsIdeal.main_arg1)))) (imgRoi (i 0) (i 3)) = startOf (F := Ideal) (m ((c.tc : Thread Cert.WeightsIdeal.nD Cert.WeightsIdeal.τ).loc Cert.WeightsIdeal.main_arg1) (boxIdx (i 0) (i 3) 1)) :=
    congrArg (startOf (F := Ideal)) (coord1_at _ (i 0) (i 3))
  have e2 : (refBin (F := Ideal) (coord1 (m ((c.tc : Thread Cert.WeightsIdeal.nD Cert.WeightsIdeal.τ).loc Cert.WeightsIdeal.main_arg1))) (coord3 (m ((c.tc : Thread Cert.WeightsIdeal.nD Cert.WeightsIdeal.τ).loc Cert.WeightsIdeal.main_arg1)))) (imgRoi (i 0) (i 3)) = binOf (F := Ideal) (m ((c.tc : Thread Cert.WeightsIdeal.nD Cert.WeightsIdeal.τ).loc Cert.WeightsIdeal.main_arg1) (boxIdx (i 0) (i 3) 1)) (m ((c.tc : Thread Cert.WeightsIdeal.nD Cert.WeightsIdeal.τ).loc Cert.WeightsIdeal.main_arg1) (boxIdx (i 0) (i 3) 3)) :=
    congrArg₂ (binOf (F := Ideal)) (coord1_at _ (i 0) (i 3)) (coord3_at _ (i 0) (i 3))
  rw [e1, e2, show FloatOps.sitofp (F := Ideal) .f32 (BitVec.ofNat 32 (i 1).val) = _ from bin_num (i 1), half_num (i 2), lower_word (i 2)]
  exact axis_eq 0x42800000#32 0x427C0000#32 63 (by decide) word_63 _ _ _ _ _

theorem ref_x (m : (ℓ : Loc nD τ sig) → Buf (Elt F) ℓ) (c : Dev nD) :
    res_main_v113 m c = refArr 0x42C00000#32 95#32 (refStart (coord0 (m ((c.tc : Thread nD τ).loc main_arg1)))) (refBin (coord0 (m ((c.tc : Thread nD τ).loc main_arg1))) (coord2 (m ((c.tc : Thread nD τ).loc main_arg1)))) := rfl

/-- The kernel's array of weights of the x axis is the reference's, from the same boxes. -/
theorem same_x (m : (ℓ : Loc Cert.WeightsIdeal.nD Cert.WeightsIdeal.τ Cert.WeightsIdeal.sig) → Buf (Elt Ideal) ℓ) (m' : (ℓ : Loc nD τ sig) → Buf (Elt Ideal) ℓ) (c : Dev nD)
    (h : m' ((c.tc : Thread nD τ).loc main_arg1) = m ((c.tc : Thread Cert.WeightsIdeal.nD Cert.WeightsIdeal.τ).loc Cert.WeightsIdeal.main_arg1)) :
    res_main_v113 m' c = (Cert.WeightsIdeal.Gen.dats m 0 c).arrAt 3 Cert.WeightsIdeal.cfg0.N := by
  funext i
  refine Eq.trans ?_ (arr_x m c i).symm
  rw [ref_x, h, refArr_apply]
  have e1 : (refStart (F := Ideal) (coord0 (m ((c.tc : Thread Cert.WeightsIdeal.nD Cert.WeightsIdeal.τ).loc Cert.WeightsIdeal.main_arg1)))) (imgRoi (i 0) (i 3)) = startOf (F := Ideal) (m ((c.tc : Thread Cert.WeightsIdeal.nD Cert.WeightsIdeal.τ).loc Cert.WeightsIdeal.main_arg1) (boxIdx (i 0) (i 3) 0)) :=
    congrArg (startOf (F := Ideal)) (coord0_at _ (i 0) (i 3))
  have e2 : (refBin (F := Ideal) (coord0 (m ((c.tc : Thread Cert.WeightsIdeal.nD Cert.WeightsIdeal.τ).loc Cert.WeightsIdeal.main_arg1))) (coord2 (m ((c.tc : Thread Cert.WeightsIdeal.nD Cert.WeightsIdeal.τ).loc Cert.WeightsIdeal.main_arg1)))) (imgRoi (i 0) (i 3)) = binOf (F := Ideal) (m ((c.tc : Thread Cert.WeightsIdeal.nD Cert.WeightsIdeal.τ).loc Cert.WeightsIdeal.main_arg1) (boxIdx (i 0) (i 3) 0)) (m ((c.tc : Thread Cert.WeightsIdeal.nD Cert.WeightsIdeal.τ).loc Cert.WeightsIdeal.main_arg1) (boxIdx (i 0) (i 3) 2)) :=
    congrArg₂ (binOf (F := Ideal)) (coord0_at _ (i 0) (i 3)) (coord2_at _ (i 0) (i 3))
  rw [e1, e2, show FloatOps.sitofp (F := Ideal) .f32 (BitVec.ofNat 32 (i 1).val) = _ from bin_num (i 1), half_num (i 2), lower_word (i 2)]
  exact axis_eq 0x42C00000#32 0x42BE0000#32 95 (by decide) word_95 _ _ _ _ _

end Cert.Proof.WV

end
-- ==== Proof.PI.Checks.lean ====
/-
  The side conditions the sweep assumes of the words it reads, from the bounds on those words.
-/
module

public import proofs.«01_k».proof.KernelIdeal
public import proofs.«01_k».proof.Proof.Gen.KernelIdeal

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The 16-bit entry chunk `a` reads out of a list word: the high half from chunk 48 on. -/
def entry (a w : BitVec 32) : BitVec 32 :=
  Scalar.andi (Scalar.shrui w (Scalar.select (Scalar.cmpi .sge a 48#32) 16#32 0#32)) 65535#32

/-- Both halves of a list word name a row of the window buffer. -/
def WordOk (w : BitVec 32) : Prop := w.toNat % 65536 < 3080 ∧ w.toNat / 65536 < 3080

theorem entry_lt {a w : BitVec 32} (h : WordOk w) : (entry a w).toNat < 3080 := by
  have h48 : (48#32 : BitVec 32).toNat = 48 := rfl
  have key : ∀ s : BitVec 32, s = 16#32 ∨ s = 0#32 → (Scalar.andi (Scalar.shrui w s) 65535#32).toNat < 3080 := by
    rintro s (rfl | rfl)
    · show ((w >>> (16 : ℕ)) &&& 65535#32).toNat < 3080
      rw [BitVec.toNat_and, BitVec.toNat_ushiftRight, Nat.shiftRight_eq_div_pow]
      show (w.toNat / 2 ^ 16) &&& (2 ^ 16 - 1) < 3080
      rw [Nat.and_two_pow_sub_one_eq_mod]
      exact lt_of_le_of_lt (Nat.mod_le _ _) h.2
    · show ((w >>> (0 : ℕ)) &&& 65535#32).toNat < 3080
      rw [BitVec.toNat_and, BitVec.toNat_ushiftRight, Nat.shiftRight_eq_div_pow]
      show (w.toNat / 2 ^ 0) &&& (2 ^ 16 - 1) < 3080
      rw [Nat.and_two_pow_sub_one_eq_mod, pow_zero, Nat.div_one]
      exact h.1
  unfold entry
  apply key
  unfold Scalar.select
  split <;> simp

/-- The four slices of the packed codes and the row of the parameters an entry names. -/
theorem chk_entry {e : BitVec 32} (h : e.toNat < 3080) :
    (Scalar.addi (Scalar.muli (Scalar.shrui e 3#32) 15#32) (Scalar.muli 2#32 (Scalar.andi e 7#32))).toNat + 8 ≤ 5784
    ∧ 8 ∣ (Scalar.muli (Scalar.shrui e 3#32) 8#32).toNat
    ∧ (Scalar.muli (Scalar.shrui e 3#32) 8#32).toNat + 8 ≤ 3080 := by
  have key : ∀ n : Fin 3080, (fun e : BitVec 32 =>
      (Scalar.addi (Scalar.muli (Scalar.shrui e 3#32) 15#32) (Scalar.muli 2#32 (Scalar.andi e 7#32))).toNat + 8 ≤ 5784
      ∧ 8 ∣ (Scalar.muli (Scalar.shrui e 3#32) 8#32).toNat
      ∧ (Scalar.muli (Scalar.shrui e 3#32) 8#32).toNat + 8 ≤ 3080) (BitVec.ofNat 32 n.val) := by decide +kernel
  have := key ⟨e.toNat, h⟩
  simpa only [BitVec.ofNat_toNat, BitVec.setWidth_eq] using this

theorem chk2_of (a w : BitVec 32) (h : WordOk w) : k0_chk2 a w := by
  have he := chk_entry (entry_lt (a := a) h)
  refine ⟨?_, ?_, ?_, ?_, he.2.1, ?_⟩
  case refine_5 =>
    intro x
    match x with
    | ⟨0, _⟩ => exact he.2.2
    | ⟨1, _⟩ => show 0 + 128 ≤ 128; omega
  all_goals
    intro x
    match x with
    | ⟨0, _⟩ => first | (show 0 + 1 ≤ 4; omega) | (show 1 + 1 ≤ 4; omega) | (show 2 + 1 ≤ 4; omega) | (show 3 + 1 ≤ 4; omega)
    | ⟨1, _⟩ => exact he.1
    | ⟨2, _⟩ => show 0 + 128 ≤ 128; omega

theorem chk3_of (a w : BitVec 32) (h : WordOk w) : k0_chk3 a w := chk2_of a w h
theorem chk4_of (a w : BitVec 32) (h : WordOk w) : k0_chk4 a w := chk2_of a w h
theorem chk5_of (a w : BitVec 32) (h : WordOk w) : k0_chk5 a w := chk2_of a w h
theorem chk6_of (a w : BitVec 32) (h : WordOk w) : k0_chk6 a w := chk2_of a w h
theorem chk7_of (a w : BitVec 32) (h : WordOk w) : k0_chk7 a w := chk2_of a w h
theorem chk8_of (a w : BitVec 32) (h : WordOk w) : k0_chk8 a w := chk2_of a w h
theorem chk9_of (a w : BitVec 32) (h : WordOk w) : k0_chk9 a w := chk2_of a w h

theorem chk10_of (t : BitVec 32) (h : t.toNat ≤ 192) : k0_chk10 t := by
  have key : ∀ n : Fin 193, k0_chk10 (BitVec.ofNat 32 n.val) := by decide +kernel
  have := key ⟨t.toNat, by omega⟩
  simpa only [BitVec.ofNat_toNat, BitVec.setWidth_eq] using this

theorem chk1_of (t a : BitVec 32) (h : t.toNat ≤ 192) (ha : a.toNat ≤ 95) : k0_chk1 t a := by
  have key : ∀ n : Fin 96, k0_chk1 0#32 (BitVec.ofNat 32 n.val) := by decide +kernel
  have h1 := key ⟨a.toNat, by omega⟩
  simp only [BitVec.ofNat_toNat, BitVec.setWidth_eq] at h1
  have ht : t.toNat + 1 ≤ 256 := by omega
  obtain ⟨p1, p2, p3, p4, p5, p6, p7, p8⟩ := h1
  have mk : ∀ f g : Fin 3 → ℕ, (∀ x, f x + S1x1x1.size x ≤ S1x384x256.size x) → g 0 = 0 → g 1 = f 1 → g 2 = t.toNat →
      ∀ x, g x + S1x1x1.size x ≤ S1x384x256.size x := by
    intro f g hf h0 h1 h2 x
    match x with
    | ⟨0, _⟩ => show g 0 + 1 ≤ 1; omega
    | ⟨1, _⟩ => have := hf 1; show g 1 + 1 ≤ 384; rw [h1]; exact this
    | ⟨2, _⟩ => show g 2 + 1 ≤ 256; omega
  exact ⟨mk _ _ p1 rfl rfl rfl, mk _ _ p2 rfl rfl rfl, mk _ _ p3 rfl rfl rfl, mk _ _ p4 rfl rfl rfl, mk _ _ p5 rfl rfl rfl,
    mk _ _ p6 rfl rfl rfl, mk _ _ p7 rfl rfl rfl, mk _ _ p8 rfl rfl rfl⟩

/-- How many chunks of column `n` entries are run: one for an empty column, else eight entries a chunk. -/
def chunksOf (n : BitVec 32) : BitVec 32 := Scalar.maxsi 1#32 (Scalar.shrsi (Scalar.addi n 7#32) 3#32)
/-- The chunk after `(t, a)` of a column of `n` entries: its tile. -/
def nextT (n t a : BitVec 32) : BitVec 32 :=
  Scalar.minsi (Scalar.select (Scalar.cmpi .sge (Scalar.addi a 1#32) (chunksOf n)) (Scalar.addi t 1#32) t) 192#32
/-- The chunk after `(t, a)` of a column of `n` entries: its number within the tile. -/
def nextC (n a : BitVec 32) : BitVec 32 :=
  Scalar.select (Scalar.cmpi .sge (Scalar.addi a 1#32) (chunksOf n)) 0#32 (Scalar.addi a 1#32)

/-- How many chunks the sweep can still take from `(t, a)`, and none from past the last tile. -/
def mu (t a : BitVec 32) : ℕ := if 192 ≤ t.toNat then 0 else (192 - t.toNat) * 97 + (96 - a.toNat)

theorem chunksOf_range {n : BitVec 32} (h : n.toInt ≤ 768) : 1 ≤ (chunksOf n).toNat ∧ (chunksOf n).toNat ≤ 96 := by
  have hr := Affine.word_range n
  have h1 : Affine.IsInt (Scalar.addi n 7#32) (n.toInt + 7) := Affine.addi (Affine.word n) (Affine.ofNat 7 ⟨rfl, by omega⟩) ⟨rfl, by omega, by omega⟩
  have h2 : Affine.IsInt (Scalar.shrsi (Scalar.addi n 7#32) 3#32) ((n.toInt + 7) / 8) :=
    Affine.shrsi h1 (Affine.ofNat (e := 3) 3 ⟨rfl, by omega⟩) 3 8 rfl ⟨rfl, rfl, by omega⟩
  have h3 : Affine.IsInt (chunksOf n) (max 1 ((n.toInt + 7) / 8)) := Affine.maxsi (Affine.ofNat 1 ⟨rfl, by omega⟩) h2 rfl
  unfold Affine.IsInt at h3
  have h5 : (chunksOf n).toInt = (chunksOf n).toNat := by
    have := BitVec.toInt_eq_toNat_cond (chunksOf n)
    have hl := (chunksOf n).isLt
    split at this <;> omega
  omega

theorem next_toNat {n t a : BitVec 32} (h : n.toInt ≤ 768) (ht : t.toNat ≤ 192) (ha : a.toNat ≤ 95) :
    (nextT n t a).toNat = (if (chunksOf n).toNat ≤ a.toNat + 1 then min (t.toNat + 1) 192 else t.toNat)
    ∧ (nextC n a).toNat = (if (chunksOf n).toNat ≤ a.toNat + 1 then 0 else a.toNat + 1) := by
  have hk := chunksOf_range h
  have h1 : (Scalar.addi a 1#32).toNat = a.toNat + 1 := by
    show (a + 1#32).toNat = _
    rw [BitVec.toNat_add]; show (a.toNat + 1) % 2 ^ 32 = _; omega
  have h2 : (Scalar.addi t 1#32).toNat = t.toNat + 1 := by
    show (t + 1#32).toNat = _
    rw [BitVec.toNat_add]; show (t.toNat + 1) % 2 ^ 32 = _; omega
  have hm : ∀ x : BitVec 32, x.toNat ≤ 193 → (Scalar.minsi x 192#32).toNat = min x.toNat 192 := by
    have key : ∀ m : Fin 194, (Scalar.minsi (BitVec.ofNat 32 m.val) 192#32).toNat = min (BitVec.ofNat 32 m.val).toNat 192 := by
      decide +kernel
    intro x hx
    have := key ⟨x.toNat, by omega⟩
    simpa only [BitVec.ofNat_toNat, BitVec.setWidth_eq] using this
  have hc : Scalar.cmpi .sge (Scalar.addi a 1#32) (chunksOf n) = 1#1 ↔ (chunksOf n).toNat ≤ a.toNat + 1 := by
    have key : ∀ x y : BitVec 32, x.toNat ≤ 96 → y.toNat ≤ 96 → (Scalar.cmpi .sge x y = 1#1 ↔ y.toNat ≤ x.toNat) := by
      have key : ∀ p q : Fin 97, (Scalar.cmpi .sge (BitVec.ofNat 32 p.val) (BitVec.ofNat 32 q.val) = 1#1
          ↔ (BitVec.ofNat 32 q.val).toNat ≤ (BitVec.ofNat 32 p.val).toNat) := by decide +kernel
      intro x y hx hy
      have := key ⟨x.toNat, by omega⟩ ⟨y.toNat, by omega⟩
      simpa only [BitVec.ofNat_toNat, BitVec.setWidth_eq] using this
    rw [key _ _ (by omega) hk.2, h1]
  unfold nextT nextC Scalar.select
  change ((Scalar.minsi (if Scalar.cmpi CmpIPredicate.sge (Scalar.addi a 1#32) (chunksOf n) = 1#1 then Scalar.addi t 1#32 else t)
      192#32).toNat = _) ∧ (if Scalar.cmpi CmpIPredicate.sge (Scalar.addi a 1#32) (chunksOf n) = 1#1 then 0#32 else Scalar.addi a 1#32).toNat = _
  by_cases hq : (chunksOf n).toNat ≤ a.toNat + 1
  · rw [if_pos (hc.2 hq), if_pos (hc.2 hq), if_pos hq, if_pos hq, hm _ (by omega), h2]; exact ⟨rfl, rfl⟩
  · rw [if_neg (fun h => hq (hc.1 h)), if_neg (fun h => hq (hc.1 h)), if_neg hq, if_neg hq, hm _ (by omega), h1]
    exact ⟨by omega, rfl⟩

/-- One chunk keeps the bounds and lowers the measure, or stays past the last tile. -/
theorem next_ok {n t a : BitVec 32} (h : n.toInt ≤ 768) (ht : t.toNat ≤ 192) (ha : a.toNat ≤ 95) :
    (nextT n t a).toNat ≤ 192 ∧ (nextC n a).toNat ≤ 95 ∧ mu (nextT n t a) (nextC n a) ≤ mu t a - 1 := by
  have hk := chunksOf_range h
  obtain ⟨h1, h2⟩ := next_toNat h ht ha
  unfold mu
  rw [h1, h2]
  split_ifs <;> first | omega | (refine ⟨by omega, by omega, ?_⟩; split_ifs <;> omega)

end Cert.Proof.PI

end
-- ==== Proof.PI.Chunk.lean ====
/-
  One chunk of the sweep: eight list entries weighed into one tile of the result.
-/
module

public import proofs.«01_k».proof.KernelIdeal
public import proofs.«01_k».proof.Proof.Gen.KernelIdeal
public import proofs.«01_k».proof.Proof.Gen.KernelIdeal.Skeleton
public import proofs.«01_k».proof.Proof.Gen.KernelIdeal.Loops
public import proofs.«01_k».proof.Proof.PI.Checks
public import Idealize.ShloMosaic.Lib.Pipeline.Frame
public import Idealize.ShloMosaic.Lib.Tactic

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
abbrev 𝒱₀ : Variants := Variants.nat

/-- A memref's buffer held whole at raw contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The sweep's chunk, as `cc0_while1` runs it eight times a turn. -/
def chunkBody (i : grid0.Coords) (v7 : FVec F S8x128 .f32) (arg3 : Memref sig .tc .smem S1x384x256 .i32) (harg3 : arg3.IsWhole) (arg6 : Memref sig .tc .vmem S4x5784x128 .i32) (harg6 : arg6.IsWhole) (arg7 : Memref sig .tc .vmem S3080x128 .f32) (harg7 : arg7.IsWhole) (v22 : IVec S8x128 32) (v15 : FVec F S8x128 .f32) (v17 : IVec S8x128 1) (v10 : FVec F S8x128 .f32) (v20 : FVec F S8x128 .f32) (arg5 : Memref sig .tc .vmem S1x6144x512 .f32) (harg5 : arg5.IsWhole) (arg4 : Memref sig .tc .smem S1x1x256 .i32) (harg4 : arg4.IsWhole) (arg8 : BitVec 32) (arg9 : BitVec 32) :
    Fin k0_t5_loop.trips → BitVec 32 × BitVec 32 → Prog (TpuEff nD τ sig (Elt F) (Λ₀ F) .tc) (BitVec 32 × BitVec 32) :=
  fun k0_t5 (arg11, arg12) => do
      let ⟨k0_hw10, k0_hw1, v29, v31, v33, v37, v38, v41, v44, v49, k0_hw2, v52, v53, v56, v59⟩ : Σ' (k0_hw10 : k0_chk10 arg11) (k0_hw1 : k0_chk1 arg11 arg12) (v29 : BitVec 1) (v31 : BitVec 32) (v33 : BitVec 32) (v37 : BitVec 32) (v38 : BitVec 32) (v41 : FVec F S8x128 .f32) (v44 : FVec F S8x128 .f32) (v49 : Elt F .i32) (k0_hw2 : k0_chk2 arg12 v49) (v52 : BitVec 32) (v53 : BitVec 32) (v56 : BitVec 32), IVec S8x128 32 ← k0_part6 i v7 arg3 harg3 arg6 harg6 arg7 harg7 v22 v15 v17 v10 v20 arg5 harg5 arg4 harg4 arg8 arg9 0#32 1#32 k0_t5 arg11 arg12
      let ⟨v62, v65, v68, v72, v73, v78, k0_hw3, v81, v82, v88, v91, v94⟩ : Σ' (v62 : IVec S8x128 32) (v65 : IVec S8x128 32) (v68 : IVec S8x128 32) (v72 : Vec F S8x128 .f32) (v73 : IVec S8x128 32) (v78 : Elt F .i32) (k0_hw3 : k0_chk3 arg12 v78) (v81 : BitVec 32) (v82 : BitVec 32) (v88 : IVec S8x128 32) (v91 : IVec S8x128 32), IVec S8x128 32 ← k0_part7 i v7 arg3 harg3 arg6 harg6 arg7 harg7 v22 v15 v17 v10 v20 arg5 harg5 arg4 harg4 arg8 arg9 arg11 arg12 k0_hw1 v37 v38 v49 k0_hw2 v52 v53 v56
      let ⟨v97, v105, v108, v113, k0_hw4, v116, v117, v123, v126, v129, v132, c8_i32_68⟩ : Σ' (v97 : IVec S8x128 32) (v105 : Vec F S8x128 .f32) (v108 : IVec S8x128 32) (v113 : Elt F .i32) (k0_hw4 : k0_chk4 arg12 v113) (v116 : BitVec 32) (v117 : BitVec 32) (v123 : IVec S8x128 32) (v126 : IVec S8x128 32) (v129 : IVec S8x128 32) (v132 : IVec S8x128 32), BitVec 32 ← k0_part8 i v7 arg3 harg3 arg6 harg6 arg7 harg7 v22 v15 v17 v10 v20 arg5 harg5 arg4 harg4 arg8 arg9 arg11 arg12 k0_hw1 v37 v38 v72 v73 v78 k0_hw3 v81 v82
      let ⟨v140, v143, v148, k0_hw5, v152, v158, v161, v164, v167⟩ : Σ' (v140 : Vec F S8x128 .f32) (v143 : IVec S8x128 32) (v148 : Elt F .i32) (k0_hw5 : k0_chk5 arg12 v148) (v152 : BitVec 32) (v158 : IVec S8x128 32) (v161 : IVec S8x128 32) (v164 : IVec S8x128 32), IVec S8x128 32 ← k0_part9 i v7 arg3 harg3 arg6 harg6 arg7 harg7 v22 v15 v17 v10 v20 arg5 harg5 arg4 harg4 arg8 arg9 arg11 arg12 k0_hw1 v37 v38 v105 v108 v113 k0_hw4 v116 v117 c8_i32_68
      let ⟨v175, v201, v216⟩ : Σ' (v175 : Vec F S8x128 .f32) (v201 : FVec F S8x128 .f32), FVec F S8x128 .f32 ← k0_part10 i v7 arg3 harg3 arg6 harg6 arg7 harg7 v22 v15 v17 v10 v20 arg5 harg5 arg4 harg4 arg8 arg9 arg12 v140 v143 v148 k0_hw5 v152
      let ⟨v266, v267⟩ : Σ' (v266 : FVec F S32x128 .f32), BitVec 32 ← k0_part11 i v7 arg3 harg3 arg6 harg6 arg7 harg7 v22 v15 v17 v10 v20 arg5 harg5 arg4 harg4 arg8 arg9 v37 v41 v44 v175 v201 v216
      let ⟨v281, v284, v287, v290, v294, v295, v300, k0_hw7, v302, v303⟩ : Σ' (v281 : IVec S8x128 32) (v284 : IVec S8x128 32) (v287 : IVec S8x128 32) (v290 : IVec S8x128 32) (v294 : Vec F S8x128 .f32) (v295 : IVec S8x128 32) (v300 : Elt F .i32) (k0_hw7 : k0_chk7 arg12 v300) (v302 : BitVec 32), BitVec 32 ← k0_part12 i v7 arg3 harg3 arg6 harg6 arg7 harg7 v22 v15 v17 v10 v20 arg5 harg5 arg4 harg4 arg8 arg9 arg11 arg12 k0_hw1 v37 v38 v267
      let ⟨v310, v313, v316, v319, v327, v330, v335, k0_hw8, v338, v339, v340⟩ : Σ' (v310 : IVec S8x128 32) (v313 : IVec S8x128 32) (v316 : IVec S8x128 32) (v319 : IVec S8x128 32) (v327 : Vec F S8x128 .f32) (v330 : IVec S8x128 32) (v335 : Elt F .i32) (k0_hw8 : k0_chk8 arg12 v335) (v338 : BitVec 32) (v339 : BitVec 32), BitVec 32 ← k0_part13 i v7 arg3 harg3 arg6 harg6 arg7 harg7 v22 v15 v17 v10 v20 arg5 harg5 arg4 harg4 arg8 arg9 arg11 arg12 k0_hw1 v37 v38 v294 v295 v300 k0_hw7 v302 v303
      let ⟨v345, v348, v351, v354, v362, v365, v370, k0_hw9, v373, v374, v377⟩ : Σ' (v345 : IVec S8x128 32) (v348 : IVec S8x128 32) (v351 : IVec S8x128 32) (v354 : IVec S8x128 32) (v362 : Vec F S8x128 .f32) (v365 : IVec S8x128 32) (v370 : Elt F .i32) (k0_hw9 : k0_chk9 arg12 v370) (v373 : BitVec 32) (v374 : BitVec 32), BitVec 32 ← k0_part14 i v7 arg3 harg3 arg6 harg6 arg7 harg7 v22 v15 v17 v10 v20 arg5 harg5 arg4 harg4 arg8 arg9 arg11 arg12 k0_hw1 v37 v38 v327 v330 v335 k0_hw8 v338 v339 v340
      let ⟨v380, v383, v386, v389, v397, v404, v406, v408, v416, v418, v420⟩ : Σ' (v380 : IVec S8x128 32) (v383 : IVec S8x128 32) (v386 : IVec S8x128 32) (v389 : IVec S8x128 32) (v397 : Vec F S8x128 .f32) (v404 : FVec F S8x128 .f32) (v406 : FVec F S8x128 .f32) (v408 : IVec S8x128 1) (v416 : IVec S8x128 1) (v418 : FVec F S8x128 .f32), FVec F S8x128 .f32 ← k0_part15 i v7 arg3 harg3 arg6 harg6 arg7 harg7 v22 v15 v17 v10 v20 arg5 harg5 arg4 harg4 arg8 arg9 arg12 v362 v365 v370 k0_hw9 v373 v374 v377
      let ⟨v455, v464, v467, cst_207⟩ : Σ' (v455 : FVec F S8x128 .f32) (v464 : FVec F S8x128 .f32) (v467 : FVec F S8x128 .f32), F .f32 ← k0_part16 i v7 arg3 harg3 arg6 harg6 arg7 harg7 v22 v15 v17 v10 v20 arg5 harg5 arg4 harg4 arg8 arg9 v41 v44 v404 v406 v408 v416 v418 v420
      let ⟨v497, v502, v507, v512, v517, v522, v523, v524, v525, v526⟩ : Σ' (v497 : FVec F S96x256 .bf16) (v502 : FVec F S32x512 .fp8e5m2) (v507 : FVec F S32x512 .fp8e5m2) (v512 : FVec F S32x512 .fp8e5m2) (v517 : FVec F S32x512 .fp8e5m2) (v522 : FVec F S32x512 .fp8e5m2) (v523 : FVec F S32x128 .fp8e5m2) (v524 : FVec F S32x128 .fp8e5m2) (v525 : FVec F S32x128 .fp8e5m2), FVec F S32x128 .fp8e5m2 ← k0_part17 i v7 arg3 harg3 arg6 harg6 arg7 harg7 v22 v15 v17 v10 v20 arg5 harg5 arg4 harg4 arg8 arg9 v59 v62 v65 v68 v88 v91 v94 v97 v123 v126 v129 v132 v158 v161 v164 v167 v266 v281 v284 v287 v290 v310 v313 v316 v319 v397 v455 v464 v467 cst_207
      let ⟨v544, v570⟩ : Σ' (v544 : FVec F S32x512 .f32), FVec F S8x512 .f32 ← k0_part18 i v7 arg3 harg3 arg6 harg6 arg7 harg7 v22 v15 v17 v10 v20 arg5 harg5 arg4 harg4 arg8 arg9 arg11 k0_hw10 v29 v31 v33 v345 v348 v351 v354 v380 v383 v386 v389 v497 v502 v507 v512 v517 v522 v523 v524 v525 v526
      let ⟨v605, v608, c3_i32_241⟩ : Σ' (v605 : BitVec 32) (v608 : BitVec 32), BitVec 32 ← k0_part19 i v7 arg3 harg3 arg6 harg6 arg7 harg7 v22 v15 v17 v10 v20 arg5 harg5 arg4 harg4 arg8 arg9 arg11 arg12 k0_hw10 v29 v31 v33 v544 v570
      let v609 : BitVec 32 := Scalar.shrsi v608 c3_i32_241
      let v610 : BitVec 32 := Scalar.maxsi 1#32 v609
      let v611 : BitVec 1 := Scalar.cmpi .sge v605 v610
      let v612 : BitVec 32 := Scalar.addi arg11 1#32
      let v613 : BitVec 32 := Scalar.select v611 v612 arg11
      let v614 : BitVec 32 := Scalar.minsi v613 192#32
      let v615 : BitVec 32 := Scalar.select v611 0#32 v605
      pure (v614, v615)

section
variable (c : Dev nD) (i : grid0.Coords) (v7 : FVec F S8x128 .f32) (arg3 : Memref sig .tc .smem S1x384x256 .i32) (harg3 : arg3.IsWhole) (arg6 : Memref sig .tc .vmem S4x5784x128 .i32) (harg6 : arg6.IsWhole) (arg7 : Memref sig .tc .vmem S3080x128 .f32) (harg7 : arg7.IsWhole) (v22 : IVec S8x128 32) (v15 : FVec F S8x128 .f32) (v17 : IVec S8x128 1) (v10 : FVec F S8x128 .f32) (v20 : FVec F S8x128 .f32) (arg5 : Memref sig .tc .vmem S1x6144x512 .f32) (harg5 : arg5.IsWhole) (arg4 : Memref sig .tc .smem S1x1x256 .i32) (harg4 : arg4.IsWhole)

theorem chunk_run (bd : Option 𝒱₀.V) (arg8 arg9 : BitVec 32) (k : Fin k0_t5_loop.trips) (t a : BitVec 32)
    (f3 : Buf (Elt F) (arg3.view.loc (c : Thread nD τ))) (f4 : Buf (Elt F) (arg4.view.loc (c : Thread nD τ)))
    (f5 : Buf (Elt F) (arg5.view.loc (c : Thread nD τ)))
    (f6 : Buf (Elt F) (arg6.view.loc (c : Thread nD τ))) (f7 : Buf (Elt F) (arg7.view.loc (c : Thread nD τ)))
    (hL : ∀ x, WordOk (arg3.view.read (Elt F) f3 x)) (hC : ∀ x, (arg4.view.read (Elt F) f4 x : BitVec 32).toInt ≤ 768)
    (ht : t.toNat ≤ 192) (ha : a.toNat ≤ 95) :
    iprop(pt c arg3 f3 ∗ pt c arg4 f4 ∗ pt c arg5 f5 ∗ pt c arg6 f6 ∗ pt c arg7 f7) ⊢ wp frame (wpE (defs₀ (F := F)) 𝒱₀ (c : Thread nD τ) bd) Set.univ
      (chunkBody (F := F) i v7 arg3 harg3 arg6 harg6 arg7 harg7 v22 v15 v17 v10 v20 arg5 harg5 arg4 harg4 arg8 arg9 k (t, a))
      (fun r => iprop((∃ f, pt c arg5 f) ∗ pt c arg3 f3 ∗ pt c arg4 f4 ∗ pt c arg6 f6 ∗ pt c arg7 f7 ∗ ⌜∃ x, (x 2).val = t.toNat ∧ r = (nextT (arg4.view.read (Elt F) f4 x) t a, nextC (arg4.view.read (Elt F) f4 x) a)⌝)) := by
  have h10 := chk10_of t ht
  have h1 := chk1_of t a ht ha
  unfold chunkBody
  iintro ⟨H3, H4, H5, H6, H7⟩
  sl_exec (disch := (with_reducible first | refine chk2_of _ _ ?_ | refine chk3_of _ _ ?_ | refine chk4_of _ _ ?_ | refine chk5_of _ _ ?_ | refine chk6_of _ _ ?_ | refine chk7_of _ _ ?_ | refine chk8_of _ _ ?_ | refine chk9_of _ _ ?_) <;> exact hL _)
  sl_step
  isplitl [H5]; · iexists _; iexact H5
  isplitl [H3]; · iexact H3
  isplitl [H4]; · iexact H4
  isplitl [H6]; · iexact H6
  isplitl [H7]; · iexact H7
  ipureintro
  refine ⟨(Rect.unit (s := S1x1x256) (k0_off54 t) S1x1x1.size (k0_off54_inb t h10)).toLoadRect.idx (Shape.Idx.first (numel1_S1x1x1.symm ▸ Nat.one_pos)), rfl, ?_⟩
  delta chunk_run.sl.v614 chunk_run.sl.v615 chunk_run.sl.v613 chunk_run.sl.v612 chunk_run.sl.v611 chunk_run.sl.v610 chunk_run.sl.v609 chunk_run.sl.v608 chunk_run.sl.v605 chunk_run.sl.r_38
  delta nextT nextC chunksOf
  rfl

end

end Cert.Proof.PI

end
-- ==== Proof.PI.While.lean ====
/-
  The sweep: the label that runs chunks until the last tile is past, by induction on the chunks still ahead.
-/
module

public import proofs.«01_k».proof.Proof.PI.Chunk

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (v7 : FVec F S8x128 .f32) (arg3 : Memref sig .tc .smem S1x384x256 .i32) (harg3 : arg3.IsWhole) (arg6 : Memref sig .tc .vmem S4x5784x128 .i32) (harg6 : arg6.IsWhole) (arg7 : Memref sig .tc .vmem S3080x128 .f32) (harg7 : arg7.IsWhole) (v22 : IVec S8x128 32) (v15 : FVec F S8x128 .f32) (v17 : IVec S8x128 1) (v10 : FVec F S8x128 .f32) (v20 : FVec F S8x128 .f32) (arg5 : Memref sig .tc .vmem S1x6144x512 .f32) (harg5 : arg5.IsWhole) (arg4 : Memref sig .tc .smem S1x1x256 .i32) (harg4 : arg4.IsWhole)

set_option maxRecDepth 65536 in
/-- The label's body: eight chunks and the call of itself while a tile is left. -/
theorem while_eq (t a : BitVec 32) :
    cc0_while1 (F := F) i v7 arg3 harg3 arg6 harg6 arg7 harg7 v22 v15 v17 v10 v20 arg5 harg5 arg4 harg4 t a
      = if Scalar.cmpi .slt t 192#32 = 1#1 then
          (Scf.Loop.for k0_t5_loop k0_t5_ok (t, a) (chunkBody i v7 arg3 harg3 arg6 harg6 arg7 harg7 v22 v15 v17 v10 v20 arg5 harg5 arg4 harg4 t a) >>= fun p =>
            Prog.op (.call (1 : (Λ₀ F).Label) ⟨i, v7, arg3, harg3, arg6, harg6, arg7, harg7, v22, v15, v17, v10, v20, arg5, harg5, arg4, harg4, p.1, p.2⟩) .ret)
        else Prog.ret (t, a) := by
  rw [cc0_while1_eq_skeleton]; rfl

theorem slt_iff {t : BitVec 32} (ht : t.toNat ≤ 192) : Scalar.cmpi .slt t 192#32 = 1#1 ↔ t.toNat < 192 := by
  have key : ∀ n : Fin 193, (Scalar.cmpi .slt (BitVec.ofNat 32 n.val) 192#32 = 1#1 ↔ (BitVec.ofNat 32 n.val).toNat < 192) := by decide +kernel
  have := key ⟨t.toNat, by omega⟩
  simpa only [BitVec.ofNat_toNat, BitVec.setWidth_eq] using this

variable (f3 : Buf (Elt F) (arg3.view.loc (c : Thread nD τ))) (f4 : Buf (Elt F) (arg4.view.loc (c : Thread nD τ)))
    (f6 : Buf (Elt F) (arg6.view.loc (c : Thread nD τ))) (f7 : Buf (Elt F) (arg7.view.loc (c : Thread nD τ)))

/-- What the sweep holds: what it reads at its contents and the result at `f5`. -/
abbrev held (f5 : Buf (Elt F) (arg5.view.loc (c : Thread nD τ))) : sProp 𝕄 :=
  iprop(pt c arg3 f3 ∗ pt c arg4 f4 ∗ pt c arg5 f5 ∗ pt c arg6 f6 ∗ pt c arg7 f7)

variable (J : BitVec 32 → BitVec 32 → Buf (Elt F) (arg5.view.loc (c : Thread nD τ)) → Prop)

/-- Holding the sweep's buffers with the result at contents `J` admits for the state `r`, within bounds. -/
abbrev heldJ (m : ℕ) (r : BitVec 32 × BitVec 32) : sProp 𝕄 :=
  iprop(∃ f5, held c arg3 arg6 arg7 arg5 arg4 f3 f4 f6 f7 f5 ∗ ⌜r.1.toNat ≤ 192 ∧ r.2.toNat ≤ 95 ∧ mu r.1 r.2 ≤ m ∧ J r.1 r.2 f5⌝)

/-- One chunk keeps `J`. -/
def ChunkKeeps : Prop :=
  ∀ (bd : Option 𝒱₀.V) (arg8 arg9 : BitVec 32) (k : Fin k0_t5_loop.trips) (t a : BitVec 32) (f5 : Buf (Elt F) (arg5.view.loc (c : Thread nD τ))),
    t.toNat ≤ 192 → a.toNat ≤ 95 → J t a f5 →
    held c arg3 arg6 arg7 arg5 arg4 f3 f4 f6 f7 f5 ⊢ wp frame (wpE (defs₀ (F := F)) 𝒱₀ (c : Thread nD τ) bd) Set.univ
      (chunkBody (F := F) i v7 arg3 harg3 arg6 harg6 arg7 harg7 v22 v15 v17 v10 v20 arg5 harg5 arg4 harg4 arg8 arg9 k (t, a))
      (fun r => heldJ c arg3 arg6 arg7 arg5 arg4 f3 f4 f6 f7 J (mu t a - 1) r)

variable (hJ : ChunkKeeps c i v7 arg3 harg3 arg6 harg6 arg7 harg7 v22 v15 v17 v10 v20 arg5 harg5 arg4 harg4 f3 f4 f6 f7 J)

include hJ in
set_option warn.classDefReducibility false in
/-- Eight chunks by their invariant: `k` chunks on, the measure has fallen by `k`. -/
def loopInv_t5 (bd : Option 𝒱₀.V) (t a : BitVec 32) :
    LoopInv (M := 𝕄) Idealize.ShloMosaic.frame (wpE (defs₀ (F := F)) 𝒱₀ (c : Thread nD τ) bd) Set.univ
      k0_t5_loop.lb k0_t5_loop.ub k0_t5_loop.st k0_t5_ok (t, a) (chunkBody (F := F) i v7 arg3 harg3 arg6 harg6 arg7 harg7 v22 v15 v17 v10 v20 arg5 harg5 arg4 harg4 t a) where
  inv := fun k r => heldJ c arg3 arg6 arg7 arg5 arg4 f3 f4 f6 f7 J (mu t a - k) r
  step := fun k r => by
    iintro ⟨%f5, H, %h⟩
    iapply (wp_wand_r Idealize.ShloMosaic.frame (wpE (defs₀ (F := F)) 𝒱₀ (c : Thread nD τ) bd) Set.univ)
    isplitl [H]
    · iapply (hJ bd t a k r.1 r.2 f5 h.1 h.2.1 h.2.2.2); iexact H
    · iintro %r' ⟨%f5', H, %h'⟩
      iexists f5'
      isplitl [H]; · iexact H
      ipureintro
      exact ⟨h'.1, h'.2.1, by omega, h'.2.2.2⟩

include hJ in
/-- Past the eight chunks the measure has fallen by eight. -/
theorem loop_t5 (bd : Option 𝒱₀.V) (t a : BitVec 32) {β : Type} (kk : BitVec 32 × BitVec 32 → Prog (TpuEff nD τ sig (Elt F) (Λ₀ F) .tc) β) (Q : β → sProp 𝕄) :
    heldJ c arg3 arg6 arg7 arg5 arg4 f3 f4 f6 f7 J (mu t a) (t, a)
    ⊢ iprop((∀ r, heldJ c arg3 arg6 arg7 arg5 arg4 f3 f4 f6 f7 J (mu t a - 8) r -∗ wp frame (wpE (defs₀ (F := F)) 𝒱₀ (c : Thread nD τ) bd) Set.univ (kk r) Q)
      -∗ wp frame (wpE (defs₀ (F := F)) 𝒱₀ (c : Thread nD τ) bd) Set.univ (Scf.Loop.for k0_t5_loop k0_t5_ok (t, a) (chunkBody i v7 arg3 harg3 arg6 harg6 arg7 harg7 v22 v15 v17 v10 v20 arg5 harg5 arg4 harg4 t a) >>= kk) Q) := by
  have h := exec_loop Idealize.ShloMosaic.frame (wpE (defs₀ (F := F)) 𝒱₀ (c : Thread nD τ) bd) Set.univ _ _ _ k0_t5_ok (t, a)
        (chunkBody (F := F) i v7 arg3 harg3 arg6 harg6 arg7 harg7 v22 v15 v17 v10 v20 arg5 harg5 arg4 harg4 t a) (loopInv_t5 c i v7 arg3 harg3 arg6 harg6 arg7 harg7 v22 v15 v17 v10 v20 arg5 harg5 arg4 harg4 f3 f4 f6 f7 J hJ bd t a) (kk := kk) (Q := Q)
  have htr : Scf.trips k0_t5_loop.lb k0_t5_loop.ub k0_t5_loop.st = 8 := by decide +kernel
  rw [htr] at h
  exact h

include hJ in
/-- The label at `(t, a)`, entered with at least its measure of calls to go, ends past the last tile with `J` of its state. -/
theorem while_run : ∀ (n : ℕ) (t a : BitVec 32), mu t a ≤ n → ∀ (Q : BitVec 32 × BitVec 32 → sProp 𝕄),
    iprop(heldJ c arg3 arg6 arg7 arg5 arg4 f3 f4 f6 f7 J (mu t a) (t, a)
      ∗ (∀ r, (heldJ c arg3 arg6 arg7 arg5 arg4 f3 f4 f6 f7 J 0 r ∗ ⌜192 ≤ r.1.toNat⌝) -∗ Q r))
    ⊢ wp frame (wpE (defs₀ (F := F)) 𝒱₀ (c : Thread nD τ) (some n)) Set.univ
        (cc0_while1 (F := F) i v7 arg3 harg3 arg6 harg6 arg7 harg7 v22 v15 v17 v10 v20 arg5 harg5 arg4 harg4 t a) Q := by
  intro n
  induction n using Nat.strong_induction_on with
  | _ n ih =>
    intro t a hn Q
    rw [while_eq]
    iintro ⟨⟨%f5, H, %h⟩, Hk⟩
    have ht : t.toNat ≤ 192 := h.1
    by_cases hc : Scalar.cmpi .slt t 192#32 = 1#1
    · rw [if_pos hc]
      have hlt := (slt_iff ht).1 hc
      have hpos : 0 < mu t a := by unfold mu; rw [if_neg (by omega)]; omega
      iapply (loop_t5 c i v7 arg3 harg3 arg6 harg6 arg7 harg7 v22 v15 v17 v10 v20 arg5 harg5 arg4 harg4 f3 f4 f6 f7 J hJ (some n) t a) $$ [H]
      · iexists f5
        isplitl [H]; · iexact H
        ipureintro; exact ⟨h.1, h.2.1, le_rfl, h.2.2.2⟩
      iintro %r ⟨%f5', H, %h'⟩
      iapply (wp_call 𝒱₀ (c : Thread nD τ) (some n) Set.univ (mu r.1 r.2) (fun u hu => by cases hu; show mu r.1 r.2 < n; omega))
      iapply (ih (mu r.1 r.2) (by omega) r.1 r.2 le_rfl _)
      isplitl [H]
      · iexists f5'
        isplitl [H]; · iexact H
        ipureintro; exact ⟨h'.1, h'.2.1, le_rfl, h'.2.2.2⟩
      iintro %r' H
      rw [wp_ret]; imodintro
      iapply Hk; iexact H
    · rw [if_neg hc]
      have hge : 192 ≤ t.toNat := by
        by_contra hlt; exact hc ((slt_iff ht).2 (by omega))
      rw [wp_ret]; imodintro
      iapply Hk
      isplitl [H]
      · iexists f5
        isplitl [H]; · iexact H
        ipureintro; exact ⟨h.1, h.2.1, by unfold mu; rw [if_pos hge], h.2.2.2⟩
      · ipureintro; exact hge

include hJ in
/-- The sweep called from the kernel's body. -/
theorem sweep_run {β : Type} (kk : BitVec 32 × BitVec 32 → Prog (TpuEff nD τ sig (Elt F) (Λ₀ F) .tc) β) (Q : β → sProp 𝕄)
    (f5 : Buf (Elt F) (arg5.view.loc (c : Thread nD τ))) (h0 : J 0#32 0#32 f5) :
    iprop(held c arg3 arg6 arg7 arg5 arg4 f3 f4 f6 f7 f5
      ∗ (∀ r, (heldJ c arg3 arg6 arg7 arg5 arg4 f3 f4 f6 f7 J 0 r ∗ ⌜192 ≤ r.1.toNat⌝) -∗ wp frame (wpE (defs₀ (F := F)) 𝒱₀ (c : Thread nD τ) none) Set.univ (kk r) Q))
    ⊢ wp frame (wpE (defs₀ (F := F)) 𝒱₀ (c : Thread nD τ) none) Set.univ
        (Prog.op (.call (1 : (Λ₀ F).Label) ⟨i, v7, arg3, harg3, arg6, harg6, arg7, harg7, v22, v15, v17, v10, v20, arg5, harg5, arg4, harg4, 0#32, 0#32⟩) kk) Q := by
  iintro ⟨H, Hk⟩
  iapply (wp_call 𝒱₀ (c : Thread nD τ) none Set.univ (mu 0#32 0#32) (fun u hu => nomatch hu))
  iapply (while_run c i v7 arg3 harg3 arg6 harg6 arg7 harg7 v22 v15 v17 v10 v20 arg5 harg5 arg4 harg4 f3 f4 f6 f7 J hJ (mu 0#32 0#32) 0#32 0#32 le_rfl _)
  isplitl [H]
  · iexists f5
    isplitl [H]; · iexact H
    ipureintro; exact ⟨Nat.zero_le _, Nat.zero_le _, le_rfl, h0⟩
  iintro %r H
  iapply Hk; iexact H

end

end Cert.Proof.PI

end
-- ==== Proof.PV.Mat.lean ====
/-
  One chunk's product over the extended reals: the block of weights, its three parts, the stack of decoded bytes, and the sum.
-/
module

public import proofs.«01_k».proof.KernelIdeal
public import proofs.«01_k».proof.Proof.Gen.KernelIdeal
public import proofs.«01_k».proof.Proof.Gen.KernelIdeal.Skeleton
public import Idealize.ShloMosaic.Lib.Pipeline.Value
public import Idealize.ShloMosaic.Lib.KernelVsHost
public import Idealize.ShloMosaic.Lib.MatmulPlain
public import Idealize.ShloMosaic.Lib.BitcastFour
public import Idealize.ShloMosaic.PureOps.Ideal.Laws
public import Idealize.ShloMosaic.Lib.Pointwise.Index

@[expose] public section

noncomputable section

namespace Cert.Proof.PV

open Cert.KernelIdeal Cert.KernelIdeal.Gen
open Idealize.ShloMosaic Idealize.ShloMosaic.TcCoe

variable {F : FTy → Type} [FloatOps F]

/-- Where a sample lies on its axis, cut to the axis, and far off it for a sample that does not count: from the window's start
    `own` and bin size `oth` on the axis, the bin number `p` and the sample's offset `h` in bins. -/
def posK (h : BitVec 32) (own oth p size : F .f32) : F .f32 :=
  let q := FloatOps.addf (FloatOps.addf own (FloatOps.mulf p oth)) (FloatOps.mulf (Scalar.ofBits .f32 h) oth)
  Scalar.select (IntOp.andi (IntOp.andi (FloatOps.cmpf .oge q (Scalar.ofBits .f32 0xBF800000#32)) (FloatOps.cmpf .ole q size))
      (FloatOps.cmpf .olt p (Scalar.ofBits .f32 0x40E00000#32)))
    (FloatOps.minimumf (FloatOps.maximumf q (Scalar.ofBits .f32 0x00000000#32)) (FloatOps.subf size (Scalar.ofBits .f32 0x3F800000#32)))
    (Scalar.ofBits .f32 0xC61C4000#32)

/-- The hat of height one around `q`, at `v`. -/
def hatK (v q : F .f32) : F .f32 :=
  FloatOps.maximumf (FloatOps.subf (Scalar.ofBits .f32 0x3F800000#32) (FloatOps.absf (FloatOps.subf v q))) (Scalar.ofBits .f32 0x00000000#32)

/-- The two samples' hats at `v`, summed. -/
def axK (v own oth p size : F .f32) : F .f32 :=
  FloatOps.addf (hatK v (posK 0x3E800000#32 own oth p size)) (hatK v (posK 0x3F400000#32 own oth p size))

/-- The four entries' values, each on its quarter of the lanes. -/
def pick {α : Type} (v22 : IVec S8x128 32) (x0 x1 x2 x3 : S8x128.Idx → α) : S8x128.Idx → α :=
  select (cmpi .eq v22 (broadcast S8x128 3#32)) x3 (select (cmpi .eq v22 (broadcast S8x128 2#32)) x2 (select (cmpi .eq v22 (broadcast S8x128 1#32)) x1 x0))

/-- The weights of four entries on one tile: from the entries' parameters `T0` … `T3` and first bins `n0` … `n3`. -/
def half (v22 : IVec S8x128 32) (v15 : FVec F S8x128 .f32) (v17 : IVec S8x128 1) (v10 v20 v41 v44 : FVec F S8x128 .f32)
    (T0 T1 T2 T3 : FVec F S8x128 .f32) (n0 n1 n2 n3 : BitVec 32) : FVec F S32x128 .f32 :=
  let s := select (cmpi .eq v22 (broadcast S8x128 2#32)) T2 (select (cmpi .eq v22 (broadcast S8x128 1#32)) T1 T0)
  let n := select (cmpi .eq v22 (broadcast S8x128 2#32)) (broadcast S8x128 n2) (select (cmpi .eq v22 (broadcast S8x128 1#32)) (broadcast S8x128 n1) (broadcast S8x128 n0))
  k0_pay77 v41 v44 (k0_pay70 v22 s T3) (k0_pay75 v22 v15 v17 v10 v20 s n n3 T3) (k0_pay76 v22 v15 v17 v10 v20 s n n3 T3)

/-- Two blocks of weights side by side. -/
def beside (x y : FVec F S32x128 .f32) : FVec F S32x256 .f32 :=
  concatenate S32x256 1 [⟨S32x128, x⟩, ⟨S32x128, y⟩] concatenates_S32x128_S32x128_S32x256_d1

/-- Two blocks of weights side by side, in three parts one above the other. -/
def split3 (x y : FVec F S32x128 .f32) : FVec F S96x256 .bf16 :=
  let v489 := beside x y
  let v490 := truncf .bf16 v489 bitsLt_bf16_f32
  let v491 := extf .f32 v490 bitsLt_bf16_f32
  let v492 := subf v489 v491
  let v493 := truncf .bf16 v492 bitsLt_bf16_f32
  let v494 := extf .f32 v493 bitsLt_bf16_f32
  let v495 := subf v492 v494
  let v496 := truncf .bf16 v495 bitsLt_bf16_f32
  concatenate S96x256 0 [⟨S32x256, v490⟩, ⟨S32x256, v493⟩, ⟨S32x256, v496⟩] concatenates_S32x256_S32x256_S32x256_S96x256_d0

/-- One entry's bytes, decoded: the four lane groups side by side. -/
def bytes4 (a b c d : IVec S8x128 32) : FVec F S32x512 .fp8e5m2 := k0_pay114 a b c d

/-- The eight entries' bytes, one above the other. -/
def stack8 (b0 b1 b2 b3 b4 b5 b6 b7 : FVec F S32x512 .fp8e5m2) : FVec F S256x512 .fp8e5m2 :=
  concatenate S256x512 0 [⟨S32x512, b0⟩, ⟨S32x512, b1⟩, ⟨S32x512, b2⟩, ⟨S32x512, b3⟩, ⟨S32x512, b4⟩, ⟨S32x512, b5⟩, ⟨S32x512, b6⟩, ⟨S32x512, b7⟩] concatenates_S32x512_S32x512_S32x512_S32x512_S32x512_S32x512_S32x512_S32x512_S256x512_d0

/-- The product, and the sum of its three parts. -/
def prod3 (A : FVec F S96x256 .bf16) (B : FVec F S256x512 .fp8e5m2) : FVec F S32x512 .f32 :=
  let v539 := matmul dot_S96x256_S256x512_S96x512_1_0_0_1_n_n none A B (constant S96x512 .f32 0x00000000#32)
  addf (extractStridedSlice S32x512 ![0, 0] v539 slices_S96x512_o0_0_S32x512)
    (addf (extractStridedSlice S32x512 ![32, 0] v539 slices_S96x512_o32_0_S32x512) (extractStridedSlice S32x512 ![64, 0] v539 slices_S96x512_o64_0_S32x512))

/-- The sum the chunk adds, as the kernel builds it. -/
theorem pay123_eq (A : FVec F S96x256 .bf16) (b0 b1 b2 b3 b4 : FVec F S32x512 .fp8e5m2) (w5 w6 w7 x5 x6 x7 y5 y6 y7 z5 z6 z7 : IVec S8x128 32) :
    k0_pay123 w6 x6 y6 z6 w7 x7 y7 z7 A b0 b1 b2 b3 b4 (k0_pay119 w5) (k0_pay120 x5) (k0_pay121 y5) (k0_pay122 z5)
      = prod3 A (stack8 b0 b1 b2 b3 b4 (bytes4 w5 x5 y5 z5) (bytes4 w6 x6 y6 z6) (bytes4 w7 x7 y7 z7)) := rfl

/-! ### The weights at an index -/

theorem pay72_at (v22 : IVec S8x128 32) (s T3 : FVec F S8x128 .f32) (q q' : Fin 8) (l : Fin 128) (hq : q'.val = (q.val + 2) % 8) :
    k0_pay72 v22 s T3 (ix2 q l) = k0_pay70 v22 s T3 (ix2 q' l) := by
  unfold k0_pay72
  refine dynamicRotate_apply _ _ _ _ _ _ fun b => ?_
  match b with
  | ⟨0, _⟩ =>
    show q'.val = (q.val + 8 - 6 % 8) % 8
    omega
  | ⟨1, _⟩ => rfl

theorem pay75_at (v22 : IVec S8x128 32) (v15 : FVec F S8x128 .f32) (v17 : IVec S8x128 1) (v10 v20 s T3 : FVec F S8x128 .f32) (n : IVec S8x128 32) (n3 : BitVec 32)
    (q q' : Fin 8) (l : Fin 128) (hq : q'.val = (q.val + 2) % 8) :
    k0_pay75 v22 v15 v17 v10 v20 s n n3 T3 (ix2 q l)
      = posK 0x3E800000#32 (k0_pay70 v22 s T3 (ix2 q l)) (k0_pay70 v22 s T3 (ix2 q' l)) (k0_pay71 v22 v15 v17 v10 n n3 (ix2 q l)) (v20 (ix2 q l)) := by
  rw [← pay72_at v22 s T3 q q' l hq]; rfl

theorem pay76_at (v22 : IVec S8x128 32) (v15 : FVec F S8x128 .f32) (v17 : IVec S8x128 1) (v10 v20 s T3 : FVec F S8x128 .f32) (n : IVec S8x128 32) (n3 : BitVec 32)
    (q q' : Fin 8) (l : Fin 128) (hq : q'.val = (q.val + 2) % 8) :
    k0_pay76 v22 v15 v17 v10 v20 s n n3 T3 (ix2 q l)
      = posK 0x3F400000#32 (k0_pay70 v22 s T3 (ix2 q l)) (k0_pay70 v22 s T3 (ix2 q' l)) (k0_pay71 v22 v15 v17 v10 n n3 (ix2 q l)) (v20 (ix2 q l)) := by
  rw [← pay72_at v22 s T3 q q' l hq]; rfl

/-- A row of eight, spread over eight rows. -/
theorem spread_row (x : FVec F S8x128 .f32) (g : Fin 8) (off : Fin 2 → Nat) (hs : S8x128.Slices off S1x128) (h0 : off 0 = g.val) (h1 : off 1 = 0) (q : Fin 8) (l : Fin 128) :
    broadcastTo S8x128 (extractStridedSlice S1x128 off x hs) broadcasts_S1x128_S8x128 (ix2 q l) = x (ix2 g l) := by
  rw [broadcastTo_apply _ _ _ (ix2 (0 : Fin 1) l) (fun b => by match b with | ⟨0, _⟩ => rfl | ⟨1, _⟩ => rfl)]
  refine extractStridedSlice_apply _ _ _ _ _ fun b => ?_
  match b with
  | ⟨0, _⟩ => show g.val = off 0 + 0; omega
  | ⟨1, _⟩ => show l.val = off 1 + l.val; omega

/-- Four blocks of eight rows, one above the other. -/
theorem rows4_at (x0 x1 x2 x3 : FVec F S8x128 .f32) (m : Fin 32) (g : Fin 4) (q : Fin 8) (l : Fin 128) (hm : m.val = 8 * g.val + q.val) :
    concatenate S32x128 0 [⟨S8x128, x0⟩, ⟨S8x128, x1⟩, ⟨S8x128, x2⟩, ⟨S8x128, x3⟩] concatenates_S8x128_S8x128_S8x128_S8x128_S32x128_d0 (ix2 m l)
      = (match g with | 0 => x0 | 1 => x1 | 2 => x2 | 3 => x3) (ix2 q l) := by
  match g with
  | 0 => exact concatenate_apply_piece (t := S32x128) 0 [⟨S8x128, x0⟩, ⟨S8x128, x1⟩, ⟨S8x128, x2⟩, ⟨S8x128, x3⟩] concatenates_S8x128_S8x128_S8x128_S8x128_S32x128_d0 (ix2 m l) 0 (by show 0 < 4; omega) S8x128 x0 rfl rfl 0 rfl (ix2 q l) (fun b hb => by match b with | ⟨0, _⟩ => exact absurd rfl hb | ⟨1, _⟩ => rfl) (by show 0 + q.val = m.val; simp at hm; omega)
  | 1 => exact concatenate_apply_piece (t := S32x128) 0 [⟨S8x128, x0⟩, ⟨S8x128, x1⟩, ⟨S8x128, x2⟩, ⟨S8x128, x3⟩] concatenates_S8x128_S8x128_S8x128_S8x128_S32x128_d0 (ix2 m l) 1 (by show 1 < 4; omega) S8x128 x1 rfl rfl 8 rfl (ix2 q l) (fun b hb => by match b with | ⟨0, _⟩ => exact absurd rfl hb | ⟨1, _⟩ => rfl) (by show 8 + q.val = m.val; simp at hm; omega)
  | 2 => exact concatenate_apply_piece (t := S32x128) 0 [⟨S8x128, x0⟩, ⟨S8x128, x1⟩, ⟨S8x128, x2⟩, ⟨S8x128, x3⟩] concatenates_S8x128_S8x128_S8x128_S8x128_S32x128_d0 (ix2 m l) 2 (by show 2 < 4; omega) S8x128 x2 rfl rfl 16 rfl (ix2 q l) (fun b hb => by match b with | ⟨0, _⟩ => exact absurd rfl hb | ⟨1, _⟩ => rfl) (by show 16 + q.val = m.val; simp at hm; omega)
  | 3 => exact concatenate_apply_piece (t := S32x128) 0 [⟨S8x128, x0⟩, ⟨S8x128, x1⟩, ⟨S8x128, x2⟩, ⟨S8x128, x3⟩] concatenates_S8x128_S8x128_S8x128_S8x128_S32x128_d0 (ix2 m l) 3 (by show 3 < 4; omega) S8x128 x3 rfl rfl 24 rfl (ix2 q l) (fun b hb => by match b with | ⟨0, _⟩ => exact absurd rfl hb | ⟨1, _⟩ => rfl) (by show 24 + q.val = m.val; simp at hm; omega)

/-- The weight of a cell `(y, x)` of the tile, lane by lane. -/
theorem pay77_at (v41 v44 v175 v201 v216 : FVec F S8x128 .f32) (m : Fin 32) (g : Fin 4) (q : Fin 8) (g8 : Fin 8) (l : Fin 128) (hm : m.val = 8 * g.val + q.val) (hg : g8.val = g.val) :
    k0_pay77 v41 v44 v175 v201 v216 (ix2 m l)
      = FloatOps.mulf (FloatOps.mulf (FloatOps.addf (hatK (v44 (ix2 g8 l)) (v201 (ix2 1 l))) (hatK (v44 (ix2 g8 l)) (v216 (ix2 1 l)))) (v175 (ix2 4 l)))
          (FloatOps.addf (hatK (v41 (ix2 q l)) (v201 (ix2 0 l))) (hatK (v41 (ix2 q l)) (v216 (ix2 0 l)))) := by
  unfold k0_pay77
  have r0 : ∀ q : Fin 8, broadcastTo S8x128 (extractStridedSlice S1x128 ![0, 0] v201 slices_S8x128_o0_0_S1x128) broadcasts_S1x128_S8x128 (ix2 q l) = v201 (ix2 0 l) :=
    fun q => spread_row v201 0 _ _ rfl rfl q l
  have r1 : ∀ q : Fin 8, broadcastTo S8x128 (extractStridedSlice S1x128 ![0, 0] v216 slices_S8x128_o0_0_S1x128) broadcasts_S1x128_S8x128 (ix2 q l) = v216 (ix2 0 l) :=
    fun q => spread_row v216 0 _ _ rfl rfl q l
  have r2 : ∀ q : Fin 8, broadcastTo S8x128 (extractStridedSlice S1x128 ![1, 0] v201 slices_S8x128_o1_0_S1x128) broadcasts_S1x128_S8x128 (ix2 q l) = v201 (ix2 1 l) :=
    fun q => spread_row v201 1 _ _ rfl rfl q l
  have r3 : ∀ q : Fin 8, broadcastTo S8x128 (extractStridedSlice S1x128 ![1, 0] v216 slices_S8x128_o1_0_S1x128) broadcasts_S1x128_S8x128 (ix2 q l) = v216 (ix2 1 l) :=
    fun q => spread_row v216 1 _ _ rfl rfl q l
  have r4 : ∀ q : Fin 8, broadcastTo S8x128 (extractStridedSlice S1x128 ![4, 0] v175 slices_S8x128_o4_0_S1x128) broadcasts_S1x128_S8x128 (ix2 q l) = v175 (ix2 4 l) :=
    fun q => spread_row v175 4 _ _ rfl rfl q l
  rw [rows4_at _ _ _ _ m g q l hm]
  rw [← r0 q, ← r1 q, ← r2 g8, ← r3 g8, ← r4 g8]
  match g with
  | 0 => obtain rfl : g8 = 0 := Fin.ext hg
         exact congrArg₂ FloatOps.mulf (spread_row _ 0 _ _ rfl rfl q l) rfl
  | 1 => obtain rfl : g8 = 1 := Fin.ext hg
         exact congrArg₂ FloatOps.mulf (spread_row _ 1 _ _ rfl rfl q l) rfl
  | 2 => obtain rfl : g8 = 2 := Fin.ext hg
         exact congrArg₂ FloatOps.mulf (spread_row _ 2 _ _ rfl rfl q l) rfl
  | 3 => obtain rfl : g8 = 3 := Fin.ext hg
         exact congrArg₂ FloatOps.mulf (spread_row _ 3 _ _ rfl rfl q l) rfl

/-! ### The parts at an index -/

/-- Two blocks side by side. -/
theorem beside_at (x y : FVec F S32x128 .f32) (m : Fin 32) (g : Fin 2) (l : Fin 128) (K : Fin 256) (hK : K.val = 128 * g.val + l.val) :
    beside x y (ix2 m K) = (match g with | 0 => x | 1 => y) (ix2 m l) := by
  unfold beside
  match g with
  | 0 => exact concatenate_apply_piece (t := S32x256) 1 [⟨S32x128, x⟩, ⟨S32x128, y⟩] concatenates_S32x128_S32x128_S32x256_d1 (ix2 m K) 0 (by show 0 < 2; omega) S32x128 x rfl rfl 0 rfl (ix2 m l) (fun b hb => by match b with | ⟨1, _⟩ => exact absurd rfl hb | ⟨0, _⟩ => rfl) (by show 0 + l.val = K.val; simp at hK; omega)
  | 1 => exact concatenate_apply_piece (t := S32x256) 1 [⟨S32x128, x⟩, ⟨S32x128, y⟩] concatenates_S32x128_S32x128_S32x256_d1 (ix2 m K) 1 (by show 1 < 2; omega) S32x128 y rfl rfl 128 rfl (ix2 m l) (fun b hb => by match b with | ⟨1, _⟩ => exact absurd rfl hb | ⟨0, _⟩ => rfl) (by show 128 + l.val = K.val; simp at hK; omega)

/-- Three blocks of 32 rows, one above the other. -/
theorem rows3_at (x y z : FVec F S32x256 .bf16) (M : Fin 96) (g : Fin 3) (m : Fin 32) (K : Fin 256) (hM : M.val = 32 * g.val + m.val) :
    concatenate S96x256 0 [⟨S32x256, x⟩, ⟨S32x256, y⟩, ⟨S32x256, z⟩] concatenates_S32x256_S32x256_S32x256_S96x256_d0 (ix2 M K)
      = (match g with | 0 => x | 1 => y | 2 => z) (ix2 m K) := by
  match g with
  | 0 => exact concatenate_apply_piece (t := S96x256) 0 [⟨S32x256, x⟩, ⟨S32x256, y⟩, ⟨S32x256, z⟩] concatenates_S32x256_S32x256_S32x256_S96x256_d0 (ix2 M K) 0 (by show 0 < 3; omega) S32x256 x rfl rfl 0 rfl (ix2 m K) (fun b hb => by match b with | ⟨0, _⟩ => exact absurd rfl hb | ⟨1, _⟩ => rfl) (by show 0 + m.val = M.val; simp at hM; omega)
  | 1 => exact concatenate_apply_piece (t := S96x256) 0 [⟨S32x256, x⟩, ⟨S32x256, y⟩, ⟨S32x256, z⟩] concatenates_S32x256_S32x256_S32x256_S96x256_d0 (ix2 M K) 1 (by show 1 < 3; omega) S32x256 y rfl rfl 32 rfl (ix2 m K) (fun b hb => by match b with | ⟨0, _⟩ => exact absurd rfl hb | ⟨1, _⟩ => rfl) (by show 32 + m.val = M.val; simp at hM; omega)
  | 2 => exact concatenate_apply_piece (t := S96x256) 0 [⟨S32x256, x⟩, ⟨S32x256, y⟩, ⟨S32x256, z⟩] concatenates_S32x256_S32x256_S32x256_S96x256_d0 (ix2 M K) 2 (by show 2 < 3; omega) S32x256 z rfl rfl 64 rfl (ix2 m K) (fun b hb => by match b with | ⟨0, _⟩ => exact absurd rfl hb | ⟨1, _⟩ => rfl) (by show 64 + m.val = M.val; simp at hM; omega)

/-- Eight blocks of 32 rows, one above the other. -/
theorem stack8_at (b0 b1 b2 b3 b4 b5 b6 b7 : FVec F S32x512 .fp8e5m2) (K : Fin 256) (g : Fin 8) (u : Fin 32) (n : Fin 512) (hK : K.val = 32 * g.val + u.val) :
    stack8 b0 b1 b2 b3 b4 b5 b6 b7 (ix2 K n) = (match g with | 0 => b0 | 1 => b1 | 2 => b2 | 3 => b3 | 4 => b4 | 5 => b5 | 6 => b6 | 7 => b7) (ix2 u n) := by
  unfold stack8
  match g with
  | 0 => exact concatenate_apply_piece (t := S256x512) 0 [⟨S32x512, b0⟩, ⟨S32x512, b1⟩, ⟨S32x512, b2⟩, ⟨S32x512, b3⟩, ⟨S32x512, b4⟩, ⟨S32x512, b5⟩, ⟨S32x512, b6⟩, ⟨S32x512, b7⟩] concatenates_S32x512_S32x512_S32x512_S32x512_S32x512_S32x512_S32x512_S32x512_S256x512_d0 (ix2 K n) 0 (by show 0 < 8; omega) S32x512 b0 rfl rfl 0 rfl (ix2 u n) (fun b hb => by match b with | ⟨0, _⟩ => exact absurd rfl hb | ⟨1, _⟩ => rfl) (by show 0 + u.val = K.val; simp at hK; omega)
  | 1 => exact concatenate_apply_piece (t := S256x512) 0 [⟨S32x512, b0⟩, ⟨S32x512, b1⟩, ⟨S32x512, b2⟩, ⟨S32x512, b3⟩, ⟨S32x512, b4⟩, ⟨S32x512, b5⟩, ⟨S32x512, b6⟩, ⟨S32x512, b7⟩] concatenates_S32x512_S32x512_S32x512_S32x512_S32x512_S32x512_S32x512_S32x512_S256x512_d0 (ix2 K n) 1 (by show 1 < 8; omega) S32x512 b1 rfl rfl 32 rfl (ix2 u n) (fun b hb => by match b with | ⟨0, _⟩ => exact absurd rfl hb | ⟨1, _⟩ => rfl) (by show 32 + u.val = K.val; simp at hK; omega)
  | 2 => exact concatenate_apply_piece (t := S256x512) 0 [⟨S32x512, b0⟩, ⟨S32x512, b1⟩, ⟨S32x512, b2⟩, ⟨S32x512, b3⟩, ⟨S32x512, b4⟩, ⟨S32x512, b5⟩, ⟨S32x512, b6⟩, ⟨S32x512, b7⟩] concatenates_S32x512_S32x512_S32x512_S32x512_S32x512_S32x512_S32x512_S32x512_S256x512_d0 (ix2 K n) 2 (by show 2 < 8; omega) S32x512 b2 rfl rfl 64 rfl (ix2 u n) (fun b hb => by match b with | ⟨0, _⟩ => exact absurd rfl hb | ⟨1, _⟩ => rfl) (by show 64 + u.val = K.val; simp at hK; omega)
  | 3 => exact concatenate_apply_piece (t := S256x512) 0 [⟨S32x512, b0⟩, ⟨S32x512, b1⟩, ⟨S32x512, b2⟩, ⟨S32x512, b3⟩, ⟨S32x512, b4⟩, ⟨S32x512, b5⟩, ⟨S32x512, b6⟩, ⟨S32x512, b7⟩] concatenates_S32x512_S32x512_S32x512_S32x512_S32x512_S32x512_S32x512_S32x512_S256x512_d0 (ix2 K n) 3 (by show 3 < 8; omega) S32x512 b3 rfl rfl 96 rfl (ix2 u n) (fun b hb => by match b with | ⟨0, _⟩ => exact absurd rfl hb | ⟨1, _⟩ => rfl) (by show 96 + u.val = K.val; simp at hK; omega)
  | 4 => exact concatenate_apply_piece (t := S256x512) 0 [⟨S32x512, b0⟩, ⟨S32x512, b1⟩, ⟨S32x512, b2⟩, ⟨S32x512, b3⟩, ⟨S32x512, b4⟩, ⟨S32x512, b5⟩, ⟨S32x512, b6⟩, ⟨S32x512, b7⟩] concatenates_S32x512_S32x512_S32x512_S32x512_S32x512_S32x512_S32x512_S32x512_S256x512_d0 (ix2 K n) 4 (by show 4 < 8; omega) S32x512 b4 rfl rfl 128 rfl (ix2 u n) (fun b hb => by match b with | ⟨0, _⟩ => exact absurd rfl hb | ⟨1, _⟩ => rfl) (by show 128 + u.val = K.val; simp at hK; omega)
  | 5 => exact concatenate_apply_piece (t := S256x512) 0 [⟨S32x512, b0⟩, ⟨S32x512, b1⟩, ⟨S32x512, b2⟩, ⟨S32x512, b3⟩, ⟨S32x512, b4⟩, ⟨S32x512, b5⟩, ⟨S32x512, b6⟩, ⟨S32x512, b7⟩] concatenates_S32x512_S32x512_S32x512_S32x512_S32x512_S32x512_S32x512_S32x512_S256x512_d0 (ix2 K n) 5 (by show 5 < 8; omega) S32x512 b5 rfl rfl 160 rfl (ix2 u n) (fun b hb => by match b with | ⟨0, _⟩ => exact absurd rfl hb | ⟨1, _⟩ => rfl) (by show 160 + u.val = K.val; simp at hK; omega)
  | 6 => exact concatenate_apply_piece (t := S256x512) 0 [⟨S32x512, b0⟩, ⟨S32x512, b1⟩, ⟨S32x512, b2⟩, ⟨S32x512, b3⟩, ⟨S32x512, b4⟩, ⟨S32x512, b5⟩, ⟨S32x512, b6⟩, ⟨S32x512, b7⟩] concatenates_S32x512_S32x512_S32x512_S32x512_S32x512_S32x512_S32x512_S32x512_S256x512_d0 (ix2 K n) 6 (by show 6 < 8; omega) S32x512 b6 rfl rfl 192 rfl (ix2 u n) (fun b hb => by match b with | ⟨0, _⟩ => exact absurd rfl hb | ⟨1, _⟩ => rfl) (by show 192 + u.val = K.val; simp at hK; omega)
  | 7 => exact concatenate_apply_piece (t := S256x512) 0 [⟨S32x512, b0⟩, ⟨S32x512, b1⟩, ⟨S32x512, b2⟩, ⟨S32x512, b3⟩, ⟨S32x512, b4⟩, ⟨S32x512, b5⟩, ⟨S32x512, b6⟩, ⟨S32x512, b7⟩] concatenates_S32x512_S32x512_S32x512_S32x512_S32x512_S32x512_S32x512_S32x512_S256x512_d0 (ix2 K n) 7 (by show 7 < 8; omega) S32x512 b7 rfl rfl 224 rfl (ix2 u n) (fun b hb => by match b with | ⟨0, _⟩ => exact absurd rfl hb | ⟨1, _⟩ => rfl) (by show 224 + u.val = K.val; simp at hK; omega)

/-- Byte `q` of a word. -/
def byteOf (w : BitVec 32) (q : ℕ) : BitVec 8 := w.extractLsb' (8 * q) 8

theorem bitcast_at (x : IVec S8x128 32) (u : Fin 32) (a : Fin 8) (l : Fin 128) (q : ℕ) (hq : q < 4) (hu : u.val = 4 * a.val + q) :
    bitcast S32x128 8 x bitcasts_S8x128_w32_S32x128_w8 (ix2 u l) = byteOf (x (ix2 a l)) q := by
  apply BitVec.eq_of_getLsbD_eq
  intro i hi
  rw [bitcast_getLsbD _ _ _ i hi (by decide)]
  unfold byteOf
  rw [BitVec.getLsbD_extractLsb']
  have hr : Shape.row S32x128 (ix2 u l) = u.val := rfl
  have e1 : (Shape.row S32x128 (ix2 u l) * 8 + i) / 32 = a.val := by rw [hr]; omega
  have e2 : (Shape.row S32x128 (ix2 u l) * 8 + i) % 32 = 8 * q + i := by rw [hr]; omega
  rw [e2]
  simp only [hi, decide_true, Bool.true_and]
  congr 2
  funext c
  match c with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- One entry's decoded byte: row `u` of the entry, channel `n`. -/
theorem bytes4_at (w0 w1 w2 w3 : IVec S8x128 32) (u : Fin 32) (n : Fin 512) (g : Fin 4) (l : Fin 128) (a : Fin 8) (q : ℕ) (hq : q < 4)
    (hn : n.val = 128 * g.val + l.val) (hu : u.val = 4 * a.val + q) :
    bytes4 (F := F) w0 w1 w2 w3 (ix2 u n) = FloatOps.ofBits .fp8e5m2 (byteOf ((match g with | 0 => w0 | 1 => w1 | 2 => w2 | 3 => w3) (ix2 a l)) q) := by
  rw [← bitcast_at _ u a l q hq hu]
  unfold bytes4 k0_pay114
  match g with
  | 0 => exact concatenate_apply_piece (t := S32x512) 1 [⟨S32x128, (bitcastToFloat .fp8e5m2 (bitcast S32x128 8 w0 bitcasts_S8x128_w32_S32x128_w8) : FVec F S32x128 .fp8e5m2)⟩, ⟨S32x128, (bitcastToFloat .fp8e5m2 (bitcast S32x128 8 w1 bitcasts_S8x128_w32_S32x128_w8) : FVec F S32x128 .fp8e5m2)⟩, ⟨S32x128, (bitcastToFloat .fp8e5m2 (bitcast S32x128 8 w2 bitcasts_S8x128_w32_S32x128_w8) : FVec F S32x128 .fp8e5m2)⟩, ⟨S32x128, (bitcastToFloat .fp8e5m2 (bitcast S32x128 8 w3 bitcasts_S8x128_w32_S32x128_w8) : FVec F S32x128 .fp8e5m2)⟩] concatenates_S32x128_S32x128_S32x128_S32x128_S32x512_d1 (ix2 u n) 0 (by show 0 < 4; omega) S32x128 (bitcastToFloat .fp8e5m2 (bitcast S32x128 8 w0 bitcasts_S8x128_w32_S32x128_w8) : FVec F S32x128 .fp8e5m2) rfl rfl 0 rfl (ix2 u l) (fun b hb => by match b with | ⟨1, _⟩ => exact absurd rfl hb | ⟨0, _⟩ => rfl) (by show 0 + l.val = n.val; simp at hn; omega)
  | 1 => exact concatenate_apply_piece (t := S32x512) 1 [⟨S32x128, (bitcastToFloat .fp8e5m2 (bitcast S32x128 8 w0 bitcasts_S8x128_w32_S32x128_w8) : FVec F S32x128 .fp8e5m2)⟩, ⟨S32x128, (bitcastToFloat .fp8e5m2 (bitcast S32x128 8 w1 bitcasts_S8x128_w32_S32x128_w8) : FVec F S32x128 .fp8e5m2)⟩, ⟨S32x128, (bitcastToFloat .fp8e5m2 (bitcast S32x128 8 w2 bitcasts_S8x128_w32_S32x128_w8) : FVec F S32x128 .fp8e5m2)⟩, ⟨S32x128, (bitcastToFloat .fp8e5m2 (bitcast S32x128 8 w3 bitcasts_S8x128_w32_S32x128_w8) : FVec F S32x128 .fp8e5m2)⟩] concatenates_S32x128_S32x128_S32x128_S32x128_S32x512_d1 (ix2 u n) 1 (by show 1 < 4; omega) S32x128 (bitcastToFloat .fp8e5m2 (bitcast S32x128 8 w1 bitcasts_S8x128_w32_S32x128_w8) : FVec F S32x128 .fp8e5m2) rfl rfl 128 rfl (ix2 u l) (fun b hb => by match b with | ⟨1, _⟩ => exact absurd rfl hb | ⟨0, _⟩ => rfl) (by show 128 + l.val = n.val; simp at hn; omega)
  | 2 => exact concatenate_apply_piece (t := S32x512) 1 [⟨S32x128, (bitcastToFloat .fp8e5m2 (bitcast S32x128 8 w0 bitcasts_S8x128_w32_S32x128_w8) : FVec F S32x128 .fp8e5m2)⟩, ⟨S32x128, (bitcastToFloat .fp8e5m2 (bitcast S32x128 8 w1 bitcasts_S8x128_w32_S32x128_w8) : FVec F S32x128 .fp8e5m2)⟩, ⟨S32x128, (bitcastToFloat .fp8e5m2 (bitcast S32x128 8 w2 bitcasts_S8x128_w32_S32x128_w8) : FVec F S32x128 .fp8e5m2)⟩, ⟨S32x128, (bitcastToFloat .fp8e5m2 (bitcast S32x128 8 w3 bitcasts_S8x128_w32_S32x128_w8) : FVec F S32x128 .fp8e5m2)⟩] concatenates_S32x128_S32x128_S32x128_S32x128_S32x512_d1 (ix2 u n) 2 (by show 2 < 4; omega) S32x128 (bitcastToFloat .fp8e5m2 (bitcast S32x128 8 w2 bitcasts_S8x128_w32_S32x128_w8) : FVec F S32x128 .fp8e5m2) rfl rfl 256 rfl (ix2 u l) (fun b hb => by match b with | ⟨1, _⟩ => exact absurd rfl hb | ⟨0, _⟩ => rfl) (by show 256 + l.val = n.val; simp at hn; omega)
  | 3 => exact concatenate_apply_piece (t := S32x512) 1 [⟨S32x128, (bitcastToFloat .fp8e5m2 (bitcast S32x128 8 w0 bitcasts_S8x128_w32_S32x128_w8) : FVec F S32x128 .fp8e5m2)⟩, ⟨S32x128, (bitcastToFloat .fp8e5m2 (bitcast S32x128 8 w1 bitcasts_S8x128_w32_S32x128_w8) : FVec F S32x128 .fp8e5m2)⟩, ⟨S32x128, (bitcastToFloat .fp8e5m2 (bitcast S32x128 8 w2 bitcasts_S8x128_w32_S32x128_w8) : FVec F S32x128 .fp8e5m2)⟩, ⟨S32x128, (bitcastToFloat .fp8e5m2 (bitcast S32x128 8 w3 bitcasts_S8x128_w32_S32x128_w8) : FVec F S32x128 .fp8e5m2)⟩] concatenates_S32x128_S32x128_S32x128_S32x128_S32x512_d1 (ix2 u n) 3 (by show 3 < 4; omega) S32x128 (bitcastToFloat .fp8e5m2 (bitcast S32x128 8 w3 bitcasts_S8x128_w32_S32x128_w8) : FVec F S32x128 .fp8e5m2) rfl rfl 384 rfl (ix2 u l) (fun b hb => by match b with | ⟨1, _⟩ => exact absurd rfl hb | ⟨0, _⟩ => rfl) (by show 384 + l.val = n.val; simp at hn; omega)

/-- A value that is no infinity. -/
def IsReal (x : EReal) : Prop := ∃ r : ℝ, x = (r : EReal)

theorem IsReal.sub_self {x : EReal} (h : IsReal x) : x - x = 0 := by
  obtain ⟨r, rfl⟩ := h; rw [← EReal.coe_sub, _root_.sub_self]; rfl

/-- Where the weights are no infinities, the parts past the first are zero and the sum is the product with the weights. -/
theorem prod3_at (x y : FVec Ideal S32x128 .f32) (B : FVec Ideal S256x512 .fp8e5m2) (hx : ∀ i, IsReal (beside x y i)) (m : Fin 32) (n : Fin 512) :
    prod3 (split3 x y) B (ix2 m n) = ∑ K : Fin 256, (beside x y (ix2 m K) : EReal) * (B (ix2 K n) : EReal) := by
  have hm : ∀ (M : Fin 96), matmul dot_S96x256_S256x512_S96x512_1_0_0_1_n_n none (split3 x y) B (constant S96x512 .f32 0x00000000#32) (ix2 M n)
      = (0 : EReal) + ∑ K : Fin 256, (split3 x y (ix2 M K) : EReal) * (B (ix2 K n) : EReal) := by
    intro M
    have h := Ideal.matmul_plain_apply (M := 96) (K := 256) (N := 512) none (split3 x y) B (constant S96x512 .f32 0x00000000#32) M n
    refine Eq.trans h ?_
    exact congrArg (· + _) Ideal.ofBits_zero_f32
  have e0 : ∀ K, split3 x y (ix2 (⟨m.val, by omega⟩ : Fin 96) K) = beside x y (ix2 m K) := fun K =>
    rows3_at _ _ _ _ 0 m K (by show m.val = 32 * 0 + m.val; omega)
  have e1 : ∀ K, (split3 x y (ix2 (⟨32 + m.val, by omega⟩ : Fin 96) K) : EReal) = 0 := fun K =>
    (rows3_at _ _ _ _ 1 m K (by show 32 + m.val = 32 * 1 + m.val; omega)).trans (hx _).sub_self
  have e2 : ∀ K, (split3 x y (ix2 (⟨64 + m.val, by omega⟩ : Fin 96) K) : EReal) = 0 := fun K =>
    (rows3_at _ _ _ _ 2 m K (by show 64 + m.val = 32 * 2 + m.val; omega)).trans (by
      show ((beside x y (ix2 m K) : EReal) - beside x y (ix2 m K)) - ((beside x y (ix2 m K) : EReal) - beside x y (ix2 m K)) = 0
      rw [(hx _).sub_self]; simp)
  have key : ∀ v : FVec Ideal S96x512 .f32, (addf (extractStridedSlice S32x512 ![0, 0] v slices_S96x512_o0_0_S32x512)
      (addf (extractStridedSlice S32x512 ![32, 0] v slices_S96x512_o32_0_S32x512) (extractStridedSlice S32x512 ![64, 0] v slices_S96x512_o64_0_S32x512)) (ix2 m n) : EReal)
      = (v (ix2 (⟨m.val, by omega⟩ : Fin 96) n) : EReal) + ((v (ix2 (⟨32 + m.val, by omega⟩ : Fin 96) n) : EReal) + (v (ix2 (⟨64 + m.val, by omega⟩ : Fin 96) n) : EReal)) := by
    intro v
    refine congrArg₂ (fun a b : EReal => a + b) ?_ (congrArg₂ (fun a b : EReal => a + b) ?_ ?_)
    · exact extractStridedSlice_apply _ _ _ _ _ (fun b => by match b with | ⟨0, _⟩ => exact (Nat.zero_add _).symm | ⟨1, _⟩ => exact (Nat.zero_add _).symm)
    · exact extractStridedSlice_apply _ _ _ _ _ (fun b => by match b with | ⟨0, _⟩ => rfl | ⟨1, _⟩ => exact (Nat.zero_add _).symm)
    · exact extractStridedSlice_apply _ _ _ _ _ (fun b => by match b with | ⟨0, _⟩ => rfl | ⟨1, _⟩ => exact (Nat.zero_add _).symm)
  unfold prod3
  refine (key _).trans ?_
  rw [hm, hm, hm]
  simp only [e0, e1, e2, zero_mul, Finset.sum_const_zero, zero_add, add_zero]

/-- The sum over 256 columns, entry by entry. -/
theorem sum256 (f : Fin 256 → EReal) : ∑ K, f K = ∑ k : Fin 8, ∑ u : Fin 32, f ⟨32 * k.val + u.val, by omega⟩ := by
  rw [← Fintype.sum_prod_type', ← Equiv.sum_comp (finProdFinEquiv : Fin 8 × Fin 32 ≃ Fin 256)]
  refine Finset.sum_congr rfl fun p _ => congrArg f (Fin.ext ?_)
  show p.2.val + 32 * p.1.val = 32 * p.1.val + p.2.val
  omega

end Cert.Proof.PV

end
-- ==== Proof.PV.Step.lean ====
/-
  One chunk of the sweep with what it adds: eight entries' weights times their decoded bytes, onto one tile of the result.
-/
module

public import proofs.«01_k».proof.Proof.PI.While
public import proofs.«01_k».proof.Proof.PV.Mat
public import Idealize.ShloMosaic.Lib.WritesUnit

@[expose] public section

noncomputable section

namespace Cert.Proof.PV

open Cert.KernelIdeal Cert.KernelIdeal.Gen Cert.Proof.PI
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One row group of the tile with the chunk's sum added: onto what is there, or onto zero. -/
def rowPay (v29 : BitVec 1) (P : FVec F S32x512 .f32) (off : Fin 2 → ℕ) (hs : S32x512.Slices off S8x512) (old : FVec F S1x8x512 .f32) : FVec F S1x8x512 .f32 :=
  shapeCast S1x8x512 (addf (Scalar.select v29 (shapeCast S8x512 old shapeCasts_S1x8x512_S8x512) (broadcast S8x512 (Scalar.ofBits .f32 0x00000000#32)))
    (extractStridedSlice S8x512 off P hs)) shapeCasts_S8x512_S1x8x512

theorem rowPay_at (v29 : BitVec 1) (P : FVec F S32x512 .f32) (off : Fin 2 → ℕ) (hs : S32x512.Slices off S8x512) (old : FVec F S1x8x512 .f32)
    (x : Fin 8) (n : Fin 512) (m : Fin 32) (h0 : m.val = off 0 + x.val) (h1 : off 1 = 0) :
    rowPay v29 P off hs old (ix3 (0 : Fin 1) x n) = FloatOps.addf (Scalar.select v29 (old (ix3 (0 : Fin 1) x n)) (Scalar.ofBits .f32 0x00000000#32)) (P (ix2 m n)) := by
  unfold rowPay
  rw [shapeCast_apply _ _ _ (ix2 x n) (by rw [Shape.rowMajor_val_two, Shape.rowMajor_val_three]; show x.val * 512 + n.val = (0 * 8 + x.val) * 512 + n.val; omega)]
  refine congrArg₂ FloatOps.addf ?_ (extractStridedSlice_apply _ _ _ _ _ fun b => by
    match b with
    | ⟨0, _⟩ => exact h0
    | ⟨1, _⟩ => show n.val = off 1 + n.val; omega)
  unfold Scalar.select
  by_cases hv : v29 = 1
  · rw [if_pos hv, if_pos hv]
    exact shapeCast_apply _ _ _ _ (by rw [Shape.rowMajor_val_two, Shape.rowMajor_val_three]; show (0 * 8 + x.val) * 512 + n.val = x.val * 512 + n.val; omega)
  · rw [if_neg hv, if_neg hv]; rfl

/-- The tile a row of the result is in. -/
def tileOf (row : ℕ) : ℕ := row % 96 / 8 * 16 + row / 96 / 4

/-- The first row of group `g` of tile `t`. -/
def base (t g : ℕ) : ℕ := (4 * (t % 16) + g) * 96 + 8 * (t / 16)

theorem off53_eq (t : BitVec 32) (ht : t.toNat ≤ 192) (g : Fin 4) : k0_off53 t (BitVec.ofNat 32 g.val) = ![0, base (min t.toNat 191) g.val, 0] := by
  have key : ∀ n : Fin 193, ∀ g : Fin 4, k0_off53 (BitVec.ofNat 32 n.val) (BitVec.ofNat 32 g.val) 1 = base (min (BitVec.ofNat 32 n.val).toNat 191) g.val := by decide +kernel
  have := key ⟨t.toNat, by omega⟩ g
  simp only [BitVec.ofNat_toNat, BitVec.setWidth_eq] at this
  funext b
  match b with
  | ⟨0, _⟩ => rfl
  | ⟨1, _⟩ => exact this
  | ⟨2, _⟩ => rfl

/-- Rows `row` of the result: in tile `t'` and below row group `k` with the chunk's sum, else as before. -/
def sumAt (v29 : BitVec 1) (P : FVec F S32x512 .f32) (t' k : ℕ) (old : S1x6144x512.Idx → F .f32) (row : Fin 6144) (n : Fin 512) : F .f32 :=
  if tileOf row.val = t' ∧ row.val / 96 % 4 < k then
    FloatOps.addf (Scalar.select v29 (old (ix3 (0 : Fin 1) row n)) (Scalar.ofBits .f32 0x00000000#32)) (P (ix2 (⟨8 * (row.val / 96 % 4) + row.val % 96 % 8, by omega⟩ : Fin 32) n))
  else old (ix3 (0 : Fin 1) row n)

section
variable (c : Dev nD) (i : grid0.Coords) (v7 : FVec F S8x128 .f32) (arg3 : Memref sig .tc .smem S1x384x256 .i32) (harg3 : arg3.IsWhole) (arg6 : Memref sig .tc .vmem S4x5784x128 .i32) (harg6 : arg6.IsWhole) (arg7 : Memref sig .tc .vmem S3080x128 .f32) (harg7 : arg7.IsWhole) (v22 : IVec S8x128 32) (v15 : FVec F S8x128 .f32) (v17 : IVec S8x128 1) (v10 : FVec F S8x128 .f32) (v20 : FVec F S8x128 .f32) (arg5 : Memref sig .tc .vmem S1x6144x512 .f32) (harg5 : arg5.IsWhole) (arg4 : Memref sig .tc .smem S1x1x256 .i32) (harg4 : arg4.IsWhole)

/-- One more row group stored. -/
theorem group_step (v29 : BitVec 1) (P : FVec F S32x512 .f32) (t : BitVec 32) (ht : t.toNat ≤ 192) (f5 : Buf (Elt F) (arg5.view.loc (c : Thread nD τ))) (g : Fin 4)
    (L : List (View.Piece (Elt F) S1x6144x512 .f32))
    (hL : ∀ row n, arg5.view.read (Elt F) (arg5.view.writes (Elt F) f5 L) (ix3 (0 : Fin 1) row n) = sumAt v29 P (min t.toNat 191) g.val (arg5.view.read (Elt F) f5) row n)
    (off : Fin 2 → ℕ) (hs : S32x512.Slices off S8x512) (h0 : off 0 = 8 * g.val) (h1 : off 1 = 0)
    (o : Fin 3 → ℕ) (ho : o = k0_off53 t (BitVec.ofNat 32 g.val)) (inb inb' : ∀ a, o a + S1x8x512.size a ≤ S1x6144x512.size a) (row : Fin 6144) (n : Fin 512) :
    arg5.view.read (Elt F) (arg5.view.writes (Elt F) f5 ((⟨Rect.unit (s := S1x6144x512) o S1x8x512.size inb,
        rowPay v29 P off hs (View.readAt (Elt F) arg5.view (Rect.unit (s := S1x6144x512) o S1x8x512.size inb').toLoadRect (arg5.view.writes (Elt F) f5 L))⟩ : View.Piece (Elt F) S1x6144x512 .f32) :: L)) (ix3 (0 : Fin 1) row n)
      = sumAt v29 P (min t.toNat 191) (g.val + 1) (arg5.view.read (Elt F) f5) row n := by
  rw [off53_eq t ht g] at ho
  subst ho
  have hg := g.isLt
  have ht' : min t.toNat 191 ≤ 191 := Nat.min_le_right _ _
  generalize min t.toNat 191 = t' at *
  by_cases hin : base t' g.val ≤ row.val ∧ row.val < base t' g.val + 8
  · have hx : row.val - base t' g.val < 8 := by omega
    have e1 : row.val / 96 = 4 * (t' % 16) + g.val := by unfold base at hin; omega
    have e2 : row.val % 96 = row.val - base t' g.val + 8 * (t' / 16) := by unfold base at hin ⊢; omega
    have e3 : tileOf row.val = t' := by unfold tileOf; omega
    have e4 : row.val / 96 % 4 = g.val := by omega
    rw [View.read_writes_cons_unit_of_mem arg5.view f5 inb _ L (ix3 (0 : Fin 1) row n) (ix3 (0 : Fin 1) (⟨row.val - base t' g.val, hx⟩ : Fin 8) n) rfl
      (fun a => by match a with | ⟨0, _⟩ => rfl | ⟨1, _⟩ => (show row.val = base t' g.val + (row.val - base t' g.val); omega) | ⟨2, _⟩ => (show n.val = 0 + n.val; omega))]
    rw [rowPay_at v29 P off hs _ (⟨row.val - base t' g.val, hx⟩ : Fin 8) n (⟨8 * (row.val / 96 % 4) + row.val % 96 % 8, by omega⟩ : Fin 32) (by show 8 * (row.val / 96 % 4) + row.val % 96 % 8 = off 0 + (row.val - base t' g.val); rw [h0]; omega) h1]
    unfold sumAt
    rw [if_pos ⟨e3, by omega⟩]
    refine congrArg (fun z => FloatOps.addf (Scalar.select v29 z (Scalar.ofBits .f32 0x00000000#32)) _) ?_
    rw [View.readAt_apply]
    have ei : (Rect.unit (s := S1x6144x512) ![0, base t' g.val, 0] S1x8x512.size inb').toLoadRect.idx (ix3 (0 : Fin 1) (⟨row.val - base t' g.val, hx⟩ : Fin 8) n) = ix3 (0 : Fin 1) row n := by
      funext b
      match b with
      | ⟨0, _⟩ => rfl
      | ⟨1, _⟩ => exact Fin.ext (by show base t' g.val + 1 * (row.val - base t' g.val) = row.val; omega)
      | ⟨2, _⟩ => exact Fin.ext (by show 0 + 1 * n.val = n.val; omega)
    rw [ei, hL]
    unfold sumAt
    rw [if_neg (by omega)]
  · rw [View.read_writes_cons_unit_of_not_mem arg5.view f5 inb _ L (ix3 (0 : Fin 1) row n) rfl (1 : Fin 3) (by show row.val < base t' g.val ∨ base t' g.val + 8 ≤ row.val; omega), hL]
    unfold sumAt
    by_cases h : tileOf row.val = t' ∧ row.val / 96 % 4 < g.val
    · rw [if_pos h, if_pos ⟨h.1, by omega⟩]
    · rw [if_neg h, if_neg (by unfold tileOf base at *; omega)]

/-- The list word at an offset. -/
def wordAt (f3 : Buf (Elt F) (arg3.view.loc (c : Thread nD τ))) (off : Fin 3 → ℕ) (h : ∀ x, off x + S1x1x1.size x ≤ S1x384x256.size x) : BitVec 32 :=
  View.readAt (Elt F) arg3.view (Rect.unit (s := S1x384x256) off S1x1x1.size h).toLoadRect f3 (Shape.Idx.first (numel1_S1x1x1.symm ▸ Nat.one_pos))

/-- The rows of parameters an entry names. -/
def tabAt (f7 : Buf (Elt F) (arg7.view.loc (c : Thread nD τ))) (a w : BitVec 32) (hw : k0_chk2 a w) : FVec F S8x128 .f32 :=
  View.readAt (Elt F) arg7.view (Rect.unit (s := S3080x128) (k0_off10 a w) S8x128.size (k0_off10_inb a w hw)).toLoadRect f7

/-- The packed bytes an entry names, decoded. -/
def kAll (f6 : Buf (Elt F) (arg6.view.loc (c : Thread nD τ))) (a w : BitVec 32) (hw : k0_chk2 a w) : FVec F S32x512 .fp8e5m2 :=
  bytes4 (shapeCast S8x128 (View.readAt (Elt F) arg6.view (Rect.unit (s := S4x5784x128) (k0_off6 a w) S1x8x128.size (k0_off6_inb a w hw)).toLoadRect f6) shapeCasts_S1x8x128_S8x128)
    (shapeCast S8x128 (View.readAt (Elt F) arg6.view (Rect.unit (s := S4x5784x128) (k0_off7 a w) S1x8x128.size (k0_off7_inb a w hw)).toLoadRect f6) shapeCasts_S1x8x128_S8x128)
    (shapeCast S8x128 (View.readAt (Elt F) arg6.view (Rect.unit (s := S4x5784x128) (k0_off8 a w) S1x8x128.size (k0_off8_inb a w hw)).toLoadRect f6) shapeCasts_S1x8x128_S8x128)
    (shapeCast S8x128 (View.readAt (Elt F) arg6.view (Rect.unit (s := S4x5784x128) (k0_off9 a w) S1x8x128.size (k0_off9_inb a w hw)).toLoadRect f6) shapeCasts_S1x8x128_S8x128)

/-- What the chunk adds to its tile. -/
def chunkP (t a : BitVec 32) (h1 : k0_chk1 t a) (f3 : Buf (Elt F) (arg3.view.loc (c : Thread nD τ))) (f6 : Buf (Elt F) (arg6.view.loc (c : Thread nD τ)))
    (f7 : Buf (Elt F) (arg7.view.loc (c : Thread nD τ))) (hL : ∀ x, WordOk (arg3.view.read (Elt F) f3 x)) : FVec F S32x512 .f32 :=
  let w0 := wordAt c arg3 f3 (k0_off5 t a) (k0_off5_inb t a h1)
  let w1 := wordAt c arg3 f3 (k0_off11 t a) (k0_off11_inb t a h1)
  let w2 := wordAt c arg3 f3 (k0_off17 t a) (k0_off17_inb t a h1)
  let w3 := wordAt c arg3 f3 (k0_off23 t a) (k0_off23_inb t a h1)
  let w4 := wordAt c arg3 f3 (k0_off29 t a) (k0_off29_inb t a h1)
  let w5 := wordAt c arg3 f3 (k0_off35 t a) (k0_off35_inb t a h1)
  let w6 := wordAt c arg3 f3 (k0_off41 t a) (k0_off41_inb t a h1)
  let w7 := wordAt c arg3 f3 (k0_off47 t a) (k0_off47_inb t a h1)
  have g0 : k0_chk2 a w0 := chk2_of a w0 (hL _)
  have g1 : k0_chk2 a w1 := chk2_of a w1 (hL _)
  have g2 : k0_chk2 a w2 := chk2_of a w2 (hL _)
  have g3 : k0_chk2 a w3 := chk2_of a w3 (hL _)
  have g4 : k0_chk2 a w4 := chk2_of a w4 (hL _)
  have g5 : k0_chk2 a w5 := chk2_of a w5 (hL _)
  have g6 : k0_chk2 a w6 := chk2_of a w6 (hL _)
  have g7 : k0_chk2 a w7 := chk2_of a w7 (hL _)
  prod3 (split3 (half v22 v15 v17 v10 v20 (k0_pay47 v7 t) (k0_pay48 v7 t) (tabAt c arg7 f7 a w0 g0) (tabAt c arg7 f7 a w1 g1) (tabAt c arg7 f7 a w2 g2) (tabAt c arg7 f7 a w3 g3) (Scalar.andi (entry a w0) 7#32) (Scalar.andi (entry a w1) 7#32) (Scalar.andi (entry a w2) 7#32) (Scalar.andi (entry a w3) 7#32))
      (half v22 v15 v17 v10 v20 (k0_pay47 v7 t) (k0_pay48 v7 t) (tabAt c arg7 f7 a w4 g4) (tabAt c arg7 f7 a w5 g5) (tabAt c arg7 f7 a w6 g6) (tabAt c arg7 f7 a w7 g7) (Scalar.andi (entry a w4) 7#32) (Scalar.andi (entry a w5) 7#32) (Scalar.andi (entry a w6) 7#32) (Scalar.andi (entry a w7) 7#32)))
    (stack8 (kAll c arg6 f6 a w0 g0) (kAll c arg6 f6 a w1 g1) (kAll c arg6 f6 a w2 g2) (kAll c arg6 f6 a w3 g3) (kAll c arg6 f6 a w4 g4) (kAll c arg6 f6 a w5 g5) (kAll c arg6 f6 a w6 g6) (kAll c arg6 f6 a w7 g7))

/-- Whether the chunk adds to what the tile holds. -/
def keeps (t a : BitVec 32) : BitVec 1 := Scalar.ori (Scalar.cmpi .sgt a 0#32) (Scalar.cmpi .sge t 192#32)

set_option maxHeartbeats 1000000 in
theorem chunk_value (bd : Option 𝒱₀.V) (arg8 arg9 : BitVec 32) (k : Fin k0_t5_loop.trips) (t a : BitVec 32)
    (f3 : Buf (Elt F) (arg3.view.loc (c : Thread nD τ))) (f4 : Buf (Elt F) (arg4.view.loc (c : Thread nD τ)))
    (f5 : Buf (Elt F) (arg5.view.loc (c : Thread nD τ)))
    (f6 : Buf (Elt F) (arg6.view.loc (c : Thread nD τ))) (f7 : Buf (Elt F) (arg7.view.loc (c : Thread nD τ)))
    (hL : ∀ x, WordOk (arg3.view.read (Elt F) f3 x)) (hC : ∀ x, (arg4.view.read (Elt F) f4 x : BitVec 32).toInt ≤ 768)
    (ht : t.toNat ≤ 192) (ha : a.toNat ≤ 95) (h1 : k0_chk1 t a) :
    iprop(pt c arg3 f3 ∗ pt c arg4 f4 ∗ pt c arg5 f5 ∗ pt c arg6 f6 ∗ pt c arg7 f7) ⊢ wp frame (wpE (defs₀ (F := F)) 𝒱₀ (c : Thread nD τ) bd) Set.univ
      (chunkBody (F := F) i v7 arg3 harg3 arg6 harg6 arg7 harg7 v22 v15 v17 v10 v20 arg5 harg5 arg4 harg4 arg8 arg9 k (t, a))
      (fun r => iprop((∃ f, pt c arg5 f ∗ ⌜∀ row n, arg5.view.read (Elt F) f (ix3 (0 : Fin 1) row n)
          = sumAt (keeps t a) (chunkP c v7 arg3 arg6 arg7 v22 v15 v17 v10 v20 t a h1 f3 f6 f7 hL) (min t.toNat 191) 4 (arg5.view.read (Elt F) f5) row n⌝)
        ∗ pt c arg3 f3 ∗ pt c arg4 f4 ∗ pt c arg6 f6 ∗ pt c arg7 f7 ∗ ⌜∃ x, (x 2).val = t.toNat ∧ r = (nextT (arg4.view.read (Elt F) f4 x) t a, nextC (arg4.view.read (Elt F) f4 x) a)⌝)) := by
  have h10 := chk10_of t ht
  unfold chunkBody
  iintro ⟨H3, H4, H5, H6, H7⟩
  sl_exec (disch := (with_reducible first | refine chk2_of _ _ ?_ | refine chk3_of _ _ ?_ | refine chk4_of _ _ ?_ | refine chk5_of _ _ ?_ | refine chk6_of _ _ ?_ | refine chk7_of _ _ ?_ | refine chk8_of _ _ ?_ | refine chk9_of _ _ ?_) <;> exact hL _)
  sl_step
  isplitl [H5]
  · iexists _
    isplitl [H5]; · iexact H5
    ipureintro
    intro row n
    delta chunk_value.sl.H5_3
    refine group_step c arg5 _ _ t ht f5 3 _ ?_ ![24, 0] slices_S32x512_o24_0_S8x512 rfl rfl _ rfl _ _ row n
    intro row n
    delta chunk_value.sl.H5_2
    refine group_step c arg5 _ _ t ht f5 2 _ ?_ ![16, 0] slices_S32x512_o16_0_S8x512 rfl rfl _ rfl _ _ row n
    intro row n
    delta chunk_value.sl.r_37 chunk_value.sl.H5_1
    refine group_step c arg5 _ _ t ht f5 1 _ ?_ ![8, 0] slices_S32x512_o8_0_S8x512 rfl rfl _ rfl _ _ row n
    intro row n
    refine group_step c arg5 _ _ t ht f5 0 [] ?_ ![0, 0] slices_S32x512_o0_0_S8x512 rfl rfl _ rfl _ _ row n
    intro row n
    unfold sumAt
    rw [if_neg (fun h => Nat.not_lt_zero _ h.2)]
    rfl
  isplitl [H3]; · iexact H3
  isplitl [H4]; · iexact H4
  isplitl [H6]; · iexact H6
  isplitl [H7]; · iexact H7
  ipureintro
  refine ⟨(Rect.unit (s := S1x1x256) (k0_off54 t) S1x1x1.size (k0_off54_inb t h10)).toLoadRect.idx (Shape.Idx.first (numel1_S1x1x1.symm ▸ Nat.one_pos)), rfl, ?_⟩
  delta chunk_value.sl.v614 chunk_value.sl.v615 chunk_value.sl.v613 chunk_value.sl.v612 chunk_value.sl.v611 chunk_value.sl.v610 chunk_value.sl.v609 chunk_value.sl.v608 chunk_value.sl.v605 chunk_value.sl.r_38
  delta nextT nextC chunksOf
  rfl

end

end Cert.Proof.PV

end
-- ==== Proof.PV.Chunk.lean ====
/-
  What one chunk adds over the extended reals: each of its eight entries' thirty-two weights times the decoded bytes they meet.
-/
module

public import proofs.«01_k».proof.Proof.PV.Step
public import proofs.«01_k».proof.Proof.WV.Scalar

@[expose] public section

noncomputable section

namespace Cert.Proof.PV

open Cert.KernelIdeal Cert.KernelIdeal.Gen Cert.Proof.PI
open Idealize.ShloMosaic Idealize.ShloMosaic.TcCoe

variable {F : FTy → Type} [FloatOps F]

/-- A number as an index, cut to its range. -/
def fin (n : ℕ) [NeZero n] (x : ℕ) : Fin n := ⟨x % n, Nat.mod_lt _ (Nat.pos_of_ne_zero (NeZero.ne n))⟩

theorem fin_val {n : ℕ} [NeZero n] {x : ℕ} (h : x < n) : (fin n x).val = x := Nat.mod_eq_of_lt h

/-- One of four things. -/
def four {α : Type} (s : Fin 4) (a b c d : α) : α := match s with | 0 => a | 1 => b | 2 => c | 3 => d

/-! ### The lanes' constants -/

theorem slot_at (q : Fin 8) (l : Fin 128) : k0_pay11 (ix2 q l) = BitVec.ofNat 32 (l.val / 32) := by
  have key : ∀ l : Fin 128, k0_pay11 (ix2 0 l) = BitVec.ofNat 32 (l.val / 32) := by decide +kernel
  exact key l

theorem bin_at (q : Fin 8) (l : Fin 128) : k0_pay7 (F := F) (ix2 q l) = FloatOps.sitofp .f32 (BitVec.ofNat 32 (l.val % 8)) := by
  have key : ∀ (q : Fin 8) (l : Fin 128), andi (iota .tc S8x128 32 [1] iota_S8x128_d1_w32) (broadcast S8x128 7#32) (ix2 q l) = BitVec.ofNat 32 (l.val % 8) := by decide +kernel
  exact congrArg (FloatOps.sitofp .f32) (key q l)

theorem row_at (q : Fin 8) (l : Fin 128) : k0_pay8 (F := F) (ix2 q l) = FloatOps.sitofp .f32 (BitVec.ofNat 32 (l.val / 8 % 4)) := by
  have key : ∀ (q : Fin 8) (l : Fin 128), andi (shrsi (iota .tc S8x128 32 [1] iota_S8x128_d1_w32) (broadcast S8x128 3#32)) (broadcast S8x128 3#32) (ix2 q l) = BitVec.ofNat 32 (l.val / 8 % 4) := by decide +kernel
  exact congrArg (FloatOps.sitofp .f32) (key q l)

theorem sub_at (q : Fin 8) (l : Fin 128) : k0_pay6 (F := F) (ix2 q l) = FloatOps.sitofp .f32 (BitVec.ofNat 32 q.val) := by
  have key : ∀ (q : Fin 8) (l : Fin 128), iota .tc S8x128 32 [0] iota_S8x128_d0_w32 (ix2 q l) = BitVec.ofNat 32 q.val := by decide +kernel
  exact congrArg (FloatOps.sitofp .f32) (key q l)

/-- The entry of the lane's quarter. -/
theorem pay70_at (T0 T1 T2 T3 : FVec F S8x128 .f32) (q : Fin 8) (l : Fin 128) (s : Fin 4) (hl : l.val / 32 = s.val) :
    k0_pay70 k0_pay11 (select (cmpi .eq k0_pay11 (broadcast S8x128 2#32)) T2 (select (cmpi .eq k0_pay11 (broadcast S8x128 1#32)) T1 T0)) T3 (ix2 q l)
      = (four s T0 T1 T2 T3) (ix2 q l) := by
  have hv := slot_at q l
  rw [hl] at hv
  show Scalar.select (IntOp.cmpi .eq (k0_pay11 (ix2 q l)) 3#32) (T3 (ix2 q l)) (Scalar.select (IntOp.cmpi .eq (k0_pay11 (ix2 q l)) 2#32) (T2 (ix2 q l)) (Scalar.select (IntOp.cmpi .eq (k0_pay11 (ix2 q l)) 1#32) (T1 (ix2 q l)) (T0 (ix2 q l)))) = _
  rw [hv]
  match s with
  | 0 => rfl
  | 1 => rfl
  | 2 => rfl
  | 3 => rfl

theorem pay71_x (n : IVec S8x128 32) (n3 : BitVec 32) (l : Fin 128) :
    k0_pay71 (F := F) k0_pay11 k0_pay8 k0_pay9 k0_pay7 n n3 (ix2 0 l) = FloatOps.sitofp .f32 (BitVec.ofNat 32 (l.val % 8)) := by
  rw [← bin_at 0 l]; rfl

theorem pay71_y (n0 n1 n2 n3 : BitVec 32) (l : Fin 128) (s : Fin 4) (hl : l.val / 32 = s.val) :
    k0_pay71 (F := F) k0_pay11 k0_pay8 k0_pay9 k0_pay7 (select (cmpi .eq k0_pay11 (broadcast S8x128 2#32)) (broadcast S8x128 n2) (select (cmpi .eq k0_pay11 (broadcast S8x128 1#32)) (broadcast S8x128 n1) (broadcast S8x128 n0))) n3 (ix2 1 l)
      = FloatOps.addf (FloatOps.sitofp .f32 (four s n0 n1 n2 n3)) (FloatOps.sitofp .f32 (BitVec.ofNat 32 (l.val / 8 % 4))) := by
  have hv := slot_at 1 l
  rw [hl] at hv
  rw [← row_at 1 l]
  show FloatOps.addf (FloatOps.sitofp .f32 (Scalar.select (IntOp.cmpi .eq (k0_pay11 (ix2 1 l)) 3#32) n3 (Scalar.select (IntOp.cmpi .eq (k0_pay11 (ix2 1 l)) 2#32) n2 (Scalar.select (IntOp.cmpi .eq (k0_pay11 (ix2 1 l)) 1#32) n1 n0)))) _ = _
  rw [hv]
  match s with
  | 0 => rfl
  | 1 => rfl
  | 2 => rfl
  | 3 => rfl

theorem size_x (l : Fin 128) : k0_pay10 (F := F) (ix2 0 l) = Scalar.ofBits .f32 0x42C00000#32 := by
  have key : ∀ (l : Fin 128), cmpi .eq (iota .tc S8x128 32 [0] iota_S8x128_d0_w32) (broadcast S8x128 0#32) (ix2 0 l) = 1#1 := by decide +kernel
  first | rfl | (show Scalar.select (cmpi .eq (iota .tc S8x128 32 [0] iota_S8x128_d0_w32) (broadcast S8x128 0#32) (ix2 0 l)) _ _ = _; rw [key]; rfl)
theorem size_y (l : Fin 128) : k0_pay10 (F := F) (ix2 1 l) = Scalar.ofBits .f32 0x42800000#32 := by
  have key : ∀ (l : Fin 128), cmpi .eq (iota .tc S8x128 32 [0] iota_S8x128_d0_w32) (broadcast S8x128 0#32) (ix2 1 l) = 0#1 := by decide +kernel
  first | rfl | (show Scalar.select (cmpi .eq (iota .tc S8x128 32 [0] iota_S8x128_d0_w32) (broadcast S8x128 0#32) (ix2 1 l)) _ _ = _; rw [key]; rfl)

/-- A weight of the block: the entry of the lane's quarter at one cell of the tile. -/
theorem half_at (v41 v44 T0 T1 T2 T3 : FVec F S8x128 .f32) (n0 n1 n2 n3 : BitVec 32) (m : Fin 32) (g : Fin 4) (q g8 : Fin 8) (l : Fin 128) (s : Fin 4)
    (hl : l.val / 32 = s.val) (hm : m.val = 8 * g.val + q.val) (hg : g8.val = g.val) (T : FVec F S8x128 .f32) (hT : T = four s T0 T1 T2 T3)
    (n : BitVec 32) (hn : n = four s n0 n1 n2 n3) :
    half k0_pay11 k0_pay8 k0_pay9 k0_pay7 k0_pay10 v41 v44 T0 T1 T2 T3 n0 n1 n2 n3 (ix2 m l)
      = FloatOps.mulf (FloatOps.mulf (axK (v44 (ix2 g8 l)) (T (ix2 1 l)) (T (ix2 3 l)) (FloatOps.addf (FloatOps.sitofp .f32 n) (FloatOps.sitofp .f32 (BitVec.ofNat 32 (l.val / 8 % 4)))) (Scalar.ofBits .f32 0x42800000#32)) (T (ix2 4 l)))
          (axK (v41 (ix2 q l)) (T (ix2 0 l)) (T (ix2 2 l)) (FloatOps.sitofp .f32 (BitVec.ofNat 32 (l.val % 8))) (Scalar.ofBits .f32 0x42C00000#32)) := by
  unfold half
  rw [pay77_at _ _ _ _ _ m g q g8 l hm hg]
  rw [pay75_at _ _ _ _ _ _ _ _ _ (1 : Fin 8) (3 : Fin 8) l rfl, pay76_at _ _ _ _ _ _ _ _ _ (1 : Fin 8) (3 : Fin 8) l rfl,
    pay75_at _ _ _ _ _ _ _ _ _ (0 : Fin 8) (2 : Fin 8) l rfl, pay76_at _ _ _ _ _ _ _ _ _ (0 : Fin 8) (2 : Fin 8) l rfl]
  rw [pay70_at T0 T1 T2 T3 0 l s hl, pay70_at T0 T1 T2 T3 1 l s hl, pay70_at T0 T1 T2 T3 2 l s hl, pay70_at T0 T1 T2 T3 3 l s hl, pay70_at T0 T1 T2 T3 4 l s hl,
    pay71_x, pay71_y n0 n1 n2 n3 l s hl, size_x, size_y]
  subst hT hn
  rfl

/-! ### Entries as numbers -/

theorem entry_nums {e : BitVec 32} (h : e.toNat < 3080) :
    (Scalar.addi (Scalar.muli (Scalar.shrui e 3#32) 15#32) (Scalar.muli 2#32 (Scalar.andi e 7#32))).toNat = 15 * (e.toNat / 8) + 2 * (e.toNat % 8)
    ∧ (Scalar.muli (Scalar.shrui e 3#32) 8#32).toNat = 8 * (e.toNat / 8) ∧ Scalar.andi e 7#32 = BitVec.ofNat 32 (e.toNat % 8) := by
  have key : ∀ n : Fin 3080, (fun e : BitVec 32 => (Scalar.addi (Scalar.muli (Scalar.shrui e 3#32) 15#32) (Scalar.muli 2#32 (Scalar.andi e 7#32))).toNat = 15 * (e.toNat / 8) + 2 * (e.toNat % 8)
    ∧ (Scalar.muli (Scalar.shrui e 3#32) 8#32).toNat = 8 * (e.toNat / 8) ∧ Scalar.andi e 7#32 = BitVec.ofNat 32 (e.toNat % 8)) (BitVec.ofNat 32 n.val) := by decide +kernel
  have := key ⟨e.toNat, h⟩
  simpa only [BitVec.ofNat_toNat, BitVec.setWidth_eq] using this

theorem entry_val (a w : BitVec 32) (ha : a.toNat ≤ 95) : (entry a w).toNat = if a.toNat < 48 then w.toNat % 65536 else w.toNat / 65536 := by
  have key : ∀ n : Fin 96, Scalar.select (Scalar.cmpi .sge (BitVec.ofNat 32 n.val) 48#32) 16#32 0#32 = if (BitVec.ofNat 32 n.val).toNat < 48 then 0#32 else 16#32 := by decide +kernel
  have k := key ⟨a.toNat, by omega⟩
  simp only [BitVec.ofNat_toNat, BitVec.setWidth_eq] at k
  unfold entry
  rw [k]
  have hw := w.isLt
  by_cases h : a.toNat < 48
  · rw [if_pos h, if_pos h]
    show ((w >>> (0 : ℕ)) &&& 65535#32).toNat = _
    rw [BitVec.toNat_and, BitVec.toNat_ushiftRight, Nat.shiftRight_zero]
    exact Nat.and_two_pow_sub_one_eq_mod w.toNat 16
  · rw [if_neg h, if_neg h]
    show ((w >>> (16 : ℕ)) &&& 65535#32).toNat = _
    rw [BitVec.toNat_and, BitVec.toNat_ushiftRight, Nat.shiftRight_eq_div_pow]
    refine (Nat.and_two_pow_sub_one_eq_mod (w.toNat / 2 ^ 16) 16).trans ?_
    show w.toNat / 65536 % 65536 = w.toNat / 65536
    omega

/-- The entry at a place of a column: the words' low halves, then their high halves. -/
def entOf (L : S1x384x256.Idx → BitVec 32) (t pos : ℕ) : ℕ :=
  if pos < 384 then (L (ix3 (0 : Fin 1) (fin 384 pos) (fin 256 t))).toNat % 65536 else (L (ix3 (0 : Fin 1) (fin 384 (pos - 384)) (fin 256 t))).toNat / 65536

theorem entOf_lt {L : S1x384x256.Idx → BitVec 32} (hL : ∀ x, WordOk (L x)) (t pos : ℕ) : entOf L t pos < 3080 := by
  unfold entOf
  split
  · exact (hL _).1
  · exact (hL _).2

section
variable (c : Dev nD)
  (arg3 : Memref sig .tc .smem S1x384x256 .i32) (arg6 : Memref sig .tc .vmem S4x5784x128 .i32) (arg7 : Memref sig .tc .vmem S3080x128 .f32)

theorem word0 (t a : BitVec 32) (ht : t.toNat ≤ 192) (ha : a.toNat ≤ 95) (f3 : Buf (Elt F) (arg3.view.loc (c : Thread nD τ))) (h) :
    (entry a (wordAt c arg3 f3 (k0_off5 t a) h)).toNat = entOf (arg3.view.read (Elt F) f3) t.toNat (8 * a.toNat + 0) := by
  have key : ∀ n : Fin 96, k0_off5 0#32 (BitVec.ofNat 32 n.val) 1 = 8 * ((BitVec.ofNat 32 n.val).toNat % 48) + 0 := by decide +kernel
  have e1 := key ⟨a.toNat, by omega⟩
  simp only [BitVec.ofNat_toNat, BitVec.setWidth_eq] at e1
  have e1' : k0_off5 t a 1 = 8 * (a.toNat % 48) + 0 := e1
  rw [entry_val a _ ha]
  unfold entOf wordAt
  have ei : ∀ r : Fin 384, r.val = 8 * (a.toNat % 48) + 0 → View.readAt (Elt F) arg3.view (Rect.unit (s := S1x384x256) (k0_off5 t a) S1x1x1.size h).toLoadRect f3 (Shape.Idx.first (numel1_S1x1x1.symm ▸ Nat.one_pos))
      = arg3.view.read (Elt F) f3 (ix3 (0 : Fin 1) r (fin 256 t.toNat)) := by
    intro r hr
    rw [View.readAt_apply]
    refine congrArg (arg3.view.read (Elt F) f3) (funext fun d => ?_)
    match d with
    | ⟨0, _⟩ => exact Fin.ext rfl
    | ⟨1, _⟩ => exact Fin.ext (by show k0_off5 t a 1 + 1 * 0 = r.val; omega)
    | ⟨2, _⟩ => exact Fin.ext (by rw [show (ix3 (0 : Fin 1) r (fin 256 t.toNat) (⟨2, by omega⟩ : Fin 3) : Fin _).val = t.toNat from fin_val (by omega)]; show k0_off5 t a 2 + 1 * 0 = t.toNat; rfl)
  by_cases hlt : a.toNat < 48
  · rw [if_pos hlt, if_pos (by omega), ei (fin 384 (8 * a.toNat + 0)) (by rw [fin_val (by omega)]; omega)]
  · rw [if_neg hlt, if_neg (by omega), ei (fin 384 (8 * a.toNat + 0 - 384)) (by rw [fin_val (by omega)]; omega)]

theorem word1 (t a : BitVec 32) (ht : t.toNat ≤ 192) (ha : a.toNat ≤ 95) (f3 : Buf (Elt F) (arg3.view.loc (c : Thread nD τ))) (h) :
    (entry a (wordAt c arg3 f3 (k0_off11 t a) h)).toNat = entOf (arg3.view.read (Elt F) f3) t.toNat (8 * a.toNat + 1) := by
  have key : ∀ n : Fin 96, k0_off11 0#32 (BitVec.ofNat 32 n.val) 1 = 8 * ((BitVec.ofNat 32 n.val).toNat % 48) + 1 := by decide +kernel
  have e1 := key ⟨a.toNat, by omega⟩
  simp only [BitVec.ofNat_toNat, BitVec.setWidth_eq] at e1
  have e1' : k0_off11 t a 1 = 8 * (a.toNat % 48) + 1 := e1
  rw [entry_val a _ ha]
  unfold entOf wordAt
  have ei : ∀ r : Fin 384, r.val = 8 * (a.toNat % 48) + 1 → View.readAt (Elt F) arg3.view (Rect.unit (s := S1x384x256) (k0_off11 t a) S1x1x1.size h).toLoadRect f3 (Shape.Idx.first (numel1_S1x1x1.symm ▸ Nat.one_pos))
      = arg3.view.read (Elt F) f3 (ix3 (0 : Fin 1) r (fin 256 t.toNat)) := by
    intro r hr
    rw [View.readAt_apply]
    refine congrArg (arg3.view.read (Elt F) f3) (funext fun d => ?_)
    match d with
    | ⟨0, _⟩ => exact Fin.ext rfl
    | ⟨1, _⟩ => exact Fin.ext (by show k0_off11 t a 1 + 1 * 0 = r.val; omega)
    | ⟨2, _⟩ => exact Fin.ext (by rw [show (ix3 (0 : Fin 1) r (fin 256 t.toNat) (⟨2, by omega⟩ : Fin 3) : Fin _).val = t.toNat from fin_val (by omega)]; show k0_off11 t a 2 + 1 * 0 = t.toNat; rfl)
  by_cases hlt : a.toNat < 48
  · rw [if_pos hlt, if_pos (by omega), ei (fin 384 (8 * a.toNat + 1)) (by rw [fin_val (by omega)]; omega)]
  · rw [if_neg hlt, if_neg (by omega), ei (fin 384 (8 * a.toNat + 1 - 384)) (by rw [fin_val (by omega)]; omega)]

theorem word2 (t a : BitVec 32) (ht : t.toNat ≤ 192) (ha : a.toNat ≤ 95) (f3 : Buf (Elt F) (arg3.view.loc (c : Thread nD τ))) (h) :
    (entry a (wordAt c arg3 f3 (k0_off17 t a) h)).toNat = entOf (arg3.view.read (Elt F) f3) t.toNat (8 * a.toNat + 2) := by
  have key : ∀ n : Fin 96, k0_off17 0#32 (BitVec.ofNat 32 n.val) 1 = 8 * ((BitVec.ofNat 32 n.val).toNat % 48) + 2 := by decide +kernel
  have e1 := key ⟨a.toNat, by omega⟩
  simp only [BitVec.ofNat_toNat, BitVec.setWidth_eq] at e1
  have e1' : k0_off17 t a 1 = 8 * (a.toNat % 48) + 2 := e1
  rw [entry_val a _ ha]
  unfold entOf wordAt
  have ei : ∀ r : Fin 384, r.val = 8 * (a.toNat % 48) + 2 → View.readAt (Elt F) arg3.view (Rect.unit (s := S1x384x256) (k0_off17 t a) S1x1x1.size h).toLoadRect f3 (Shape.Idx.first (numel1_S1x1x1.symm ▸ Nat.one_pos))
      = arg3.view.read (Elt F) f3 (ix3 (0 : Fin 1) r (fin 256 t.toNat)) := by
    intro r hr
    rw [View.readAt_apply]
    refine congrArg (arg3.view.read (Elt F) f3) (funext fun d => ?_)
    match d with
    | ⟨0, _⟩ => exact Fin.ext rfl
    | ⟨1, _⟩ => exact Fin.ext (by show k0_off17 t a 1 + 1 * 0 = r.val; omega)
    | ⟨2, _⟩ => exact Fin.ext (by rw [show (ix3 (0 : Fin 1) r (fin 256 t.toNat) (⟨2, by omega⟩ : Fin 3) : Fin _).val = t.toNat from fin_val (by omega)]; show k0_off17 t a 2 + 1 * 0 = t.toNat; rfl)
  by_cases hlt : a.toNat < 48
  · rw [if_pos hlt, if_pos (by omega), ei (fin 384 (8 * a.toNat + 2)) (by rw [fin_val (by omega)]; omega)]
  · rw [if_neg hlt, if_neg (by omega), ei (fin 384 (8 * a.toNat + 2 - 384)) (by rw [fin_val (by omega)]; omega)]

theorem word3 (t a : BitVec 32) (ht : t.toNat ≤ 192) (ha : a.toNat ≤ 95) (f3 : Buf (Elt F) (arg3.view.loc (c : Thread nD τ))) (h) :
    (entry a (wordAt c arg3 f3 (k0_off23 t a) h)).toNat = entOf (arg3.view.read (Elt F) f3) t.toNat (8 * a.toNat + 3) := by
  have key : ∀ n : Fin 96, k0_off23 0#32 (BitVec.ofNat 32 n.val) 1 = 8 * ((BitVec.ofNat 32 n.val).toNat % 48) + 3 := by decide +kernel
  have e1 := key ⟨a.toNat, by omega⟩
  simp only [BitVec.ofNat_toNat, BitVec.setWidth_eq] at e1
  have e1' : k0_off23 t a 1 = 8 * (a.toNat % 48) + 3 := e1
  rw [entry_val a _ ha]
  unfold entOf wordAt
  have ei : ∀ r : Fin 384, r.val = 8 * (a.toNat % 48) + 3 → View.readAt (Elt F) arg3.view (Rect.unit (s := S1x384x256) (k0_off23 t a) S1x1x1.size h).toLoadRect f3 (Shape.Idx.first (numel1_S1x1x1.symm ▸ Nat.one_pos))
      = arg3.view.read (Elt F) f3 (ix3 (0 : Fin 1) r (fin 256 t.toNat)) := by
    intro r hr
    rw [View.readAt_apply]
    refine congrArg (arg3.view.read (Elt F) f3) (funext fun d => ?_)
    match d with
    | ⟨0, _⟩ => exact Fin.ext rfl
    | ⟨1, _⟩ => exact Fin.ext (by show k0_off23 t a 1 + 1 * 0 = r.val; omega)
    | ⟨2, _⟩ => exact Fin.ext (by rw [show (ix3 (0 : Fin 1) r (fin 256 t.toNat) (⟨2, by omega⟩ : Fin 3) : Fin _).val = t.toNat from fin_val (by omega)]; show k0_off23 t a 2 + 1 * 0 = t.toNat; rfl)
  by_cases hlt : a.toNat < 48
  · rw [if_pos hlt, if_pos (by omega), ei (fin 384 (8 * a.toNat + 3)) (by rw [fin_val (by omega)]; omega)]
  · rw [if_neg hlt, if_neg (by omega), ei (fin 384 (8 * a.toNat + 3 - 384)) (by rw [fin_val (by omega)]; omega)]

theorem word4 (t a : BitVec 32) (ht : t.toNat ≤ 192) (ha : a.toNat ≤ 95) (f3 : Buf (Elt F) (arg3.view.loc (c : Thread nD τ))) (h) :
    (entry a (wordAt c arg3 f3 (k0_off29 t a) h)).toNat = entOf (arg3.view.read (Elt F) f3) t.toNat (8 * a.toNat + 4) := by
  have key : ∀ n : Fin 96, k0_off29 0#32 (BitVec.ofNat 32 n.val) 1 = 8 * ((BitVec.ofNat 32 n.val).toNat % 48) + 4 := by decide +kernel
  have e1 := key ⟨a.toNat, by omega⟩
  simp only [BitVec.ofNat_toNat, BitVec.setWidth_eq] at e1
  have e1' : k0_off29 t a 1 = 8 * (a.toNat % 48) + 4 := e1
  rw [entry_val a _ ha]
  unfold entOf wordAt
  have ei : ∀ r : Fin 384, r.val = 8 * (a.toNat % 48) + 4 → View.readAt (Elt F) arg3.view (Rect.unit (s := S1x384x256) (k0_off29 t a) S1x1x1.size h).toLoadRect f3 (Shape.Idx.first (numel1_S1x1x1.symm ▸ Nat.one_pos))
      = arg3.view.read (Elt F) f3 (ix3 (0 : Fin 1) r (fin 256 t.toNat)) := by
    intro r hr
    rw [View.readAt_apply]
    refine congrArg (arg3.view.read (Elt F) f3) (funext fun d => ?_)
    match d with
    | ⟨0, _⟩ => exact Fin.ext rfl
    | ⟨1, _⟩ => exact Fin.ext (by show k0_off29 t a 1 + 1 * 0 = r.val; omega)
    | ⟨2, _⟩ => exact Fin.ext (by rw [show (ix3 (0 : Fin 1) r (fin 256 t.toNat) (⟨2, by omega⟩ : Fin 3) : Fin _).val = t.toNat from fin_val (by omega)]; show k0_off29 t a 2 + 1 * 0 = t.toNat; rfl)
  by_cases hlt : a.toNat < 48
  · rw [if_pos hlt, if_pos (by omega), ei (fin 384 (8 * a.toNat + 4)) (by rw [fin_val (by omega)]; omega)]
  · rw [if_neg hlt, if_neg (by omega), ei (fin 384 (8 * a.toNat + 4 - 384)) (by rw [fin_val (by omega)]; omega)]

theorem word5 (t a : BitVec 32) (ht : t.toNat ≤ 192) (ha : a.toNat ≤ 95) (f3 : Buf (Elt F) (arg3.view.loc (c : Thread nD τ))) (h) :
    (entry a (wordAt c arg3 f3 (k0_off35 t a) h)).toNat = entOf (arg3.view.read (Elt F) f3) t.toNat (8 * a.toNat + 5) := by
  have key : ∀ n : Fin 96, k0_off35 0#32 (BitVec.ofNat 32 n.val) 1 = 8 * ((BitVec.ofNat 32 n.val).toNat % 48) + 5 := by decide +kernel
  have e1 := key ⟨a.toNat, by omega⟩
  simp only [BitVec.ofNat_toNat, BitVec.setWidth_eq] at e1
  have e1' : k0_off35 t a 1 = 8 * (a.toNat % 48) + 5 := e1
  rw [entry_val a _ ha]
  unfold entOf wordAt
  have ei : ∀ r : Fin 384, r.val = 8 * (a.toNat % 48) + 5 → View.readAt (Elt F) arg3.view (Rect.unit (s := S1x384x256) (k0_off35 t a) S1x1x1.size h).toLoadRect f3 (Shape.Idx.first (numel1_S1x1x1.symm ▸ Nat.one_pos))
      = arg3.view.read (Elt F) f3 (ix3 (0 : Fin 1) r (fin 256 t.toNat)) := by
    intro r hr
    rw [View.readAt_apply]
    refine congrArg (arg3.view.read (Elt F) f3) (funext fun d => ?_)
    match d with
    | ⟨0, _⟩ => exact Fin.ext rfl
    | ⟨1, _⟩ => exact Fin.ext (by show k0_off35 t a 1 + 1 * 0 = r.val; omega)
    | ⟨2, _⟩ => exact Fin.ext (by rw [show (ix3 (0 : Fin 1) r (fin 256 t.toNat) (⟨2, by omega⟩ : Fin 3) : Fin _).val = t.toNat from fin_val (by omega)]; show k0_off35 t a 2 + 1 * 0 = t.toNat; rfl)
  by_cases hlt : a.toNat < 48
  · rw [if_pos hlt, if_pos (by omega), ei (fin 384 (8 * a.toNat + 5)) (by rw [fin_val (by omega)]; omega)]
  · rw [if_neg hlt, if_neg (by omega), ei (fin 384 (8 * a.toNat + 5 - 384)) (by rw [fin_val (by omega)]; omega)]

theorem word6 (t a : BitVec 32) (ht : t.toNat ≤ 192) (ha : a.toNat ≤ 95) (f3 : Buf (Elt F) (arg3.view.loc (c : Thread nD τ))) (h) :
    (entry a (wordAt c arg3 f3 (k0_off41 t a) h)).toNat = entOf (arg3.view.read (Elt F) f3) t.toNat (8 * a.toNat + 6) := by
  have key : ∀ n : Fin 96, k0_off41 0#32 (BitVec.ofNat 32 n.val) 1 = 8 * ((BitVec.ofNat 32 n.val).toNat % 48) + 6 := by decide +kernel
  have e1 := key ⟨a.toNat, by omega⟩
  simp only [BitVec.ofNat_toNat, BitVec.setWidth_eq] at e1
  have e1' : k0_off41 t a 1 = 8 * (a.toNat % 48) + 6 := e1
  rw [entry_val a _ ha]
  unfold entOf wordAt
  have ei : ∀ r : Fin 384, r.val = 8 * (a.toNat % 48) + 6 → View.readAt (Elt F) arg3.view (Rect.unit (s := S1x384x256) (k0_off41 t a) S1x1x1.size h).toLoadRect f3 (Shape.Idx.first (numel1_S1x1x1.symm ▸ Nat.one_pos))
      = arg3.view.read (Elt F) f3 (ix3 (0 : Fin 1) r (fin 256 t.toNat)) := by
    intro r hr
    rw [View.readAt_apply]
    refine congrArg (arg3.view.read (Elt F) f3) (funext fun d => ?_)
    match d with
    | ⟨0, _⟩ => exact Fin.ext rfl
    | ⟨1, _⟩ => exact Fin.ext (by show k0_off41 t a 1 + 1 * 0 = r.val; omega)
    | ⟨2, _⟩ => exact Fin.ext (by rw [show (ix3 (0 : Fin 1) r (fin 256 t.toNat) (⟨2, by omega⟩ : Fin 3) : Fin _).val = t.toNat from fin_val (by omega)]; show k0_off41 t a 2 + 1 * 0 = t.toNat; rfl)
  by_cases hlt : a.toNat < 48
  · rw [if_pos hlt, if_pos (by omega), ei (fin 384 (8 * a.toNat + 6)) (by rw [fin_val (by omega)]; omega)]
  · rw [if_neg hlt, if_neg (by omega), ei (fin 384 (8 * a.toNat + 6 - 384)) (by rw [fin_val (by omega)]; omega)]

theorem word7 (t a : BitVec 32) (ht : t.toNat ≤ 192) (ha : a.toNat ≤ 95) (f3 : Buf (Elt F) (arg3.view.loc (c : Thread nD τ))) (h) :
    (entry a (wordAt c arg3 f3 (k0_off47 t a) h)).toNat = entOf (arg3.view.read (Elt F) f3) t.toNat (8 * a.toNat + 7) := by
  have key : ∀ n : Fin 96, k0_off47 0#32 (BitVec.ofNat 32 n.val) 1 = 8 * ((BitVec.ofNat 32 n.val).toNat % 48) + 7 := by decide +kernel
  have e1 := key ⟨a.toNat, by omega⟩
  simp only [BitVec.ofNat_toNat, BitVec.setWidth_eq] at e1
  have e1' : k0_off47 t a 1 = 8 * (a.toNat % 48) + 7 := e1
  rw [entry_val a _ ha]
  unfold entOf wordAt
  have ei : ∀ r : Fin 384, r.val = 8 * (a.toNat % 48) + 7 → View.readAt (Elt F) arg3.view (Rect.unit (s := S1x384x256) (k0_off47 t a) S1x1x1.size h).toLoadRect f3 (Shape.Idx.first (numel1_S1x1x1.symm ▸ Nat.one_pos))
      = arg3.view.read (Elt F) f3 (ix3 (0 : Fin 1) r (fin 256 t.toNat)) := by
    intro r hr
    rw [View.readAt_apply]
    refine congrArg (arg3.view.read (Elt F) f3) (funext fun d => ?_)
    match d with
    | ⟨0, _⟩ => exact Fin.ext rfl
    | ⟨1, _⟩ => exact Fin.ext (by show k0_off47 t a 1 + 1 * 0 = r.val; omega)
    | ⟨2, _⟩ => exact Fin.ext (by rw [show (ix3 (0 : Fin 1) r (fin 256 t.toNat) (⟨2, by omega⟩ : Fin 3) : Fin _).val = t.toNat from fin_val (by omega)]; show k0_off47 t a 2 + 1 * 0 = t.toNat; rfl)
  by_cases hlt : a.toNat < 48
  · rw [if_pos hlt, if_pos (by omega), ei (fin 384 (8 * a.toNat + 7)) (by rw [fin_val (by omega)]; omega)]
  · rw [if_neg hlt, if_neg (by omega), ei (fin 384 (8 * a.toNat + 7 - 384)) (by rw [fin_val (by omega)]; omega)]

/-- The parameters an entry names. -/
theorem tabAt_at (f7 : Buf (Elt F) (arg7.view.loc (c : Thread nD τ))) (a w : BitVec 32) (hw : k0_chk2 a w) (e : ℕ) (he : (entry a w).toNat = e) (hlt : e < 3080) (q : Fin 8) (l : Fin 128) :
    tabAt c arg7 f7 a w hw (ix2 q l) = arg7.view.read (Elt F) f7 (ix2 (fin 3080 (8 * (e / 8) + q.val)) l) := by
  subst he
  have h0 : k0_off10 a w 0 = 8 * ((entry a w).toNat / 8) := (entry_nums hlt).2.1
  unfold tabAt
  rw [View.readAt_apply]
  refine congrArg (arg7.view.read (Elt F) f7) (funext fun d => ?_)
  match d with
  | ⟨0, _⟩ => exact Fin.ext (by
      rw [show (ix2 (fin 3080 (8 * ((entry a w).toNat / 8) + q.val)) l (⟨0, by omega⟩ : Fin 2) : Fin _).val = 8 * ((entry a w).toNat / 8) + q.val from fin_val (by omega)]
      show k0_off10 a w 0 + 1 * q.val = _
      rw [h0]; omega)
  | ⟨1, _⟩ => exact Fin.ext (by show 0 + 1 * l.val = l.val; omega)

/-- The decoded bytes an entry names. -/
theorem kAll_at (f6 : Buf (Elt F) (arg6.view.loc (c : Thread nD τ))) (a w : BitVec 32) (hw : k0_chk2 a w) (e : ℕ) (he : (entry a w).toNat = e) (hlt : e < 3080) (u : Fin 32) (n : Fin 512) :
    kAll c arg6 f6 a w hw (ix2 u n)
      = FloatOps.ofBits .fp8e5m2 (byteOf (arg6.view.read (Elt F) f6 (ix3 (fin 4 (n.val / 128)) (fin 5784 (15 * (e / 8) + 2 * (e % 8) + u.val / 4)) (fin 128 (n.val % 128)))) (u.val % 4)) := by
  subst he
  have h0 : (Scalar.addi (Scalar.muli (Scalar.shrui (entry a w) 3#32) 15#32) (Scalar.muli 2#32 (Scalar.andi (entry a w) 7#32))).toNat = 15 * ((entry a w).toNat / 8) + 2 * ((entry a w).toNat % 8) := (entry_nums hlt).1
  have hu := u.isLt
  have hn := n.isLt
  have key : ∀ (off : Fin 3 → ℕ) (h : ∀ x, off x + S1x8x128.size x ≤ S4x5784x128.size x), off 1 = 15 * ((entry a w).toNat / 8) + 2 * ((entry a w).toNat % 8) → off 2 = 0 → off 0 = n.val / 128 →
      shapeCast S8x128 (View.readAt (Elt F) arg6.view (Rect.unit (s := S4x5784x128) off S1x8x128.size h).toLoadRect f6) shapeCasts_S1x8x128_S8x128 (ix2 (⟨u.val / 4, by omega⟩ : Fin 8) (fin 128 (n.val % 128)))
        = arg6.view.read (Elt F) f6 (ix3 (fin 4 (n.val / 128)) (fin 5784 (15 * ((entry a w).toNat / 8) + 2 * ((entry a w).toNat % 8) + u.val / 4)) (fin 128 (n.val % 128))) := by
    intro off h h1 h2 h3
    rw [shapeCast_apply _ _ _ (ix3 (0 : Fin 1) (⟨u.val / 4, by omega⟩ : Fin 8) (fin 128 (n.val % 128))) (by rw [Shape.rowMajor_val_two, Shape.rowMajor_val_three]; show (0 * 8 + u.val / 4) * 128 + _ = (u.val / 4) * 128 + _; rw [Nat.zero_mul, Nat.zero_add]; rfl)]
    rw [View.readAt_apply]
    refine congrArg (arg6.view.read (Elt F) f6) (funext fun d => ?_)
    match d with
    | ⟨0, _⟩ => exact Fin.ext (by
        rw [show (ix3 (fin 4 (n.val / 128)) (fin 5784 (15 * ((entry a w).toNat / 8) + 2 * ((entry a w).toNat % 8) + u.val / 4)) (fin 128 (n.val % 128)) (⟨0, by omega⟩ : Fin 3) : Fin _).val = n.val / 128 from fin_val (by omega)]
        show off 0 + 1 * 0 = _; omega)
    | ⟨1, _⟩ => exact Fin.ext (by
        rw [show (ix3 (fin 4 (n.val / 128)) (fin 5784 (15 * ((entry a w).toNat / 8) + 2 * ((entry a w).toNat % 8) + u.val / 4)) (fin 128 (n.val % 128)) (⟨1, by omega⟩ : Fin 3) : Fin _).val = 15 * ((entry a w).toNat / 8) + 2 * ((entry a w).toNat % 8) + u.val / 4 from fin_val (by omega)]
        show off 1 + 1 * (u.val / 4) = _; omega)
    | ⟨2, _⟩ => exact Fin.ext (by show off 2 + 1 * (fin 128 (n.val % 128)).val = (fin 128 (n.val % 128)).val; omega)
  unfold kAll
  have hl : (fin 128 (n.val % 128)).val = n.val % 128 := fin_val (by omega)
  obtain h | h | h | h : n.val / 128 = 0 ∨ n.val / 128 = 1 ∨ n.val / 128 = 2 ∨ n.val / 128 = 3 := by omega
  · refine (bytes4_at _ _ _ _ u n 0 (fin 128 (n.val % 128)) ⟨u.val / 4, by omega⟩ (u.val % 4) (by omega) (by show n.val = 128 * 0 + (fin 128 (n.val % 128)).val; omega) (by show u.val = 4 * (u.val / 4) + u.val % 4; omega)).trans ?_
    exact congrArg (fun z => FloatOps.ofBits .fp8e5m2 (byteOf z (u.val % 4))) (key (k0_off6 a w) (k0_off6_inb a w hw) h0 rfl h.symm)
  · refine (bytes4_at _ _ _ _ u n 1 (fin 128 (n.val % 128)) ⟨u.val / 4, by omega⟩ (u.val % 4) (by omega) (by show n.val = 128 * 1 + (fin 128 (n.val % 128)).val; omega) (by show u.val = 4 * (u.val / 4) + u.val % 4; omega)).trans ?_
    exact congrArg (fun z => FloatOps.ofBits .fp8e5m2 (byteOf z (u.val % 4))) (key (k0_off7 a w) (k0_off7_inb a w hw) h0 rfl h.symm)
  · refine (bytes4_at _ _ _ _ u n 2 (fin 128 (n.val % 128)) ⟨u.val / 4, by omega⟩ (u.val % 4) (by omega) (by show n.val = 128 * 2 + (fin 128 (n.val % 128)).val; omega) (by show u.val = 4 * (u.val / 4) + u.val % 4; omega)).trans ?_
    exact congrArg (fun z => FloatOps.ofBits .fp8e5m2 (byteOf z (u.val % 4))) (key (k0_off8 a w) (k0_off8_inb a w hw) h0 rfl h.symm)
  · refine (bytes4_at _ _ _ _ u n 3 (fin 128 (n.val % 128)) ⟨u.val / 4, by omega⟩ (u.val % 4) (by omega) (by show n.val = 128 * 3 + (fin 128 (n.val % 128)).val; omega) (by show u.val = 4 * (u.val / 4) + u.val % 4; omega)).trans ?_
    exact congrArg (fun z => FloatOps.ofBits .fp8e5m2 (byteOf z (u.val % 4))) (key (k0_off9 a w) (k0_off9_inb a w hw) h0 rfl h.symm)

end

end Cert.Proof.PV

end
-- ==== Proof.PV.Weight.lean ====
/-
  What one chunk adds, as a sum over its entries and their weights.
-/
module

public import proofs.«01_k».proof.Proof.PV.Chunk

@[expose] public section

noncomputable section

namespace Cert.Proof.PV

open Cert.KernelIdeal Cert.KernelIdeal.Gen Cert.Proof.PI
open Idealize.ShloMosaic Idealize.ShloMosaic.TcCoe

/-- A natural number among the extended reals. -/
def nat (n : ℕ) : EReal := ((n : ℝ) : EReal)

theorem nat_add (a b : ℕ) : nat a + nat b = nat (a + b) := by
  unfold nat; rw [← EReal.coe_add]; push_cast; rfl

theorem sitofp_nat (n : ℕ) (h : n < 100000) : (FloatOps.sitofp .f32 (BitVec.ofNat 32 n) : Ideal .f32) = nat n := by
  have e : (BitVec.ofNat 32 n).toInt = n := by
    have h' : (BitVec.ofNat 32 n).toNat = n := by rw [BitVec.toNat_ofNat]; omega
    rw [BitVec.toInt_eq_toNat_of_lt (by omega), h']
  show (((BitVec.ofNat 32 n).toInt : ℝ) : EReal) = _
  rw [e]; unfold nat; norm_cast

theorem word_quarter : Ideal.ofBits .f32 0x3E800000#32 = ((1 / 4 : ℝ) : EReal) := by simp [Ideal.ofBits, Ideal.ieee]; norm_num; rw [← EReal.coe_mul]; exact congrArg Real.toEReal (by norm_num)
theorem word_threequarters : Ideal.ofBits .f32 0x3F400000#32 = ((3 / 4 : ℝ) : EReal) := by simp [Ideal.ofBits, Ideal.ieee]; norm_num; rw [← EReal.coe_mul]; exact congrArg Real.toEReal (by norm_num)
theorem word_7 : Ideal.ofBits .f32 0x40E00000#32 = ((7 : ℝ) : EReal) := by simp [Ideal.ofBits, Ideal.ieee]; norm_num; rw [← EReal.coe_mul]; exact congrArg Real.toEReal (by norm_num)
theorem word_neg1 : Ideal.ofBits .f32 0xBF800000#32 = ((-1 : ℝ) : EReal) := by simp [Ideal.ofBits, Ideal.ieee]; norm_num; rw [← EReal.coe_mul]; first | done | exact congrArg Real.toEReal (by norm_num)
theorem word_far : Ideal.ofBits .f32 0xC61C4000#32 = ((-10000 : ℝ) : EReal) := by simp [Ideal.ofBits, Ideal.ieee]; norm_num; rw [← EReal.coe_mul]; first | done | exact congrArg Real.toEReal (by norm_num)
theorem word_64 : Ideal.ofBits .f32 0x42800000#32 = ((64 : ℝ) : EReal) := by simp [Ideal.ofBits, Ideal.ieee]; norm_num; rw [← EReal.coe_mul]; exact congrArg Real.toEReal (by norm_num)
theorem word_96 : Ideal.ofBits .f32 0x42C00000#32 = ((96 : ℝ) : EReal) := by simp [Ideal.ofBits, Ideal.ieee]; norm_num; rw [← EReal.coe_mul]; exact congrArg Real.toEReal (by norm_num)

theorem IsReal.add {x y : EReal} (hx : IsReal x) (hy : IsReal y) : IsReal (x + y) := by
  obtain ⟨a, rfl⟩ := hx; obtain ⟨b, rfl⟩ := hy; exact ⟨a + b, by rw [EReal.coe_add]⟩
theorem IsReal.mul {x y : EReal} (hx : IsReal x) (hy : IsReal y) : IsReal (x * y) := by
  obtain ⟨a, rfl⟩ := hx; obtain ⟨b, rfl⟩ := hy; exact ⟨a * b, by rw [EReal.coe_mul]⟩
theorem IsReal.sub {x y : EReal} (hx : IsReal x) (hy : IsReal y) : IsReal (x - y) := by
  obtain ⟨a, rfl⟩ := hx; obtain ⟨b, rfl⟩ := hy; exact ⟨a - b, by rw [EReal.coe_sub]⟩
theorem IsReal.neg {x : EReal} (hx : IsReal x) : IsReal (-x) := by
  obtain ⟨a, rfl⟩ := hx; exact ⟨-a, by rw [EReal.coe_neg]⟩
theorem IsReal.max {x y : EReal} (hx : IsReal x) (hy : IsReal y) : IsReal (max x y) := by
  rcases max_choice x y with h | h <;> rw [h] <;> assumption
theorem isReal_of_bounds {x : EReal} {a b : ℝ} (h1 : (a : EReal) ≤ x) (h2 : x ≤ (b : EReal)) : IsReal x :=
  ⟨x.toReal, (EReal.coe_toReal (ne_top_of_le_ne_top (EReal.coe_ne_top b) h2) (ne_bot_of_le_ne_bot (EReal.coe_ne_bot a) h1)).symm⟩

/-- Whether a sample counts. -/
def live (q p size : EReal) : BitVec 1 :=
  IntOp.andi (IntOp.andi (Ideal.cmp .oge q (Ideal.ofBits .f32 0xBF800000#32)) (Ideal.cmp .ole q size)) (Ideal.cmp .olt p (Ideal.ofBits .f32 0x40E00000#32))

theorem posK_ideal (h : BitVec 32) (own oth p size : EReal) :
    (posK (F := Ideal) h own oth p size : EReal)
      = Scalar.select (live (own + p * oth + Ideal.ofBits .f32 h * oth) p size)
          (min (max (own + p * oth + Ideal.ofBits .f32 h * oth) (Ideal.ofBits .f32 0x00000000#32)) (size - Ideal.ofBits .f32 0x3F800000#32)) (Ideal.ofBits .f32 0xC61C4000#32) := rfl

theorem hatK_ideal (v q : EReal) : (hatK (F := Ideal) v q : EReal) = max (Ideal.ofBits .f32 0x3F800000#32 - max (v - q) (-(v - q))) (Ideal.ofBits .f32 0x00000000#32) := rfl

theorem posK_real (h : BitVec 32) (own oth p : EReal) (s : ℝ) : IsReal (posK (F := Ideal) h own oth p (s : EReal)) := by
  rw [posK_ideal]
  unfold Scalar.select
  split
  · rw [WV.word_0, WV.word_1, ← EReal.coe_sub]
    refine isReal_of_bounds (a := min 0 (s - 1)) (b := s - 1) ?_ (min_le_right _ _)
    refine le_min ?_ (EReal.coe_le_coe_iff.2 (min_le_right _ _))
    exact le_trans (EReal.coe_le_coe_iff.2 (min_le_left _ _)) (le_max_right _ _)
  · exact ⟨_, word_far⟩

theorem hatK_real {v q : EReal} (hv : IsReal v) (hq : IsReal q) : IsReal (hatK (F := Ideal) v q) := by
  rw [hatK_ideal]
  exact IsReal.max (IsReal.sub ⟨_, WV.word_1⟩ (IsReal.max (IsReal.sub hv hq) (IsReal.neg (IsReal.sub hv hq)))) ⟨_, WV.word_0⟩

theorem axK_real {v : EReal} (hv : IsReal v) (own oth p : EReal) (s : ℝ) : IsReal (axK (F := Ideal) v own oth p (s : EReal)) :=
  (hatK_real hv (posK_real _ _ _ _ _)).add (hatK_real hv (posK_real _ _ _ _ _))

theorem emax (a b : ℝ) : ((max a b : ℝ) : EReal) = max (a : EReal) (b : EReal) := EReal.coe_strictMono.monotone.map_max

theorem hat_far (y : ℕ) : (hatK (F := Ideal) (nat y) (Ideal.ofBits .f32 0xC61C4000#32) : EReal) = 0 := by
  rw [hatK_ideal, word_far, WV.word_0, WV.word_1]
  unfold nat
  rw [← EReal.coe_sub, ← EReal.coe_neg, ← emax, ← EReal.coe_sub, ← emax]
  refine congrArg Real.toEReal (max_eq_right ?_)
  have h1 : (0 : ℝ) ≤ (y : ℝ) := Nat.cast_nonneg y
  have h2 : (y : ℝ) - -10000 ≤ max ((y : ℝ) - -10000) (-((y : ℝ) - -10000)) := le_max_left _ _
  linarith

/-- A bin past the last has no weight. -/
theorem axK_dead (y p : ℕ) (hp : 7 ≤ p) (own oth size : EReal) : (axK (F := Ideal) (nat y) own oth (nat p) size : EReal) = 0 := by
  have hd : ∀ h : BitVec 32, (posK (F := Ideal) h own oth (nat p) size : EReal) = Ideal.ofBits .f32 0xC61C4000#32 := by
    intro h
    rw [posK_ideal]
    have e : Ideal.cmp .olt (nat p) (Ideal.ofBits .f32 0x40E00000#32) = 0#1 := by
      rw [word_7]
      show BitVec.ofBool (decide (nat p < ((7 : ℝ) : EReal))) = 0#1
      rw [decide_eq_false]
      · rfl
      · unfold nat; rw [EReal.coe_lt_coe_iff, not_lt]; exact_mod_cast hp
    unfold live
    rw [e]
    have z : ∀ b : BitVec 1, IntOp.andi b 0#1 = 0#1 := by decide
    rw [z]; rfl
  show (hatK (F := Ideal) (nat y) (posK (F := Ideal) _ own oth (nat p) size) : EReal) + hatK (F := Ideal) (nat y) (posK (F := Ideal) _ own oth (nat p) size) = 0
  rw [hd, hd, hat_far, add_zero]

/-- The weight of bin `(p, pw)` of an RoI with parameters `P` at cell `(Y, X)`, its scale included. -/
def cellW (Y X : ℕ) (P : Fin 8 → EReal) (p pw : ℕ) : EReal :=
  ((axK (F := Ideal) (nat Y) (P 1) (P 3) (nat p) (Scalar.ofBits .f32 0x42800000#32 : Ideal .f32) : EReal) * P 4)
    * (axK (F := Ideal) (nat X) (P 0) (P 2) (nat pw) (Scalar.ofBits .f32 0x42C00000#32 : Ideal .f32) : EReal)

theorem cellW_real (Y X : ℕ) (P : Fin 8 → EReal) (p pw : ℕ) (h4 : IsReal (P 4)) : IsReal (cellW Y X P p pw) := by
  unfold cellW
  have h1 : (Scalar.ofBits .f32 0x42800000#32 : Ideal .f32) = ((64 : ℝ) : EReal) := word_64
  have h2 : (Scalar.ofBits .f32 0x42C00000#32 : Ideal .f32) = ((96 : ℝ) : EReal) := word_96
  rw [h1, h2]
  exact ((axK_real ⟨_, rfl⟩ _ _ _ _).mul h4).mul (axK_real ⟨_, rfl⟩ _ _ _ _)

theorem cellW_dead_y (Y X : ℕ) (P : Fin 8 → EReal) (p pw : ℕ) (hp : 7 ≤ p) : cellW Y X P p pw = 0 := by
  unfold cellW; rw [axK_dead Y p hp, zero_mul, zero_mul]
theorem cellW_dead_x (Y X : ℕ) (P : Fin 8 → EReal) (p pw : ℕ) (hp : 7 ≤ pw) : cellW Y X P p pw = 0 := by
  unfold cellW; rw [axK_dead X pw hp, mul_zero]
theorem cellW_empty (Y X : ℕ) (P : Fin 8 → EReal) (p pw : ℕ) (h4 : P 4 = 0) : cellW Y X P p pw = 0 := by
  unfold cellW; rw [h4, mul_zero, zero_mul]

theorem tile_words (t : BitVec 32) (ht : t.toNat ≤ 192) :
    Scalar.muli (Scalar.shrsi (Scalar.minsi t 191#32) 4#32) 8#32 = BitVec.ofNat 32 (8 * (min t.toNat 191 / 16))
    ∧ Scalar.muli (Scalar.andi (Scalar.minsi t 191#32) 15#32) 4#32 = BitVec.ofNat 32 (4 * (min t.toNat 191 % 16)) := by
  have key : ∀ n : Fin 193, (fun t : BitVec 32 => Scalar.muli (Scalar.shrsi (Scalar.minsi t 191#32) 4#32) 8#32 = BitVec.ofNat 32 (8 * (min t.toNat 191 / 16))
    ∧ Scalar.muli (Scalar.andi (Scalar.minsi t 191#32) 15#32) 4#32 = BitVec.ofNat 32 (4 * (min t.toNat 191 % 16))) (BitVec.ofNat 32 n.val) := by decide +kernel
  have := key ⟨t.toNat, by omega⟩
  simpa only [BitVec.ofNat_toNat, BitVec.setWidth_eq] using this

theorem pay47_at (t : BitVec 32) (ht : t.toNat ≤ 192) (q : Fin 8) (l : Fin 128) : (k0_pay47 (F := Ideal) k0_pay6 t (ix2 q l) : EReal) = nat (8 * (min t.toNat 191 / 16) + q.val) := by
  have e : (k0_pay47 (F := Ideal) k0_pay6 t (ix2 q l) : EReal) = (k0_pay6 (F := Ideal) (ix2 q l) : EReal) + (FloatOps.sitofp .f32 (Scalar.muli (Scalar.shrsi (Scalar.minsi t 191#32) 4#32) 8#32) : Ideal .f32) := rfl
  rw [e, (tile_words t ht).1, sub_at, sitofp_nat _ (by omega), sitofp_nat _ (by omega), nat_add, Nat.add_comm]

theorem pay48_at (t : BitVec 32) (ht : t.toNat ≤ 192) (q : Fin 8) (l : Fin 128) : (k0_pay48 (F := Ideal) k0_pay6 t (ix2 q l) : EReal) = nat (4 * (min t.toNat 191 % 16) + q.val) := by
  have e : (k0_pay48 (F := Ideal) k0_pay6 t (ix2 q l) : EReal) = (k0_pay6 (F := Ideal) (ix2 q l) : EReal) + (FloatOps.sitofp .f32 (Scalar.muli (Scalar.andi (Scalar.minsi t 191#32) 15#32) 4#32) : Ideal .f32) := rfl
  rw [e, (tile_words t ht).2, sub_at, sitofp_nat _ (by omega), sitofp_nat _ (by omega), nat_add, Nat.add_comm]

/-- A weight of the block over the extended reals. -/
theorem half_ideal (t : BitVec 32) (ht : t.toNat ≤ 192) (T0 T1 T2 T3 : FVec Ideal S8x128 .f32) (n0 n1 n2 n3 : BitVec 32) (m : Fin 32) (l : Fin 128) (s : Fin 4)
    (hl : l.val / 32 = s.val) (T : FVec Ideal S8x128 .f32) (hT : T = four s T0 T1 T2 T3)
    (v : ℕ) (hv : v < 8) (hn : BitVec.ofNat 32 v = four s n0 n1 n2 n3) :
    (half (F := Ideal) k0_pay11 k0_pay8 k0_pay9 k0_pay7 k0_pay10 (k0_pay47 k0_pay6 t) (k0_pay48 k0_pay6 t) T0 T1 T2 T3 n0 n1 n2 n3 (ix2 m l) : EReal)
      = cellW (4 * (min t.toNat 191 % 16) + m.val / 8) (8 * (min t.toNat 191 / 16) + m.val % 8) (fun q => (T (ix2 q l) : EReal)) (v + l.val / 8 % 4) (l.val % 8) := by
  have hm := m.isLt
  rw [half_at (F := Ideal) _ _ T0 T1 T2 T3 n0 n1 n2 n3 m ⟨m.val / 8, by omega⟩ ⟨m.val % 8, by omega⟩ ⟨m.val / 8, by omega⟩ l s hl (by show m.val = 8 * (m.val / 8) + m.val % 8; omega) rfl T hT _ hn]
  have e1 : FloatOps.addf (FloatOps.sitofp .f32 (BitVec.ofNat 32 v) : Ideal .f32) (FloatOps.sitofp .f32 (BitVec.ofNat 32 (l.val / 8 % 4)) : Ideal .f32) = nat (v + l.val / 8 % 4) := by
    rw [sitofp_nat _ (by omega), sitofp_nat _ (by omega)]; exact nat_add _ _
  rw [e1, sitofp_nat _ (by omega)]
  have e2 := pay47_at t ht ⟨m.val % 8, by omega⟩ l
  have e3 := pay48_at t ht ⟨m.val / 8, by omega⟩ l
  rw [e2, e3]
  rfl

theorem block_at (t : BitVec 32) (ht : t.toNat ≤ 192) (T0 T1 T2 T3 T4 T5 T6 T7 : FVec Ideal S8x128 .f32) (n0 n1 n2 n3 n4 n5 n6 n7 : BitVec 32) (b0 b1 b2 b3 b4 b5 b6 b7 : FVec Ideal S32x512 .fp8e5m2)
    (m : Fin 32) (n : Fin 512) (e : Fin 8 → ℕ) (P : Fin 8 → Fin 8 → Fin 32 → EReal) (D : Fin 8 → Fin 32 → EReal)
    (hT0 : ∀ q (u : Fin 32), (T0 (ix2 q ⟨0 + u.val, by omega⟩) : EReal) = P 0 q u) (hn0 : BitVec.ofNat 32 (e 0 % 8) = n0) (hb0 : ∀ u, (b0 (ix2 u n) : EReal) = D 0 u)
    (hT1 : ∀ q (u : Fin 32), (T1 (ix2 q ⟨32 + u.val, by omega⟩) : EReal) = P 1 q u) (hn1 : BitVec.ofNat 32 (e 1 % 8) = n1) (hb1 : ∀ u, (b1 (ix2 u n) : EReal) = D 1 u)
    (hT2 : ∀ q (u : Fin 32), (T2 (ix2 q ⟨64 + u.val, by omega⟩) : EReal) = P 2 q u) (hn2 : BitVec.ofNat 32 (e 2 % 8) = n2) (hb2 : ∀ u, (b2 (ix2 u n) : EReal) = D 2 u)
    (hT3 : ∀ q (u : Fin 32), (T3 (ix2 q ⟨96 + u.val, by omega⟩) : EReal) = P 3 q u) (hn3 : BitVec.ofNat 32 (e 3 % 8) = n3) (hb3 : ∀ u, (b3 (ix2 u n) : EReal) = D 3 u)
    (hT4 : ∀ q (u : Fin 32), (T4 (ix2 q ⟨0 + u.val, by omega⟩) : EReal) = P 4 q u) (hn4 : BitVec.ofNat 32 (e 4 % 8) = n4) (hb4 : ∀ u, (b4 (ix2 u n) : EReal) = D 4 u)
    (hT5 : ∀ q (u : Fin 32), (T5 (ix2 q ⟨32 + u.val, by omega⟩) : EReal) = P 5 q u) (hn5 : BitVec.ofNat 32 (e 5 % 8) = n5) (hb5 : ∀ u, (b5 (ix2 u n) : EReal) = D 5 u)
    (hT6 : ∀ q (u : Fin 32), (T6 (ix2 q ⟨64 + u.val, by omega⟩) : EReal) = P 6 q u) (hn6 : BitVec.ofNat 32 (e 6 % 8) = n6) (hb6 : ∀ u, (b6 (ix2 u n) : EReal) = D 6 u)
    (hT7 : ∀ q (u : Fin 32), (T7 (ix2 q ⟨96 + u.val, by omega⟩) : EReal) = P 7 q u) (hn7 : BitVec.ofNat 32 (e 7 % 8) = n7) (hb7 : ∀ u, (b7 (ix2 u n) : EReal) = D 7 u)
    (hr : ∀ k u, IsReal (P k 4 u)) :
    (prod3 (split3 (half (F := Ideal) k0_pay11 k0_pay8 k0_pay9 k0_pay7 k0_pay10 (k0_pay47 k0_pay6 t) (k0_pay48 k0_pay6 t) T0 T1 T2 T3 n0 n1 n2 n3) (half (F := Ideal) k0_pay11 k0_pay8 k0_pay9 k0_pay7 k0_pay10 (k0_pay47 k0_pay6 t) (k0_pay48 k0_pay6 t) T4 T5 T6 T7 n4 n5 n6 n7)) (stack8 b0 b1 b2 b3 b4 b5 b6 b7) (ix2 m n) : EReal)
      = ∑ k : Fin 8, ∑ u : Fin 32, cellW (4 * (min t.toNat 191 % 16) + m.val / 8) (8 * (min t.toNat 191 / 16) + m.val % 8) (fun q => P k q u) (e k % 8 + u.val / 8) (u.val % 8) * D k u := by
  have hB : ∀ (m : Fin 32) (k : Fin 8) (u : Fin 32), (beside (half (F := Ideal) k0_pay11 k0_pay8 k0_pay9 k0_pay7 k0_pay10 (k0_pay47 k0_pay6 t) (k0_pay48 k0_pay6 t) T0 T1 T2 T3 n0 n1 n2 n3) (half (F := Ideal) k0_pay11 k0_pay8 k0_pay9 k0_pay7 k0_pay10 (k0_pay47 k0_pay6 t) (k0_pay48 k0_pay6 t) T4 T5 T6 T7 n4 n5 n6 n7) (ix2 m ⟨32 * k.val + u.val, by omega⟩) : EReal)
      = cellW (4 * (min t.toNat 191 % 16) + m.val / 8) (8 * (min t.toNat 191 / 16) + m.val % 8) (fun q => P k q u) (e k % 8 + u.val / 8) (u.val % 8) := by
    intro m k u
    have hu := u.isLt
    match k with
    | 0 =>
      have ee := hT0
      refine (beside_at _ _ m (0 : Fin 2) ⟨0 + u.val, by omega⟩ _ (by show 32 * 0 + u.val = 128 * 0 + (0 + u.val); omega)).trans ?_
      refine (half_ideal t ht _ _ _ _ _ _ _ _ m ⟨0 + u.val, by omega⟩ (0 : Fin 4) (by show (0 + u.val) / 32 = 0; omega) T0 rfl (e 0 % 8) (by omega) hn0).trans ?_
      have a1 : e 0 % 8 + (0 + u.val) / 8 % 4 = e 0 % 8 + u.val / 8 := by omega
      have a2 : (0 + u.val) % 8 = u.val % 8 := by omega
      have a3 : (fun q => (T0 (ix2 q ⟨0 + u.val, by omega⟩) : EReal)) = fun q => P 0 q u := funext fun q => ee q u
      show cellW _ _ (fun q => (T0 (ix2 q ⟨0 + u.val, by omega⟩) : EReal)) (e 0 % 8 + (0 + u.val) / 8 % 4) ((0 + u.val) % 8) = _
      rw [a1, a2, a3]
    | 1 =>
      have ee := hT1
      refine (beside_at _ _ m (0 : Fin 2) ⟨32 + u.val, by omega⟩ _ (by show 32 * 1 + u.val = 128 * 0 + (32 + u.val); omega)).trans ?_
      refine (half_ideal t ht _ _ _ _ _ _ _ _ m ⟨32 + u.val, by omega⟩ (1 : Fin 4) (by show (32 + u.val) / 32 = 1; omega) T1 rfl (e 1 % 8) (by omega) hn1).trans ?_
      have a1 : e 1 % 8 + (32 + u.val) / 8 % 4 = e 1 % 8 + u.val / 8 := by omega
      have a2 : (32 + u.val) % 8 = u.val % 8 := by omega
      have a3 : (fun q => (T1 (ix2 q ⟨32 + u.val, by omega⟩) : EReal)) = fun q => P 1 q u := funext fun q => ee q u
      show cellW _ _ (fun q => (T1 (ix2 q ⟨32 + u.val, by omega⟩) : EReal)) (e 1 % 8 + (32 + u.val) / 8 % 4) ((32 + u.val) % 8) = _
      rw [a1, a2, a3]
    | 2 =>
      have ee := hT2
      refine (beside_at _ _ m (0 : Fin 2) ⟨64 + u.val, by omega⟩ _ (by show 32 * 2 + u.val = 128 * 0 + (64 + u.val); omega)).trans ?_
      refine (half_ideal t ht _ _ _ _ _ _ _ _ m ⟨64 + u.val, by omega⟩ (2 : Fin 4) (by show (64 + u.val) / 32 = 2; omega) T2 rfl (e 2 % 8) (by omega) hn2).trans ?_
      have a1 : e 2 % 8 + (64 + u.val) / 8 % 4 = e 2 % 8 + u.val / 8 := by omega
      have a2 : (64 + u.val) % 8 = u.val % 8 := by omega
      have a3 : (fun q => (T2 (ix2 q ⟨64 + u.val, by omega⟩) : EReal)) = fun q => P 2 q u := funext fun q => ee q u
      show cellW _ _ (fun q => (T2 (ix2 q ⟨64 + u.val, by omega⟩) : EReal)) (e 2 % 8 + (64 + u.val) / 8 % 4) ((64 + u.val) % 8) = _
      rw [a1, a2, a3]
    | 3 =>
      have ee := hT3
      refine (beside_at _ _ m (0 : Fin 2) ⟨96 + u.val, by omega⟩ _ (by show 32 * 3 + u.val = 128 * 0 + (96 + u.val); omega)).trans ?_
      refine (half_ideal t ht _ _ _ _ _ _ _ _ m ⟨96 + u.val, by omega⟩ (3 : Fin 4) (by show (96 + u.val) / 32 = 3; omega) T3 rfl (e 3 % 8) (by omega) hn3).trans ?_
      have a1 : e 3 % 8 + (96 + u.val) / 8 % 4 = e 3 % 8 + u.val / 8 := by omega
      have a2 : (96 + u.val) % 8 = u.val % 8 := by omega
      have a3 : (fun q => (T3 (ix2 q ⟨96 + u.val, by omega⟩) : EReal)) = fun q => P 3 q u := funext fun q => ee q u
      show cellW _ _ (fun q => (T3 (ix2 q ⟨96 + u.val, by omega⟩) : EReal)) (e 3 % 8 + (96 + u.val) / 8 % 4) ((96 + u.val) % 8) = _
      rw [a1, a2, a3]
    | 4 =>
      have ee := hT4
      refine (beside_at _ _ m (1 : Fin 2) ⟨0 + u.val, by omega⟩ _ (by show 32 * 4 + u.val = 128 * 1 + (0 + u.val); omega)).trans ?_
      refine (half_ideal t ht _ _ _ _ _ _ _ _ m ⟨0 + u.val, by omega⟩ (0 : Fin 4) (by show (0 + u.val) / 32 = 0; omega) T4 rfl (e 4 % 8) (by omega) hn4).trans ?_
      have a1 : e 4 % 8 + (0 + u.val) / 8 % 4 = e 4 % 8 + u.val / 8 := by omega
      have a2 : (0 + u.val) % 8 = u.val % 8 := by omega
      have a3 : (fun q => (T4 (ix2 q ⟨0 + u.val, by omega⟩) : EReal)) = fun q => P 4 q u := funext fun q => ee q u
      show cellW _ _ (fun q => (T4 (ix2 q ⟨0 + u.val, by omega⟩) : EReal)) (e 4 % 8 + (0 + u.val) / 8 % 4) ((0 + u.val) % 8) = _
      rw [a1, a2, a3]
    | 5 =>
      have ee := hT5
      refine (beside_at _ _ m (1 : Fin 2) ⟨32 + u.val, by omega⟩ _ (by show 32 * 5 + u.val = 128 * 1 + (32 + u.val); omega)).trans ?_
      refine (half_ideal t ht _ _ _ _ _ _ _ _ m ⟨32 + u.val, by omega⟩ (1 : Fin 4) (by show (32 + u.val) / 32 = 1; omega) T5 rfl (e 5 % 8) (by omega) hn5).trans ?_
      have a1 : e 5 % 8 + (32 + u.val) / 8 % 4 = e 5 % 8 + u.val / 8 := by omega
      have a2 : (32 + u.val) % 8 = u.val % 8 := by omega
      have a3 : (fun q => (T5 (ix2 q ⟨32 + u.val, by omega⟩) : EReal)) = fun q => P 5 q u := funext fun q => ee q u
      show cellW _ _ (fun q => (T5 (ix2 q ⟨32 + u.val, by omega⟩) : EReal)) (e 5 % 8 + (32 + u.val) / 8 % 4) ((32 + u.val) % 8) = _
      rw [a1, a2, a3]
    | 6 =>
      have ee := hT6
      refine (beside_at _ _ m (1 : Fin 2) ⟨64 + u.val, by omega⟩ _ (by show 32 * 6 + u.val = 128 * 1 + (64 + u.val); omega)).trans ?_
      refine (half_ideal t ht _ _ _ _ _ _ _ _ m ⟨64 + u.val, by omega⟩ (2 : Fin 4) (by show (64 + u.val) / 32 = 2; omega) T6 rfl (e 6 % 8) (by omega) hn6).trans ?_
      have a1 : e 6 % 8 + (64 + u.val) / 8 % 4 = e 6 % 8 + u.val / 8 := by omega
      have a2 : (64 + u.val) % 8 = u.val % 8 := by omega
      have a3 : (fun q => (T6 (ix2 q ⟨64 + u.val, by omega⟩) : EReal)) = fun q => P 6 q u := funext fun q => ee q u
      show cellW _ _ (fun q => (T6 (ix2 q ⟨64 + u.val, by omega⟩) : EReal)) (e 6 % 8 + (64 + u.val) / 8 % 4) ((64 + u.val) % 8) = _
      rw [a1, a2, a3]
    | 7 =>
      have ee := hT7
      refine (beside_at _ _ m (1 : Fin 2) ⟨96 + u.val, by omega⟩ _ (by show 32 * 7 + u.val = 128 * 1 + (96 + u.val); omega)).trans ?_
      refine (half_ideal t ht _ _ _ _ _ _ _ _ m ⟨96 + u.val, by omega⟩ (3 : Fin 4) (by show (96 + u.val) / 32 = 3; omega) T7 rfl (e 7 % 8) (by omega) hn7).trans ?_
      have a1 : e 7 % 8 + (96 + u.val) / 8 % 4 = e 7 % 8 + u.val / 8 := by omega
      have a2 : (96 + u.val) % 8 = u.val % 8 := by omega
      have a3 : (fun q => (T7 (ix2 q ⟨96 + u.val, by omega⟩) : EReal)) = fun q => P 7 q u := funext fun q => ee q u
      show cellW _ _ (fun q => (T7 (ix2 q ⟨96 + u.val, by omega⟩) : EReal)) (e 7 % 8 + (96 + u.val) / 8 % 4) ((96 + u.val) % 8) = _
      rw [a1, a2, a3]
  rw [prod3_at, sum256]
  · refine Finset.sum_congr rfl fun k _ => Finset.sum_congr rfl fun u _ => ?_
    rw [hB m k u]
    refine congrArg _ ?_
    match k with
    | 0 => exact (stack8_at b0 b1 b2 b3 b4 b5 b6 b7 _ (0 : Fin 8) u n rfl).trans (hb0 u)
    | 1 => exact (stack8_at b0 b1 b2 b3 b4 b5 b6 b7 _ (1 : Fin 8) u n rfl).trans (hb1 u)
    | 2 => exact (stack8_at b0 b1 b2 b3 b4 b5 b6 b7 _ (2 : Fin 8) u n rfl).trans (hb2 u)
    | 3 => exact (stack8_at b0 b1 b2 b3 b4 b5 b6 b7 _ (3 : Fin 8) u n rfl).trans (hb3 u)
    | 4 => exact (stack8_at b0 b1 b2 b3 b4 b5 b6 b7 _ (4 : Fin 8) u n rfl).trans (hb4 u)
    | 5 => exact (stack8_at b0 b1 b2 b3 b4 b5 b6 b7 _ (5 : Fin 8) u n rfl).trans (hb5 u)
    | 6 => exact (stack8_at b0 b1 b2 b3 b4 b5 b6 b7 _ (6 : Fin 8) u n rfl).trans (hb6 u)
    | 7 => exact (stack8_at b0 b1 b2 b3 b4 b5 b6 b7 _ (7 : Fin 8) u n rfl).trans (hb7 u)
  · intro i
    obtain ⟨i0, i1, rfl⟩ : ∃ (a : Fin 32) (b : Fin 256), i = ix2 a b := ⟨i 0, i 1, eq_ix2 i⟩
    have hK := i1.isLt
    have h := hB i0 ⟨i1.val / 32, by omega⟩ ⟨i1.val % 32, by omega⟩
    have e1 : (⟨32 * (i1.val / 32) + i1.val % 32, by omega⟩ : Fin 256) = i1 := Fin.ext (by show 32 * (i1.val / 32) + i1.val % 32 = i1.val; omega)
    have h' := h.symm.trans (congrArg (fun K => (beside (half (F := Ideal) k0_pay11 k0_pay8 k0_pay9 k0_pay7 k0_pay10 (k0_pay47 k0_pay6 t) (k0_pay48 k0_pay6 t) T0 T1 T2 T3 n0 n1 n2 n3) (half (F := Ideal) k0_pay11 k0_pay8 k0_pay9 k0_pay7 k0_pay10 (k0_pay47 k0_pay6 t) (k0_pay48 k0_pay6 t) T4 T5 T6 T7 n4 n5 n6 n7) (ix2 i0 K) : EReal)) e1)
    rw [← h']
    exact cellW_real _ _ _ _ _ (hr _ _)

section
variable (c : Dev nD)
  (arg3 : Memref sig .tc .smem S1x384x256 .i32) (arg6 : Memref sig .tc .vmem S4x5784x128 .i32) (arg7 : Memref sig .tc .vmem S3080x128 .f32)

/-- One term of a chunk: an entry's weight at one lane times the decoded byte it meets. -/
def term (f6 : Buf (Elt Ideal) (arg6.view.loc (c : Thread nD τ))) (f7 : Buf (Elt Ideal) (arg7.view.loc (c : Thread nD τ))) (tt e s : ℕ) (m : Fin 32) (n : Fin 512) (u : Fin 32) : EReal :=
  cellW (4 * (tt % 16) + m.val / 8) (8 * (tt / 16) + m.val % 8) (fun q => (arg7.view.read (Elt Ideal) f7 (ix2 (fin 3080 (8 * (e / 8) + q.val)) (fin 128 (32 * s + u.val))) : EReal)) (e % 8 + u.val / 8) (u.val % 8)
    * (FloatOps.ofBits (F := Ideal) .fp8e5m2 (byteOf (arg6.view.read (Elt Ideal) f6 (ix3 (fin 4 (n.val / 128)) (fin 5784 (15 * (e / 8) + 2 * (e % 8) + u.val / 4)) (fin 128 (n.val % 128)))) (u.val % 4)) : EReal)

theorem entry_low (e : BitVec 32) (h : e.toNat < 3080) (E : ℕ) (hE : e.toNat = E) : BitVec.ofNat 32 (E % 8) = Scalar.andi e 7#32 := by
  subst hE; exact (entry_nums h).2.2.symm

set_option maxHeartbeats 1000000 in
theorem chunkP_at (t a : BitVec 32) (ht : t.toNat ≤ 192) (ha : a.toNat ≤ 95) (h1 : k0_chk1 t a) (f3 : Buf (Elt Ideal) (arg3.view.loc (c : Thread nD τ))) (f6 : Buf (Elt Ideal) (arg6.view.loc (c : Thread nD τ)))
    (f7 : Buf (Elt Ideal) (arg7.view.loc (c : Thread nD τ))) (hL : ∀ x, WordOk (arg3.view.read (Elt Ideal) f3 x))
    (hP : ∀ (r : Fin 385) (l : Fin 128), IsReal (arg7.view.read (Elt Ideal) f7 (ix2 (fin 3080 (8 * r.val + 4)) l))) (m : Fin 32) (n : Fin 512) :
    (chunkP (F := Ideal) c k0_pay6 arg3 arg6 arg7 k0_pay11 k0_pay8 k0_pay9 k0_pay7 k0_pay10 t a h1 f3 f6 f7 hL (ix2 m n) : EReal)
      = ∑ k : Fin 8, ∑ u : Fin 32, term c arg6 arg7 f6 f7 (min t.toNat 191) (entOf (arg3.view.read (Elt Ideal) f3) t.toNat (8 * a.toNat + k.val)) (k.val % 4) m n u := by
  unfold chunkP
  have E0 := word0 c arg3 t a ht ha f3 (k0_off5_inb t a h1)
  have l0 := entOf_lt hL t.toNat (8 * a.toNat + 0)
  have E1 := word1 c arg3 t a ht ha f3 (k0_off11_inb t a h1)
  have l1 := entOf_lt hL t.toNat (8 * a.toNat + 1)
  have E2 := word2 c arg3 t a ht ha f3 (k0_off17_inb t a h1)
  have l2 := entOf_lt hL t.toNat (8 * a.toNat + 2)
  have E3 := word3 c arg3 t a ht ha f3 (k0_off23_inb t a h1)
  have l3 := entOf_lt hL t.toNat (8 * a.toNat + 3)
  have E4 := word4 c arg3 t a ht ha f3 (k0_off29_inb t a h1)
  have l4 := entOf_lt hL t.toNat (8 * a.toNat + 4)
  have E5 := word5 c arg3 t a ht ha f3 (k0_off35_inb t a h1)
  have l5 := entOf_lt hL t.toNat (8 * a.toNat + 5)
  have E6 := word6 c arg3 t a ht ha f3 (k0_off41_inb t a h1)
  have l6 := entOf_lt hL t.toNat (8 * a.toNat + 6)
  have E7 := word7 c arg3 t a ht ha f3 (k0_off47_inb t a h1)
  have l7 := entOf_lt hL t.toNat (8 * a.toNat + 7)
  refine (block_at t ht _ _ _ _ _ _ _ _ _ _ _ _ _ _ _ _ _ _ _ _ _ _ _ _ m n (fun k => entOf (arg3.view.read (Elt Ideal) f3) t.toNat (8 * a.toNat + k.val))
    (fun k q u => (arg7.view.read (Elt Ideal) f7 (ix2 (fin 3080 (8 * (entOf (arg3.view.read (Elt Ideal) f3) t.toNat (8 * a.toNat + k.val) / 8) + q.val)) (fin 128 (32 * (k.val % 4) + u.val))) : EReal))
    (fun k u => (FloatOps.ofBits (F := Ideal) .fp8e5m2 (byteOf (arg6.view.read (Elt Ideal) f6 (ix3 (fin 4 (n.val / 128)) (fin 5784 (15 * (entOf (arg3.view.read (Elt Ideal) f3) t.toNat (8 * a.toNat + k.val) / 8) + 2 * (entOf (arg3.view.read (Elt Ideal) f3) t.toNat (8 * a.toNat + k.val) % 8) + u.val / 4)) (fin 128 (n.val % 128)))) (u.val % 4)) : EReal))
    (fun q u => (tabAt_at c arg7 f7 a _ _ _ E0 l0 q ⟨0 + u.val, by omega⟩).trans (by rw [show (⟨0 + u.val, by omega⟩ : Fin 128) = fin 128 (32 * (0 % 4) + u.val) from Fin.ext (by rw [fin_val (by omega)])]; rfl)) (entry_low _ (by rw [E0]; exact l0) _ E0) (fun u => kAll_at c arg6 f6 a _ _ _ E0 l0 u n)
    (fun q u => (tabAt_at c arg7 f7 a _ _ _ E1 l1 q ⟨32 + u.val, by omega⟩).trans (by rw [show (⟨32 + u.val, by omega⟩ : Fin 128) = fin 128 (32 * (1 % 4) + u.val) from Fin.ext (by rw [fin_val (by omega)])]; rfl)) (entry_low _ (by rw [E1]; exact l1) _ E1) (fun u => kAll_at c arg6 f6 a _ _ _ E1 l1 u n)
    (fun q u => (tabAt_at c arg7 f7 a _ _ _ E2 l2 q ⟨64 + u.val, by omega⟩).trans (by rw [show (⟨64 + u.val, by omega⟩ : Fin 128) = fin 128 (32 * (2 % 4) + u.val) from Fin.ext (by rw [fin_val (by omega)])]; rfl)) (entry_low _ (by rw [E2]; exact l2) _ E2) (fun u => kAll_at c arg6 f6 a _ _ _ E2 l2 u n)
    (fun q u => (tabAt_at c arg7 f7 a _ _ _ E3 l3 q ⟨96 + u.val, by omega⟩).trans (by rw [show (⟨96 + u.val, by omega⟩ : Fin 128) = fin 128 (32 * (3 % 4) + u.val) from Fin.ext (by rw [fin_val (by omega)])]; rfl)) (entry_low _ (by rw [E3]; exact l3) _ E3) (fun u => kAll_at c arg6 f6 a _ _ _ E3 l3 u n)
    (fun q u => (tabAt_at c arg7 f7 a _ _ _ E4 l4 q ⟨0 + u.val, by omega⟩).trans (by rw [show (⟨0 + u.val, by omega⟩ : Fin 128) = fin 128 (32 * (4 % 4) + u.val) from Fin.ext (by rw [fin_val (by omega)])]; rfl)) (entry_low _ (by rw [E4]; exact l4) _ E4) (fun u => kAll_at c arg6 f6 a _ _ _ E4 l4 u n)
    (fun q u => (tabAt_at c arg7 f7 a _ _ _ E5 l5 q ⟨32 + u.val, by omega⟩).trans (by rw [show (⟨32 + u.val, by omega⟩ : Fin 128) = fin 128 (32 * (5 % 4) + u.val) from Fin.ext (by rw [fin_val (by omega)])]; rfl)) (entry_low _ (by rw [E5]; exact l5) _ E5) (fun u => kAll_at c arg6 f6 a _ _ _ E5 l5 u n)
    (fun q u => (tabAt_at c arg7 f7 a _ _ _ E6 l6 q ⟨64 + u.val, by omega⟩).trans (by rw [show (⟨64 + u.val, by omega⟩ : Fin 128) = fin 128 (32 * (6 % 4) + u.val) from Fin.ext (by rw [fin_val (by omega)])]; rfl)) (entry_low _ (by rw [E6]; exact l6) _ E6) (fun u => kAll_at c arg6 f6 a _ _ _ E6 l6 u n)
    (fun q u => (tabAt_at c arg7 f7 a _ _ _ E7 l7 q ⟨96 + u.val, by omega⟩).trans (by rw [show (⟨96 + u.val, by omega⟩ : Fin 128) = fin 128 (32 * (7 % 4) + u.val) from Fin.ext (by rw [fin_val (by omega)])]; rfl)) (entry_low _ (by rw [E7]; exact l7) _ E7) (fun u => kAll_at c arg6 f6 a _ _ _ E7 l7 u n)
    (fun k u => ?_)).trans ?_
  · have hk := entOf_lt hL t.toNat (8 * a.toNat + k.val)
    exact hP ⟨entOf (arg3.view.read (Elt Ideal) f3) t.toNat (8 * a.toNat + k.val) / 8, by omega⟩ _
  · rfl
end

end Cert.Proof.PV

end
-- ==== Proof.PV.Relay.lean ====
/-
  The relay of the codes into packed words and the spread of the parameters, with what they leave.
-/
module

public import proofs.«01_k».proof.Proof.PI.While
public import proofs.«01_k».proof.Proof.PV.Mat
public import Idealize.ShloMosaic.Lib.CellWrites
public import Idealize.ShloMosaic.Lib.BitcastFour

@[expose] public section

noncomputable section

namespace Cert.Proof.PV

open Cert.KernelIdeal Cert.KernelIdeal.Gen Cert.Proof.PI
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ### Four words' bytes, one word per byte number -/

theorem xor_between (x y : Bool) : (x ^^ (y ^^ x)) = y := by cases x <;> cases y <;> rfl

def sw1 (a b : BitVec 32) : BitVec 32 := a ^^^ ((((a >>> 8) ^^^ b) &&& 16711935#32) <<< 8)
def sw2 (a b : BitVec 32) : BitVec 32 := b ^^^ (((a >>> 8) ^^^ b) &&& 16711935#32)
def hw1 (a b : BitVec 32) : BitVec 32 := a ^^^ ((((a >>> 16) ^^^ b) &&& 65535#32) <<< 16)
def hw2 (a b : BitVec 32) : BitVec 32 := b ^^^ (((a >>> 16) ^^^ b) &&& 65535#32)

theorem sw1_byte0 (a b : BitVec 32) : byteOf (sw1 a b) 0 = byteOf a 0 := by
  apply BitVec.eq_of_getLsbD_eq
  intro i hi
  unfold byteOf sw1
  interval_cases i <;> simp [BitVec.getLsbD_extractLsb', xor_between]

theorem sw1_byte1 (a b : BitVec 32) : byteOf (sw1 a b) 1 = byteOf b 0 := by
  apply BitVec.eq_of_getLsbD_eq
  intro i hi
  unfold byteOf sw1
  interval_cases i <;> simp [BitVec.getLsbD_extractLsb', xor_between]

theorem sw1_byte2 (a b : BitVec 32) : byteOf (sw1 a b) 2 = byteOf a 2 := by
  apply BitVec.eq_of_getLsbD_eq
  intro i hi
  unfold byteOf sw1
  interval_cases i <;> simp [BitVec.getLsbD_extractLsb', xor_between]

theorem sw1_byte3 (a b : BitVec 32) : byteOf (sw1 a b) 3 = byteOf b 2 := by
  apply BitVec.eq_of_getLsbD_eq
  intro i hi
  unfold byteOf sw1
  interval_cases i <;> simp [BitVec.getLsbD_extractLsb', xor_between]

theorem sw2_byte0 (a b : BitVec 32) : byteOf (sw2 a b) 0 = byteOf a 1 := by
  apply BitVec.eq_of_getLsbD_eq
  intro i hi
  unfold byteOf sw2
  interval_cases i <;> simp [BitVec.getLsbD_extractLsb', xor_between]

theorem sw2_byte1 (a b : BitVec 32) : byteOf (sw2 a b) 1 = byteOf b 1 := by
  apply BitVec.eq_of_getLsbD_eq
  intro i hi
  unfold byteOf sw2
  interval_cases i <;> simp [BitVec.getLsbD_extractLsb', xor_between]

theorem sw2_byte2 (a b : BitVec 32) : byteOf (sw2 a b) 2 = byteOf a 3 := by
  apply BitVec.eq_of_getLsbD_eq
  intro i hi
  unfold byteOf sw2
  interval_cases i <;> simp [BitVec.getLsbD_extractLsb', xor_between]

theorem sw2_byte3 (a b : BitVec 32) : byteOf (sw2 a b) 3 = byteOf b 3 := by
  apply BitVec.eq_of_getLsbD_eq
  intro i hi
  unfold byteOf sw2
  interval_cases i <;> simp [BitVec.getLsbD_extractLsb', xor_between]

theorem hw1_byte0 (a b : BitVec 32) : byteOf (hw1 a b) 0 = byteOf a 0 := by
  apply BitVec.eq_of_getLsbD_eq
  intro i hi
  unfold byteOf hw1
  interval_cases i <;> simp [BitVec.getLsbD_extractLsb', xor_between]

theorem hw1_byte1 (a b : BitVec 32) : byteOf (hw1 a b) 1 = byteOf a 1 := by
  apply BitVec.eq_of_getLsbD_eq
  intro i hi
  unfold byteOf hw1
  interval_cases i <;> simp [BitVec.getLsbD_extractLsb', xor_between]

theorem hw1_byte2 (a b : BitVec 32) : byteOf (hw1 a b) 2 = byteOf b 0 := by
  apply BitVec.eq_of_getLsbD_eq
  intro i hi
  unfold byteOf hw1
  interval_cases i <;> simp [BitVec.getLsbD_extractLsb', xor_between]

theorem hw1_byte3 (a b : BitVec 32) : byteOf (hw1 a b) 3 = byteOf b 1 := by
  apply BitVec.eq_of_getLsbD_eq
  intro i hi
  unfold byteOf hw1
  interval_cases i <;> simp [BitVec.getLsbD_extractLsb', xor_between]

theorem hw2_byte0 (a b : BitVec 32) : byteOf (hw2 a b) 0 = byteOf a 2 := by
  apply BitVec.eq_of_getLsbD_eq
  intro i hi
  unfold byteOf hw2
  interval_cases i <;> simp [BitVec.getLsbD_extractLsb', xor_between]

theorem hw2_byte1 (a b : BitVec 32) : byteOf (hw2 a b) 1 = byteOf a 3 := by
  apply BitVec.eq_of_getLsbD_eq
  intro i hi
  unfold byteOf hw2
  interval_cases i <;> simp [BitVec.getLsbD_extractLsb', xor_between]

theorem hw2_byte2 (a b : BitVec 32) : byteOf (hw2 a b) 2 = byteOf b 2 := by
  apply BitVec.eq_of_getLsbD_eq
  intro i hi
  unfold byteOf hw2
  interval_cases i <;> simp [BitVec.getLsbD_extractLsb', xor_between]

theorem hw2_byte3 (a b : BitVec 32) : byteOf (hw2 a b) 3 = byteOf b 3 := by
  apply BitVec.eq_of_getLsbD_eq
  intro i hi
  unfold byteOf hw2
  interval_cases i <;> simp [BitVec.getLsbD_extractLsb', xor_between]

/-- A predicate of place and value that every write keeps holds after the writes, where it held before or a write covers the place. -/
theorem writes_keep {s : Shape} {e : EltTy} {κ : Kind} {sp : Space} (v : View sig κ sp s e) {Val : EltTy → Type} (f : v.ty.Contents Val) (P : s.Idx → Val e → Prop) :
    ∀ L : List (View.Piece Val s e), (∀ p ∈ L, ∀ x : p.1.shape.Idx, P (p.1.emb x) (p.2 x)) → ∀ y : s.Idx,
      (P y (v.read Val f y) ∨ ∃ p ∈ L, y ∈ p.1.set) → P y (v.read Val (v.writes Val f L) y)
  | [], _, y, h => by
    rcases h with h | ⟨_, hm, _⟩
    · exact h
    · exact absurd hm List.not_mem_nil
  | p :: L, hP, y, h => by
    by_cases hy : y ∈ p.1.set
    · obtain ⟨x, rfl⟩ : ∃ x, p.1.emb x = y := p.1.exists_idx_of_mem hy
      obtain ⟨r, w⟩ := p
      rw [View.read_writes_cons_emb]
      exact hP ⟨r, w⟩ List.mem_cons_self x
    · rw [View.read_writes_cons_miss v f p L y hy]
      refine writes_keep v f P L (fun q hq => hP q (List.mem_cons_of_mem _ hq)) y ?_
      rcases h with h | ⟨q, hq, hyq⟩
      · exact Or.inl h
      · rcases List.mem_cons.mp hq with rfl | hq'
        · exact absurd hyq hy
        · exact Or.inr ⟨q, hq', hyq⟩

theorem off1_eq (t1 : Fin k0_t1_loop.trips) (t2 : Fin k0_t2_loop.trips) (t3 : Fin k0_t3_loop.trips) (pw : Fin 7) :
    k0_off1 t1 t2 t3 (BitVec.ofNat 32 pw.val) = ![0, 7 * t2.val + pw.val, 32 * t1.val, 128 * t3.val] := by
  have key : ∀ (t1 : Fin k0_t1_loop.trips) (t2 : Fin k0_t2_loop.trips) (t3 : Fin k0_t3_loop.trips) (pw : Fin 7) (b : Fin 4), k0_off1 t1 t2 t3 (BitVec.ofNat 32 pw.val) b = (![0, 7 * t2.val + pw.val, 32 * t1.val, 128 * t3.val] : Fin 4 → ℕ) b := by decide +kernel
  exact funext fun b => key t1 t2 t3 pw b

theorem off2_eq (t1 : Fin k0_t1_loop.trips) (t2 : Fin k0_t2_loop.trips) (t3 : Fin k0_t3_loop.trips) (q : Fin 4) (g : Fin 2) :
    k0_off2 t1 t2 t3 (BitVec.ofNat 32 q.val) (BitVec.ofNat 32 g.val) = ![t3.val, 15 * (32 * t1.val + q.val) + 2 * t2.val + g.val, 0] := by
  have key : ∀ (t1 : Fin k0_t1_loop.trips) (t2 : Fin k0_t2_loop.trips) (t3 : Fin k0_t3_loop.trips) (q : Fin 4) (g : Fin 2) (b : Fin 3), k0_off2 t1 t2 t3 (BitVec.ofNat 32 q.val) (BitVec.ofNat 32 g.val) b = (![t3.val, 15 * (32 * t1.val + q.val) + 2 * t2.val + g.val, 0] : Fin 3 → ℕ) b := by decide +kernel
  exact funext fun b => key t1 t2 t3 q g b

theorem off4_eq (t4 : Fin k0_t4_loop.trips) : k0_off4 t4 = ![8 * t4.val, 0] := by
  have key : ∀ (t4 : Fin k0_t4_loop.trips) (b : Fin 2), k0_off4 t4 b = (![8 * t4.val, 0] : Fin 2 → ℕ) b := by decide +kernel
  exact funext fun b => key t4 b

theorem off3_eq (t4 : Fin k0_t4_loop.trips) : k0_off3 t4 = ![0, 0, t4.val] := by
  have key : ∀ (t4 : Fin k0_t4_loop.trips) (b : Fin 3), k0_off3 t4 b = (![0, 0, t4.val] : Fin 3 → ℕ) b := by decide +kernel
  exact funext fun b => key t4 b

section
variable (c : Dev nD) (i : grid0.Coords)
  (arg1 : Memref sig .tc .vmem S1x49x384x512 .i8) (harg1 : arg1.IsWhole)
  (arg2 : Memref sig .tc .vmem S1x8x384 .f32) (harg2 : arg2.IsWhole)
  (arg3 : Memref sig .tc .smem S1x384x256 .i32) (harg3 : arg3.IsWhole)
  (arg4 : Memref sig .tc .smem S1x1x256 .i32) (harg4 : arg4.IsWhole)
  (arg5 : Memref sig .tc .vmem S1x6144x512 .f32) (harg5 : arg5.IsWhole)
  (arg6 : Memref sig .tc .vmem S4x5784x128 .i32) (harg6 : arg6.IsWhole)
  (arg7 : Memref sig .tc .vmem S3080x128 .f32) (harg7 : arg7.IsWhole)

/-- What a word of the packed buffer must hold: its bytes are the codes of one RoI, bin row and channel, for four bin columns. -/
def CellOk (f1 : Buf (Elt F) (arg1.view.loc (c : Thread nD τ))) (y : S4x5784x128.Idx) (w : BitVec 32) : Prop :=
  ∀ (b : ℕ) (k : Fin 49) (r : Fin 384) (n : Fin 512) (p g : ℕ), b < 4 → g < 2 → 4 * g + b < 7 → p < 7 → (y 1).val = 15 * r.val + 2 * p + g →
    k.val = 7 * p + 4 * g + b → n.val = 128 * (y 0).val + (y 2).val → byteOf w b = arg1.view.read (Elt F) f1 (ix4 (0 : Fin 1) k r n)

/-- The words of 32 RoIs' codes: one bin, one lane group. -/
def words (t1 : Fin k0_t1_loop.trips) (t2 : Fin k0_t2_loop.trips) (t3 : Fin k0_t3_loop.trips) (f1 : Buf (Elt F) (arg1.view.loc (c : Thread nD τ))) (w : BitVec 32)
    (h : ∀ x, k0_off1 t1 t2 t3 w x + S1x1x32x128.size x ≤ S1x49x384x512.size x) : IVec S8x128 32 :=
  bitcast S8x128 32 (shapeCast S32x128 (View.readAt (Elt F) arg1.view (Rect.unit (s := S1x49x384x512) (k0_off1 t1 t2 t3 w) S1x1x32x128.size h).toLoadRect f1) shapeCasts_S1x1x32x128_S32x128) bitcasts_S32x128_w8_S8x128_w32

theorem words_at (t1 : Fin k0_t1_loop.trips) (t2 : Fin k0_t2_loop.trips) (t3 : Fin k0_t3_loop.trips) (f1 : Buf (Elt F) (arg1.view.loc (c : Thread nD τ))) (pw : Fin 7)
    (h : ∀ x, k0_off1 t1 t2 t3 (BitVec.ofNat 32 pw.val) x + S1x1x32x128.size x ≤ S1x49x384x512.size x) (a : Fin 8) (l : Fin 128) (q : ℕ) (hq : q < 4)
    (k : Fin 49) (r : Fin 384) (n : Fin 512) (hk : k.val = 7 * t2.val + pw.val) (hr : r.val = 32 * t1.val + 4 * a.val + q) (hn : n.val = 128 * t3.val + l.val) :
    byteOf (words c arg1 t1 t2 t3 f1 (BitVec.ofNat 32 pw.val) h (ix2 a l)) q = arg1.view.read (Elt F) f1 (ix4 (0 : Fin 1) k r n) := by
  apply BitVec.eq_of_getLsbD_eq
  intro i hi
  unfold byteOf words
  have ha := a.isLt
  rw [BitVec.getLsbD_extractLsb']
  simp only [hi, decide_true, Bool.true_and]
  refine (bitcast_8_32_getLsbD_ix2 (R := 32) (r := 8) (n := 128) _ bitcasts_S32x128_w8_S8x128_w32 a l (8 * q + i) (by omega) ⟨4 * a.val + q, by omega⟩ (by show 4 * a.val + q = 4 * a.val + (8 * q + i) / 8; omega)).trans ?_
  have e : (8 * q + i) % 8 = i := by omega
  rw [e]
  refine congrArg (fun z : BitVec 8 => z.getLsbD i) ?_
  refine (shapeCast_apply _ _ _ (ix4 (0 : Fin 1) (0 : Fin 1) (⟨4 * a.val + q, by omega⟩ : Fin 32) l) (by rw [Shape.rowMajor_val_four, Shape.rowMajor_val_two]; show ((0 * 1 + 0) * 32 + (4 * a.val + q)) * 128 + l.val = (4 * a.val + q) * 128 + l.val; omega)).trans ?_
  rw [View.readAt_apply]
  refine congrArg (arg1.view.read (Elt F) f1) ?_
  have h0 := off1_eq t1 t2 t3 pw
  funext d
  match d with
  | ⟨0, _⟩ => exact Fin.ext (by show k0_off1 t1 t2 t3 (BitVec.ofNat 32 pw.val) 0 + 1 * 0 = 0; rw [h0]; rfl)
  | ⟨1, _⟩ => exact Fin.ext (by show k0_off1 t1 t2 t3 (BitVec.ofNat 32 pw.val) 1 + 1 * 0 = k.val; rw [h0, hk]; rfl)
  | ⟨2, _⟩ => exact Fin.ext (by show k0_off1 t1 t2 t3 (BitVec.ofNat 32 pw.val) 2 + 1 * (4 * a.val + q) = r.val; rw [h0, hr]; show 32 * t1.val + 1 * (4 * a.val + q) = _; omega)
  | ⟨3, _⟩ => exact Fin.ext (by show k0_off1 t1 t2 t3 (BitVec.ofNat 32 pw.val) 3 + 1 * l.val = n.val; rw [h0, hn]; show 128 * t3.val + 1 * l.val = _; omega)

/-- One strided store of the relay keeps to the layout. -/
theorem piece_ok (t1 : Fin k0_t1_loop.trips) (t2 : Fin k0_t2_loop.trips) (t3 : Fin k0_t3_loop.trips) (f1 : Buf (Elt F) (arg1.view.loc (c : Thread nD τ))) (q : Fin 4) (g : Fin 2) (V : IVec S8x128 32)
    (inb) (sp)
    (hV : ∀ (a : Fin 8) (l : Fin 128) (b : ℕ) (k : Fin 49) (r : Fin 384) (n : Fin 512), b < 4 → 4 * g.val + b < 7 → k.val = 7 * t2.val + 4 * g.val + b → r.val = 32 * t1.val + 4 * a.val + q.val → n.val = 128 * t3.val + l.val →
      byteOf (V (ix2 a l)) b = arg1.view.read (Elt F) f1 (ix4 (0 : Fin 1) k r n))
    (x : (Shape.mk 3 S1x8x128.size).Idx) :
    CellOk c arg1 f1 ((⟨⟨k0_off2 t1 t2 t3 (BitVec.ofNat 32 q.val) (BitVec.ofNat 32 g.val), S1x8x128.size, ![1, 60, 1], inb⟩, sp⟩ : Rect S4x5784x128).emb x) (shapeCast S1x8x128 V shapeCasts_S8x128_S1x8x128 x) := by
  have h0 := off2_eq t1 t2 t3 q g
  have ht1 : t1.val < 12 := t1.isLt
  have ht2 : t2.val < 7 := t2.isLt
  obtain ⟨a, l, rfl⟩ : ∃ (a : Fin 8) (l : Fin 128), x = ix3 (0 : Fin 1) a l := ⟨x 1, x 2, by
    funext d
    match d with
    | ⟨0, _⟩ => exact Fin.ext (by have : (x 0).val < 1 := (x 0).isLt; show (x 0).val = 0; omega)
    | ⟨1, _⟩ => rfl
    | ⟨2, _⟩ => rfl⟩
  intro b k r n p g' hb hg' hgb hp h1 hk hn
  have e1 : (k0_off2 t1 t2 t3 (BitVec.ofNat 32 q.val) (BitVec.ofNat 32 g.val) 1 + 60 * a.val : ℕ) = 15 * r.val + 2 * p + g' := h1
  have e2 : n.val = 128 * (k0_off2 t1 t2 t3 (BitVec.ofNat 32 q.val) (BitVec.ofNat 32 g.val) 0 + 1 * 0) + (k0_off2 t1 t2 t3 (BitVec.ofNat 32 q.val) (BitVec.ofNat 32 g.val) 2 + 1 * l.val) := hn
  rw [h0] at e1 e2
  have e1' : 15 * (32 * t1.val + q.val) + 2 * t2.val + g.val + 60 * a.val = 15 * r.val + 2 * p + g' := e1
  have e2' : n.val = 128 * (t3.val + 1 * 0) + (0 + 1 * l.val) := e2
  have hg := g.isLt
  rw [shapeCast_apply _ _ _ (ix2 a l) (by rw [Shape.rowMajor_val_two, Shape.rowMajor_val_three]; show a.val * 128 + l.val = (0 * 8 + a.val) * 128 + l.val; omega)]
  have er : r.val = 32 * t1.val + q.val + 4 * a.val := by omega
  have epg : 2 * p + g' = 2 * t2.val + g.val := by omega
  exact hV a l b k r n hb (by omega) (by omega) (by omega) (by omega)

/-- What the relay has laid out before trip `(rt, p, j)`. -/
def Done (rt p j : ℕ) (y : S4x5784x128.Idx) : Prop :=
  (y 1).val / 15 / 32 < rt ∨ ((y 1).val / 15 / 32 = rt ∧ ((y 1).val % 15 / 2 < p ∨ ((y 1).val % 15 / 2 = p ∧ (y 0).val < j)))

def Laid (f1 : Buf (Elt F) (arg1.view.loc (c : Thread nD τ))) (rt p j : ℕ) (f6 : Buf (Elt F) (arg6.view.loc (c : Thread nD τ))) : Prop :=
  ∀ y : S4x5784x128.Idx, Done rt p j y → CellOk c arg1 f1 y (arg6.view.read (Elt F) f6 y)

/-- A cell of trip `(rt, p, j)` with bytes to hold is under one of its eight stores. -/
theorem cover_at (t1 : Fin k0_t1_loop.trips) (t2 : Fin k0_t2_loop.trips) (t3 : Fin k0_t3_loop.trips) (y : S4x5784x128.Idx) (q : Fin 4) (g : Fin 2)
    (h0 : (y 0).val = t3.val) (h1 : (y 1).val / 15 / 32 = t1.val) (h2 : (y 1).val / 15 % 4 = q.val) (h3 : (y 1).val % 15 = 2 * t2.val + g.val) (inb) (sp) :
    y ∈ (⟨⟨k0_off2 t1 t2 t3 (BitVec.ofNat 32 q.val) (BitVec.ofNat 32 g.val), S1x8x128.size, ![1, 60, 1], inb⟩, sp⟩ : Rect S4x5784x128).set := by
  have e := off2_eq t1 t2 t3 q g
  refine (LoadRect.mem_set _).mpr fun a => ?_
  match a with
  | ⟨0, _⟩ => exact ⟨0, by show 0 < 1; omega, by show _ = k0_off2 t1 t2 t3 (BitVec.ofNat 32 q.val) (BitVec.ofNat 32 g.val) 0 + 1 * 0; rw [e]; exact h0⟩
  | ⟨1, _⟩ => exact ⟨(y 1).val / 15 % 32 / 4, by show (y 1).val / 15 % 32 / 4 < 8; omega, by
      show _ = k0_off2 t1 t2 t3 (BitVec.ofNat 32 q.val) (BitVec.ofNat 32 g.val) 1 + 60 * ((y 1).val / 15 % 32 / 4); rw [e]
      show (y 1).val = 15 * (32 * t1.val + q.val) + 2 * t2.val + g.val + 60 * ((y 1).val / 15 % 32 / 4)
      omega⟩
  | ⟨2, _⟩ => exact ⟨(y 2).val, (y 2).isLt, by show _ = k0_off2 t1 t2 t3 (BitVec.ofNat 32 q.val) (BitVec.ofNat 32 g.val) 2 + 1 * (y 2).val; rw [e]; show (y 2).val = 0 + 1 * (y 2).val; omega⟩

theorem relay_step (bd : Option 𝒱₀.V) (t1 : Fin k0_t1_loop.trips) (v24 : BitVec 32) (t2 : Fin k0_t2_loop.trips) (arg9 : BitVec 32)
    (f1 : Buf (Elt F) (arg1.view.loc (c : Thread nD τ))) (f6 : Buf (Elt F) (arg6.view.loc (c : Thread nD τ))) (k : Fin k0_t3_loop.trips) (h : Laid c arg1 arg6 f1 t1.val t2.val k.val f6) :
    iprop(pt c arg1 f1 ∗ pt c arg6 f6) ⊢ wp frame (wpE (defs₀ (F := F)) 𝒱₀ (c : Thread nD τ) bd) Set.univ (k0_t3_body i arg1 harg1 arg2 harg2 arg3 harg3 arg4 harg4 arg5 harg5 arg6 harg6 arg7 harg7 t1 v24 t2 arg9 k ())
      (fun _ => iprop(pt c arg1 f1 ∗ ∃ f, pt c arg6 f ∗ ⌜Laid c arg1 arg6 f1 t1.val t2.val (k.val + 1) f⌝)) := by
  unfold k0_t3_body
  iintro ⟨H1, H6⟩
  sl_exec
  sl_step
  isplitl [H1]; · iexact H1
  iexists _
  isplitl [H6]; · iexact H6
  ipureintro
  intro y hy
  refine writes_keep arg6.view f6 (CellOk c arg1 f1) _ ?_ y ?_
  · delta relay_step.sl.H6_5 relay_step.sl.H6_4 relay_step.sl.H6_3 relay_step.sl.H6_2 relay_step.sl.H6_1
    simp only [List.forall_mem_cons]
    refine ⟨?_, ?_, ?_, ?_, ?_, ?_, ?_, ?_, fun p hp => absurd hp List.not_mem_nil⟩
    · delta k0_pay4; refine piece_ok c arg1 t1 t2 k f1 3 1 _ _ _ (fun a l b kk r n hb hgb hk hr hn => ?_)
      show byteOf (hw2 (sw2 (words c arg1 t1 t2 k f1 4#32 (k0_off1_inb t1 t2 k 4) (ix2 a l)) (words c arg1 t1 t2 k f1 5#32 (k0_off1_inb t1 t2 k 5) (ix2 a l))) (sw2 (words c arg1 t1 t2 k f1 6#32 (k0_off1_inb t1 t2 k 6) (ix2 a l)) 0#32)) b = _
      have hgb' : 4 + b < 7 := hgb
      obtain rfl | rfl | rfl : b = 0 ∨ b = 1 ∨ b = 2 := by omega
      · rw [hw2_byte0, sw2_byte2]; exact words_at c arg1 t1 t2 k f1 4 _ a l 3 (by omega) kk r n (by show kk.val = 7 * t2.val + 4; have hk' : kk.val = 7 * t2.val + 4 + 0 := hk; omega) hr hn
      · rw [hw2_byte1, sw2_byte3]; exact words_at c arg1 t1 t2 k f1 5 _ a l 3 (by omega) kk r n (by show kk.val = 7 * t2.val + 5; have hk' : kk.val = 7 * t2.val + 4 + 1 := hk; omega) hr hn
      · rw [hw2_byte2, sw2_byte2]; exact words_at c arg1 t1 t2 k f1 6 _ a l 3 (by omega) kk r n (by show kk.val = 7 * t2.val + 6; have hk' : kk.val = 7 * t2.val + 4 + 2 := hk; omega) hr hn
    · delta k0_pay3; refine piece_ok c arg1 t1 t2 k f1 2 1 _ _ _ (fun a l b kk r n hb hgb hk hr hn => ?_)
      show byteOf (hw2 (sw1 (words c arg1 t1 t2 k f1 4#32 (k0_off1_inb t1 t2 k 4) (ix2 a l)) (words c arg1 t1 t2 k f1 5#32 (k0_off1_inb t1 t2 k 5) (ix2 a l))) (sw1 (words c arg1 t1 t2 k f1 6#32 (k0_off1_inb t1 t2 k 6) (ix2 a l)) 0#32)) b = _
      have hgb' : 4 + b < 7 := hgb
      obtain rfl | rfl | rfl : b = 0 ∨ b = 1 ∨ b = 2 := by omega
      · rw [hw2_byte0, sw1_byte2]; exact words_at c arg1 t1 t2 k f1 4 _ a l 2 (by omega) kk r n (by show kk.val = 7 * t2.val + 4; have hk' : kk.val = 7 * t2.val + 4 + 0 := hk; omega) hr hn
      · rw [hw2_byte1, sw1_byte3]; exact words_at c arg1 t1 t2 k f1 5 _ a l 2 (by omega) kk r n (by show kk.val = 7 * t2.val + 5; have hk' : kk.val = 7 * t2.val + 4 + 1 := hk; omega) hr hn
      · rw [hw2_byte2, sw1_byte2]; exact words_at c arg1 t1 t2 k f1 6 _ a l 2 (by omega) kk r n (by show kk.val = 7 * t2.val + 6; have hk' : kk.val = 7 * t2.val + 4 + 2 := hk; omega) hr hn
    · delta relay_step.sl.v229; refine piece_ok c arg1 t1 t2 k f1 1 1 _ _ _ (fun a l b kk r n hb hgb hk hr hn => ?_)
      show byteOf (hw1 (sw2 (words c arg1 t1 t2 k f1 4#32 (k0_off1_inb t1 t2 k 4) (ix2 a l)) (words c arg1 t1 t2 k f1 5#32 (k0_off1_inb t1 t2 k 5) (ix2 a l))) (sw2 (words c arg1 t1 t2 k f1 6#32 (k0_off1_inb t1 t2 k 6) (ix2 a l)) 0#32)) b = _
      have hgb' : 4 + b < 7 := hgb
      obtain rfl | rfl | rfl : b = 0 ∨ b = 1 ∨ b = 2 := by omega
      · rw [hw1_byte0, sw2_byte0]; exact words_at c arg1 t1 t2 k f1 4 _ a l 1 (by omega) kk r n (by show kk.val = 7 * t2.val + 4; have hk' : kk.val = 7 * t2.val + 4 + 0 := hk; omega) hr hn
      · rw [hw1_byte1, sw2_byte1]; exact words_at c arg1 t1 t2 k f1 5 _ a l 1 (by omega) kk r n (by show kk.val = 7 * t2.val + 5; have hk' : kk.val = 7 * t2.val + 4 + 1 := hk; omega) hr hn
      · rw [hw1_byte2, sw2_byte0]; exact words_at c arg1 t1 t2 k f1 6 _ a l 1 (by omega) kk r n (by show kk.val = 7 * t2.val + 6; have hk' : kk.val = 7 * t2.val + 4 + 2 := hk; omega) hr hn
    · delta relay_step.sl.v219; refine piece_ok c arg1 t1 t2 k f1 0 1 _ _ _ (fun a l b kk r n hb hgb hk hr hn => ?_)
      show byteOf (hw1 (sw1 (words c arg1 t1 t2 k f1 4#32 (k0_off1_inb t1 t2 k 4) (ix2 a l)) (words c arg1 t1 t2 k f1 5#32 (k0_off1_inb t1 t2 k 5) (ix2 a l))) (sw1 (words c arg1 t1 t2 k f1 6#32 (k0_off1_inb t1 t2 k 6) (ix2 a l)) 0#32)) b = _
      have hgb' : 4 + b < 7 := hgb
      obtain rfl | rfl | rfl : b = 0 ∨ b = 1 ∨ b = 2 := by omega
      · rw [hw1_byte0, sw1_byte0]; exact words_at c arg1 t1 t2 k f1 4 _ a l 0 (by omega) kk r n (by show kk.val = 7 * t2.val + 4; have hk' : kk.val = 7 * t2.val + 4 + 0 := hk; omega) hr hn
      · rw [hw1_byte1, sw1_byte1]; exact words_at c arg1 t1 t2 k f1 5 _ a l 0 (by omega) kk r n (by show kk.val = 7 * t2.val + 5; have hk' : kk.val = 7 * t2.val + 4 + 1 := hk; omega) hr hn
      · rw [hw1_byte2, sw1_byte0]; exact words_at c arg1 t1 t2 k f1 6 _ a l 0 (by omega) kk r n (by show kk.val = 7 * t2.val + 6; have hk' : kk.val = 7 * t2.val + 4 + 2 := hk; omega) hr hn
    · delta relay_step.sl.v173; refine piece_ok c arg1 t1 t2 k f1 3 0 _ _ _ (fun a l b kk r n hb hgb hk hr hn => ?_)
      show byteOf (hw2 (sw2 (words c arg1 t1 t2 k f1 0#32 (k0_off1_inb t1 t2 k 0) (ix2 a l)) (words c arg1 t1 t2 k f1 1#32 (k0_off1_inb t1 t2 k 1) (ix2 a l))) (sw2 (words c arg1 t1 t2 k f1 2#32 (k0_off1_inb t1 t2 k 2) (ix2 a l)) (words c arg1 t1 t2 k f1 3#32 (k0_off1_inb t1 t2 k 3) (ix2 a l)))) b = _
      have hgb' : 0 + b < 7 := hgb
      obtain rfl | rfl | rfl | rfl : b = 0 ∨ b = 1 ∨ b = 2 ∨ b = 3 := by omega
      · rw [hw2_byte0, sw2_byte2]; exact words_at c arg1 t1 t2 k f1 0 _ a l 3 (by omega) kk r n (by show kk.val = 7 * t2.val + 0; have hk' : kk.val = 7 * t2.val + 0 + 0 := hk; omega) hr hn
      · rw [hw2_byte1, sw2_byte3]; exact words_at c arg1 t1 t2 k f1 1 _ a l 3 (by omega) kk r n (by show kk.val = 7 * t2.val + 1; have hk' : kk.val = 7 * t2.val + 0 + 1 := hk; omega) hr hn
      · rw [hw2_byte2, sw2_byte2]; exact words_at c arg1 t1 t2 k f1 2 _ a l 3 (by omega) kk r n (by show kk.val = 7 * t2.val + 2; have hk' : kk.val = 7 * t2.val + 0 + 2 := hk; omega) hr hn
      · rw [hw2_byte3, sw2_byte3]; exact words_at c arg1 t1 t2 k f1 3 _ a l 3 (by omega) kk r n (by show kk.val = 7 * t2.val + 3; have hk' : kk.val = 7 * t2.val + 0 + 3 := hk; omega) hr hn
    · delta relay_step.sl.v163; refine piece_ok c arg1 t1 t2 k f1 2 0 _ _ _ (fun a l b kk r n hb hgb hk hr hn => ?_)
      show byteOf (hw2 (sw1 (words c arg1 t1 t2 k f1 0#32 (k0_off1_inb t1 t2 k 0) (ix2 a l)) (words c arg1 t1 t2 k f1 1#32 (k0_off1_inb t1 t2 k 1) (ix2 a l))) (sw1 (words c arg1 t1 t2 k f1 2#32 (k0_off1_inb t1 t2 k 2) (ix2 a l)) (words c arg1 t1 t2 k f1 3#32 (k0_off1_inb t1 t2 k 3) (ix2 a l)))) b = _
      have hgb' : 0 + b < 7 := hgb
      obtain rfl | rfl | rfl | rfl : b = 0 ∨ b = 1 ∨ b = 2 ∨ b = 3 := by omega
      · rw [hw2_byte0, sw1_byte2]; exact words_at c arg1 t1 t2 k f1 0 _ a l 2 (by omega) kk r n (by show kk.val = 7 * t2.val + 0; have hk' : kk.val = 7 * t2.val + 0 + 0 := hk; omega) hr hn
      · rw [hw2_byte1, sw1_byte3]; exact words_at c arg1 t1 t2 k f1 1 _ a l 2 (by omega) kk r n (by show kk.val = 7 * t2.val + 1; have hk' : kk.val = 7 * t2.val + 0 + 1 := hk; omega) hr hn
      · rw [hw2_byte2, sw1_byte2]; exact words_at c arg1 t1 t2 k f1 2 _ a l 2 (by omega) kk r n (by show kk.val = 7 * t2.val + 2; have hk' : kk.val = 7 * t2.val + 0 + 2 := hk; omega) hr hn
      · rw [hw2_byte3, sw1_byte3]; exact words_at c arg1 t1 t2 k f1 3 _ a l 2 (by omega) kk r n (by show kk.val = 7 * t2.val + 3; have hk' : kk.val = 7 * t2.val + 0 + 3 := hk; omega) hr hn
    · delta relay_step.sl.v153; refine piece_ok c arg1 t1 t2 k f1 1 0 _ _ _ (fun a l b kk r n hb hgb hk hr hn => ?_)
      show byteOf (hw1 (sw2 (words c arg1 t1 t2 k f1 0#32 (k0_off1_inb t1 t2 k 0) (ix2 a l)) (words c arg1 t1 t2 k f1 1#32 (k0_off1_inb t1 t2 k 1) (ix2 a l))) (sw2 (words c arg1 t1 t2 k f1 2#32 (k0_off1_inb t1 t2 k 2) (ix2 a l)) (words c arg1 t1 t2 k f1 3#32 (k0_off1_inb t1 t2 k 3) (ix2 a l)))) b = _
      have hgb' : 0 + b < 7 := hgb
      obtain rfl | rfl | rfl | rfl : b = 0 ∨ b = 1 ∨ b = 2 ∨ b = 3 := by omega
      · rw [hw1_byte0, sw2_byte0]; exact words_at c arg1 t1 t2 k f1 0 _ a l 1 (by omega) kk r n (by show kk.val = 7 * t2.val + 0; have hk' : kk.val = 7 * t2.val + 0 + 0 := hk; omega) hr hn
      · rw [hw1_byte1, sw2_byte1]; exact words_at c arg1 t1 t2 k f1 1 _ a l 1 (by omega) kk r n (by show kk.val = 7 * t2.val + 1; have hk' : kk.val = 7 * t2.val + 0 + 1 := hk; omega) hr hn
      · rw [hw1_byte2, sw2_byte0]; exact words_at c arg1 t1 t2 k f1 2 _ a l 1 (by omega) kk r n (by show kk.val = 7 * t2.val + 2; have hk' : kk.val = 7 * t2.val + 0 + 2 := hk; omega) hr hn
      · rw [hw1_byte3, sw2_byte1]; exact words_at c arg1 t1 t2 k f1 3 _ a l 1 (by omega) kk r n (by show kk.val = 7 * t2.val + 3; have hk' : kk.val = 7 * t2.val + 0 + 3 := hk; omega) hr hn
    · delta relay_step.sl.v143; refine piece_ok c arg1 t1 t2 k f1 0 0 _ _ _ (fun a l b kk r n hb hgb hk hr hn => ?_)
      show byteOf (hw1 (sw1 (words c arg1 t1 t2 k f1 0#32 (k0_off1_inb t1 t2 k 0) (ix2 a l)) (words c arg1 t1 t2 k f1 1#32 (k0_off1_inb t1 t2 k 1) (ix2 a l))) (sw1 (words c arg1 t1 t2 k f1 2#32 (k0_off1_inb t1 t2 k 2) (ix2 a l)) (words c arg1 t1 t2 k f1 3#32 (k0_off1_inb t1 t2 k 3) (ix2 a l)))) b = _
      have hgb' : 0 + b < 7 := hgb
      obtain rfl | rfl | rfl | rfl : b = 0 ∨ b = 1 ∨ b = 2 ∨ b = 3 := by omega
      · rw [hw1_byte0, sw1_byte0]; exact words_at c arg1 t1 t2 k f1 0 _ a l 0 (by omega) kk r n (by show kk.val = 7 * t2.val + 0; have hk' : kk.val = 7 * t2.val + 0 + 0 := hk; omega) hr hn
      · rw [hw1_byte1, sw1_byte1]; exact words_at c arg1 t1 t2 k f1 1 _ a l 0 (by omega) kk r n (by show kk.val = 7 * t2.val + 1; have hk' : kk.val = 7 * t2.val + 0 + 1 := hk; omega) hr hn
      · rw [hw1_byte2, sw1_byte0]; exact words_at c arg1 t1 t2 k f1 2 _ a l 0 (by omega) kk r n (by show kk.val = 7 * t2.val + 2; have hk' : kk.val = 7 * t2.val + 0 + 2 := hk; omega) hr hn
      · rw [hw1_byte3, sw1_byte1]; exact words_at c arg1 t1 t2 k f1 3 _ a l 0 (by omega) kk r n (by show kk.val = 7 * t2.val + 3; have hk' : kk.val = 7 * t2.val + 0 + 3 := hk; omega) hr hn
  · by_cases hd : Done t1.val t2.val k.val y
    · exact Or.inl (h y hd)
    · have hy0 : (y 0).val < 4 := (y 0).isLt
      have ht2 : t2.val < 7 := t2.isLt
      unfold Done at hd hy
      have e0 : (y 0).val = k.val := by omega
      have e1 : (y 1).val / 15 / 32 = t1.val := by omega
      have e2 : (y 1).val % 15 / 2 = t2.val := by omega
      right
      delta relay_step.sl.H6_5 relay_step.sl.H6_4 relay_step.sl.H6_3 relay_step.sl.H6_2 relay_step.sl.H6_1
      simp only [List.exists_mem_cons_iff]
      obtain hq | hq | hq | hq : (y 1).val / 15 % 4 = 0 ∨ (y 1).val / 15 % 4 = 1 ∨ (y 1).val / 15 % 4 = 2 ∨ (y 1).val / 15 % 4 = 3 := by omega
      all_goals obtain hg | hg : (y 1).val % 15 = 2 * t2.val + 0 ∨ (y 1).val % 15 = 2 * t2.val + 1 := by omega
      · exact Or.inr (Or.inr (Or.inr (Or.inr (Or.inr (Or.inr (Or.inr (Or.inl (cover_at t1 t2 k y 0 0 e0 e1 hq hg (k0_off2_inb t1 t2 k 0 0) spos_1_60_1))))))))
      · exact Or.inr (Or.inr (Or.inr (Or.inl (cover_at t1 t2 k y 0 1 e0 e1 hq hg (k0_off2_inb t1 t2 k 0 1) spos_1_60_1))))
      · exact Or.inr (Or.inr (Or.inr (Or.inr (Or.inr (Or.inr (Or.inl (cover_at t1 t2 k y 1 0 e0 e1 hq hg (k0_off2_inb t1 t2 k 1 0) spos_1_60_1)))))))
      · exact Or.inr (Or.inr (Or.inl (cover_at t1 t2 k y 1 1 e0 e1 hq hg (k0_off2_inb t1 t2 k 1 1) spos_1_60_1)))
      · exact Or.inr (Or.inr (Or.inr (Or.inr (Or.inr (Or.inl (cover_at t1 t2 k y 2 0 e0 e1 hq hg (k0_off2_inb t1 t2 k 2 0) spos_1_60_1))))))
      · exact Or.inr (Or.inl (cover_at t1 t2 k y 2 1 e0 e1 hq hg (k0_off2_inb t1 t2 k 2 1) spos_1_60_1))
      · exact Or.inr (Or.inr (Or.inr (Or.inr (Or.inl (cover_at t1 t2 k y 3 0 e0 e1 hq hg (k0_off2_inb t1 t2 k 3 0) spos_1_60_1)))))
      · exact Or.inl (cover_at t1 t2 k y 3 1 e0 e1 hq hg (k0_off2_inb t1 t2 k 3 1) spos_1_60_1)

/-- The relay's result: every word of the packed buffer is as it must be. -/
def LaidAll (f1 : Buf (Elt F) (arg1.view.loc (c : Thread nD τ))) (f6 : Buf (Elt F) (arg6.view.loc (c : Thread nD τ))) : Prop :=
  ∀ y : S4x5784x128.Idx, CellOk c arg1 f1 y (arg6.view.read (Elt F) f6 y)

@[simp] theorem laid_start (f1 : Buf (Elt F) (arg1.view.loc (c : Thread nD τ))) (f6 : Buf (Elt F) (arg6.view.loc (c : Thread nD τ))) : Laid c arg1 arg6 f1 0 0 0 f6 := by
  intro y hy; unfold Done at hy; omega

theorem laid_next_bin (f1 : Buf (Elt F) (arg1.view.loc (c : Thread nD τ))) (f6 : Buf (Elt F) (arg6.view.loc (c : Thread nD τ))) (rt p : ℕ) (h : Laid c arg1 arg6 f1 rt p 4 f6) : Laid c arg1 arg6 f1 rt (p + 1) 0 f6 := by
  intro y hy
  have hy0 : (y 0).val < 4 := (y 0).isLt
  exact h y (by unfold Done at *; omega)

theorem laid_next_block (f1 : Buf (Elt F) (arg1.view.loc (c : Thread nD τ))) (f6 : Buf (Elt F) (arg6.view.loc (c : Thread nD τ))) (rt : ℕ) (h : Laid c arg1 arg6 f1 rt 7 0 f6) : Laid c arg1 arg6 f1 (rt + 1) 0 0 f6 := by
  intro y hy
  by_cases hp : (y 1).val % 15 / 2 < 7
  · exact h y (by unfold Done at *; omega)
  · intro b k r n p g hb hg hgb hp' h1 hk hn
    have h1' : (y 1).val = 15 * r.val + 2 * p + g := h1
    have e : (y 1).val % 15 = 2 * p + g := by omega
    rw [e] at hp
    omega

theorem laid_end (f1 : Buf (Elt F) (arg1.view.loc (c : Thread nD τ))) (f6 : Buf (Elt F) (arg6.view.loc (c : Thread nD τ))) (h : Laid c arg1 arg6 f1 12 0 0 f6) : LaidAll c arg1 arg6 f1 f6 := by
  intro y b k r n p g hb hg hgb hp' h1 hk hn
  have := r.isLt
  exact h y (by unfold Done; omega) b k r n p g hb hg hgb hp' h1 hk hn

/-- What the parameter table must hold after `n` trips: each RoI's parameters, spread over the lanes, and zeros in the last eight rows. -/
def Spread (f2 : Buf (Elt F) (arg2.view.loc (c : Thread nD τ))) (n : ℕ) (f7 : Buf (Elt F) (arg7.view.loc (c : Thread nD τ))) : Prop :=
  (∀ (row : Fin 3080) (l : Fin 128) (q : Fin 8) (r : Fin 384), row.val = 8 * r.val + q.val → r.val < n → arg7.view.read (Elt F) f7 (ix2 row l) = arg2.view.read (Elt F) f2 (ix3 (0 : Fin 1) q r))
  ∧ ∀ (row : Fin 3080) (l : Fin 128), 3072 ≤ row.val → arg7.view.read (Elt F) f7 (ix2 row l) = (Scalar.ofBits .f32 0x00000000#32 : F .f32)

theorem spread_step (bd : Option 𝒱₀.V)
    (f2 : Buf (Elt F) (arg2.view.loc (c : Thread nD τ))) (f7 : Buf (Elt F) (arg7.view.loc (c : Thread nD τ))) (k : Fin k0_t4_loop.trips) (h : Spread c arg2 arg7 f2 k.val f7) :
    iprop(pt c arg2 f2 ∗ pt c arg7 f7) ⊢ wp frame (wpE (defs₀ (F := F)) 𝒱₀ (c : Thread nD τ) bd) Set.univ (k0_t4_body i arg1 harg1 arg2 harg2 arg3 harg3 arg4 harg4 arg5 harg5 arg6 harg6 arg7 harg7 k ())
      (fun _ => iprop(pt c arg2 f2 ∗ ∃ f, pt c arg7 f ∗ ⌜Spread c arg2 arg7 f2 (k.val + 1) f⌝)) := by
  unfold k0_t4_body
  iintro ⟨H2, H7⟩
  sl_exec
  sl_step
  isplitl [H2]; · iexact H2
  iexists _
  isplitl [H7]; · iexact H7
  ipureintro
  have h4 := off4_eq k
  have h3 := off3_eq k
  have hk : k.val < 384 := k.isLt
  refine ⟨fun row l q r hrow hr => ?_, fun row l hrow => ?_⟩
  · by_cases hrk : r.val = k.val
    · refine (View.read_writes_cons_unit_of_mem arg7.view f7 _ _ [] (ix2 row l) (ix2 q l) rfl (fun a => by
        match a with
        | ⟨0, _⟩ => show row.val = k0_off4 k 0 + q.val; rw [h4]; show row.val = 8 * k.val + q.val; omega
        | ⟨1, _⟩ => show l.val = k0_off4 k 1 + l.val; rw [h4]; show l.val = 0 + l.val; omega)).trans ?_
      unfold k0_pay5
      refine (shapeCast_apply _ _ _ (ix2 q l) rfl).trans ?_
      refine (broadcastTo_apply _ _ _ (ix2 q (0 : Fin 1)) (fun b => by match b with | ⟨0, _⟩ => rfl | ⟨1, _⟩ => rfl)).trans ?_
      refine (shapeCast_apply _ _ _ (ix2 q (0 : Fin 1)) rfl).trans ?_
      refine (shapeCast_apply _ _ _ (ix3 (0 : Fin 1) q (0 : Fin 1)) (by rw [Shape.rowMajor_val_two, Shape.rowMajor_val_three]; show (0 * 8 + q.val) * 1 + 0 = q.val * 1 + 0; omega)).trans ?_
      rw [View.readAt_apply]
      refine congrArg (arg2.view.read (Elt F) f2) ?_
      funext d
      match d with
      | ⟨0, _⟩ => exact Fin.ext (by show k0_off3 k 0 + 1 * 0 = 0; rw [h3]; rfl)
      | ⟨1, _⟩ => exact Fin.ext (by show k0_off3 k 1 + 1 * q.val = q.val; rw [h3]; show 0 + 1 * q.val = q.val; omega)
      | ⟨2, _⟩ => exact Fin.ext (by show k0_off3 k 2 + 1 * 0 = r.val; rw [h3]; show k.val + 1 * 0 = r.val; omega)
    · refine (View.read_writes_cons_unit_of_not_mem arg7.view f7 _ _ [] (ix2 row l) rfl (0 : Fin 2) (by show row.val < k0_off4 k 0 ∨ k0_off4 k 0 + 8 ≤ row.val; rw [h4]; show row.val < 8 * k.val ∨ 8 * k.val + 8 ≤ row.val; omega)).trans ?_
      exact h.1 row l q r hrow (by omega)
  · refine (View.read_writes_cons_unit_of_not_mem arg7.view f7 _ _ [] (ix2 row l) rfl (0 : Fin 2) (by show row.val < k0_off4 k 0 ∨ k0_off4 k 0 + 8 ≤ row.val; rw [h4]; show row.val < 8 * k.val ∨ 8 * k.val + 8 ≤ row.val; omega)).trans ?_
    exact h.2 row l hrow

set_option warn.classDefReducibility false in
@[sl_loop] def loopInv_t3 (bd : Option 𝒱₀.V) (t1 : Fin k0_t1_loop.trips) (v24 : BitVec 32) (t2 : Fin k0_t2_loop.trips) (arg9 : BitVec 32)
    (f1 : Buf (Elt F) (arg1.view.loc (c : Thread nD τ))) :
    LoopInvTy_k0_t3 (F := F) Unit ℕ (UR sig nD τ) ℕ 𝒱₀ c bd Set.univ i arg1 harg1 arg2 harg2 arg3 harg3 arg4 harg4 arg5 harg5 arg6 harg6 arg7 harg7 t1 v24 t2 arg9 where
  inv := fun k _ => iprop(pt c arg1 f1 ∗ ∃ f, pt c arg6 f ∗ ⌜Laid c arg1 arg6 f1 t1.val t2.val k f⌝)
  step := fun k acc => by
    iintro ⟨H1, ⟨%f6, H6, %h⟩⟩
    iapply (relay_step c i arg1 harg1 arg2 harg2 arg3 harg3 arg4 harg4 arg5 harg5 arg6 harg6 arg7 harg7 bd t1 v24 t2 arg9 f1 f6 k h)
    isplitl [H1]; · iexact H1
    iexact H6

set_option warn.classDefReducibility false in
@[sl_loop] def loopInv_t2 (bd : Option 𝒱₀.V) (t1 : Fin k0_t1_loop.trips) (v24 : BitVec 32)
    (f1 : Buf (Elt F) (arg1.view.loc (c : Thread nD τ))) :
    LoopInvTy_k0_t2 (F := F) Unit ℕ (UR sig nD τ) ℕ 𝒱₀ c bd Set.univ i arg1 harg1 arg2 harg2 arg3 harg3 arg4 harg4 arg5 harg5 arg6 harg6 arg7 harg7 t1 v24 where
  inv := fun k _ => iprop(pt c arg1 f1 ∗ ∃ f, pt c arg6 f ∗ ⌜Laid c arg1 arg6 f1 t1.val k 0 f⌝)
  step := fun k acc => by
    unfold k0_t2_body
    iintro ⟨H1, ⟨%f6, H6, %h⟩⟩
    sl_exec
    sl_step
    isplitl [H1]; · iexact H1
    iexists _
    isplitl [H6]; · iexact H6
    ipureintro
    exact laid_next_bin c arg1 arg6 f1 _ t1.val k.val hL2

set_option warn.classDefReducibility false in
@[sl_loop] def loopInv_t1 (bd : Option 𝒱₀.V)
    (f1 : Buf (Elt F) (arg1.view.loc (c : Thread nD τ))) :
    LoopInvTy_k0_t1 (F := F) Unit ℕ (UR sig nD τ) ℕ 𝒱₀ c bd Set.univ i arg1 harg1 arg2 harg2 arg3 harg3 arg4 harg4 arg5 harg5 arg6 harg6 arg7 harg7 where
  inv := fun k _ => iprop(pt c arg1 f1 ∗ ∃ f, pt c arg6 f ∗ ⌜Laid c arg1 arg6 f1 k 0 0 f⌝)
  step := fun k acc => by
    unfold k0_t1_body
    iintro ⟨H1, ⟨%f6, H6, %h⟩⟩
    sl_exec
    sl_step
    isplitl [H1]; · iexact H1
    iexists _
    isplitl [H6]; · iexact H6
    ipureintro
    exact laid_next_block c arg1 arg6 f1 _ k.val hL2

set_option warn.classDefReducibility false in
@[sl_loop] def loopInv_t4 (bd : Option 𝒱₀.V)
    (f2 : Buf (Elt F) (arg2.view.loc (c : Thread nD τ))) :
    LoopInvTy_k0_t4 (F := F) Unit ℕ (UR sig nD τ) ℕ 𝒱₀ c bd Set.univ i arg1 harg1 arg2 harg2 arg3 harg3 arg4 harg4 arg5 harg5 arg6 harg6 arg7 harg7 where
  inv := fun k _ => iprop(pt c arg2 f2 ∗ ∃ f, pt c arg7 f ∗ ⌜Spread c arg2 arg7 f2 k f⌝)
  step := fun k acc => by
    iintro ⟨H2, ⟨%f7, H7, %h⟩⟩
    iapply (spread_step c i arg1 harg1 arg2 harg2 arg3 harg3 arg4 harg4 arg5 harg5 arg6 harg6 arg7 harg7 bd f2 f7 k h)
    isplitl [H2]; · iexact H2
    iexact H7
end
end Cert.Proof.PV

end
-- ==== Proof.PV.Sweep.lean ====
/-
  What the sweep has added up, chunk by chunk, and what the kernel's body leaves in its result.
-/
module

public import proofs.«01_k».proof.Proof.PV.Weight
public import proofs.«01_k».proof.Proof.PV.Relay

@[expose] public section

noncomputable section

namespace Cert.Proof.PV

open Cert.KernelIdeal Cert.KernelIdeal.Gen Cert.Proof.PI
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ### The result's formula -/

/-- What an entry adds to a cell: its weights times its codes' values. -/
def entTerm (R : S1x49x384x512.Idx → BitVec 8) (P : S1x8x384.Idx → EReal) (e : ℕ) (row : Fin 6144) (n : Fin 512) : EReal :=
  ∑ u : Fin 32, if e / 8 < 384 ∧ e % 8 + u.val / 8 < 7 ∧ u.val % 8 < 7 then
    cellW (row.val / 96) (row.val % 96) (fun q => P (ix3 (0 : Fin 1) q (fin 384 (e / 8)))) (e % 8 + u.val / 8) (u.val % 8)
      * (FloatOps.ofBits (F := Ideal) .fp8e5m2 (R (ix4 (0 : Fin 1) (fin 49 (7 * (e % 8 + u.val / 8) + u.val % 8)) (fin 384 (e / 8)) n)) : EReal)
  else 0

/-- What the first `k` entries of a column add to a cell. -/
def colSum (R : S1x49x384x512.Idx → BitVec 8) (P : S1x8x384.Idx → EReal) (L : S1x384x256.Idx → BitVec 32) (t k : ℕ) (row : Fin 6144) (n : Fin 512) : EReal :=
  ∑ pos ∈ Finset.range k, entTerm R P (entOf L t pos) row n

theorem entTerm_pad (R : S1x49x384x512.Idx → BitVec 8) (P : S1x8x384.Idx → EReal) (e : ℕ) (he : 3072 ≤ e) (row : Fin 6144) (n : Fin 512) : entTerm R P e row n = 0 := by
  unfold entTerm
  refine Finset.sum_eq_zero fun u _ => if_neg fun h => ?_
  have := h.1
  omega

theorem tileOf_lt (row : Fin 6144) : tileOf row.val < 192 := by
  have := row.isLt
  unfold tileOf; omega

theorem keeps_iff (t a : BitVec 32) (ht : t.toNat ≤ 192) (ha : a.toNat ≤ 95) : keeps t a = 1#1 ↔ 0 < a.toNat ∨ t.toNat = 192 := by
  have key : ∀ (n : Fin 193) (m : Fin 96), keeps (BitVec.ofNat 32 n.val) (BitVec.ofNat 32 m.val) = 1#1 ↔ 0 < (BitVec.ofNat 32 m.val).toNat ∨ (BitVec.ofNat 32 n.val).toNat = 192 := by decide +kernel
  have := key ⟨t.toNat, by omega⟩ ⟨a.toNat, by omega⟩
  simpa only [BitVec.ofNat_toNat, BitVec.setWidth_eq] using this

theorem le_chunks {n : BitVec 32} (h : n.toInt ≤ 768) : n.toInt ≤ 8 * ((chunksOf n).toNat : ℤ) := by
  have hr := Affine.word_range n
  have hk := chunksOf_range h
  have h1 : Affine.IsInt (Scalar.addi n 7#32) (n.toInt + 7) := Affine.addi (Affine.word n) (Affine.ofNat 7 ⟨rfl, by omega⟩) ⟨rfl, by omega, by omega⟩
  have h2 : Affine.IsInt (Scalar.shrsi (Scalar.addi n 7#32) 3#32) ((n.toInt + 7) / 8) :=
    Affine.shrsi h1 (Affine.ofNat (e := 3) 3 ⟨rfl, by omega⟩) 3 8 rfl ⟨rfl, rfl, by omega⟩
  have h3 : Affine.IsInt (chunksOf n) (max 1 ((n.toInt + 7) / 8)) := Affine.maxsi (Affine.ofNat 1 ⟨rfl, by omega⟩) h2 rfl
  unfold Affine.IsInt at h3
  have h5 : (chunksOf n).toInt = (chunksOf n).toNat := BitVec.toInt_eq_toNat_of_lt (by omega)
  omega

section
variable (c : Dev nD) (i : grid0.Coords)
  (arg1 : Memref sig .tc .vmem S1x49x384x512 .i8) (harg1 : arg1.IsWhole)
  (arg2 : Memref sig .tc .vmem S1x8x384 .f32) (harg2 : arg2.IsWhole)
  (arg3 : Memref sig .tc .smem S1x384x256 .i32) (harg3 : arg3.IsWhole)
  (arg4 : Memref sig .tc .smem S1x1x256 .i32) (harg4 : arg4.IsWhole)
  (arg5 : Memref sig .tc .vmem S1x6144x512 .f32) (harg5 : arg5.IsWhole)
  (arg6 : Memref sig .tc .vmem S4x5784x128 .i32) (harg6 : arg6.IsWhole)
  (arg7 : Memref sig .tc .vmem S3080x128 .f32) (harg7 : arg7.IsWhole)

/-- A lane of the block is its entry's weight and code, once the tables hold what they must. -/
theorem terms_at (f1 : Buf (Elt Ideal) (arg1.view.loc (c : Thread nD τ))) (f2 : Buf (Elt Ideal) (arg2.view.loc (c : Thread nD τ)))
    (f6 : Buf (Elt Ideal) (arg6.view.loc (c : Thread nD τ))) (f7 : Buf (Elt Ideal) (arg7.view.loc (c : Thread nD τ)))
    (h6 : LaidAll c arg1 arg6 f1 f6) (h7 : Spread c arg2 arg7 f2 384 f7) (tt e s : ℕ) (he : e < 3080) (row : Fin 6144) (htt : tileOf row.val = tt) (n : Fin 512) (hlt : 8 * (row.val / 96 % 4) + row.val % 96 % 8 < 32) :
    ∑ u : Fin 32, term c arg6 arg7 f6 f7 tt e s ⟨8 * (row.val / 96 % 4) + row.val % 96 % 8, hlt⟩ n u
      = entTerm (arg1.view.read (Elt Ideal) f1) (arg2.view.read (Elt Ideal) f2) e row n := by
  unfold entTerm
  refine Finset.sum_congr rfl fun u _ => ?_
  have hrow := row.isLt
  have hu := u.isLt
  have hn := n.isLt
  unfold tileOf at htt
  unfold term
  have eY : 4 * (tt % 16) + (8 * (row.val / 96 % 4) + row.val % 96 % 8) / 8 = row.val / 96 := by omega
  have eX : 8 * (tt / 16) + (8 * (row.val / 96 % 4) + row.val % 96 % 8) % 8 = row.val % 96 := by omega
  show cellW (4 * (tt % 16) + (8 * (row.val / 96 % 4) + row.val % 96 % 8) / 8) (8 * (tt / 16) + (8 * (row.val / 96 % 4) + row.val % 96 % 8) % 8) _ _ _ * _ = _
  rw [eY, eX]
  by_cases hc : e / 8 < 384 ∧ e % 8 + u.val / 8 < 7 ∧ u.val % 8 < 7
  · rw [if_pos hc]
    obtain ⟨h1, h2, h3⟩ := hc
    refine congrArg₂ (· * ·) (congrArg (fun P => cellW _ _ P _ _) (funext fun q => ?_)) (congrArg _ ?_)
    · have hq := q.isLt
      exact h7.1 _ _ q (fin 384 (e / 8)) (by rw [fin_val (by omega), fin_val h1]) (by rw [fin_val h1]; exact h1)
    · refine h6 (ix3 (fin 4 (n.val / 128)) (fin 5784 (15 * (e / 8) + 2 * (e % 8) + u.val / 4)) (fin 128 (n.val % 128))) (u.val % 4) (fin 49 (7 * (e % 8 + u.val / 8) + u.val % 8)) (fin 384 (e / 8)) n (e % 8 + u.val / 8) (u.val % 8 / 4)
        (by omega) (by omega) (by omega) h2 ?_ ?_ ?_
      · show (fin 5784 (15 * (e / 8) + 2 * (e % 8) + u.val / 4)).val = _
        rw [fin_val (by omega), fin_val h1]; omega
      · rw [fin_val (by omega)]; omega
      · show n.val = 128 * (fin 4 (n.val / 128)).val + (fin 128 (n.val % 128)).val
        rw [fin_val (by omega), fin_val (by omega)]; omega
  · rw [if_neg hc]
    have z : ∀ w x : EReal, w = 0 → w * x = 0 := fun w x h => by rw [h, zero_mul]
    refine z _ _ ?_
    by_cases h1 : e / 8 < 384
    · by_cases h2 : e % 8 + u.val / 8 < 7
      · exact cellW_dead_x _ _ _ _ _ (by by_contra h3; exact hc ⟨h1, h2, by omega⟩)
      · exact cellW_dead_y _ _ _ _ _ (by omega)
    · refine cellW_empty _ _ _ _ _ ?_
      refine (h7.2 _ _ ?_).trans WV.word_0
      show 3072 ≤ (fin 3080 (8 * (e / 8) + 4)).val
      rw [fin_val (by omega)]; omega

/-- Every column's entries past its count are the padding. -/
def Padded (L : S1x384x256.Idx → BitVec 32) (C : S1x1x256.Idx → BitVec 32) : Prop :=
  ∀ (x : S1x1x256.Idx) (pos : ℕ), (x 2).val ≤ 192 → pos < 768 → (C x).toInt ≤ pos → 3072 ≤ entOf L (x 2).val pos

/-- What the result holds with the sweep at chunk `a` of tile `t`. -/
def Swept (R : S1x49x384x512.Idx → BitVec 8) (P : S1x8x384.Idx → EReal) (L : S1x384x256.Idx → BitVec 32) (t a : BitVec 32) (f5 : Buf (Elt Ideal) (arg5.view.loc (c : Thread nD τ))) : Prop :=
  ∀ (row : Fin 6144) (n : Fin 512), (tileOf row.val < t.toNat → arg5.view.read (Elt Ideal) f5 (ix3 (0 : Fin 1) row n) = colSum R P L (tileOf row.val) 768 row n)
    ∧ (tileOf row.val = t.toNat → 0 < a.toNat → arg5.view.read (Elt Ideal) f5 (ix3 (0 : Fin 1) row n) = colSum R P L t.toNat (8 * a.toNat) row n)

theorem colSum_next (R : S1x49x384x512.Idx → BitVec 8) (P : S1x8x384.Idx → EReal) (L : S1x384x256.Idx → BitVec 32) (t a : ℕ) (row : Fin 6144) (n : Fin 512) :
    colSum R P L t (8 * a) row n + ∑ k : Fin 8, entTerm R P (entOf L t (8 * a + k.val)) row n = colSum R P L t (8 * (a + 1)) row n := by
  unfold colSum
  rw [show 8 * (a + 1) = 8 * a + 8 from by omega, Finset.sum_range_add, Finset.sum_range (fun x => entTerm R P (entOf L t (8 * a + x)) row n)]

theorem colSum_end (R : S1x49x384x512.Idx → BitVec 8) (P : S1x8x384.Idx → EReal) (L : S1x384x256.Idx → BitVec 32) (t a : ℕ) (ha : a ≤ 95) (row : Fin 6144) (n : Fin 512)
    (h : ∀ pos, 8 * (a + 1) ≤ pos → pos < 768 → 3072 ≤ entOf L t pos) : colSum R P L t (8 * (a + 1)) row n = colSum R P L t 768 row n := by
  unfold colSum
  refine Finset.sum_subset (Finset.range_subset_range.2 (by omega)) fun x hx hx' => ?_
  rw [Finset.mem_range] at hx hx'
  exact entTerm_pad R P _ (h x (by omega) hx) row n

set_option maxHeartbeats 1000000 in
theorem chunkKeeps_swept (f1 : Buf (Elt Ideal) (arg1.view.loc (c : Thread nD τ))) (f2 : Buf (Elt Ideal) (arg2.view.loc (c : Thread nD τ)))
    (f3 : Buf (Elt Ideal) (arg3.view.loc (c : Thread nD τ))) (f4 : Buf (Elt Ideal) (arg4.view.loc (c : Thread nD τ)))
    (f6 : Buf (Elt Ideal) (arg6.view.loc (c : Thread nD τ))) (f7 : Buf (Elt Ideal) (arg7.view.loc (c : Thread nD τ)))
    (hL : ∀ x, WordOk (arg3.view.read (Elt Ideal) f3 x)) (hC : ∀ x, (arg4.view.read (Elt Ideal) f4 x : BitVec 32).toInt ≤ 768)
    (hD : Padded (arg3.view.read (Elt Ideal) f3) (arg4.view.read (Elt Ideal) f4)) (hZ : ∀ pos, pos < 768 → 3072 ≤ entOf (arg3.view.read (Elt Ideal) f3) 192 pos)
    (hR : ∀ r, IsReal (arg2.view.read (Elt Ideal) f2 (ix3 (0 : Fin 1) 4 r)))
    (h6 : LaidAll c arg1 arg6 f1 f6) (h7 : Spread c arg2 arg7 f2 384 f7) :
    ChunkKeeps (F := Ideal) c i k0_pay6 arg3 harg3 arg6 harg6 arg7 harg7 k0_pay11 k0_pay8 k0_pay9 k0_pay7 k0_pay10 arg5 harg5 arg4 harg4 f3 f4 f6 f7
      (Swept c arg5 (arg1.view.read (Elt Ideal) f1) (arg2.view.read (Elt Ideal) f2) (arg3.view.read (Elt Ideal) f3)) := by
  intro bd arg8 arg9 k t a f5 ht ha hS
  have hP : ∀ (r : Fin 385) (l : Fin 128), IsReal (arg7.view.read (Elt Ideal) f7 (ix2 (fin 3080 (8 * r.val + 4)) l)) := by
    intro r l
    by_cases hr : r.val < 384
    · rw [h7.1 _ l 4 ⟨r.val, hr⟩ (by rw [fin_val (by omega)]; rfl) hr]; exact hR _
    · rw [h7.2 _ l (by rw [fin_val (by omega)]; omega)]; exact ⟨_, WV.word_0⟩
  iintro H
  iapply (wp_wand_r Idealize.ShloMosaic.frame (wpE (defs₀ (F := Ideal)) 𝒱₀ (c : Thread nD τ) bd) Set.univ)
  isplitl [H]
  · iapply (chunk_value c i _ arg3 harg3 arg6 harg6 arg7 harg7 _ _ _ _ _ arg5 harg5 arg4 harg4 bd arg8 arg9 k t a f3 f4 f5 f6 f7 hL hC ht ha (chk1_of t a ht ha))
    iexact H
  iintro %r ⟨⟨%f, H5, %hf⟩, H3, H4, H6, H7, %hr⟩
  obtain ⟨x, hx, rfl⟩ := hr
  iexists f
  isplitl [H3 H4 H5 H6 H7]
  · unfold held
    isplitl [H3]; · iexact H3
    isplitl [H4]; · iexact H4
    isplitl [H5]; · iexact H5
    isplitl [H6]; · iexact H6
    iexact H7
  ipureintro
  have h := next_ok (hC x) ht ha
  refine ⟨h.1, h.2.1, h.2.2, ?_⟩
  obtain ⟨e1, e2⟩ := next_toNat (hC x) ht ha
  -- what the row of the chunk's tile holds now, and every other row
  have hadd : ∀ (row : Fin 6144) (n : Fin 512), tileOf row.val = min t.toNat 191 →
      (chunkP (F := Ideal) c k0_pay6 arg3 arg6 arg7 k0_pay11 k0_pay8 k0_pay9 k0_pay7 k0_pay10 t a (chk1_of t a ht ha) f3 f6 f7 hL (ix2 (⟨8 * (row.val / 96 % 4) + row.val % 96 % 8, by omega⟩ : Fin 32) n) : EReal)
        = ∑ k : Fin 8, entTerm (arg1.view.read (Elt Ideal) f1) (arg2.view.read (Elt Ideal) f2) (entOf (arg3.view.read (Elt Ideal) f3) t.toNat (8 * a.toNat + k.val)) row n := by
    intro row n htt
    rw [chunkP_at c arg3 arg6 arg7 t a ht ha _ f3 f6 f7 hL hP]
    exact Finset.sum_congr rfl fun k _ => terms_at c arg1 arg2 arg6 arg7 f1 f2 f6 f7 h6 h7 _ _ _ (entOf_lt hL _ _) row htt n _
  have hother : ∀ (row : Fin 6144) (n : Fin 512), tileOf row.val ≠ min t.toNat 191 → arg5.view.read (Elt Ideal) f (ix3 (0 : Fin 1) row n) = arg5.view.read (Elt Ideal) f5 (ix3 (0 : Fin 1) row n) := by
    intro row n hne
    rw [hf row n]; unfold sumAt; rw [if_neg (fun hh => hne hh.1)]
  have hself : ∀ (row : Fin 6144) (n : Fin 512), tileOf row.val = min t.toNat 191 → arg5.view.read (Elt Ideal) f (ix3 (0 : Fin 1) row n)
      = (Scalar.select (keeps t a) (arg5.view.read (Elt Ideal) f5 (ix3 (0 : Fin 1) row n) : EReal) 0)
        + ∑ k : Fin 8, entTerm (arg1.view.read (Elt Ideal) f1) (arg2.view.read (Elt Ideal) f2) (entOf (arg3.view.read (Elt Ideal) f3) t.toNat (8 * a.toNat + k.val)) row n := by
    intro row n htt
    rw [hf row n]; unfold sumAt
    rw [if_pos ⟨htt, by omega⟩, ← hadd row n htt]
    have z : (Scalar.ofBits .f32 0x00000000#32 : Ideal .f32) = (0 : EReal) := Ideal.ofBits_zero_f32
    rw [z]; rfl
  intro row n
  have htl := tileOf_lt row
  rcases Nat.lt_or_ge t.toNat 192 with hlt | hge
  · have hm : min t.toNat 191 = t.toNat := by omega
    rw [hm] at hother hself
    have hnow : tileOf row.val = t.toNat → arg5.view.read (Elt Ideal) f (ix3 (0 : Fin 1) row n)
        = colSum (arg1.view.read (Elt Ideal) f1) (arg2.view.read (Elt Ideal) f2) (arg3.view.read (Elt Ideal) f3) t.toNat (8 * (a.toNat + 1)) row n := by
      intro htt
      rw [hself row n htt, ← colSum_next]
      refine congrArg (· + _) ?_
      by_cases h0 : 0 < a.toNat
      · rw [(keeps_iff t a ht ha).2 (Or.inl h0)]
        exact (hS row n).2 htt h0
      · have hk : keeps t a ≠ 1#1 := fun hh => by have := (keeps_iff t a ht ha).1 hh; omega
        have h00 : a.toNat = 0 := by omega
        have z : colSum (arg1.view.read (Elt Ideal) f1) (arg2.view.read (Elt Ideal) f2) (arg3.view.read (Elt Ideal) f3) t.toNat (8 * a.toNat) row n = 0 := by
          rw [h00]; unfold colSum; exact Finset.sum_range_zero _
        rw [z]; exact if_neg hk
    rw [e1, e2]
    by_cases hlast : (chunksOf (arg4.view.read (Elt Ideal) f4 x)).toNat ≤ a.toNat + 1
    · rw [if_pos hlast, if_pos hlast]
      refine ⟨fun hrow => ?_, fun _ hh => absurd hh (lt_irrefl _)⟩
      rcases Nat.lt_or_ge (tileOf row.val) t.toNat with hl | hg
      · rw [hother row n (by omega)]; exact (hS row n).1 hl
      · have htt : tileOf row.val = t.toNat := by omega
        rw [hnow htt, htt]
        refine colSum_end _ _ _ _ _ ha row n fun pos hp1 hp2 => ?_
        have hc := le_chunks (hC x)
        have hd := hD x pos (by rw [hx]; exact ht) hp2 (by omega)
        rw [hx] at hd; exact hd
    · rw [if_neg hlast, if_neg hlast]
      exact ⟨fun hl => by rw [hother row n (by omega)]; exact (hS row n).1 hl, fun htt _ => hnow htt⟩
  · have h192 : t.toNat = 192 := by omega
    have hsame : arg5.view.read (Elt Ideal) f (ix3 (0 : Fin 1) row n) = arg5.view.read (Elt Ideal) f5 (ix3 (0 : Fin 1) row n) := by
      by_cases htt : tileOf row.val = min t.toNat 191
      · rw [hself row n htt, (keeps_iff t a ht ha).2 (Or.inr h192)]
        have z : ∑ k : Fin 8, entTerm (arg1.view.read (Elt Ideal) f1) (arg2.view.read (Elt Ideal) f2) (entOf (arg3.view.read (Elt Ideal) f3) t.toNat (8 * a.toNat + k.val)) row n = 0 :=
          Finset.sum_eq_zero fun k _ => entTerm_pad _ _ _ (by rw [h192]; exact hZ _ (by have := k.isLt; omega)) row n
        rw [z]; exact add_zero _
      · exact hother row n htt
    rw [hsame]
    refine ⟨fun _ => (hS row n).1 (by omega), fun hh _ => ?_⟩
    rw [e1] at hh
    split_ifs at hh <;> omega

/-- The parameter table's last eight rows are zero. -/
def ZeroRows (f7 : Buf (Elt Ideal) (arg7.view.loc (c : Thread nD τ))) : Prop :=
  ∀ (row : Fin 3080) (l : Fin 128), 3072 ≤ row.val → arg7.view.read (Elt Ideal) f7 (ix2 row l) = (Scalar.ofBits .f32 0x00000000#32 : Ideal .f32)

theorem spread_start (f2 : Buf (Elt Ideal) (arg2.view.loc (c : Thread nD τ))) (f7 : Buf (Elt Ideal) (arg7.view.loc (c : Thread nD τ))) (h : ZeroRows c arg7 f7) : Spread c arg2 arg7 f2 0 f7 :=
  ⟨fun _ _ _ _ _ h0 => absurd h0 (Nat.not_lt_zero _), h⟩

theorem zero_written (f7 : Buf (Elt Ideal) (arg7.view.loc (c : Thread nD τ))) :
    ZeroRows c arg7 (arg7.view.writes (Elt Ideal) f7 [⟨Rect.unit ![3072, 0] S8x128.size inb_S3080x128_S8x128_3072_0, k0_pay2 (F := Ideal)⟩]) := by
  intro row l hrow
  have hr := row.isLt
  refine (View.read_writes_cons_unit_of_mem arg7.view f7 _ _ [] (ix2 row l) (ix2 (⟨row.val - 3072, by omega⟩ : Fin 8) l) rfl (fun a => by
    match a with
    | ⟨0, _⟩ => show row.val = 3072 + (row.val - 3072); omega
    | ⟨1, _⟩ => show l.val = 0 + l.val; omega)).trans ?_
  rfl

/-- What the kernel's body leaves. -/
theorem kernel_value (f1 : Buf (Elt Ideal) (arg1.view.loc (c : Thread nD τ))) (f2 : Buf (Elt Ideal) (arg2.view.loc (c : Thread nD τ)))
    (f3 : Buf (Elt Ideal) (arg3.view.loc (c : Thread nD τ))) (f4 : Buf (Elt Ideal) (arg4.view.loc (c : Thread nD τ)))
    (f5 : Buf (Elt Ideal) (arg5.view.loc (c : Thread nD τ))) (f6 : Buf (Elt Ideal) (arg6.view.loc (c : Thread nD τ)))
    (f7 : Buf (Elt Ideal) (arg7.view.loc (c : Thread nD τ)))
    (hL : ∀ x, WordOk (arg3.view.read (Elt Ideal) f3 x)) (hC : ∀ x, (arg4.view.read (Elt Ideal) f4 x : BitVec 32).toInt ≤ 768)
    (hD : Padded (arg3.view.read (Elt Ideal) f3) (arg4.view.read (Elt Ideal) f4)) (hZ : ∀ pos, pos < 768 → 3072 ≤ entOf (arg3.view.read (Elt Ideal) f3) 192 pos)
    (hR : ∀ r, IsReal (arg2.view.read (Elt Ideal) f2 (ix3 (0 : Fin 1) 4 r)))
    (h7 : ¬ Scalar.cmpi .ne (Scalar.extui (Scalar.cmpi .eq (BitVec.ofNat 32 (i 0).val) 0#32) : BitVec 32) 0#32 = 1#1 → ZeroRows c arg7 f7) :
    iprop(pt c arg1 f1 ∗ pt c arg2 f2 ∗ pt c arg3 f3 ∗ pt c arg4 f4 ∗ pt c arg5 f5 ∗ pt c arg6 f6 ∗ pt c arg7 f7)
    ⊢ wp frame (wpE (defs₀ (F := Ideal)) 𝒱₀ (c : Thread nD τ) none) Set.univ (cc0_main (F := Ideal) i arg1 harg1 arg2 harg2 arg3 harg3 arg4 harg4 arg5 harg5 arg6 harg6 arg7 harg7)
      (fun _ => iprop(pt c arg1 f1 ∗ pt c arg2 f2 ∗ pt c arg3 f3 ∗ pt c arg4 f4 ∗ (∃ f, pt c arg5 f ∗ ⌜∀ (row : Fin 6144) (n : Fin 512), arg5.view.read (Elt Ideal) f (ix3 (0 : Fin 1) row n) = colSum (arg1.view.read (Elt Ideal) f1) (arg2.view.read (Elt Ideal) f2) (arg3.view.read (Elt Ideal) f3) (tileOf row.val) 768 row n⌝) ∗ (∃ f, pt c arg6 f) ∗ (∃ f, pt c arg7 f ∗ ⌜ZeroRows c arg7 f⌝))) := by
  rw [cc0_main_eq_skeleton]; unfold cc0_main_skel
  iintro ⟨H1, H2, H3, H4, H5, H6, H7⟩
  by_cases hc : Scalar.cmpi .ne (Scalar.extui (Scalar.cmpi .eq (BitVec.ofNat 32 (i 0).val) 0#32) : BitVec 32) 0#32 = 1#1
  · rw [dif_pos hc]
    rw [wp_bind]
    have hz := spread_start c arg2 arg7 f2 _ (zero_written c arg7 f7)
    sl_exec
    rename_i fL0 fL1
    have hk := chunkKeeps_swept c i arg1 arg2 arg3 harg3 arg4 harg4 arg5 harg5 arg6 harg6 arg7 harg7 f1 f2 f3 f4 fL0 fL1 hL hC hD hZ hR (laid_end c arg1 arg6 f1 _ hL2) hL5
    iapply (sweep_run c i k0_pay6 arg3 harg3 arg6 harg6 arg7 harg7 k0_pay11 k0_pay8 k0_pay9 k0_pay7 k0_pay10 arg5 harg5 arg4 harg4 f3 f4 fL0 fL1 _ hk _ _ f5
      (fun row n => ⟨fun h => absurd h (Nat.not_lt_zero _), fun _ h => absurd h (Nat.not_lt_zero _)⟩))
    isplitl [H3 H4 H5 H6 H7]
    · unfold held
      isplitl [H3]; · iexact H3
      isplitl [H4]; · iexact H4
      isplitl [H5]; · iexact H5
      isplitl [H6]; · iexact H6
      iexact H7
    iintro %r
    obtain ⟨r1, r2⟩ := r
    iintro ⟨⟨%f5', ⟨H3, H4, H5, H6, H7⟩, %hr⟩, %hge⟩
    sl_exec
    sl_step
    isplitl [H1]; · iexact H1
    isplitl [H2]; · iexact H2
    isplitl [H3]; · iexact H3
    isplitl [H4]; · iexact H4
    isplitl [H5]
    · iexists _
      isplitl [H5]; · iexact H5
      ipureintro
      intro row n
      have htl := tileOf_lt row
      exact (hr.2.2.2 row n).1 (by have := hge; omega)
    isplitl [H6]; · iexists _; iexact H6
    iexists _
    isplitl [H7]; · iexact H7
    ipureintro
    exact hL5.2
  · have hz := spread_start c arg2 arg7 f2 f7 (h7 hc)
    sl_exec
    rename_i fL0 fL1
    have hk := chunkKeeps_swept c i arg1 arg2 arg3 harg3 arg4 harg4 arg5 harg5 arg6 harg6 arg7 harg7 f1 f2 f3 f4 fL0 fL1 hL hC hD hZ hR (laid_end c arg1 arg6 f1 _ hL2) hL5
    iapply (sweep_run c i k0_pay6 arg3 harg3 arg6 harg6 arg7 harg7 k0_pay11 k0_pay8 k0_pay9 k0_pay7 k0_pay10 arg5 harg5 arg4 harg4 f3 f4 fL0 fL1 _ hk _ _ f5
      (fun row n => ⟨fun h => absurd h (Nat.not_lt_zero _), fun _ h => absurd h (Nat.not_lt_zero _)⟩))
    isplitl [H3 H4 H5 H6 H7]
    · unfold held
      isplitl [H3]; · iexact H3
      isplitl [H4]; · iexact H4
      isplitl [H5]; · iexact H5
      isplitl [H6]; · iexact H6
      iexact H7
    iintro %r
    obtain ⟨r1, r2⟩ := r
    iintro ⟨⟨%f5', ⟨H3, H4, H5, H6, H7⟩, %hr⟩, %hge⟩
    sl_exec
    sl_step
    isplitl [H1]; · iexact H1
    isplitl [H2]; · iexact H2
    isplitl [H3]; · iexact H3
    isplitl [H4]; · iexact H4
    isplitl [H5]
    · iexists _
      isplitl [H5]; · iexact H5
      ipureintro
      intro row n
      have htl := tileOf_lt row
      exact (hr.2.2.2 row n).1 (by have := hge; omega)
    isplitl [H6]; · iexists _; iexact H6
    iexists _
    isplitl [H7]; · iexact H7
    ipureintro
    exact hL5.2

end

end Cert.Proof.PV

end
-- ==== Proof.PI.Main.lean ====
/-
  The kernel's body: the relay of the codes into packed words, the spread of the parameters, and the sweep.
-/
module

public import proofs.«01_k».proof.Proof.PI.While

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg1 : Memref sig .tc .vmem S1x49x384x512 .i8) (harg1 : arg1.IsWhole)
  (arg2 : Memref sig .tc .vmem S1x8x384 .f32) (harg2 : arg2.IsWhole)
  (arg3 : Memref sig .tc .smem S1x384x256 .i32) (harg3 : arg3.IsWhole)
  (arg4 : Memref sig .tc .smem S1x1x256 .i32) (harg4 : arg4.IsWhole)
  (arg5 : Memref sig .tc .vmem S1x6144x512 .f32) (harg5 : arg5.IsWhole)
  (arg6 : Memref sig .tc .vmem S4x5784x128 .i32) (harg6 : arg6.IsWhole)
  (arg7 : Memref sig .tc .vmem S3080x128 .f32) (harg7 : arg7.IsWhole)

set_option warn.classDefReducibility false in
@[sl_loop] def loopInv_t3 (bd : Option 𝒱₀.V) (t1 : Fin k0_t1_loop.trips) (v24 : BitVec 32) (t2 : Fin k0_t2_loop.trips) (arg9 : BitVec 32)
    (f1 : Buf (Elt F) (arg1.view.loc (c : Thread nD τ))) :
    LoopInvTy_k0_t3 (F := F) Unit ℕ (UR sig nD τ) ℕ 𝒱₀ c bd Set.univ i arg1 harg1 arg2 harg2 arg3 harg3 arg4 harg4 arg5 harg5 arg6 harg6 arg7 harg7 t1 v24 t2 arg9 where
  inv := fun k _ => iprop(pt c arg1 f1 ∗ ∃ f, pt c arg6 f)
  step := fun k acc => by
    unfold k0_t3_body
    iintro ⟨H1, ⟨%f6, H6⟩⟩
    sl_exec
    sl_step
    isplitl [H1]; · iexact H1
    iexists _; iexact H6

set_option warn.classDefReducibility false in
@[sl_loop] def loopInv_t2 (bd : Option 𝒱₀.V) (t1 : Fin k0_t1_loop.trips) (v24 : BitVec 32)
    (f1 : Buf (Elt F) (arg1.view.loc (c : Thread nD τ))) :
    LoopInvTy_k0_t2 (F := F) Unit ℕ (UR sig nD τ) ℕ 𝒱₀ c bd Set.univ i arg1 harg1 arg2 harg2 arg3 harg3 arg4 harg4 arg5 harg5 arg6 harg6 arg7 harg7 t1 v24 where
  inv := fun k _ => iprop(pt c arg1 f1 ∗ ∃ f, pt c arg6 f)
  step := fun k acc => by
    unfold k0_t2_body
    iintro ⟨H1, ⟨%f6, H6⟩⟩
    sl_exec
    sl_step
    sl_close

set_option warn.classDefReducibility false in
@[sl_loop] def loopInv_t1 (bd : Option 𝒱₀.V)
    (f1 : Buf (Elt F) (arg1.view.loc (c : Thread nD τ))) :
    LoopInvTy_k0_t1 (F := F) Unit ℕ (UR sig nD τ) ℕ 𝒱₀ c bd Set.univ i arg1 harg1 arg2 harg2 arg3 harg3 arg4 harg4 arg5 harg5 arg6 harg6 arg7 harg7 where
  inv := fun k _ => iprop(pt c arg1 f1 ∗ ∃ f, pt c arg6 f)
  step := fun k acc => by
    unfold k0_t1_body
    iintro ⟨H1, ⟨%f6, H6⟩⟩
    sl_exec
    sl_step
    sl_close

set_option warn.classDefReducibility false in
@[sl_loop] def loopInv_t4 (bd : Option 𝒱₀.V)
    (f2 : Buf (Elt F) (arg2.view.loc (c : Thread nD τ))) :
    LoopInvTy_k0_t4 (F := F) Unit ℕ (UR sig nD τ) ℕ 𝒱₀ c bd Set.univ i arg1 harg1 arg2 harg2 arg3 harg3 arg4 harg4 arg5 harg5 arg6 harg6 arg7 harg7 where
  inv := fun k _ => iprop(pt c arg2 f2 ∗ ∃ f, pt c arg7 f)
  step := fun k acc => by
    unfold k0_t4_body
    iintro ⟨H2, ⟨%f7, H7⟩⟩
    sl_exec
    sl_step
    isplitl [H2]; · iexact H2
    iexists _; iexact H7

theorem chunkKeeps_true (v7 : FVec F S8x128 .f32) (arg3 : Memref sig .tc .smem S1x384x256 .i32) (harg3 : arg3.IsWhole) (arg6 : Memref sig .tc .vmem S4x5784x128 .i32) (harg6 : arg6.IsWhole) (arg7 : Memref sig .tc .vmem S3080x128 .f32) (harg7 : arg7.IsWhole) (v22 : IVec S8x128 32) (v15 : FVec F S8x128 .f32) (v17 : IVec S8x128 1) (v10 : FVec F S8x128 .f32) (v20 : FVec F S8x128 .f32) (arg5 : Memref sig .tc .vmem S1x6144x512 .f32) (harg5 : arg5.IsWhole) (arg4 : Memref sig .tc .smem S1x1x256 .i32) (harg4 : arg4.IsWhole)
    (f3 : Buf (Elt F) (arg3.view.loc (c : Thread nD τ))) (f4 : Buf (Elt F) (arg4.view.loc (c : Thread nD τ)))
    (f6 : Buf (Elt F) (arg6.view.loc (c : Thread nD τ))) (f7 : Buf (Elt F) (arg7.view.loc (c : Thread nD τ)))
    (hL : ∀ x, WordOk (arg3.view.read (Elt F) f3 x)) (hC : ∀ x, (arg4.view.read (Elt F) f4 x : BitVec 32).toInt ≤ 768) :
    ChunkKeeps c i v7 arg3 harg3 arg6 harg6 arg7 harg7 v22 v15 v17 v10 v20 arg5 harg5 arg4 harg4 f3 f4 f6 f7 (fun _ _ _ => True) := by
  intro bd arg8 arg9 k t a f5 ht ha _
  iintro H
  iapply (wp_wand_r Idealize.ShloMosaic.frame (wpE (defs₀ (F := F)) 𝒱₀ (c : Thread nD τ) bd) Set.univ)
  isplitl [H]
  · iapply (chunk_run c i v7 arg3 harg3 arg6 harg6 arg7 harg7 v22 v15 v17 v10 v20 arg5 harg5 arg4 harg4 bd arg8 arg9 k t a f3 f4 f5 f6 f7 hL hC ht ha)
    iexact H
  iintro %r ⟨⟨%f, H5⟩, H3, H4, H6, H7, %hr⟩
  obtain ⟨x, hx, rfl⟩ := hr
  iexists f
  isplitl [H3 H4 H5 H6 H7]
  · unfold held
    isplitl [H3]; · iexact H3
    isplitl [H4]; · iexact H4
    isplitl [H5]; · iexact H5
    isplitl [H6]; · iexact H6
    iexact H7
  ipureintro
  have h := next_ok (hC x) ht ha
  exact ⟨h.1, h.2.1, h.2.2, trivial⟩

theorem kernel_run (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (f7 : Buf (Elt F) (arg7.view.loc (c : Thread nD τ)))
    (hL : ∀ x, WordOk (arg3.view.read (Elt F) f3 x)) (hC : ∀ x, (arg4.view.read (Elt F) f4 x : BitVec 32).toInt ≤ 768) :
    iprop(pt c arg1 f1 ∗ pt c arg2 f2 ∗ pt c arg3 f3 ∗ pt c arg4 f4 ∗ pt c arg5 f5 ∗ pt c arg6 f6 ∗ pt c arg7 f7)
    ⊢ wp frame (wpE (defs₀ (F := F)) 𝒱₀ (c : Thread nD τ) none) Set.univ (cc0_main (F := F) i arg1 harg1 arg2 harg2 arg3 harg3 arg4 harg4 arg5 harg5 arg6 harg6 arg7 harg7)
      (fun _ => iprop(pt c arg1 f1 ∗ pt c arg2 f2 ∗ pt c arg3 f3 ∗ pt c arg4 f4 ∗ (∃ f, pt c arg5 f) ∗ (∃ f, pt c arg6 f) ∗ (∃ f, pt c arg7 f))) := by
  rw [cc0_main_eq_skeleton]; unfold cc0_main_skel
  iintro ⟨H1, H2, H3, H4, H5, H6, H7⟩
  by_cases hc : Scalar.cmpi .ne (Scalar.extui (Scalar.cmpi .eq (BitVec.ofNat 32 (i 0).val) 0#32) : BitVec 32) 0#32 = 1#1
  · sl_exec
    rename_i fL0 _ fL1
    iapply (sweep_run c i k0_pay6 arg3 harg3 arg6 harg6 arg7 harg7 k0_pay11 k0_pay8 k0_pay9 k0_pay7 k0_pay10 arg5 harg5 arg4 harg4 f3 f4 fL0 fL1
      (fun _ _ _ => True) (chunkKeeps_true c i _ arg3 harg3 arg6 harg6 arg7 harg7 _ _ _ _ _ arg5 harg5 arg4 harg4 f3 f4 fL0 fL1 hL hC) _ _ f5 trivial)
    isplitl [H3 H4 H5 H6 H7]
    · unfold held
      isplitl [H3]; · iexact H3
      isplitl [H4]; · iexact H4
      isplitl [H5]; · iexact H5
      isplitl [H6]; · iexact H6
      iexact H7
    iintro %r
    obtain ⟨r1, r2⟩ := r
    iintro ⟨⟨%f5', ⟨H3, H4, H5, H6, H7⟩, %hr⟩, %hge⟩
    sl_exec
    sl_step
    isplitl [H1]; · iexact H1
    isplitl [H2]; · iexact H2
    isplitl [H3]; · iexact H3
    isplitl [H4]; · iexact H4
    isplitl [H5]; · iexists _; iexact H5
    isplitl [H6]; · iexists _; iexact H6
    iexists _; iexact H7
  · sl_exec
    rename_i fL0 _ fL1
    iapply (sweep_run c i k0_pay6 arg3 harg3 arg6 harg6 arg7 harg7 k0_pay11 k0_pay8 k0_pay9 k0_pay7 k0_pay10 arg5 harg5 arg4 harg4 f3 f4 fL0 fL1
      (fun _ _ _ => True) (chunkKeeps_true c i _ arg3 harg3 arg6 harg6 arg7 harg7 _ _ _ _ _ arg5 harg5 arg4 harg4 f3 f4 fL0 fL1 hL hC) _ _ f5 trivial)
    isplitl [H3 H4 H5 H6 H7]
    · unfold held
      isplitl [H3]; · iexact H3
      isplitl [H4]; · iexact H4
      isplitl [H5]; · iexact H5
      isplitl [H6]; · iexact H6
      iexact H7
    iintro %r
    obtain ⟨r1, r2⟩ := r
    iintro ⟨⟨%f5', ⟨H3, H4, H5, H6, H7⟩, %hr⟩, %hge⟩
    sl_exec
    sl_step
    isplitl [H1]; · iexact H1
    isplitl [H2]; · iexact H2
    isplitl [H3]; · iexact H3
    isplitl [H4]; · iexact H4
    isplitl [H5]; · iexists _; iexact H5
    isplitl [H6]; · iexists _; iexact H6
    iexists _; iexact H7

end

end Cert.Proof.PI

end
-- ==== Proof.PI.Run.lean ====
/-
  The run of the whole program: the kernel's triple of `Main.lean` put into the pipeline, the arrays at the region's entry,
  and the frame of the program under the precondition that every list entry names a roi of the tables and no column is
  longer than its two halves.
-/
module

public import proofs.«01_k».proof.Defs
public import proofs.«01_k».proof.Proof.PI.Main
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.StableHlo.RunRead

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (RDat)

variable {F : FTy → Type} [FloatOps F] [∀ e, Nonempty (Elt F e)]

variable (m : (ℓ : Loc nD τ sig) → Buf (Elt F) ℓ) (ρ : Dev nD → PrngReg)

/-- What each buffer of core `c` holds when the region begins: the launch memory after the transpose and the reshape. -/
def V (c : Dev nD) (b : Ref sig .tc) : Buf (Elt F) ((c.tc : Thread nD τ).loc b) :=
  StableHlo.after (hostOps0 (F := F)) (fun b => m (c, b)) b

/-- The program up to the region. -/
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub (by constructor <;> rfl) fun c => main_chain c

/-- An argument of the program is as it was at launch when the region begins. -/
theorem V_arg (c : Dev nD) (b : Ref sig .tc) (h : b ∉ ([main_v0, main_v1] : List (Ref sig .tc))) : V m c b = m ((c.tc : Thread nD τ).loc b) := by
  unfold V
  exact StableHlo.after_unwritten [main_v0, main_v1] rfl h _

/-- The pipeline's data on core `c`: the arrays as the region finds them, nothing said of what a point leaves in its buffers,
    the scratch at anything between the points. -/
def rdat (c : Dev nD) : RDat τ (Elt F) Unit ℕ (UR sig nD τ) ℕ (cfg0 (F := F)) c where
  A w := V m c (Pipeline.arrRef spec0 w)
  after _ _ _ _ := True
  Φ _ := Pipeline.ΦA spec0 c
  q _ := fullShare
  owed _ := 0

/-- Window 0 at a point holds the point's block of the bytes. -/
theorem found0 (c : Dev nD) (t : Fin (cfg0 (F := F)).N) (Y : (win0_0).block.Idx → Elt F .i8)
    (h : (rdat m c).Finds 0 t Y) : Y = (win0_0.blk t).view.read (Elt F) (V m c main_v1) := by
  obtain ⟨d, rfl⟩ := ((rdat m c).finds_of_fetch (fetch0_0 t) Y).mp h
  funext j
  have hm : ((cfg0 (F := F)).win 0).moved (grid0.coords t) j = true := (win0_0.moved_iff _ j).mpr fun a => (j a).isLt
  unfold RDat.fetched Pipeline.Window.fill
  exact (dif_pos hm).trans rfl

/-- Window 1 at a point holds the point's block of the roi parameters. -/
theorem found1 (c : Dev nD) (t : Fin (cfg0 (F := F)).N) (Y : (win0_1).block.Idx → Elt F .f32)
    (h : (rdat m c).Finds 1 t Y) : Y = (win0_1.blk t).view.read (Elt F) (V m c main_arg1) := by
  obtain ⟨d, rfl⟩ := ((rdat m c).finds_of_fetch (fetch0_1 t) Y).mp h
  funext j
  have hm : ((cfg0 (F := F)).win 1).moved (grid0.coords t) j = true := (win0_1.moved_iff _ j).mpr fun a => (j a).isLt
  unfold RDat.fetched Pipeline.Window.fill
  exact (dif_pos hm).trans rfl

/-- Window 2 at a point holds the point's block of the lists. -/
theorem found2 (c : Dev nD) (t : Fin (cfg0 (F := F)).N) (Y : (win0_2).block.Idx → Elt F .i32)
    (h : (rdat m c).Finds 2 t Y) : Y = (win0_2.blk t).view.read (Elt F) (V m c main_arg2) := by
  obtain ⟨d, rfl⟩ := ((rdat m c).finds_of_fetch (fetch0_2 t) Y).mp h
  funext j
  have hm : ((cfg0 (F := F)).win 2).moved (grid0.coords t) j = true := (win0_2.moved_iff _ j).mpr fun a => (j a).isLt
  unfold RDat.fetched Pipeline.Window.fill
  exact (dif_pos hm).trans rfl

/-- Window 3 at a point holds the point's block of the column lengths. -/
theorem found3 (c : Dev nD) (t : Fin (cfg0 (F := F)).N) (Y : (win0_3).block.Idx → Elt F .i32)
    (h : (rdat m c).Finds 3 t Y) : Y = (win0_3.blk t).view.read (Elt F) (V m c main_arg3) := by
  obtain ⟨d, rfl⟩ := ((rdat m c).finds_of_fetch (fetch0_3 t) Y).mp h
  funext j
  have hm : ((cfg0 (F := F)).win 3).moved (grid0.coords t) j = true := (win0_3.moved_iff _ j).mpr fun a => (j a).isLt
  unfold RDat.fetched Pipeline.Window.fill
  exact (dif_pos hm).trans rfl

/-- What the precondition says of the launch memory: every half word of the lists is below the tables' length, every column
    length at most twice the number of rois. -/
def Ok : Prop := ∀ c : Dev nD, (∀ x, WordOk ((m ((c.tc : Thread nD τ).loc main_arg2) : S8x384x256.Idx → BitVec 32) x))
  ∧ ∀ x, ((m ((c.tc : Thread nD τ).loc main_arg3) : S8x1x256.Idx → BitVec 32) x).toInt ≤ 768

theorem words_ok (hm : Ok m) (c : Dev nD) (t : Fin (cfg0 (F := F)).N) (Y : (win0_2).block.Idx → Elt F .i32)
    (h : (rdat m c).Finds 2 t Y) (x) : WordOk (Y x) := by
  rw [found2 m c t Y h, V_arg m c main_arg2 (by decide)]; exact (hm c).1 _

theorem counts_ok (hm : Ok m) (c : Dev nD) (t : Fin (cfg0 (F := F)).N) (Y : (win0_3).block.Idx → Elt F .i32)
    (h : (rdat m c).Finds 3 t Y) (x) : (Y x : BitVec 32).toInt ≤ 768 := by
  rw [found3 m c t Y h, V_arg m c main_arg3 (by decide)]; exact (hm c).2 _

/-- Owning a whole buffer's memref is holding the buffer at contents that read so. -/
theorem owns_pt (c : Dev nD) {sp : Space} {S : Shape} {e : EltTy} (M : Memref sig .tc sp S e) (hM : M.IsWhole) (X : S.Idx → Elt F e) :
    (owns (c : Thread nD τ) M fullShare X : sProp (MT nD τ sig Unit (Elt F) ℕ (UR sig nD τ) ℕ)) = iprop(∃ f, ⌜M.view.read (Elt F) f = X⌝ ∗ pt c M f) := by
  unfold owns; rw [hM.set_eq_univ]

/-- The kernel's triple of `Main.lean` with the five staged operands owned at what they read as. -/
theorem kernel_owns (c : Dev nD) (i : grid0.Coords)
    (arg1 : Memref sig .tc .vmem S1x49x384x512 .i8) (harg1 : arg1.IsWhole) (arg2 : Memref sig .tc .vmem S1x8x384 .f32) (harg2 : arg2.IsWhole)
    (arg3 : Memref sig .tc .smem S1x384x256 .i32) (harg3 : arg3.IsWhole) (arg4 : Memref sig .tc .smem S1x1x256 .i32) (harg4 : arg4.IsWhole)
    (arg5 : Memref sig .tc .vmem S1x6144x512 .f32) (harg5 : arg5.IsWhole) (arg6 : Memref sig .tc .vmem S4x5784x128 .i32) (harg6 : arg6.IsWhole)
    (arg7 : Memref sig .tc .vmem S3080x128 .f32) (harg7 : arg7.IsWhole)
    (Y0 : S1x49x384x512.Idx → Elt F .i8) (Y1 : S1x8x384.Idx → Elt F .f32) (Y2 : S1x384x256.Idx → Elt F .i32) (Y3 : S1x1x256.Idx → Elt F .i32)
    (Y4 : S1x6144x512.Idx → Elt F .f32) (hL : ∀ x, WordOk (Y2 x)) (hC : ∀ x, (Y3 x : BitVec 32).toInt ≤ 768) :
    iprop(owns (c : Thread nD τ) arg1 fullShare Y0 ∗ owns (c : Thread nD τ) arg2 fullShare Y1 ∗ owns (c : Thread nD τ) arg3 fullShare Y2
      ∗ owns (c : Thread nD τ) arg4 fullShare Y3 ∗ owns (c : Thread nD τ) arg5 fullShare Y4 ∗ (∃ f, pt c arg6 f) ∗ (∃ f, pt c arg7 f))
    ⊢ wp frame (wpE (defs₀ (F := F)) 𝒱₀ (c : Thread nD τ) none) Set.univ (cc0_main (F := F) i arg1 harg1 arg2 harg2 arg3 harg3 arg4 harg4 arg5 harg5 arg6 harg6 arg7 harg7)
      (fun _ => iprop(owns (c : Thread nD τ) arg1 fullShare Y0 ∗ owns (c : Thread nD τ) arg2 fullShare Y1 ∗ owns (c : Thread nD τ) arg3 fullShare Y2
        ∗ owns (c : Thread nD τ) arg4 fullShare Y3 ∗ (∃ X, owns (c : Thread nD τ) arg5 fullShare X) ∗ (∃ f, pt c arg6 f) ∗ (∃ f, pt c arg7 f))) := by
  simp only [owns_pt c arg1 harg1, owns_pt c arg2 harg2, owns_pt c arg3 harg3, owns_pt c arg4 harg4, owns_pt c arg5 harg5]
  iintro ⟨⟨%f1, %e1, H1⟩, ⟨%f2, %e2, H2⟩, ⟨%f3, %e3, H3⟩, ⟨%f4, %e4, H4⟩, ⟨%f5, %e5, H5⟩, ⟨%f6, H6⟩, ⟨%f7, H7⟩⟩
  subst e1 e2 e3 e4 e5
  iapply (wp_wand_r Idealize.ShloMosaic.frame (wpE (defs₀ (F := F)) 𝒱₀ (c : Thread nD τ) none) Set.univ)
  isplitl [H1 H2 H3 H4 H5 H6 H7]
  · iapply (kernel_run c i arg1 harg1 arg2 harg2 arg3 harg3 arg4 harg4 arg5 harg5 arg6 harg6 arg7 harg7 f1 f2 f3 f4 f5 f6 f7 hL hC)
    isplitl [H1]; · iexact H1
    isplitl [H2]; · iexact H2
    isplitl [H3]; · iexact H3
    isplitl [H4]; · iexact H4
    isplitl [H5]; · iexact H5
    isplitl [H6]; · iexact H6
    iexact H7
  iintro %r ⟨H1, H2, H3, H4, ⟨%g5, H5⟩, H6, H7⟩
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _, g5; isplitr; · ipureintro; rfl
    iexact H5
  isplitl [H6]; · iexact H6
  iexact H7

/-- The staging buffer of window 0 that point `t` is on. -/
abbrev sg0 (t : Fin (cfg0 (F := F)).N) := win0_0.stage ((cfg0 (F := F)).slots t 0)
/-- The staging buffer of window 1 that point `t` is on. -/
abbrev sg1 (t : Fin (cfg0 (F := F)).N) := win0_1.stage ((cfg0 (F := F)).slots t 1)
/-- The staging buffer of window 2 that point `t` is on. -/
abbrev sg2 (t : Fin (cfg0 (F := F)).N) := win0_2.stage ((cfg0 (F := F)).slots t 2)
/-- The staging buffer of window 3 that point `t` is on. -/
abbrev sg3 (t : Fin (cfg0 (F := F)).N) := win0_3.stage ((cfg0 (F := F)).slots t 3)
/-- The staging buffer of window 4 that point `t` is on. -/
abbrev sg4 (t : Fin (cfg0 (F := F)).N) := win0_4.stage ((cfg0 (F := F)).slots t 4)

/-- The scratch between two points: both buffers at some contents, the generator register at some state. -/
theorem PhiA_eq (c : Dev nD) :
    (Pipeline.ΦA spec0 c : sProp (MT nD τ sig Unit (Elt F) ℕ (UR sig nD τ) ℕ))
      = iprop(((∃ f, pt c (Memref.whole cc0_scratch0) f) ∗ (∃ f, pt c (Memref.whole cc0_scratch1) f)) ∗ ∃ r, prngReg c r) := by
  unfold Pipeline.ΦA; rw [scopedRest0_eq]

/-- The body at a point, from the staging buffers at the point's blocks. -/
theorem sound_body (hm : Ok m) (c : Dev nD) (t : Fin (cfg0 (F := F)).N)
    (Y : (w : Fin (cfg0 (F := F)).W) → ((cfg0 (F := F)).win w).block.Idx → Elt F ((cfg0 (F := F)).win w).elt) (hY : ∀ w, (rdat m c).Finds w t (Y w)) :
    iprop((rdat m c).Φ t.castSucc ∗ (rdat m c).owesAt () t.castSucc
        ∗ owns (c : Thread nD τ) (sg0 t) fullShare (Y 0) ∗ owns (c : Thread nD τ) (sg1 t) fullShare (Y 1)
        ∗ owns (c : Thread nD τ) (sg2 t) fullShare (Y 2) ∗ owns (c : Thread nD τ) (sg3 t) fullShare (Y 3)
        ∗ owns (c : Thread nD τ) (sg4 t) fullShare (Y 4))
    ⊢ wp frame (wpE (defs₀ (F := F)) 𝒱₀ (c : Thread nD τ) none) Set.univ (bodyAt0 t) fun _ =>
      iprop((rdat m c).Φ t.succ ∗ (rdat m c).owesAt () t.succ
        ∗ (∃ X, ⌜(rdat m c).after 0 t (Y 0) X⌝ ∗ owns (c : Thread nD τ) (sg0 t) fullShare X)
        ∗ (∃ X, ⌜(rdat m c).after 1 t (Y 1) X⌝ ∗ owns (c : Thread nD τ) (sg1 t) fullShare X)
        ∗ (∃ X, ⌜(rdat m c).after 2 t (Y 2) X⌝ ∗ owns (c : Thread nD τ) (sg2 t) fullShare X)
        ∗ (∃ X, ⌜(rdat m c).after 3 t (Y 3) X⌝ ∗ owns (c : Thread nD τ) (sg3 t) fullShare X)
        ∗ (∃ X, ⌜(rdat m c).after 4 t (Y 4) X⌝ ∗ owns (c : Thread nD τ) (sg4 t) fullShare X)) := by
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, PhiA_eq]
  have k2 := words_ok m hm c t _ (hY 2)
  have k3 := counts_ok m hm c t _ (hY 3)
  iintro ⟨⟨⟨H6, H7⟩, Hg⟩, HO, H1, H2, H3, H4, H5⟩
  iapply (wp_wand_r Idealize.ShloMosaic.frame (wpE (defs₀ (F := F)) 𝒱₀ (c : Thread nD τ) none) Set.univ)
  isplitl [H1 H2 H3 H4 H5 H6 H7]
  · iapply (kernel_owns c (grid0.coords t) (sg0 t) (hstage0_0 (((cfg0 (F := F)).slots t 0).cast nbuf0_0)) (sg1 t) (hstage0_1 (((cfg0 (F := F)).slots t 1).cast nbuf0_1)) (sg2 t) (hstage0_2 (((cfg0 (F := F)).slots t 2).cast nbuf0_2)) (sg3 t) (hstage0_3 (((cfg0 (F := F)).slots t 3).cast nbuf0_3))
      (sg4 t) (hstage0_4 (((cfg0 (F := F)).slots t 4).cast nbuf0_4)) (Memref.whole cc0_scratch0) (Memref.isWhole_whole _) (Memref.whole cc0_scratch1) (Memref.isWhole_whole _)
      (Y 0) (Y 1) (Y 2) (Y 3) (Y 4) k2 k3)
    isplitl [H1]; · iexact H1
    isplitl [H2]; · iexact H2
    isplitl [H3]; · iexact H3
    isplitl [H4]; · iexact H4
    isplitl [H5]; · iexact H5
    isplitl [H6]; · iexact H6
    iexact H7
  iintro %r ⟨H1, H2, H3, H4, ⟨%X5, H5⟩, H6, H7⟩
  isplitl [H6 H7 Hg]
  · isplitl [H6 H7]
    · isplitl [H6]; · iexact H6
      iexact H7
    iexact Hg
  isplitl [HO]; · iexact HO
  isplitl [H1]
  · iexists (Y 0); isplitr; · ipureintro; trivial
    iexact H1
  isplitl [H2]
  · iexists (Y 1); isplitr; · ipureintro; trivial
    iexact H2
  isplitl [H3]
  · iexists (Y 2); isplitr; · ipureintro; trivial
    iexact H3
  isplitl [H4]
  · iexists (Y 3); isplitr; · ipureintro; trivial
    iexact H4
  iexists X5; isplitr; · ipureintro; trivial
  iexact H5

/-- The body table's row at the point is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (hm : Ok m) (c : Dev nD) : (rdat m c).BodyObligation (defs₀ (F := F)) 𝒱₀ () Set.univ := fun t Y hY => by
  rw [bigSep_W0, bigSep_W0, defs₀_row]
  exact triple_restated (sound_body m hm c t Y hY) rfl .rfl fun _ => .rfl

theorem rest_arg0 : main_arg0 ∈ Pipeline.restRefs sig spec0 := by decide

set_option backward.isDefEq.respectTransparency.types false in
/-- Every execution of the program ends, every argument as it was, every counter back at zero. -/
theorem run_main (hm : Ok m) :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  RDat.θ_run_frame cfgs (0 : Fin 1) launch0 defs₀ 𝒱₀ (rdat m) m ρ main (body_obligation m hm)
    (hshare := fun c w => by unfold RDat.share; split <;> rfl) (howed := fun _ _ => rfl) (V := V m) (hmain := hmain m) (hA := fun _ _ => rfl)
    (hΦ := fun _ _ => rfl) _ fun r h => ⟨fun c => ⟨((h.1 c).2 main_arg0 rest_arg0).trans (V_arg m c main_arg0 (by decide)),
      (h.1.arr_in c 1 rfl).trans (V_arg m c main_arg1 (by decide)), (h.1.arr_in c 2 rfl).trans (V_arg m c main_arg2 (by decide)),
      (h.1.arr_in c 3 rfl).trans (V_arg m c main_arg3 (by decide))⟩, h.2⟩

end Cert.Proof.PI

end
-- ==== Proof.PV.Run.lean ====
/-
  The run of the whole program with what it computes: the triple of `Sweep.lean` put into the pipeline, the scratch tables'
  padding rows carried from point to point, and the result array read off the blocks the points write back.
-/
module

public import proofs.«01_k».proof.Proof.PV.Sweep
public import proofs.«01_k».proof.Proof.PI.Run
public import Idealize.ShloMosaic.Lib.Pipeline.ArrRel
public import Idealize.ShloMosaic.Lib.Pipeline.ValueKit.Partial

@[expose] public section

noncomputable section

namespace Cert.Proof.PV

open Cert.KernelIdeal Cert.KernelIdeal.Gen Cert.Proof.PI
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (RDat)

variable (m : (ℓ : Loc nD τ sig) → Buf (Elt Ideal) ℓ) (ρ : Dev nD → PrngReg)

/-- The codes of image `b`. -/
def imgR (c : Dev nD) (b : Fin 8) : S1x49x384x512.Idx → BitVec 8 := fun x => (PI.V m c main_v1 : S8x49x384x512.Idx → BitVec 8) (ix4 b (x 1) (x 2) (x 3))
/-- The roi parameters of image `b`. -/
def imgP (c : Dev nD) (b : Fin 8) : S1x8x384.Idx → EReal := fun x => (m ((c.tc : Thread nD τ).loc main_arg1) : S8x8x384.Idx → EReal) (ix3 b (x 1) (x 2))
/-- The lists of image `b`. -/
def imgL (c : Dev nD) (b : Fin 8) : S1x384x256.Idx → BitVec 32 := fun x => (m ((c.tc : Thread nD τ).loc main_arg2) : S8x384x256.Idx → BitVec 32) (ix3 b (x 1) (x 2))
/-- The column lengths of image `b`. -/
def imgC (c : Dev nD) (b : Fin 8) : S1x1x256.Idx → BitVec 32 := fun x => (m ((c.tc : Thread nD τ).loc main_arg3) : S8x1x256.Idx → BitVec 32) (ix3 b (x 1) (x 2))

/-- The image a point works on. -/
def imgOf (t : Fin (cfg0 (F := Ideal)).N) : Fin 8 := ⟨t.val, t.isLt⟩

/-- What the claim needs of the launch memory, image by image. -/
def Ready : Prop := ∀ (c : Dev nD) (b : Fin 8), (∀ x, WordOk (imgL m c b x)) ∧ (∀ x, (imgC m c b x).toInt ≤ 768)
  ∧ Padded (imgL m c b) (imgC m c b) ∧ (∀ pos, pos < 768 → 3072 ≤ entOf (imgL m c b) 192 pos) ∧ ∀ r, IsReal (imgP m c b (ix3 (0 : Fin 1) 4 r))

/-- The pipeline's data: a point leaves in its result block each cell's sum over the column of the cell's tile, and in the scratch
    tables padding rows that are zero. -/
def rdat (c : Dev nD) : RDat τ (Elt Ideal) Unit ℕ (UR sig nD τ) ℕ (cfg0 (F := Ideal)) c where
  A w := PI.V m c (Pipeline.arrRef spec0 w)
  after w := match w with
    | 0 => fun _ _ _ => True
    | 1 => fun _ _ _ => True
    | 2 => fun _ _ _ => True
    | 3 => fun _ _ _ => True
    | 4 => fun t _ X => ∀ (row : Fin 6144) (n : Fin 512), (X : S1x6144x512.Idx → EReal) (ix3 (0 : Fin 1) row n) = colSum (imgR m c (imgOf t)) (imgP m c (imgOf t)) (imgL m c (imgOf t)) (tileOf row.val) 768 row n
    | ⟨_ + 5, h⟩ => absurd h (Nat.not_lt.2 (Nat.le_add_left _ _))
  Φ t := iprop(((∃ f, pt c (Memref.whole cc0_scratch0) f) ∗ (∃ f, pt c (Memref.whole cc0_scratch1) f ∗ ⌜t ≠ 0 → ZeroRows c (Memref.whole cc0_scratch1) f⌝)) ∗ ∃ r, prngReg c r)
  q _ := fullShare
  owed _ := 0

theorem index0 : ∀ t : Fin (cfg0 (F := Ideal)).N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)

/-- Window 0 at a point holds the codes of the point's image. -/
theorem found0 (c : Dev nD) (t : Fin (cfg0 (F := Ideal)).N) (Y : (win0_0).block.Idx → Elt Ideal .i8)
    (h : (rdat m c).Finds 0 t Y) : Y = imgR m c (imgOf t) := by
  obtain ⟨d, rfl⟩ := ((rdat m c).finds_of_fetch (fetch0_0 t) Y).mp h
  funext j
  have hm : ((cfg0 (F := Ideal)).win 0).moved (grid0.coords t) j = true := (win0_0.moved_iff _ j).mpr fun a => (j a).isLt
  unfold RDat.fetched Pipeline.Window.fill
  refine (dif_pos hm).trans ?_
  have hx := index0 t
  have h0 : (j 0).val < 1 := (j 0).isLt
  have hi : (win0_0.blk t).view.emb j = (ix4 (imgOf t) (j 1) (j 2) (j 3)) := by
    funext a
    apply Fin.ext
    match a with
    | ⟨0, _⟩ => show win0_0.index t 0 * 1 + 1 * (j 0).val = t.val; omega
    | ⟨1, _⟩ => show win0_0.index t 1 * 49 + 1 * (j 1).val = (j 1).val; omega
    | ⟨2, _⟩ => show win0_0.index t 2 * 384 + 1 * (j 2).val = (j 2).val; omega
    | ⟨3, _⟩ => show win0_0.index t 3 * 512 + 1 * (j 3).val = (j 3).val; omega
  refine (congrArg (PI.V m c main_v1) hi).trans ?_
  rfl

theorem index1 : ∀ t : Fin (cfg0 (F := Ideal)).N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- Window 1 at a point holds the roi parameters of the point's image. -/
theorem found1 (c : Dev nD) (t : Fin (cfg0 (F := Ideal)).N) (Y : (win0_1).block.Idx → Elt Ideal .f32)
    (h : (rdat m c).Finds 1 t Y) : Y = imgP m c (imgOf t) := by
  obtain ⟨d, rfl⟩ := ((rdat m c).finds_of_fetch (fetch0_1 t) Y).mp h
  funext j
  have hm : ((cfg0 (F := Ideal)).win 1).moved (grid0.coords t) j = true := (win0_1.moved_iff _ j).mpr fun a => (j a).isLt
  unfold RDat.fetched Pipeline.Window.fill
  refine (dif_pos hm).trans ?_
  have hx := index1 t
  have h0 : (j 0).val < 1 := (j 0).isLt
  have hi : (win0_1.blk t).view.emb j = (ix3 (imgOf t) (j 1) (j 2)) := by
    funext a
    apply Fin.ext
    match a with
    | ⟨0, _⟩ => show win0_1.index t 0 * 1 + 1 * (j 0).val = t.val; omega
    | ⟨1, _⟩ => show win0_1.index t 1 * 8 + 1 * (j 1).val = (j 1).val; omega
    | ⟨2, _⟩ => show win0_1.index t 2 * 384 + 1 * (j 2).val = (j 2).val; omega
  refine (congrArg (PI.V m c main_arg1) hi).trans ?_
  exact congrFun (PI.V_arg m c main_arg1 (by decide)) _

theorem index2 : ∀ t : Fin (cfg0 (F := Ideal)).N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

/-- Window 2 at a point holds the lists of the point's image. -/
theorem found2 (c : Dev nD) (t : Fin (cfg0 (F := Ideal)).N) (Y : (win0_2).block.Idx → Elt Ideal .i32)
    (h : (rdat m c).Finds 2 t Y) : Y = imgL m c (imgOf t) := by
  obtain ⟨d, rfl⟩ := ((rdat m c).finds_of_fetch (fetch0_2 t) Y).mp h
  funext j
  have hm : ((cfg0 (F := Ideal)).win 2).moved (grid0.coords t) j = true := (win0_2.moved_iff _ j).mpr fun a => (j a).isLt
  unfold RDat.fetched Pipeline.Window.fill
  refine (dif_pos hm).trans ?_
  have hx := index2 t
  have h0 : (j 0).val < 1 := (j 0).isLt
  have hi : (win0_2.blk t).view.emb j = (ix3 (imgOf t) (j 1) (j 2)) := by
    funext a
    apply Fin.ext
    match a with
    | ⟨0, _⟩ => show win0_2.index t 0 * 1 + 1 * (j 0).val = t.val; omega
    | ⟨1, _⟩ => show win0_2.index t 1 * 384 + 1 * (j 1).val = (j 1).val; omega
    | ⟨2, _⟩ => show win0_2.index t 2 * 256 + 1 * (j 2).val = (j 2).val; omega
  refine (congrArg (PI.V m c main_arg2) hi).trans ?_
  exact congrFun (PI.V_arg m c main_arg2 (by decide)) _

theorem index3 : ∀ t : Fin (cfg0 (F := Ideal)).N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-- Window 3 at a point holds the column lengths of the point's image. -/
theorem found3 (c : Dev nD) (t : Fin (cfg0 (F := Ideal)).N) (Y : (win0_3).block.Idx → Elt Ideal .i32)
    (h : (rdat m c).Finds 3 t Y) : Y = imgC m c (imgOf t) := by
  obtain ⟨d, rfl⟩ := ((rdat m c).finds_of_fetch (fetch0_3 t) Y).mp h
  funext j
  have hm : ((cfg0 (F := Ideal)).win 3).moved (grid0.coords t) j = true := (win0_3.moved_iff _ j).mpr fun a => (j a).isLt
  unfold RDat.fetched Pipeline.Window.fill
  refine (dif_pos hm).trans ?_
  have hx := index3 t
  have h0 : (j 0).val < 1 := (j 0).isLt
  have hi : (win0_3.blk t).view.emb j = (ix3 (imgOf t) (j 1) (j 2)) := by
    funext a
    apply Fin.ext
    match a with
    | ⟨0, _⟩ => show win0_3.index t 0 * 1 + 1 * (j 0).val = t.val; omega
    | ⟨1, _⟩ => show win0_3.index t 1 * 1 + 1 * (j 1).val = (j 1).val; omega
    | ⟨2, _⟩ => show win0_3.index t 2 * 256 + 1 * (j 2).val = (j 2).val; omega
  refine (congrArg (PI.V m c main_arg3) hi).trans ?_
  exact congrFun (PI.V_arg m c main_arg3 (by decide)) _

/-- The kernel's triple of `Sweep.lean` with the five staged operands owned at what they read as. -/
theorem kernel_owns (c : Dev nD) (i : grid0.Coords)
    (arg1 : Memref sig .tc .vmem S1x49x384x512 .i8) (harg1 : arg1.IsWhole) (arg2 : Memref sig .tc .vmem S1x8x384 .f32) (harg2 : arg2.IsWhole)
    (arg3 : Memref sig .tc .smem S1x384x256 .i32) (harg3 : arg3.IsWhole) (arg4 : Memref sig .tc .smem S1x1x256 .i32) (harg4 : arg4.IsWhole)
    (arg5 : Memref sig .tc .vmem S1x6144x512 .f32) (harg5 : arg5.IsWhole) (arg6 : Memref sig .tc .vmem S4x5784x128 .i32) (harg6 : arg6.IsWhole)
    (arg7 : Memref sig .tc .vmem S3080x128 .f32) (harg7 : arg7.IsWhole)
    (Y0 : S1x49x384x512.Idx → Elt Ideal .i8) (Y1 : S1x8x384.Idx → Elt Ideal .f32) (Y2 : S1x384x256.Idx → Elt Ideal .i32) (Y3 : S1x1x256.Idx → Elt Ideal .i32)
    (Y4 : S1x6144x512.Idx → Elt Ideal .f32) (hL : ∀ x, WordOk (Y2 x)) (hC : ∀ x, (Y3 x : BitVec 32).toInt ≤ 768)
    (hD : Padded Y2 Y3) (hZ : ∀ pos, pos < 768 → 3072 ≤ entOf Y2 192 pos) (hR : ∀ r, IsReal (Y1 (ix3 (0 : Fin 1) 4 r)))
    (b : Prop) (h7 : ¬ Scalar.cmpi .ne (Scalar.extui (Scalar.cmpi .eq (BitVec.ofNat 32 (i 0).val) 0#32) : BitVec 32) 0#32 = 1#1 → b) :
    iprop(owns (c : Thread nD τ) arg1 fullShare Y0 ∗ owns (c : Thread nD τ) arg2 fullShare Y1 ∗ owns (c : Thread nD τ) arg3 fullShare Y2
      ∗ owns (c : Thread nD τ) arg4 fullShare Y3 ∗ owns (c : Thread nD τ) arg5 fullShare Y4 ∗ (∃ f, pt c arg6 f) ∗ (∃ f, pt c arg7 f ∗ ⌜b → ZeroRows c arg7 f⌝))
    ⊢ wp frame (wpE (defs₀ (F := Ideal)) 𝒱₀ (c : Thread nD τ) none) Set.univ (cc0_main (F := Ideal) i arg1 harg1 arg2 harg2 arg3 harg3 arg4 harg4 arg5 harg5 arg6 harg6 arg7 harg7)
      (fun _ => iprop(owns (c : Thread nD τ) arg1 fullShare Y0 ∗ owns (c : Thread nD τ) arg2 fullShare Y1 ∗ owns (c : Thread nD τ) arg3 fullShare Y2
        ∗ owns (c : Thread nD τ) arg4 fullShare Y3 ∗ (∃ X, ⌜∀ (row : Fin 6144) (n : Fin 512), X (ix3 (0 : Fin 1) row n) = colSum Y0 Y1 Y2 (tileOf row.val) 768 row n⌝ ∗ owns (c : Thread nD τ) arg5 fullShare X) ∗ (∃ f, pt c arg6 f) ∗ (∃ f, pt c arg7 f ∗ ⌜ZeroRows c arg7 f⌝))) := by
  simp only [owns_pt c arg1 harg1, owns_pt c arg2 harg2, owns_pt c arg3 harg3, owns_pt c arg4 harg4, owns_pt c arg5 harg5]
  iintro ⟨⟨%f1, %e1, H1⟩, ⟨%f2, %e2, H2⟩, ⟨%f3, %e3, H3⟩, ⟨%f4, %e4, H4⟩, ⟨%f5, %e5, H5⟩, ⟨%f6, H6⟩, ⟨%f7, H7, %h7'⟩⟩
  subst e1 e2 e3 e4 e5
  iapply (wp_wand_r Idealize.ShloMosaic.frame (wpE (defs₀ (F := Ideal)) 𝒱₀ (c : Thread nD τ) none) Set.univ)
  isplitl [H1 H2 H3 H4 H5 H6 H7]
  · iapply (kernel_value c i arg1 harg1 arg2 harg2 arg3 harg3 arg4 harg4 arg5 harg5 arg6 harg6 arg7 harg7 f1 f2 f3 f4 f5 f6 f7 hL hC hD hZ hR fun h => h7' (h7 h))
    isplitl [H1]; · iexact H1
    isplitl [H2]; · iexact H2
    isplitl [H3]; · iexact H3
    isplitl [H4]; · iexact H4
    isplitl [H5]; · iexact H5
    isplitl [H6]; · iexact H6
    iexact H7
  iintro %r ⟨H1, H2, H3, H4, ⟨%g5, H5, %hg⟩, H6, H7⟩
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _
    isplitr; · ipureintro; exact hg
    iexists g5; isplitr; · ipureintro; rfl
    iexact H5
  isplitl [H6]; · iexact H6
  iexact H7

theorem first_point (t : Fin (cfg0 (F := Ideal)).N) (h : ¬ Scalar.cmpi .ne (Scalar.extui (Scalar.cmpi .eq (BitVec.ofNat 32 (grid0.coords t 0).val) 0#32) : BitVec 32) 0#32 = 1#1) : t.castSucc ≠ 0 := by
  revert h
  revert t
  exact (by decide : ∀ t : Fin 8, ¬ Scalar.cmpi .ne (Scalar.extui (Scalar.cmpi .eq (BitVec.ofNat 32 (grid0.coords t 0).val) 0#32) : BitVec 32) 0#32 = 1#1 → t.castSucc ≠ 0)

/-- The body at a point, from the staging buffers at the point's blocks. -/
theorem sound_body (hm : Ready m) (c : Dev nD) (t : Fin (cfg0 (F := Ideal)).N)
    (Y : (w : Fin (cfg0 (F := Ideal)).W) → ((cfg0 (F := Ideal)).win w).block.Idx → Elt Ideal ((cfg0 (F := Ideal)).win w).elt) (hY : ∀ w, (rdat m c).Finds w t (Y w)) :
    iprop((rdat m c).Φ t.castSucc ∗ (rdat m c).owesAt () t.castSucc
        ∗ owns (c : Thread nD τ) (sg0 t) fullShare (Y 0) ∗ owns (c : Thread nD τ) (sg1 t) fullShare (Y 1)
        ∗ owns (c : Thread nD τ) (sg2 t) fullShare (Y 2) ∗ owns (c : Thread nD τ) (sg3 t) fullShare (Y 3)
        ∗ owns (c : Thread nD τ) (sg4 t) fullShare (Y 4))
    ⊢ wp frame (wpE (defs₀ (F := Ideal)) 𝒱₀ (c : Thread nD τ) none) Set.univ (bodyAt0 t) fun _ =>
      iprop((rdat m c).Φ t.succ ∗ (rdat m c).owesAt () t.succ
        ∗ (∃ X, ⌜(rdat m c).after 0 t (Y 0) X⌝ ∗ owns (c : Thread nD τ) (sg0 t) fullShare X)
        ∗ (∃ X, ⌜(rdat m c).after 1 t (Y 1) X⌝ ∗ owns (c : Thread nD τ) (sg1 t) fullShare X)
        ∗ (∃ X, ⌜(rdat m c).after 2 t (Y 2) X⌝ ∗ owns (c : Thread nD τ) (sg2 t) fullShare X)
        ∗ (∃ X, ⌜(rdat m c).after 3 t (Y 3) X⌝ ∗ owns (c : Thread nD τ) (sg3 t) fullShare X)
        ∗ (∃ X, ⌜(rdat m c).after 4 t (Y 4) X⌝ ∗ owns (c : Thread nD τ) (sg4 t) fullShare X)) := by
  rw [show (rdat m c).owesAt () t.succ = (rdat m c).owesAt () t.castSucc from rfl]
  unfold rdat
  simp only
  obtain ⟨k0, k1, k2, k3, k4⟩ := hm c (imgOf t)
  have e0 := found0 m c t _ (hY 0)
  have e1 := found1 m c t _ (hY 1)
  have e2 := found2 m c t _ (hY 2)
  have e3 := found3 m c t _ (hY 3)
  iintro ⟨⟨⟨H6, H7⟩, Hg⟩, HO, H1, H2, H3, H4, H5⟩
  iapply (wp_wand_r Idealize.ShloMosaic.frame (wpE (defs₀ (F := Ideal)) 𝒱₀ (c : Thread nD τ) none) Set.univ)
  isplitl [H1 H2 H3 H4 H5 H6 H7]
  · iapply (kernel_owns c (grid0.coords t) (sg0 t) (hstage0_0 (((cfg0 (F := Ideal)).slots t 0).cast nbuf0_0)) (sg1 t) (hstage0_1 (((cfg0 (F := Ideal)).slots t 1).cast nbuf0_1)) (sg2 t) (hstage0_2 (((cfg0 (F := Ideal)).slots t 2).cast nbuf0_2)) (sg3 t) (hstage0_3 (((cfg0 (F := Ideal)).slots t 3).cast nbuf0_3))
      (sg4 t) (hstage0_4 (((cfg0 (F := Ideal)).slots t 4).cast nbuf0_4)) (Memref.whole cc0_scratch0) (Memref.isWhole_whole _) (Memref.whole cc0_scratch1) (Memref.isWhole_whole _)
      (Y 0) (Y 1) (Y 2) (Y 3) (Y 4) (by rw [e2]; exact k0) (by rw [e3]; exact k1) (by rw [e2, e3]; exact k2) (by rw [e2]; exact k3) (by rw [e1]; exact k4) (t.castSucc ≠ 0) (first_point t))
    isplitl [H1]; · iexact H1
    isplitl [H2]; · iexact H2
    isplitl [H3]; · iexact H3
    isplitl [H4]; · iexact H4
    isplitl [H5]; · iexact H5
    isplitl [H6]; · iexact H6
    iexact H7
  iintro %r ⟨H1, H2, H3, H4, ⟨%X5, %h5, H5⟩, H6, ⟨%f7, H7, %h7⟩⟩
  isplitl [H6 H7 Hg]
  · isplitl [H6 H7]
    · isplitl [H6]; · iexact H6
      iexists f7
      isplitl [H7]; · iexact H7
      ipureintro; exact fun _ => h7
    iexact Hg
  isplitl [HO]; · iexact HO
  isplitl [H1]
  · iexists (Y 0); isplitr; · ipureintro; trivial
    iexact H1
  isplitl [H2]
  · iexists (Y 1); isplitr; · ipureintro; trivial
    iexact H2
  isplitl [H3]
  · iexists (Y 2); isplitr; · ipureintro; trivial
    iexact H3
  isplitl [H4]
  · iexists (Y 3); isplitr; · ipureintro; trivial
    iexact H4
  iexists X5; isplitr; · ipureintro; rw [e0, e1, e2] at h5; exact h5
  iexact H5

theorem phi_in (c : Dev nD) : Pipeline.ΦA spec0 c ⊢ (rdat m c).Φ 0 := by
  rw [PhiA_eq]
  unfold rdat
  simp only
  iintro ⟨⟨H6, ⟨%f, H7⟩⟩, Hg⟩
  isplitl [H6 H7]
  · isplitl [H6]; · iexact H6
    iexists f
    isplitl [H7]; · iexact H7
    ipureintro; exact fun h => absurd rfl h
  iexact Hg

theorem phi_out (c : Dev nD) : (rdat m c).Φ (Fin.last (cfg0 (F := Ideal)).N) ⊢ Pipeline.ΦA spec0 c := by
  rw [PhiA_eq]
  unfold rdat
  simp only
  iintro ⟨⟨H6, ⟨%f, H7, -⟩⟩, Hg⟩
  isplitl [H6 H7]
  · isplitl [H6]; · iexact H6
    iexists f; iexact H7
  iexact Hg

theorem body_obligation (hm : Ready m) (c : Dev nD) : (rdat m c).BodyObligation (defs₀ (F := Ideal)) 𝒱₀ () Set.univ := fun t Y hY => by
  rw [bigSep_W0, bigSep_W0, defs₀_row]
  exact triple_restated (sound_body m hm c t Y hY) rfl .rfl fun _ => .rfl

/-- The result of core `c`: each cell's sum over the column of its tile. -/
def result (c : Dev nD) : Buf (Elt Ideal) ((c.tc : Thread nD τ).loc main_v2) := fun (x : S8x6144x512.Idx) =>
  colSum (imgR m c (x 0)) (imgP m c (x 0)) (imgL m c (x 0)) (tileOf (x 1).val) 768 (x 1) (x 2)

theorem index4 : ∀ t : Fin (cfg0 (F := Ideal)).N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

/-- The result array after the run. -/
theorem result_of (c : Dev nD) (r : PUnit × MemSt nD τ sig (Elt Ideal)) (h : RDat.FramePost (cfg0 (F := Ideal)) (rdat m) (PI.V m) r) :
    r.2.mem ((c.tc : Thread nD τ).loc main_v2) = result m c := by
  obtain ⟨after, hL, hA⟩ := RDat.FramePost.exists_exact h c
  refine (hA 4).trans ?_
  funext i
  refine ((rdat m c).withAfter after).arrAt_forall_of_coversWhere 4 (fun i v => v = result m c i) (fun _ => True) (by decide +kernel) (fun t hf y => ?_) (fun j hj => absurd trivial hj) i
  obtain ⟨Y, _, hX⟩ := hL 4 t hf
  have hx := index4 t
  have y0 : (y 0).val < 1 := (y 0).isLt
  have y1 : (y 1).val < 6144 := (y 1).isLt
  have y2 : (y 2).val < 512 := (y 2).isLt
  have e : ((cfg0 (F := Ideal)).win 4 |>.blk t).view.emb y = ix3 (imgOf t) (⟨(y 1).val, y1⟩ : Fin 6144) (⟨(y 2).val, y2⟩ : Fin 512) := by
    funext a
    apply Fin.ext
    match a with
    | ⟨0, _⟩ => show win0_4.index t 0 * 1 + 1 * (y 0).val = t.val; omega
    | ⟨1, _⟩ => show win0_4.index t 1 * 6144 + 1 * (y 1).val = (y 1).val; omega
    | ⟨2, _⟩ => show win0_4.index t 2 * 512 + 1 * (y 2).val = (y 2).val; omega
  have e2 : ((cfg0 (F := Ideal)).win 4).xinj ((cfg0 (F := Ideal)).grid.coords t) y = ix3 (0 : Fin 1) (⟨(y 1).val, y1⟩ : Fin 6144) (⟨(y 2).val, y2⟩ : Fin 512) := by
    funext a
    apply Fin.ext
    match a with
    | ⟨0, _⟩ => show (y 0).val = 0; omega
    | ⟨1, _⟩ => rfl
    | ⟨2, _⟩ => rfl
  rw [e]
  exact (congrArg (after 4 t) e2).trans (hX _ _)

set_option backward.isDefEq.respectTransparency.types false in
/-- Every execution of the program ends with the result of each core, every argument as it was, every counter back at zero. -/
theorem run_main (hm : Ready m) :
    θ_run defs (onTc (τ := τ) (main (F := Ideal))) (s₀ m ρ) (fun r => (∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  RDat.θ_run_frame_track cfgs (0 : Fin 1) launch0 defs₀ 𝒱₀ (rdat m) m ρ main (body_obligation m hm)
    (hshare := fun c w => by unfold RDat.share; split <;> rfl) (howed := fun _ _ => rfl) (V := PI.V m) (hmain := hmain m) (hA := fun _ _ => rfl)
    (hin := phi_in m) (hout := phi_out m) _ fun r h => ⟨fun c => ⟨result_of m c r h.1, ((h.1 c).2 main_arg0 rest_arg0).trans (PI.V_arg m c main_arg0 (by decide)),
      (h.1.arr_in c 1 rfl).trans (PI.V_arg m c main_arg1 (by decide)), (h.1.arr_in c 2 rfl).trans (PI.V_arg m c main_arg2 (by decide)),
      (h.1.arr_in c 3 rfl).trans (PI.V_arg m c main_arg3 (by decide))⟩, h.2⟩

end Cert.Proof.PV

end
-- ==== Proof.PV.Words.lean ====
/-
  What the value claim's precondition says of the launch memory.
-/
module

public import proofs.«01_k».proof.Defs
public import proofs.«01_k».proof.Proof.Pre.Words
public import proofs.«01_k».proof.Proof.Gen.Pre_ready
public import proofs.«01_k».proof.Proof.PV.Run

@[expose] public section

noncomputable section

namespace Cert.Proof.PV

open Cert.KernelIdeal Cert.KernelIdeal.Gen Cert.Proof.PI
open Idealize.ShloMosaic hiding named ix0 ix1 ix2 ix3 ix4 ix5 ix6
open Idealize.ShloMosaic.TcCoe
open Idealize.ShloMosaic.ValueIdx (ix0 ix1 ix2 ix3 ix4 ix5)

theorem or_one (a b : BitVec 1) (h : IntOp.ori a b = 1#1) : a = 1#1 ∨ b = 1#1 := by revert a b; decide

theorem and_word (v : BitVec 32) : (IntOp.andi v 65535#32).toNat = v.toNat % 65536 := by
  show (v &&& 65535#32).toNat = _
  rw [BitVec.toNat_and]; exact Nat.and_two_pow_sub_one_eq_mod _ 16
theorem shr_word (v : BitVec 32) : (IntOp.shrui .host v 16#32).toNat = v.toNat / 65536 := by
  show (v >>> (16 : Nat)).toNat = _
  rw [BitVec.toNat_ushiftRight, Nat.shiftRight_eq_div_pow]

theorem pad_ok (w : BitVec 32) (e : ℕ) (he : w.toNat = e) (h3 : e < 65536) (h : IntOp.cmpi .sge w 3072#32 = 1#1) : 3072 ≤ e := by
  simp only [IntOp.cmpi, ofBool_eq_one, BitVec.sle_eq_decide, decide_eq_true_eq, BitVec.toInt_eq_toNat_cond, he, BitVec.toNat_ofNat,
    Nat.reducePow, Nat.reduceMod] at h
  omega

theorem pos_ok (n : ℕ) (c : BitVec 32) (hn : n < 1000) (h : IntOp.cmpi .slt (BitVec.ofNat 32 n) c = 1#1) : (n : Int) < c.toInt := by
  have e : (BitVec.ofNat 32 n).toInt = n := by
    have h' : (BitVec.ofNat 32 n).toNat = n := by rw [BitVec.toNat_ofNat]; omega
    rw [BitVec.toInt_eq_toNat_of_lt (by omega), h']
  simp only [IntOp.cmpi, ofBool_eq_one, BitVec.slt_eq_decide, decide_eq_true_eq, e] at h
  exact h

theorem nonpos_ok (c : BitVec 32) (h : IntOp.cmpi .sle c 0#32 = 1#1) : c.toInt ≤ 0 := by
  simp only [IntOp.cmpi, ofBool_eq_one, BitVec.sle_eq_decide, decide_eq_true_eq] at h
  exact h

theorem real_ok (x : EReal) (h : Ideal.cmp .olt (max x (-x)) (Ideal.ofBits .f32 0x7F800000#32) = 1#1) : IsReal x := by
  have ht : (Ideal.ofBits .f32 0x7F800000#32 : EReal) = ⊤ := by simp [Ideal.ofBits, Ideal.ieee]
  rw [ht] at h
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h1 : x < ⊤ := lt_of_le_of_lt (le_max_left _ _) h'
  have h2 : -x < ⊤ := lt_of_le_of_lt (le_max_right _ _) h'
  have h3 : x ≠ ⊥ := by
    rintro rfl
    exact absurd h2 (by simp)
  exact ⟨x.toReal, (EReal.coe_toReal h1.ne h3).symm⟩

variable [Cert.Pre_ready.Facts]

/-- The precondition, element by element. -/
theorem ready_words (a0 : IVec Cert.Pre_ready.S8x384x7x7x512 8) (a1 : FVec Ideal Cert.Pre_ready.S8x8x384 .f32)
    (a2 : IVec Cert.Pre_ready.S8x384x256 32) (a3 : IVec Cert.Pre_ready.S8x1x256 32)
    (h : (Cert.Pre_ready.fn (F := Ideal) a0 a1 a2 a3).1 = (fun _ => 1#1) ∧ (Cert.Pre_ready.fn (F := Ideal) a0 a1 a2 a3).2.1 = (fun _ => 1#1)
      ∧ (Cert.Pre_ready.fn (F := Ideal) a0 a1 a2 a3).2.2.1 = (fun _ => 1#1) ∧ (Cert.Pre_ready.fn (F := Ideal) a0 a1 a2 a3).2.2.2.1 = (fun _ => 1#1)
      ∧ (Cert.Pre_ready.fn (F := Ideal) a0 a1 a2 a3).2.2.2.2.1 = (fun _ => 1#1) ∧ (Cert.Pre_ready.fn (F := Ideal) a0 a1 a2 a3).2.2.2.2.2.1 = (fun _ => 1#1)
      ∧ (Cert.Pre_ready.fn (F := Ideal) a0 a1 a2 a3).2.2.2.2.2.2 = (fun _ => 1#1)) :
    (∀ x, WordOk (a2 x)) ∧ (∀ x, (a3 x).toInt ≤ 768) ∧ (∀ (b : Fin 8) (r : Fin 384), IsReal (a1 (ix3 b (4 : Fin 8) r)))
      ∧ (∀ (b : Fin 8) (s : Fin 384) (t : Fin 256), (s.val : Int) < (a3 (ix3 b (0 : Fin 1) t)).toInt ∨ 3072 ≤ (a2 (ix3 b s t)).toNat % 65536)
      ∧ (∀ (b : Fin 8) (s : Fin 384) (t : Fin 256), ((s.val + 384 : ℕ) : Int) < (a3 (ix3 b (0 : Fin 1) t)).toInt ∨ 3072 ≤ (a2 (ix3 b s t)).toNat / 65536)
      ∧ (∀ b : Fin 8, (a3 (ix3 b (0 : Fin 1) (192 : Fin 256))).toInt ≤ 0) := by
  have hb : ∀ (b : Fin 8) (s : Fin 384) (t : Fin 256), broadcastInDim Cert.Pre_ready.S8x384x256 ![0, 1, 2] Cert.Pre_ready.Facts.bcast_S8x1x256_S8x384x256_0_1_2 a3 (ix3 b s t) = a3 (ix3 b (0 : Fin 1) t) :=
    fun b s t => broadcastInDim_apply _ _ _ _ _ (fun a => match a with | ⟨0, _⟩ => rfl | ⟨1, _⟩ => rfl | ⟨2, _⟩ => rfl)
  refine ⟨fun x => ⟨low_ok _ (congrFun h.1 x), high_ok _ (congrFun h.2.1 x)⟩, fun x => count_ok _ (congrFun h.2.2.1 x), fun b r => ?_, fun b s t => ?_, fun b s t => ?_, fun b => ?_⟩
  · have h4 := congrFun h.2.2.2.1 (ix3 b (0 : Fin 1) r)
    have e : extractStridedSlice Cert.Pre_ready.S8x1x384 ![0, 4, 0] a1 Cert.Pre_ready.Facts.slices_S8x8x384_S8x1x384_0_4_0 (ix3 b (0 : Fin 1) r) = a1 (ix3 b (4 : Fin 8) r) :=
      extractStridedSlice_apply _ _ _ _ _ (fun a => match a with | ⟨0, _⟩ => (Nat.zero_add _).symm | ⟨1, _⟩ => rfl | ⟨2, _⟩ => (Nat.zero_add _).symm)
    rw [← e]
    exact real_ok _ h4
  · rcases or_one _ _ (congrFun h.2.2.2.2.1 (ix3 b s t)) with h5 | h5
    · left
      rw [← hb b s t]
      exact pos_ok s.val _ (by omega) h5
    · right
      exact pad_ok _ _ (and_word _) (by omega) h5
  · rcases or_one _ _ (congrFun h.2.2.2.2.2.1 (ix3 b s t)) with h5 | h5
    · left
      rw [← hb b s t]
      refine pos_ok (s.val + 384) _ (by omega) (Eq.trans ?_ h5)
      exact congrArg (fun w => IntOp.cmpi .slt w _) (BitVec.ofNat_add s.val 384)
    · right
      exact pad_ok _ _ (shr_word _) (by have := (a2 (ix3 b s t)).isLt; omega) h5
  · have h7 := congrFun h.2.2.2.2.2.2 (ix3 b (0 : Fin 1) (0 : Fin 1))
    have e : extractStridedSlice Cert.Pre_ready.S8x1x1 ![0, 0, 192] a3 Cert.Pre_ready.Facts.slices_S8x1x256_S8x1x1_0_0_192 (ix3 b (0 : Fin 1) (0 : Fin 1)) = a3 (ix3 b (0 : Fin 1) (192 : Fin 256)) :=
      extractStridedSlice_apply _ _ _ _ _ (fun a => match a with | ⟨0, _⟩ => (Nat.zero_add _).symm | ⟨1, _⟩ => rfl | ⟨2, _⟩ => rfl)
    rw [← e]
    exact nonpos_ok _ h7

variable (m : (ℓ : Loc nD τ sig) → Buf (Elt Ideal) ℓ)

/-- The launch memory is as the run needs it. -/
theorem ready_of (h : Cert.Pre_KernelIdeal_ready m) : Ready m := by
  intro c b
  obtain ⟨h1, h2, h3, h4, h5, h6⟩ := ready_words _ _ _ _ (h c)
  have hpad : Padded (imgL m c b) (imgC m c b) := by
    intro x pos hx hpos hc
    have hC : imgC m c b x = (m ((c.tc : Thread nD τ).loc main_arg3) : S8x1x256.Idx → BitVec 32) (ix3 b (0 : Fin 1) (x 2)) :=
      congrArg (m ((c.tc : Thread nD τ).loc main_arg3)) (funext fun a => match a with
        | ⟨0, _⟩ => rfl
        | ⟨1, _⟩ => Subsingleton.elim (α := Fin 1) _ _
        | ⟨2, _⟩ => rfl)
    rw [hC] at hc
    have ht : fin 256 (x 2).val = x 2 := Fin.ext (fin_val (x 2).isLt)
    unfold entOf
    rw [ht]
    by_cases hp : pos < 384
    · rw [if_pos hp]
      have hf : (fin 384 pos).val = pos := fin_val hp
      refine (h4 b (fin 384 pos) (x 2)).resolve_left ?_
      rw [hf]
      exact not_lt.2 hc
    · rw [if_neg hp]
      have hf : (fin 384 (pos - 384)).val = pos - 384 := fin_val (by omega)
      refine (h5 b (fin 384 (pos - 384)) (x 2)).resolve_left ?_
      rw [hf, show pos - 384 + 384 = pos by omega]
      exact not_lt.2 hc
  refine ⟨fun x => h1 _, fun x => h2 _, hpad, fun pos hpos => ?_, fun r => h3 b r⟩
  refine hpad (ix3 (0 : Fin 1) (0 : Fin 1) (192 : Fin 256)) pos (le_refl _) hpos (le_trans ?_ (Int.natCast_nonneg pos))
  exact h6 b

end Cert.Proof.PV

end
-- ==== Proof.PV.Axis.lean ====
/-
  The hat and the two cells: the weight of a sample at a cell as a hat around the clamped position is its share as the lower
  or the upper of the two cells it lies between.
-/
module

public import proofs.«01_k».proof.Proof.PV.Weight

@[expose] public section

noncomputable section

namespace Cert.Proof.PV

open Cert.KernelIdeal Cert.KernelIdeal.Gen Cert.Proof.PI
open Idealize.ShloMosaic Idealize.ShloMosaic.TcCoe

/-- A sample's share at a cell: the lower cell has what is left of one after the offset above it, the upper the offset. -/
def shareR (n1 : BitVec 32) (S : EReal) (cell : BitVec 32) (q : EReal) : EReal :=
  Scalar.select (IntOp.andi (Ideal.cmp .oge q (Ideal.ofBits .f32 0xBF800000#32)) (Ideal.cmp .ole q S))
    ((Scalar.select (IntOp.cmpi .eq (Scalar.select (IntOp.cmpi .sge (Ideal.fptosi 32 (Ideal.liftRound Int.floor (max q (Ideal.ofBits .f32 0x00000000#32)))) n1) n1 (Ideal.fptosi 32 (Ideal.liftRound Int.floor (max q (Ideal.ofBits .f32 0x00000000#32))))) cell)
        (Ideal.ofBits .f32 0x3F800000#32 - ((Scalar.select (IntOp.cmpi .sge (Ideal.fptosi 32 (Ideal.liftRound Int.floor (max q (Ideal.ofBits .f32 0x00000000#32)))) n1)
            ((((Scalar.select (IntOp.cmpi .sge (Ideal.fptosi 32 (Ideal.liftRound Int.floor (max q (Ideal.ofBits .f32 0x00000000#32)))) n1) n1 (Ideal.fptosi 32 (Ideal.liftRound Int.floor (max q (Ideal.ofBits .f32 0x00000000#32))))).toInt : ℝ) : EReal))
            (max q (Ideal.ofBits .f32 0x00000000#32)) : EReal)
          - (((Scalar.select (IntOp.cmpi .sge (Ideal.fptosi 32 (Ideal.liftRound Int.floor (max q (Ideal.ofBits .f32 0x00000000#32)))) n1) n1 (Ideal.fptosi 32 (Ideal.liftRound Int.floor (max q (Ideal.ofBits .f32 0x00000000#32))))).toInt : ℝ) : EReal)))
        (Ideal.ofBits .f32 0x00000000#32) : EReal)
      + (Scalar.select (IntOp.cmpi .eq (Scalar.select (IntOp.cmpi .sge (Ideal.fptosi 32 (Ideal.liftRound Int.floor (max q (Ideal.ofBits .f32 0x00000000#32)))) n1) n1
            (IntOp.addi (Scalar.select (IntOp.cmpi .sge (Ideal.fptosi 32 (Ideal.liftRound Int.floor (max q (Ideal.ofBits .f32 0x00000000#32)))) n1) n1 (Ideal.fptosi 32 (Ideal.liftRound Int.floor (max q (Ideal.ofBits .f32 0x00000000#32))))) 1#32)) cell)
        ((Scalar.select (IntOp.cmpi .sge (Ideal.fptosi 32 (Ideal.liftRound Int.floor (max q (Ideal.ofBits .f32 0x00000000#32)))) n1)
            ((((Scalar.select (IntOp.cmpi .sge (Ideal.fptosi 32 (Ideal.liftRound Int.floor (max q (Ideal.ofBits .f32 0x00000000#32)))) n1) n1 (Ideal.fptosi 32 (Ideal.liftRound Int.floor (max q (Ideal.ofBits .f32 0x00000000#32))))).toInt : ℝ) : EReal))
            (max q (Ideal.ofBits .f32 0x00000000#32)) : EReal)
          - (((Scalar.select (IntOp.cmpi .sge (Ideal.fptosi 32 (Ideal.liftRound Int.floor (max q (Ideal.ofBits .f32 0x00000000#32)))) n1) n1 (Ideal.fptosi 32 (Ideal.liftRound Int.floor (max q (Ideal.ofBits .f32 0x00000000#32))))).toInt : ℝ) : EReal))
        (Ideal.ofBits .f32 0x00000000#32) : EReal))
    (Ideal.ofBits .f32 0x00000000#32)

theorem hat_real (y : ℕ) (t : ℝ) : (hatK (F := Ideal) (nat y) ((t : ℝ) : EReal) : EReal) = ((max (1 - max ((y : ℝ) - t) (-((y : ℝ) - t))) 0 : ℝ) : EReal) := by
  rw [hatK_ideal, WV.word_0, WV.word_1]
  unfold nat
  rw [← EReal.coe_sub, ← EReal.coe_neg, ← emax, ← EReal.coe_sub, ← emax]

theorem sel1 {α : Type} (a b : α) : Scalar.select 1#1 a b = a := rfl
theorem sel0 {α : Type} (a b : α) : Scalar.select 0#1 a b = b := rfl

theorem floor_word (s : ℝ) (h0 : 0 ≤ s) (h1 : s < 1000) : Ideal.fptosi 32 (Ideal.liftRound Int.floor ((s : ℝ) : EReal)) = BitVec.ofNat 32 ⌊s⌋₊ := by
  have hf : 0 ≤ ⌊s⌋ := Int.floor_nonneg.mpr h0
  have hlt : ⌊s⌋ < 1000 := Int.floor_lt.mpr (by exact_mod_cast h1)
  rw [Ideal.liftRound_coe, Ideal.fptosi]
  have hc : Ideal.toIntClamped (-(2 ^ (32 - 1) : Nat)) ((2 ^ (32 - 1) : Nat) - 1) (((⌊s⌋ : ℝ)) : EReal) = ⌊s⌋ := by
    rw [Ideal.toIntClamped_coe, if_pos (by exact_mod_cast hf), Int.floor_intCast]
    show max (-2147483648 : Int) (min 2147483647 ⌊s⌋) = _
    omega
  rw [hc, ← Int.natCast_floor_eq_floor h0, BitVec.ofInt_natCast]

theorem sge_nat (a b : ℕ) (ha : a < 100000) (hb : b < 100000) : IntOp.cmpi .sge (BitVec.ofNat 32 a) (BitVec.ofNat 32 b) = BitVec.ofBool (decide (b ≤ a)) := by
  have e : ∀ n : ℕ, n < 100000 → (BitVec.ofNat 32 n).toInt = n := by
    intro n h
    have h' : (BitVec.ofNat 32 n).toNat = n := by rw [BitVec.toNat_ofNat]; omega
    rw [BitVec.toInt_eq_toNat_of_lt (by omega), h']
  show BitVec.ofBool ((BitVec.ofNat 32 b).sle (BitVec.ofNat 32 a)) = _
  rw [BitVec.sle_eq_decide, e a ha, e b hb]
  simp

theorem eq_nat (a b : ℕ) (ha : a < 100000) (hb : b < 100000) : IntOp.cmpi .eq (BitVec.ofNat 32 a) (BitVec.ofNat 32 b) = BitVec.ofBool (decide (a = b)) := by
  have e : ∀ n : ℕ, n < 100000 → (BitVec.ofNat 32 n).toNat = n := fun n h => by rw [BitVec.toNat_ofNat]; omega
  show BitVec.ofBool (BitVec.ofNat 32 a == BitVec.ofNat 32 b) = _
  refine congrArg BitVec.ofBool ?_
  rw [Bool.eq_iff_iff]
  simp only [beq_iff_eq, decide_eq_true_eq]
  exact ⟨fun h => by rw [← e a ha, ← e b hb, h], fun h => by rw [h]⟩

theorem toInt_nat (n : ℕ) (h : n < 100000) : (((BitVec.ofNat 32 n).toInt : ℝ) : EReal) = ((n : ℝ) : EReal) := sitofp_nat n h

/-- The share is the hat. -/
theorem share_eq (n : ℕ) (hn : 1 ≤ n) (hn' : n < 1000) (y : ℕ) (hy : y < n) (q : EReal) :
    shareR (BitVec.ofNat 32 (n - 1)) ((n : ℝ) : EReal) (BitVec.ofNat 32 y) q
      = (hatK (F := Ideal) (nat y) (Scalar.select (IntOp.andi (Ideal.cmp .oge q (Ideal.ofBits .f32 0xBF800000#32)) (Ideal.cmp .ole q ((n : ℝ) : EReal)))
          (min (max q (Ideal.ofBits .f32 0x00000000#32)) (((n : ℝ) : EReal) - Ideal.ofBits .f32 0x3F800000#32)) (Ideal.ofBits .f32 0xC61C4000#32)) : EReal) := by
  unfold shareR
  by_cases h1 : (Ideal.ofBits .f32 0xBF800000#32 : EReal) ≤ q
  swap
  · have e1 : Ideal.cmp .oge q (Ideal.ofBits .f32 0xBF800000#32) = 0#1 := by
      show BitVec.ofBool (decide ((Ideal.ofBits .f32 0xBF800000#32 : EReal) ≤ q)) = 0#1
      rw [decide_eq_false h1]; rfl
    have z : ∀ b : BitVec 1, IntOp.andi 0#1 b = 0#1 := by decide
    rw [e1, z, sel0, sel0, hat_far, WV.word_0]; rfl
  by_cases h2 : q ≤ ((n : ℝ) : EReal)
  swap
  · have e1 : Ideal.cmp .ole q ((n : ℝ) : EReal) = 0#1 := by
      show BitVec.ofBool (decide (q ≤ ((n : ℝ) : EReal))) = 0#1
      rw [decide_eq_false h2]; rfl
    have z : ∀ b : BitVec 1, IntOp.andi b 0#1 = 0#1 := by decide
    rw [e1, z, sel0, sel0, hat_far, WV.word_0]; rfl
  have e1 : Ideal.cmp .oge q (Ideal.ofBits .f32 0xBF800000#32) = 1#1 := by
    show BitVec.ofBool (decide ((Ideal.ofBits .f32 0xBF800000#32 : EReal) ≤ q)) = 1#1
    rw [decide_eq_true h1]; rfl
  have e2 : Ideal.cmp .ole q ((n : ℝ) : EReal) = 1#1 := by
    show BitVec.ofBool (decide (q ≤ ((n : ℝ) : EReal))) = 1#1
    rw [decide_eq_true h2]; rfl
  rw [e1, e2, show IntOp.andi 1#1 1#1 = 1#1 from rfl, sel1, sel1]
  rw [word_neg1] at h1
  obtain ⟨r, rfl⟩ := isReal_of_bounds h1 h2
  have hr2 : r ≤ n := by exact_mod_cast h2
  rw [WV.word_0, WV.word_1, ← emax]
  generalize hs : max r 0 = s
  have hs0 : 0 ≤ s := hs ▸ le_max_right _ _
  have hsn : s ≤ n := hs ▸ max_le hr2 (Nat.cast_nonneg n)
  have hn1000 : (n : ℝ) < 1000 := by exact_mod_cast hn'
  rw [floor_word s hs0 (lt_of_le_of_lt hsn hn1000)]
  have hfl : (⌊s⌋₊ : ℝ) ≤ s := Nat.floor_le hs0
  have hfu : s < (⌊s⌋₊ : ℝ) + 1 := Nat.lt_floor_add_one s
  generalize hf : ⌊s⌋₊ = f at *
  have hfn : f ≤ n := by
    have : (f : ℝ) ≤ n := le_trans hfl hsn
    exact_mod_cast this
  have hn1 : ((n - 1 : ℕ) : ℝ) = (n : ℝ) - 1 := by rw [Nat.cast_sub hn, Nat.cast_one]
  rw [sge_nat f (n - 1) (by omega) (by omega)]
  by_cases hc : n - 1 ≤ f
  · rw [decide_eq_true hc, show BitVec.ofBool true = 1#1 from rfl]
    simp only [sel1]
    rw [eq_nat (n - 1) y (by omega) (by omega), toInt_nat (n - 1) (by omega), ← EReal.coe_sub, ← EReal.coe_sub, ← EReal.coe_sub]
    have hm : min ((s : ℝ) : EReal) (((n : ℝ) - 1 : ℝ) : EReal) = (((n - 1 : ℕ) : ℝ) : EReal) := by
      rw [← hn1]
      refine min_eq_right (EReal.coe_le_coe_iff.2 ?_)
      have : ((n - 1 : ℕ) : ℝ) ≤ f := by exact_mod_cast hc
      linarith
    rw [hm, hat_real]
    by_cases hyn : n - 1 = y
    · rw [decide_eq_true hyn, show BitVec.ofBool true = 1#1 from rfl, sel1, sel1, ← EReal.coe_add, hyn]
      refine congrArg Real.toEReal ?_
      simp
    · rw [decide_eq_false hyn, show BitVec.ofBool false = 0#1 from rfl, sel0, sel0, ← EReal.coe_add]
      refine congrArg Real.toEReal ?_
      have hlt : (y : ℝ) + 1 ≤ ((n - 1 : ℕ) : ℝ) := by
        have : y + 1 ≤ n - 1 := by omega
        exact_mod_cast this
      rw [max_eq_right (a := 1 - _)]
      · norm_num
      · have := le_max_right ((y : ℝ) - ((n - 1 : ℕ) : ℝ)) (-((y : ℝ) - ((n - 1 : ℕ) : ℝ)))
        linarith
  · rw [decide_eq_false hc, show BitVec.ofBool false = 0#1 from rfl]
    simp only [sel0]
    have ha : IntOp.addi (BitVec.ofNat 32 f) 1#32 = BitVec.ofNat 32 (f + 1) := (BitVec.ofNat_add f 1).symm
    rw [ha, eq_nat f y (by omega) (by omega), eq_nat (f + 1) y (by omega) (by omega), toInt_nat f (by omega), ← EReal.coe_sub, ← EReal.coe_sub, ← EReal.coe_sub]
    have hm : min ((s : ℝ) : EReal) (((n : ℝ) - 1 : ℝ) : EReal) = ((s : ℝ) : EReal) := by
      rw [← hn1]
      refine min_eq_left (EReal.coe_le_coe_iff.2 ?_)
      have : (f : ℝ) + 1 ≤ ((n - 1 : ℕ) : ℝ) := by
        have : f + 1 ≤ n - 1 := by omega
        exact_mod_cast this
      linarith
    rw [hm, hat_real]
    by_cases hy1 : f = y
    · have hy2 : f + 1 ≠ y := by omega
      rw [decide_eq_true hy1, decide_eq_false hy2, show BitVec.ofBool true = 1#1 from rfl, show BitVec.ofBool false = 0#1 from rfl, sel1, sel0, ← EReal.coe_add]
      refine congrArg Real.toEReal ?_
      rw [← hy1, max_eq_right (a := (f : ℝ) - s) (by linarith), max_eq_left (b := (0 : ℝ)) (by linarith)]
      ring
    · by_cases hy2 : f + 1 = y
      · rw [decide_eq_false hy1, decide_eq_true hy2, show BitVec.ofBool true = 1#1 from rfl, show BitVec.ofBool false = 0#1 from rfl, sel1, sel0, ← EReal.coe_add]
        refine congrArg Real.toEReal ?_
        have : (y : ℝ) = (f : ℝ) + 1 := by rw [← hy2]; push_cast; rfl
        rw [this, max_eq_left (b := -((f : ℝ) + 1 - s)) (by linarith), max_eq_left (b := (0 : ℝ)) (by linarith)]
        ring
      · rw [decide_eq_false hy1, decide_eq_false hy2, show BitVec.ofBool false = 0#1 from rfl, sel0, sel0, ← EReal.coe_add]
        refine congrArg Real.toEReal ?_
        rw [max_eq_right (a := 1 - _)]
        · norm_num
        · rcases Nat.lt_or_ge y f with hlt | hge
          · have h3 : (y : ℝ) + 1 ≤ f := by exact_mod_cast hlt
            have := le_max_right ((y : ℝ) - s) (-((y : ℝ) - s))
            linarith
          · have h3 : (f : ℝ) + 2 ≤ y := by
              have : f + 2 ≤ y := by omega
              exact_mod_cast this
            have := le_max_left ((y : ℝ) - s) (-((y : ℝ) - s))
            linarith

theorem div_two (a : ℝ) (x : EReal) : Ideal.div (((a : ℝ) : EReal) * x) ((2 : ℝ) : EReal) = ((a / 2 : ℝ) : EReal) * x := by
  unfold Ideal.div
  rw [if_neg (by exact_mod_cast (two_ne_zero : (2 : ℝ) ≠ 0)), ← EReal.coe_inv, mul_right_comm, ← EReal.coe_mul]
  rfl

/-- One sample's share, at the position the reference gives it, is the hat at the kernel's. -/
theorem share_posK (n : ℕ) (hn : 1 ≤ n) (hn' : n < 1000) (y : ℕ) (hy : y < n) (p : ℕ) (hp : p < 7) (st bn : EReal) (wh wq : BitVec 32) (a : ℝ)
    (hwh : Ideal.ofBits .f32 wh = ((a : ℝ) : EReal)) (hwq : Ideal.ofBits .f32 wq = ((a / 2 : ℝ) : EReal)) :
    shareR (BitVec.ofNat 32 (n - 1)) ((n : ℝ) : EReal) (BitVec.ofNat 32 y) (st + nat p * bn + Ideal.div (Ideal.ofBits .f32 wh * bn) (Ideal.ofBits .f32 0x40000000#32))
      = (hatK (F := Ideal) (nat y) (posK (F := Ideal) wq st bn (nat p) ((n : ℝ) : EReal)) : EReal) := by
  rw [hwh, WV.word_2, div_two, ← hwq, share_eq n hn hn' y hy]
  refine congrArg (fun z : EReal => (hatK (F := Ideal) (nat y) z : EReal)) ?_
  rw [posK_ideal]
  unfold live
  have e : Ideal.cmp .olt (nat p) (Ideal.ofBits .f32 0x40E00000#32) = 1#1 := by
    rw [word_7]
    show BitVec.ofBool (decide (nat p < ((7 : ℝ) : EReal))) = 1#1
    rw [decide_eq_true]
    · rfl
    · unfold nat; rw [EReal.coe_lt_coe_iff]; exact_mod_cast hp
  have z : ∀ b : BitVec 1, IntOp.andi b 1#1 = b := by decide
  rw [e, z]

end Cert.Proof.PV

end
-- ==== Proof.PV.Sum.lean ====
/-
  The same sum, two ways: over the reference's columns with how often each is named, and over the entries with the cells
  each names.
-/
module

public import proofs.«01_k».proof.Proof.PV.Axis

@[expose] public section

noncomputable section

namespace Cert.Proof.PV

open Idealize.ShloMosaic Idealize.ShloMosaic.TcCoe

/-- Whether the entry `e` names column `K`, as one or zero. -/
def named (e K : ℕ) : EReal := if e / 8 = K / 49 ∧ e % 8 ≤ K / 7 % 7 ∧ K / 7 % 7 ≤ e % 8 + 3 then 1 else 0

theorem named_nonneg (e K : ℕ) : 0 ≤ named e K := by
  unfold named
  split
  · exact zero_le_one
  · exact le_refl _

/-- A sum of ones and zeros multiplies out. -/
theorem sum_named_mul (s : Finset ℕ) (E : ℕ → ℕ) (K : ℕ) (g : EReal) : (∑ l ∈ s, named (E l) K) * g = ∑ l ∈ s, named (E l) K * g := by
  classical
  induction s using Finset.induction_on with
  | empty => simp
  | insert a s ha ih =>
    rw [Finset.sum_insert ha, Finset.sum_insert ha, EReal.right_distrib_of_nonneg (named_nonneg _ _) (Finset.sum_nonneg fun _ _ => named_nonneg _ _), ih]

theorem block_cell (d w : ℕ) (hd : d ≤ 3) (hw : w < 7) : (8 * d + w) % 32 / 8 = d ∧ (8 * d + w) % 32 % 8 = w := by omega

theorem column_back (e K : ℕ) (h : e / 8 = K / 49 ∧ e % 8 ≤ K / 7 % 7 ∧ K / 7 % 7 ≤ e % 8 + 3) :
    (e / 8) * 49 + (e % 8 + ((8 * (K / 7 % 7 - e % 8) + K % 7) % 32) / 8) * 7 + ((8 * (K / 7 % 7 - e % 8) + K % 7) % 32) % 8 = K := by
  have hb := block_cell (K / 7 % 7 - e % 8) (K % 7) (by omega) (Nat.mod_lt _ (by decide))
  rw [hb.1, hb.2]
  have : K / 7 / 7 = K / 49 := Nat.div_div_eq_div_mul K 7 7
  omega

/-- The columns an entry names, summed: over the thirty-two cells of its block that are there. -/
theorem sum_columns (e : ℕ) (he : e < 3080) (G : ℕ → EReal) :
    ∑ K ∈ Finset.range 18816, named e K * G K
      = ∑ u : Fin 32, if e / 8 < 384 ∧ e % 8 + u.val / 8 < 7 ∧ u.val % 8 < 7 then G ((e / 8) * 49 + (e % 8 + u.val / 8) * 7 + u.val % 8) else 0 := by
  classical
  have h1 : ∀ K, named e K * G K = if e / 8 = K / 49 ∧ e % 8 ≤ K / 7 % 7 ∧ K / 7 % 7 ≤ e % 8 + 3 then G K else 0 := by
    intro K
    unfold named
    split
    · rw [one_mul]
    · rw [zero_mul]
  simp only [h1]
  rw [← Finset.sum_filter, ← Finset.sum_filter]
  refine Finset.sum_bij' (fun K _ => (⟨(8 * (K / 7 % 7 - e % 8) + K % 7) % 32, Nat.mod_lt _ (by decide)⟩ : Fin 32))
    (fun u _ => (e / 8) * 49 + (e % 8 + u.val / 8) * 7 + u.val % 8) ?_ ?_ ?_ ?_ ?_
  · intro K hK
    rw [Finset.mem_filter, Finset.mem_range] at hK
    rw [Finset.mem_filter]
    refine ⟨Finset.mem_univ _, ?_⟩
    show e / 8 < 384 ∧ e % 8 + ((8 * (K / 7 % 7 - e % 8) + K % 7) % 32) / 8 < 7 ∧ ((8 * (K / 7 % 7 - e % 8) + K % 7) % 32) % 8 < 7
    omega
  · intro u hu
    rw [Finset.mem_filter] at hu
    rw [Finset.mem_filter, Finset.mem_range]
    have := u.isLt
    omega
  · intro K hK
    rw [Finset.mem_filter, Finset.mem_range] at hK
    show (e / 8) * 49 + (e % 8 + ((8 * (K / 7 % 7 - e % 8) + K % 7) % 32) / 8) * 7 + ((8 * (K / 7 % 7 - e % 8) + K % 7) % 32) % 8 = K
    exact column_back e K hK.2
  · intro u hu
    rw [Finset.mem_filter] at hu
    have := u.isLt
    refine Fin.ext ?_
    show (8 * (((e / 8) * 49 + (e % 8 + u.val / 8) * 7 + u.val % 8) / 7 % 7 - e % 8) + ((e / 8) * 49 + (e % 8 + u.val / 8) * 7 + u.val % 8) % 7) % 32 = u.val
    omega
  · intro K hK
    rw [Finset.mem_filter, Finset.mem_range] at hK
    show G K = G ((e / 8) * 49 + (e % 8 + ((8 * (K / 7 % 7 - e % 8) + K % 7) % 32) / 8) * 7 + ((8 * (K / 7 % 7 - e % 8) + K % 7) % 32) % 8)
    rw [column_back e K hK.2]

/-- The two sums are one. -/
theorem sum_swap (s : Finset ℕ) (E : ℕ → ℕ) (hE : ∀ l ∈ s, E l < 3080) (G : ℕ → EReal) :
    ∑ K ∈ Finset.range 18816, (∑ l ∈ s, named (E l) K) * G K
      = ∑ l ∈ s, ∑ u : Fin 32, if E l / 8 < 384 ∧ E l % 8 + u.val / 8 < 7 ∧ u.val % 8 < 7 then G ((E l / 8) * 49 + (E l % 8 + u.val / 8) * 7 + u.val % 8) else 0 := by
  simp only [sum_named_mul]
  rw [Finset.sum_comm]
  exact Finset.sum_congr rfl fun l hl => sum_columns (E l) (hE l hl) G

end Cert.Proof.PV

end
-- ==== Proof.PV.RefRead.lean ====
/-
  The reference's arrays at an index: how often a cell is named, and a cell's weights along each axis.
-/
module

public import proofs.«01_k».proof.Proof.PV.Sum
public import proofs.«01_k».proof.Proof.Gen.KernelReferenceIdeal.Run
public import Idealize.ShloMosaic.Lib.ValueIdxRank6

@[expose] public section

noncomputable section

namespace Cert.Proof.PR

open Cert.KernelReferenceIdeal Cert.KernelReferenceIdeal.Gen Cert.KernelReferenceIdeal.Value
open Idealize.ShloMosaic hiding ix0 ix1 ix2 ix3 ix4 ix5 ix6
open Idealize.ShloMosaic.TcCoe Idealize.SL.Sem
open Cert.Proof.PV (shareR posK hatK axK nat named fin entOf)
open Idealize.ShloMosaic.ValueIdx (ix0 ix1 ix2 ix3 ix4 ix5 ix6)

section

variable {F : FTy → Type} [FloatOps F] (V0 : Valuation τ sig (Elt F))

/-- Whether entry `l` of tile `t` names bin row `p` of roi `r`. -/
def selA : FVec F S8x768x192x384x7 .f32 := (select (andi (andi (cmpi .eq (Host.shrui (res_main_v187 V0) (broadcastInDim S8x768x192x384x7 ![] bcast_S_S8x768x192x384x7 (constantI S_ 32 3#32))) (iotaInDim S8x768x192x384x7 32 3)) (cmpi .sle (res_main_v191 V0) (res_main_v189 V0))) (cmpi .sle (res_main_v189 V0) (addi (res_main_v191 V0) (broadcastInDim S8x768x192x384x7 ![] bcast_S_S8x768x192x384x7 (constantI S_ 32 3#32))))) (broadcastInDim S8x768x192x384x7 ![] bcast_S_S8x768x192x384x7 (constant S_ .f32 0x3F800000#32)) (broadcastInDim S8x768x192x384x7 ![] bcast_S_S8x768x192x384x7 (constant S_ .f32 0x00000000#32)))
/-- How often a cell's tile names a bin row of a roi. -/
def timesA : FVec F S8x64x96x384x7 .f32 := shapeCast _ (transpose S8x16x4x12x8x384x7 [0, 3, 4, 1, 2, 5, 6] (broadcastInDim S8x12x8x16x4x384x7 ![0, 1, 3, 5, 6] bcast_S8x12x16x384x7_S8x12x8x16x4x384x7_0_1_3_5_6 (shapeCast S8x12x16x384x7 (Host.reduceAdd (selA V0) (constant S_ .f32 0x00000000#32) reducesTo_S8x768x192x384x7_S8x192x384x7_d1 h_S_ : FVec F S8x192x384x7 .f32) shapeCasts_S8x192x384x7_S8x12x16x384x7)) transposes_S8x12x8x16x4x384x7_S8x16x4x12x8x384x7_0_3_4_1_2_5_6) shapeCasts_S8x16x4x12x8x384x7_S8x64x96x384x7
/-- The weights along y. -/
def wyA : FVec F S8x64x384x7 .f32 := (addf (select (andi (cmpf .oge (res_main_v18 V0) (broadcastInDim S8x64x384x7 ![] bcast_S_S8x64x384x7 (constant S_ .f32 0xBF800000#32))) (cmpf .ole (res_main_v18 V0) (broadcastInDim S8x64x384x7 ![] bcast_S_S8x64x384x7 (constant S_ .f32 0x42800000#32)))) (addf (select (cmpi .eq (res_main_v31 V0) (res_main_v11 V0)) (subf (broadcastInDim S8x64x384x7 ![] bcast_S_S8x64x384x7 (constant S_ .f32 0x3F800000#32)) (res_main_v39 V0)) (res_main_v42 V0)) (select (cmpi .eq (select (res_main_v29 V0) (broadcastInDim S8x64x384x7 ![] bcast_S_S8x64x384x7 (constantI S_ 32 63#32)) (addi (res_main_v31 V0) (broadcastInDim S8x64x384x7 ![] bcast_S_S8x64x384x7 (constantI S_ 32 1#32)))) (res_main_v11 V0)) (res_main_v39 V0) (res_main_v42 V0))) (res_main_v42 V0)) (select (andi (cmpf .oge (res_main_v60 V0) (broadcastInDim S8x64x384x7 ![] bcast_S_S8x64x384x7 (constant S_ .f32 0xBF800000#32))) (cmpf .ole (res_main_v60 V0) (broadcastInDim S8x64x384x7 ![] bcast_S_S8x64x384x7 (constant S_ .f32 0x42800000#32)))) (addf (select (cmpi .eq (res_main_v73 V0) (res_main_v53 V0)) (subf (broadcastInDim S8x64x384x7 ![] bcast_S_S8x64x384x7 (constant S_ .f32 0x3F800000#32)) (res_main_v81 V0)) (res_main_v84 V0)) (select (cmpi .eq (select (res_main_v71 V0) (broadcastInDim S8x64x384x7 ![] bcast_S_S8x64x384x7 (constantI S_ 32 63#32)) (addi (res_main_v73 V0) (broadcastInDim S8x64x384x7 ![] bcast_S_S8x64x384x7 (constantI S_ 32 1#32)))) (res_main_v53 V0)) (res_main_v81 V0) (res_main_v84 V0))) (res_main_v84 V0)))
/-- The weights along x. -/
def wxA : FVec F S8x96x384x7 .f32 := (addf (select (andi (cmpf .oge (res_main_v107 V0) (broadcastInDim S8x96x384x7 ![] bcast_S_S8x96x384x7 (constant S_ .f32 0xBF800000#32))) (cmpf .ole (res_main_v107 V0) (broadcastInDim S8x96x384x7 ![] bcast_S_S8x96x384x7 (constant S_ .f32 0x42C00000#32)))) (addf (select (cmpi .eq (res_main_v120 V0) (res_main_v100 V0)) (subf (broadcastInDim S8x96x384x7 ![] bcast_S_S8x96x384x7 (constant S_ .f32 0x3F800000#32)) (res_main_v128 V0)) (res_main_v131 V0)) (select (cmpi .eq (select (res_main_v118 V0) (broadcastInDim S8x96x384x7 ![] bcast_S_S8x96x384x7 (constantI S_ 32 95#32)) (addi (res_main_v120 V0) (broadcastInDim S8x96x384x7 ![] bcast_S_S8x96x384x7 (constantI S_ 32 1#32)))) (res_main_v100 V0)) (res_main_v128 V0) (res_main_v131 V0))) (res_main_v131 V0)) (select (andi (cmpf .oge (res_main_v149 V0) (broadcastInDim S8x96x384x7 ![] bcast_S_S8x96x384x7 (constant S_ .f32 0xBF800000#32))) (cmpf .ole (res_main_v149 V0) (broadcastInDim S8x96x384x7 ![] bcast_S_S8x96x384x7 (constant S_ .f32 0x42C00000#32)))) (addf (select (cmpi .eq (res_main_v162 V0) (res_main_v142 V0)) (subf (broadcastInDim S8x96x384x7 ![] bcast_S_S8x96x384x7 (constant S_ .f32 0x3F800000#32)) (res_main_v170 V0)) (res_main_v173 V0)) (select (cmpi .eq (select (res_main_v160 V0) (broadcastInDim S8x96x384x7 ![] bcast_S_S8x96x384x7 (constantI S_ 32 95#32)) (addi (res_main_v162 V0) (broadcastInDim S8x96x384x7 ![] bcast_S_S8x96x384x7 (constantI S_ 32 1#32)))) (res_main_v142 V0)) (res_main_v170 V0) (res_main_v173 V0))) (res_main_v173 V0)))

set_option maxRecDepth 8192 in
theorem v213_eq : res_main_v213 V0 = mulf (broadcastInDim S8x64x96x384x7x7 ![0, 1, 2, 3, 4] bcast_S8x64x96x384x7_S8x64x96x384x7x7_0_1_2_3_4 (timesA V0))
    (mulf (broadcastInDim S8x64x96x384x7x7 ![0, 1, 3, 4] bcast_S8x64x384x7_S8x64x96x384x7x7_0_1_3_4 (wyA V0)) (broadcastInDim S8x64x96x384x7x7 ![0, 2, 3, 5] bcast_S8x96x384x7_S8x64x96x384x7x7_0_2_3_5 (wxA V0))) := by
  unfold res_main_v213 timesA selA wyA wxA
  with_reducible rfl

end

variable (V0 : Valuation τ sig (Elt Ideal))

/-- The roi parameters and the lists the reference reads. -/
def par : S8x8x384.Idx → EReal := V0 (Proc.devRef .tc main_arg1)
def lst : S8x384x256.Idx → BitVec 32 := V0 (Proc.devRef .tc main_arg2)

theorem mul3_at (T : FVec Ideal S8x64x96x384x7 .f32) (WY : FVec Ideal S8x64x384x7 .f32) (WX : FVec Ideal S8x96x384x7 .f32) (b : Fin 8) (y : Fin 64) (x : Fin 96) (r : Fin 384) (p pw : Fin 7) :
    (mulf (broadcastInDim S8x64x96x384x7x7 ![0, 1, 2, 3, 4] bcast_S8x64x96x384x7_S8x64x96x384x7x7_0_1_2_3_4 T)
      (mulf (broadcastInDim S8x64x96x384x7x7 ![0, 1, 3, 4] bcast_S8x64x384x7_S8x64x96x384x7x7_0_1_3_4 WY) (broadcastInDim S8x64x96x384x7x7 ![0, 2, 3, 5] bcast_S8x96x384x7_S8x64x96x384x7x7_0_2_3_5 WX)) (ix6 b y x r p pw) : EReal)
      = (T (ix5 b y x r p) : EReal) * ((WY (ix4 b y r p) : EReal) * (WX (ix4 b x r pw) : EReal)) := by
  have e1 := broadcastInDim_apply ![0, 1, 2, 3, 4] bcast_S8x64x96x384x7_S8x64x96x384x7x7_0_1_2_3_4 T (ix6 b y x r p pw) (ix5 b y x r p)
    (fun a => match a with | ⟨0, _⟩ => rfl | ⟨1, _⟩ => rfl | ⟨2, _⟩ => rfl | ⟨3, _⟩ => rfl | ⟨4, _⟩ => rfl)
  have e2 := broadcastInDim_apply ![0, 1, 3, 4] bcast_S8x64x384x7_S8x64x96x384x7x7_0_1_3_4 WY (ix6 b y x r p pw) (ix4 b y r p)
    (fun a => match a with | ⟨0, _⟩ => rfl | ⟨1, _⟩ => rfl | ⟨2, _⟩ => rfl | ⟨3, _⟩ => rfl)
  have e3 := broadcastInDim_apply ![0, 2, 3, 5] bcast_S8x96x384x7_S8x64x96x384x7x7_0_2_3_5 WX (ix6 b y x r p pw) (ix4 b x r pw)
    (fun a => match a with | ⟨0, _⟩ => rfl | ⟨1, _⟩ => rfl | ⟨2, _⟩ => rfl | ⟨3, _⟩ => rfl)
  rw [← e1, ← e2, ← e3]
  rfl

theorem v213_at (b : Fin 8) (y : Fin 64) (x : Fin 96) (r : Fin 384) (p pw : Fin 7) :
    (res_main_v213 V0 : S8x64x96x384x7x7.Idx → EReal) (ix6 b y x r p pw) = (timesA V0 (ix5 b y x r p) : EReal) * ((wyA V0 (ix4 b y r p) : EReal) * (wxA V0 (ix4 b x r pw) : EReal)) :=
  (congrFun (v213_eq V0) (ix6 b y x r p pw)).trans (mul3_at (timesA V0) (wyA V0) (wxA V0) b y x r p pw)

end Cert.Proof.PR

end
-- ==== Proof.PV.RefTimes.lean ====
/-
  How often the reference names a cell: a sum over the entries of the cell's tile.
-/
module

public import proofs.«01_k».proof.Proof.PV.RefRead
public import Idealize.ShloMosaic.Lib.Pointwise.Index
public import Idealize.ShloMosaic.Lib.Pointwise.Reduce
public import Idealize.ShloMosaic.Lib.IdealHost

@[expose] public section

noncomputable section

namespace Cert.Proof.PR

open Cert.KernelReferenceIdeal Cert.KernelReferenceIdeal.Gen Cert.KernelReferenceIdeal.Value
open Idealize.ShloMosaic hiding named ix0 ix1 ix2 ix3 ix4 ix5 ix6
open Idealize.ShloMosaic.TcCoe Idealize.SL.Sem
open Cert.Proof.PV (shareR posK hatK axK nat named fin entOf)
open Idealize.ShloMosaic.ValueIdx (ix0 ix1 ix2 ix3 ix4 ix5 ix6)

variable (V0 : Valuation τ sig (Elt Ideal))

/-! ### One entry -/

theorem sle_nat (a b : ℕ) (ha : a < 100000) (hb : b < 100000) : IntOp.cmpi .sle (BitVec.ofNat 32 a) (BitVec.ofNat 32 b) = BitVec.ofBool (decide (a ≤ b)) := by
  have e : ∀ n : ℕ, n < 100000 → (BitVec.ofNat 32 n).toInt = n := by
    intro n h
    have h' : (BitVec.ofNat 32 n).toNat = n := by rw [BitVec.toNat_ofNat]; omega
    rw [BitVec.toInt_eq_toNat_of_lt (by omega), h']
  show BitVec.ofBool ((BitVec.ofNat 32 a).sle (BitVec.ofNat 32 b)) = _
  rw [BitVec.sle_eq_decide, e a ha, e b hb]
  simp

/-- The test of one entry, as one or zero. -/
theorem test_eq (e : BitVec 32) (E : ℕ) (hE : e.toNat = E) (he : E < 3080) (r p : ℕ) (hr : r < 384) (hp : p < 7) :
    (Scalar.select (IntOp.andi (IntOp.andi (IntOp.cmpi .eq (IntOp.shrui .host e 3#32) (BitVec.ofNat 32 r)) (IntOp.cmpi .sle (IntOp.andi e 7#32) (BitVec.ofNat 32 p)))
        (IntOp.cmpi .sle (BitVec.ofNat 32 p) (IntOp.addi (IntOp.andi e 7#32) 3#32))) (Ideal.ofBits .f32 0x3F800000#32 : EReal) (Ideal.ofBits .f32 0x00000000#32) : EReal)
      = if E / 8 = r ∧ E % 8 ≤ p ∧ p ≤ E % 8 + 3 then 1 else 0 := by
  have e1 : IntOp.shrui .host e 3#32 = BitVec.ofNat 32 (E / 8) := by
    rw [show IntOp.shrui .host e 3#32 = e >>> 3#32 from if_pos (by decide)]
    apply BitVec.eq_of_toNat_eq
    rw [BitVec.toNat_ofNat]
    show (e >>> (3#32).toNat).toNat = _
    rw [BitVec.toNat_ushiftRight, hE, Nat.shiftRight_eq_div_pow]
    show E / 8 = _
    omega
  have e2 : IntOp.andi e 7#32 = BitVec.ofNat 32 (E % 8) := by
    apply BitVec.eq_of_toNat_eq
    rw [BitVec.toNat_ofNat]
    show (e &&& 7#32).toNat = _
    rw [BitVec.toNat_and, hE]
    show E &&& (2 ^ 3 - 1) = _
    rw [Nat.and_two_pow_sub_one_eq_mod]
    omega
  have e3 : IntOp.addi (BitVec.ofNat 32 (E % 8)) 3#32 = BitVec.ofNat 32 (E % 8 + 3) := (BitVec.ofNat_add (E % 8) 3).symm
  rw [e1, e2, e3, Cert.Proof.PV.eq_nat _ _ (by omega) (by omega), sle_nat _ _ (by omega) (by omega), sle_nat _ _ (by omega) (by omega), Cert.Proof.WV.word_0, Cert.Proof.WV.word_1]
  by_cases h1 : E / 8 = r
  · by_cases h2 : E % 8 ≤ p
    · by_cases h3 : p ≤ E % 8 + 3
      · rw [if_pos ⟨h1, h2, h3⟩, decide_eq_true h1, decide_eq_true h2, decide_eq_true h3]; rfl
      · rw [if_neg (fun h => h3 h.2.2), decide_eq_true h1, decide_eq_true h2, decide_eq_false h3]; rfl
    · rw [if_neg (fun h => h2 h.2.1), decide_eq_true h1, decide_eq_false h2]
      by_cases h3 : p ≤ E % 8 + 3
      · rw [decide_eq_true h3]; rfl
      · rw [decide_eq_false h3]; rfl
  · rw [if_neg (fun h => h1 h.1), decide_eq_false h1]
    cases decide (E % 8 ≤ p) <;> cases decide (p ≤ E % 8 + 3) <;> rfl

/-! ### The entries -/

section

variable {F : FTy → Type} [FloatOps F] (V0 : Valuation τ sig (Elt F))

/-- The words of a tile's list: the lower halves, then the upper ones. -/
def entA : IVec S8x768x192 32 := concatenate S8x768x192 1 [⟨S8x384x192, (andi (res_main_v181 V0) (broadcastInDim S8x384x192 ![] bcast_S_S8x384x192 (constantI S_ 32 65535#32)))⟩, ⟨S8x384x192, (Host.shrui (res_main_v181 V0) (broadcastInDim S8x384x192 ![] bcast_S_S8x384x192 (constantI S_ 32 16#32)))⟩] concatenates_S8x384x192_S8x384x192_S8x768x192_d1

theorem v187_eq : res_main_v187 V0 = broadcastInDim S8x768x192x384x7 ![0, 1, 2] bcast_S8x768x192_S8x768x192x384x7_0_1_2 (entA V0) := rfl

theorem v187_at (b : Fin 8) (l : Fin 768) (t : Fin 192) (r : Fin 384) (p : Fin 7) : (res_main_v187 V0 : S8x768x192x384x7.Idx → BitVec 32) (ix5 b l t r p) = entA V0 (ix3 b l t) := by
  rw [v187_eq]
  exact broadcastInDim_apply _ _ _ _ _ (fun a => match a with | ⟨0, _⟩ => rfl | ⟨1, _⟩ => rfl | ⟨2, _⟩ => rfl)

theorem sel_gen (i : S8x768x192x384x7.Idx) : selA V0 i
    = Scalar.select (IntOp.andi (IntOp.andi (IntOp.cmpi .eq (IntOp.shrui .host ((res_main_v187 V0 : S8x768x192x384x7.Idx → BitVec 32) i) 3#32) (BitVec.ofNat 32 (i 3).val))
          (IntOp.cmpi .sle (IntOp.andi ((res_main_v187 V0 : S8x768x192x384x7.Idx → BitVec 32) i) 7#32) (BitVec.ofNat 32 (i 4).val)))
        (IntOp.cmpi .sle (BitVec.ofNat 32 (i 4).val) (IntOp.addi (IntOp.andi ((res_main_v187 V0 : S8x768x192x384x7.Idx → BitVec 32) i) 7#32) 3#32)))
      (Scalar.ofBits .f32 0x3F800000#32 : F .f32) (Scalar.ofBits .f32 0x00000000#32) := rfl

end

theorem v181_at (b : Fin 8) (s : Fin 384) (t : Fin 192) : (res_main_v181 V0 : S8x384x192.Idx → BitVec 32) (ix3 b s t) = lst V0 (ix3 b s (⟨t.val, by omega⟩ : Fin 256)) := by
  unfold res_main_v181
  exact extractStridedSlice_apply _ _ _ _ _ (fun a => match a with | ⟨0, _⟩ => (Nat.zero_add _).symm | ⟨1, _⟩ => (Nat.zero_add _).symm | ⟨2, _⟩ => (Nat.zero_add _).symm)

/-- The lists of image `b`. -/
def lstOf (b : Fin 8) : Cert.KernelIdeal.S1x384x256.Idx → BitVec 32 := fun x => lst V0 (ix3 b (x 1) (x 2))

/-- An entry as a number. -/
theorem ent_at (b : Fin 8) (l : Fin 768) (t : Fin 192) : (entA V0 (ix3 b l t)).toNat = entOf (lstOf V0 b) t.val l.val := by
  unfold entOf entA
  by_cases h : l.val < 384
  · rw [if_pos h]
    have hc := concatenate_apply_piece (1 : Fin S8x768x192.rank) [⟨S8x384x192, (andi (res_main_v181 V0) (broadcastInDim S8x384x192 ![] bcast_S_S8x384x192 (constantI S_ 32 65535#32)))⟩, ⟨S8x384x192, (Host.shrui (res_main_v181 V0) (broadcastInDim S8x384x192 ![] bcast_S_S8x384x192 (constantI S_ 32 16#32)))⟩] concatenates_S8x384x192_S8x384x192_S8x768x192_d1
      (ix3 b l t) 0 (by show 0 < 2; omega) S8x384x192 _ rfl rfl 0 rfl (ix3 b (⟨l.val, h⟩ : Fin 384) t)
      (fun a => match a with | ⟨0, _⟩ => fun _ => rfl | ⟨1, _⟩ => fun h => absurd rfl h | ⟨2, _⟩ => fun _ => rfl) (by show 0 + l.val = l.val; omega)
    refine (congrArg BitVec.toNat hc).trans ?_
    show (IntOp.andi ((res_main_v181 V0 : S8x384x192.Idx → BitVec 32) (ix3 b (⟨l.val, h⟩ : Fin 384) t)) 65535#32).toNat = _
    rw [v181_at]
    have ei : (ix3 b (⟨l.val, h⟩ : Fin 384) (⟨t.val, by omega⟩ : Fin 256) : S8x384x256.Idx) = ix3 b (fin 384 l.val) (fin 256 t.val) := by
      have e1 : fin 384 l.val = ⟨l.val, h⟩ := Fin.ext (Cert.Proof.PV.fin_val h)
      have e2 : fin 256 t.val = ⟨t.val, by omega⟩ := Fin.ext (Cert.Proof.PV.fin_val (by omega))
      rw [e1, e2]
    show (lst V0 _ &&& 65535#32).toNat = (lst V0 (ix3 b (fin 384 l.val) (fin 256 t.val))).toNat % 65536
    rw [ei, BitVec.toNat_and]
    show _ &&& (2 ^ 16 - 1) = _
    rw [Nat.and_two_pow_sub_one_eq_mod]
  · rw [if_neg h]
    have hl := l.isLt
    have hc := concatenate_apply_piece (1 : Fin S8x768x192.rank) [⟨S8x384x192, (andi (res_main_v181 V0) (broadcastInDim S8x384x192 ![] bcast_S_S8x384x192 (constantI S_ 32 65535#32)))⟩, ⟨S8x384x192, (Host.shrui (res_main_v181 V0) (broadcastInDim S8x384x192 ![] bcast_S_S8x384x192 (constantI S_ 32 16#32)))⟩] concatenates_S8x384x192_S8x384x192_S8x768x192_d1
      (ix3 b l t) 1 (by show 1 < 2; omega) S8x384x192 _ rfl rfl 384 rfl (ix3 b (⟨l.val - 384, by omega⟩ : Fin 384) t)
      (fun a => match a with | ⟨0, _⟩ => fun _ => rfl | ⟨1, _⟩ => fun h => absurd rfl h | ⟨2, _⟩ => fun _ => rfl) (by show 384 + (l.val - 384) = l.val; omega)
    refine (congrArg BitVec.toNat hc).trans ?_
    show (IntOp.shrui .host ((res_main_v181 V0 : S8x384x192.Idx → BitVec 32) (ix3 b (⟨l.val - 384, by omega⟩ : Fin 384) t)) 16#32).toNat = _
    rw [v181_at]
    have ei : (ix3 b (⟨l.val - 384, by omega⟩ : Fin 384) (⟨t.val, by omega⟩ : Fin 256) : S8x384x256.Idx) = ix3 b (fin 384 (l.val - 384)) (fin 256 t.val) := by
      have e1 : fin 384 (l.val - 384) = ⟨l.val - 384, by omega⟩ := Fin.ext (Cert.Proof.PV.fin_val (by omega))
      have e2 : fin 256 t.val = ⟨t.val, by omega⟩ := Fin.ext (Cert.Proof.PV.fin_val (by omega))
      rw [e1, e2]
    rw [ei]
    generalize hw : lst V0 (ix3 b (fin 384 (l.val - 384)) (fin 256 t.val)) = w
    show _ = (lst V0 (ix3 b (fin 384 (l.val - 384)) (fin 256 t.val))).toNat / 65536
    rw [hw, show IntOp.shrui .host w 16#32 = w >>> 16#32 from if_pos (by decide)]
    show (w >>> (16#32).toNat).toNat = _
    rw [BitVec.toNat_ushiftRight, Nat.shiftRight_eq_div_pow]
    rfl

/-- What the reference sums for one entry. -/
theorem sel_at (b : Fin 8) (l : Fin 768) (t : Fin 192) (r : Fin 384) (p : Fin 7) (he : entOf (lstOf V0 b) t.val l.val < 3080) (K : ℕ) (hr : K / 49 = r.val) (hp : K / 7 % 7 = p.val) :
    (selA V0 (ix5 b l t r p) : EReal) = named (entOf (lstOf V0 b) t.val l.val) K := by
  refine (sel_gen V0 (ix5 b l t r p)).trans ?_
  rw [v187_at]
  refine (test_eq (entA V0 (ix3 b l t)) _ (ent_at V0 b l t) he r.val p.val r.isLt p.isLt).trans ?_
  unfold named
  rw [hr, hp]

/-! ### The count -/

theorem reduce_at (X : FVec Ideal S8x768x192x384x7 .f32) (b : Fin 8) (t : Fin 192) (r : Fin 384) (p : Fin 7) :
    ((Host.reduceAdd X (constant S_ .f32 0x00000000#32) reducesTo_S8x768x192x384x7_S8x192x384x7_d1 h_S_ : FVec Ideal S8x192x384x7 .f32) (ix4 b t r p) : EReal)
      = ∑ l : Fin 768, (X (ix5 b l t r p) : EReal) := by
  refine (Ideal.hostReduceAdd_r5_a1 reducesTo_S8x768x192x384x7_S8x192x384x7_d1 X _ (ix4 b t r p)).trans ?_
  rw [show (constant (F := Ideal) S_ .f32 0x00000000#32 (Shape.Idx.first h_S_) : EReal) = Ideal.ofBits .f32 0x00000000#32 from rfl, Cert.Proof.WV.word_0]
  refine (zero_add _).trans (Finset.sum_congr rfl fun l _ => congrArg X ?_)
  funext a
  match a with
  | ⟨0, _⟩ => rfl
  | ⟨1, _⟩ => rfl
  | ⟨2, _⟩ => rfl
  | ⟨3, _⟩ => rfl
  | ⟨4, _⟩ => rfl

theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- The tiles' counts laid out over the cells. -/
theorem spread_at (R : FVec Ideal S8x192x384x7 .f32) (b : Fin 8) (y : Fin 64) (x : Fin 96) (r : Fin 384) (p : Fin 7) :
    shapeCast S8x64x96x384x7 (transpose S8x16x4x12x8x384x7 [0, 3, 4, 1, 2, 5, 6] (broadcastInDim S8x12x8x16x4x384x7 ![0, 1, 3, 5, 6] bcast_S8x12x16x384x7_S8x12x8x16x4x384x7_0_1_3_5_6 (shapeCast S8x12x16x384x7 R shapeCasts_S8x192x384x7_S8x12x16x384x7)) transposes_S8x12x8x16x4x384x7_S8x16x4x12x8x384x7_0_3_4_1_2_5_6) shapeCasts_S8x16x4x12x8x384x7_S8x64x96x384x7 (ix5 b y x r p)
      = R (ix4 b (⟨x.val / 8 * 16 + y.val / 4, by omega⟩ : Fin 192) r p) := by
  have hy := y.isLt
  have hx := x.isLt
  let i7 : S8x16x4x12x8x384x7.Idx := fun a => match a with
    | ⟨0, _⟩ => b | ⟨1, _⟩ => ⟨y.val / 4, by show _ < 16; omega⟩ | ⟨2, _⟩ => ⟨y.val % 4, by show _ < 4; omega⟩ | ⟨3, _⟩ => ⟨x.val / 8, by show _ < 12; omega⟩ | ⟨4, _⟩ => ⟨x.val % 8, by show _ < 8; omega⟩ | ⟨5, _⟩ => r | ⟨6, _⟩ => p
  let j7 : S8x12x8x16x4x384x7.Idx := fun a => match a with
    | ⟨0, _⟩ => b | ⟨1, _⟩ => ⟨x.val / 8, by show _ < 12; omega⟩ | ⟨2, _⟩ => ⟨x.val % 8, by show _ < 8; omega⟩ | ⟨3, _⟩ => ⟨y.val / 4, by show _ < 16; omega⟩ | ⟨4, _⟩ => ⟨y.val % 4, by show _ < 4; omega⟩ | ⟨5, _⟩ => r | ⟨6, _⟩ => p
  refine (shapeCast_apply _ _ _ i7 ?_).trans ?_
  · rw [rowMajor_val_seven, Shape.rowMajor_val_five]
    show (((((b.val * 16 + y.val / 4) * 4 + y.val % 4) * 12 + x.val / 8) * 8 + x.val % 8) * 384 + r.val) * 7 + p.val = (((b.val * 64 + y.val) * 96 + x.val) * 384 + r.val) * 7 + p.val
    omega
  refine (transpose_apply _ _ _ _ j7 (fun a => match a with | ⟨0, _⟩ => rfl | ⟨1, _⟩ => rfl | ⟨2, _⟩ => rfl | ⟨3, _⟩ => rfl | ⟨4, _⟩ => rfl | ⟨5, _⟩ => rfl | ⟨6, _⟩ => rfl)).trans ?_
  refine (broadcastInDim_apply _ _ _ _ (ix5 b (⟨x.val / 8, by omega⟩ : Fin 12) (⟨y.val / 4, by omega⟩ : Fin 16) r p)
    (fun a => match a with | ⟨0, _⟩ => rfl | ⟨1, _⟩ => rfl | ⟨2, _⟩ => rfl | ⟨3, _⟩ => rfl | ⟨4, _⟩ => rfl)).trans ?_
  refine shapeCast_apply _ _ _ _ ?_
  rw [Shape.rowMajor_val_four, Shape.rowMajor_val_five]
  show ((b.val * 192 + (x.val / 8 * 16 + y.val / 4)) * 384 + r.val) * 7 + p.val = (((b.val * 12 + x.val / 8) * 16 + y.val / 4) * 384 + r.val) * 7 + p.val
  omega

/-- How often a cell's tile names a bin row of a roi. -/
theorem times_at (b : Fin 8) (y : Fin 64) (x : Fin 96) (r : Fin 384) (p : Fin 7) (t : ℕ) (ht : t = x.val / 8 * 16 + y.val / 4) (he : ∀ l, l < 768 → entOf (lstOf V0 b) t l < 3080)
    (K : ℕ) (hr : K / 49 = r.val) (hp : K / 7 % 7 = p.val) :
    (timesA V0 (ix5 b y x r p) : EReal) = ∑ l ∈ Finset.range 768, named (entOf (lstOf V0 b) t l) K := by
  subst ht
  unfold timesA
  refine (spread_at _ b y x r p).trans ((reduce_at (selA V0) b _ r p).trans ?_)
  rw [Finset.sum_range]
  exact Finset.sum_congr rfl fun l _ => sel_at V0 b l _ r p (he l.val l.isLt) K hr hp

end Cert.Proof.PR

end
-- ==== Proof.PV.RefAxes.lean ====
/-
  The reference's weights of a cell along each axis are the kernel's.
-/
module

public import proofs.«01_k».proof.Proof.PV.RefRead

@[expose] public section

noncomputable section

namespace Cert.Proof.PR

open Cert.KernelReferenceIdeal Cert.KernelReferenceIdeal.Gen Cert.KernelReferenceIdeal.Value
open Idealize.ShloMosaic hiding ix0 ix1 ix2 ix3 ix4 ix5 ix6
open Idealize.ShloMosaic.TcCoe Idealize.SL.Sem
open Cert.Proof.PV (shareR posK hatK axK nat named fin entOf)
open Idealize.ShloMosaic.ValueIdx (ix0 ix1 ix2 ix3 ix4 ix5 ix6)

variable (V0 : Valuation τ sig (Elt Ideal))

theorem row0_at (b : Fin 8) (r : Fin 384) : (res_main_v93 V0 : S8x384.Idx → EReal) (ix2 b r) = par V0 (ix3 b ((0 : Fin 8)) r) := by
  unfold res_main_v93
  refine (shapeCast_apply (s := S8x1x384) (t := S8x384) _ _ (ix2 b r) (ix3 b (0 : Fin 1) r)
    (by rw [Shape.rowMajor_val_two, Shape.rowMajor_val_three]
        show (b.val * 1 + 0) * 384 + r.val = b.val * 384 + r.val
        omega)).trans ?_
  exact extractStridedSlice_apply _ _ _ _ _ (fun a => match a with | ⟨0, _⟩ => (Nat.zero_add _).symm | ⟨1, _⟩ => rfl | ⟨2, _⟩ => (Nat.zero_add _).symm)

theorem row1_at (b : Fin 8) (r : Fin 384) : (res_main_v4 V0 : S8x384.Idx → EReal) (ix2 b r) = par V0 (ix3 b ((1 : Fin 8)) r) := by
  unfold res_main_v4
  refine (shapeCast_apply (s := S8x1x384) (t := S8x384) _ _ (ix2 b r) (ix3 b (0 : Fin 1) r)
    (by rw [Shape.rowMajor_val_two, Shape.rowMajor_val_three]
        show (b.val * 1 + 0) * 384 + r.val = b.val * 384 + r.val
        omega)).trans ?_
  exact extractStridedSlice_apply _ _ _ _ _ (fun a => match a with | ⟨0, _⟩ => (Nat.zero_add _).symm | ⟨1, _⟩ => rfl | ⟨2, _⟩ => (Nat.zero_add _).symm)

theorem row2_at (b : Fin 8) (r : Fin 384) : (res_main_v95 V0 : S8x384.Idx → EReal) (ix2 b r) = par V0 (ix3 b ((2 : Fin 8)) r) := by
  unfold res_main_v95
  refine (shapeCast_apply (s := S8x1x384) (t := S8x384) _ _ (ix2 b r) (ix3 b (0 : Fin 1) r)
    (by rw [Shape.rowMajor_val_two, Shape.rowMajor_val_three]
        show (b.val * 1 + 0) * 384 + r.val = b.val * 384 + r.val
        omega)).trans ?_
  exact extractStridedSlice_apply _ _ _ _ _ (fun a => match a with | ⟨0, _⟩ => (Nat.zero_add _).symm | ⟨1, _⟩ => rfl | ⟨2, _⟩ => (Nat.zero_add _).symm)

theorem row3_at (b : Fin 8) (r : Fin 384) : (res_main_v6 V0 : S8x384.Idx → EReal) (ix2 b r) = par V0 (ix3 b ((3 : Fin 8)) r) := by
  unfold res_main_v6
  refine (shapeCast_apply (s := S8x1x384) (t := S8x384) _ _ (ix2 b r) (ix3 b (0 : Fin 1) r)
    (by rw [Shape.rowMajor_val_two, Shape.rowMajor_val_three]
        show (b.val * 1 + 0) * 384 + r.val = b.val * 384 + r.val
        omega)).trans ?_
  exact extractStridedSlice_apply _ _ _ _ _ (fun a => match a with | ⟨0, _⟩ => (Nat.zero_add _).symm | ⟨1, _⟩ => rfl | ⟨2, _⟩ => (Nat.zero_add _).symm)

/-- A sample's share at a cell, at any float values. -/
def shareG {F : FTy → Type} [FloatOps F] (S n1 : BitVec 32) (st bn p ih : F .f32) (cell : BitVec 32) : F .f32 :=
  let bc : BitVec 32 → F .f32 := fun w => Scalar.ofBits .f32 w
  let pos : F .f32 := FloatOps.addf (FloatOps.addf st (FloatOps.mulf p bn)) (FloatOps.hostDivf (FloatOps.mulf ih bn) (bc 0x40000000#32))
  let pc : F .f32 := FloatOps.maximumf pos (bc 0x00000000#32)
  let k : BitVec 32 := FloatOps.fptosi 32 (FloatOps.hostUnary .floor pc)
  let edge : BitVec 1 := IntOp.cmpi .sge k n1
  let low : BitVec 32 := Scalar.select edge n1 k
  let high : BitVec 32 := Scalar.select edge n1 (IntOp.addi low 1#32)
  let l : F .f32 := FloatOps.subf (Scalar.select edge (FloatOps.sitofp .f32 low) pc) (FloatOps.sitofp .f32 low)
  Scalar.select (IntOp.andi (FloatOps.cmpf .oge pos (bc 0xBF800000#32)) (FloatOps.cmpf .ole pos (bc S)))
    (FloatOps.addf (Scalar.select (IntOp.cmpi .eq low cell) (FloatOps.subf (bc 0x3F800000#32) l) (bc 0x00000000#32))
      (Scalar.select (IntOp.cmpi .eq high cell) l (bc 0x00000000#32)))
    (bc 0x00000000#32)

theorem shareG_ideal (S n1 : BitVec 32) (st bn p ih : EReal) (cell : BitVec 32) :
    (shareG (F := Ideal) S n1 st bn p ih cell : EReal) = shareR n1 (Ideal.ofBits .f32 S) cell (st + p * bn + Ideal.div (ih * bn) (Ideal.ofBits .f32 0x40000000#32)) := rfl

theorem wyA_gen {F : FTy → Type} [FloatOps F] (V0 : Valuation τ sig (Elt F)) (i : S8x64x384x7.Idx) :
    wyA V0 i = FloatOps.addf
      (shareG 0x42800000#32 63#32 (broadcastInDim S8x64x384x7 ![0, 2] bcast_S8x384_S8x64x384x7_0_2 (res_main_v4 V0) i) (broadcastInDim S8x64x384x7 ![0, 2] bcast_S8x384_S8x64x384x7_0_2 (res_main_v6 V0) i)
        (FloatOps.sitofp .f32 (BitVec.ofNat 32 (i 3).val)) (Scalar.ofBits .f32 0x3F000000#32) (BitVec.ofNat 32 (i 1).val))
      (shareG 0x42800000#32 63#32 (broadcastInDim S8x64x384x7 ![0, 2] bcast_S8x384_S8x64x384x7_0_2 (res_main_v4 V0) i) (broadcastInDim S8x64x384x7 ![0, 2] bcast_S8x384_S8x64x384x7_0_2 (res_main_v6 V0) i)
        (FloatOps.sitofp .f32 (BitVec.ofNat 32 (i 3).val)) (Scalar.ofBits .f32 0x3FC00000#32) (BitVec.ofNat 32 (i 1).val)) := rfl

theorem wyA_share (b : Fin 8) (y : Fin 64) (r : Fin 384) (p : Fin 7) :
    (wyA V0 (ix4 b y r p) : EReal)
      = shareR 63#32 (Ideal.ofBits .f32 0x42800000#32) (BitVec.ofNat 32 y.val) (par V0 (ix3 b (1 : Fin 8) r) + (((BitVec.ofNat 32 p.val).toInt : ℝ) : EReal) * par V0 (ix3 b (3 : Fin 8) r) + Ideal.div (Ideal.ofBits .f32 0x3F000000#32 * par V0 (ix3 b (3 : Fin 8) r)) (Ideal.ofBits .f32 0x40000000#32))
        + shareR 63#32 (Ideal.ofBits .f32 0x42800000#32) (BitVec.ofNat 32 y.val) (par V0 (ix3 b (1 : Fin 8) r) + (((BitVec.ofNat 32 p.val).toInt : ℝ) : EReal) * par V0 (ix3 b (3 : Fin 8) r) + Ideal.div (Ideal.ofBits .f32 0x3FC00000#32 * par V0 (ix3 b (3 : Fin 8) r)) (Ideal.ofBits .f32 0x40000000#32)) := by
  have e1 : broadcastInDim S8x64x384x7 ![0, 2] bcast_S8x384_S8x64x384x7_0_2 (res_main_v4 V0) (ix4 b y r p) = par V0 (ix3 b (1 : Fin 8) r) :=
    (broadcastInDim_apply _ _ _ _ (ix2 b r) (fun a => match a with | ⟨0, _⟩ => rfl | ⟨1, _⟩ => rfl)).trans (row1_at V0 b r)
  have e2 : broadcastInDim S8x64x384x7 ![0, 2] bcast_S8x384_S8x64x384x7_0_2 (res_main_v6 V0) (ix4 b y r p) = par V0 (ix3 b (3 : Fin 8) r) :=
    (broadcastInDim_apply _ _ _ _ (ix2 b r) (fun a => match a with | ⟨0, _⟩ => rfl | ⟨1, _⟩ => rfl)).trans (row3_at V0 b r)
  refine (wyA_gen V0 (ix4 b y r p)).trans ?_
  rw [e1, e2]
  rfl

theorem wyA_at (b : Fin 8) (y : Fin 64) (r : Fin 384) (p : Fin 7) :
    (wyA V0 (ix4 b y r p) : EReal) = (axK (F := Ideal) (nat y.val) (par V0 (ix3 b (1 : Fin 8) r)) (par V0 (ix3 b (3 : Fin 8) r)) (nat p.val) (Ideal.ofBits .f32 0x42800000#32) : EReal) := by
  rw [wyA_share, Cert.Proof.PV.toInt_nat p.val (by omega), Cert.Proof.PV.word_64]
  have h1 := Cert.Proof.PV.share_posK 64 (by omega) (by omega) y.val y.isLt p.val p.isLt (par V0 (ix3 b (1 : Fin 8) r)) (par V0 (ix3 b (3 : Fin 8) r)) 0x3F000000#32 0x3E800000#32 (1 / 2) Cert.Proof.WV.word_half
    (by rw [Cert.Proof.PV.word_quarter]; norm_num)
  have h2 := Cert.Proof.PV.share_posK 64 (by omega) (by omega) y.val y.isLt p.val p.isLt (par V0 (ix3 b (1 : Fin 8) r)) (par V0 (ix3 b (3 : Fin 8) r)) 0x3FC00000#32 0x3F400000#32 (3 / 2) Cert.Proof.WV.word_threehalves
    (by rw [Cert.Proof.PV.word_threequarters]; norm_num)
  exact congrArg₂ (fun u v : EReal => u + v) h1 h2

theorem wxA_gen {F : FTy → Type} [FloatOps F] (V0 : Valuation τ sig (Elt F)) (i : S8x96x384x7.Idx) :
    wxA V0 i = FloatOps.addf
      (shareG 0x42C00000#32 95#32 (broadcastInDim S8x96x384x7 ![0, 2] bcast_S8x384_S8x96x384x7_0_2 (res_main_v93 V0) i) (broadcastInDim S8x96x384x7 ![0, 2] bcast_S8x384_S8x96x384x7_0_2 (res_main_v95 V0) i)
        (FloatOps.sitofp .f32 (BitVec.ofNat 32 (i 3).val)) (Scalar.ofBits .f32 0x3F000000#32) (BitVec.ofNat 32 (i 1).val))
      (shareG 0x42C00000#32 95#32 (broadcastInDim S8x96x384x7 ![0, 2] bcast_S8x384_S8x96x384x7_0_2 (res_main_v93 V0) i) (broadcastInDim S8x96x384x7 ![0, 2] bcast_S8x384_S8x96x384x7_0_2 (res_main_v95 V0) i)
        (FloatOps.sitofp .f32 (BitVec.ofNat 32 (i 3).val)) (Scalar.ofBits .f32 0x3FC00000#32) (BitVec.ofNat 32 (i 1).val)) := rfl

theorem wxA_share (b : Fin 8) (y : Fin 96) (r : Fin 384) (p : Fin 7) :
    (wxA V0 (ix4 b y r p) : EReal)
      = shareR 95#32 (Ideal.ofBits .f32 0x42C00000#32) (BitVec.ofNat 32 y.val) (par V0 (ix3 b (0 : Fin 8) r) + (((BitVec.ofNat 32 p.val).toInt : ℝ) : EReal) * par V0 (ix3 b (2 : Fin 8) r) + Ideal.div (Ideal.ofBits .f32 0x3F000000#32 * par V0 (ix3 b (2 : Fin 8) r)) (Ideal.ofBits .f32 0x40000000#32))
        + shareR 95#32 (Ideal.ofBits .f32 0x42C00000#32) (BitVec.ofNat 32 y.val) (par V0 (ix3 b (0 : Fin 8) r) + (((BitVec.ofNat 32 p.val).toInt : ℝ) : EReal) * par V0 (ix3 b (2 : Fin 8) r) + Ideal.div (Ideal.ofBits .f32 0x3FC00000#32 * par V0 (ix3 b (2 : Fin 8) r)) (Ideal.ofBits .f32 0x40000000#32)) := by
  have e1 : broadcastInDim S8x96x384x7 ![0, 2] bcast_S8x384_S8x96x384x7_0_2 (res_main_v93 V0) (ix4 b y r p) = par V0 (ix3 b (0 : Fin 8) r) :=
    (broadcastInDim_apply _ _ _ _ (ix2 b r) (fun a => match a with | ⟨0, _⟩ => rfl | ⟨1, _⟩ => rfl)).trans (row0_at V0 b r)
  have e2 : broadcastInDim S8x96x384x7 ![0, 2] bcast_S8x384_S8x96x384x7_0_2 (res_main_v95 V0) (ix4 b y r p) = par V0 (ix3 b (2 : Fin 8) r) :=
    (broadcastInDim_apply _ _ _ _ (ix2 b r) (fun a => match a with | ⟨0, _⟩ => rfl | ⟨1, _⟩ => rfl)).trans (row2_at V0 b r)
  refine (wxA_gen V0 (ix4 b y r p)).trans ?_
  rw [e1, e2]
  rfl

theorem wxA_at (b : Fin 8) (y : Fin 96) (r : Fin 384) (p : Fin 7) :
    (wxA V0 (ix4 b y r p) : EReal) = (axK (F := Ideal) (nat y.val) (par V0 (ix3 b (0 : Fin 8) r)) (par V0 (ix3 b (2 : Fin 8) r)) (nat p.val) (Ideal.ofBits .f32 0x42C00000#32) : EReal) := by
  rw [wxA_share, Cert.Proof.PV.toInt_nat p.val (by omega), Cert.Proof.PV.word_96]
  have h1 := Cert.Proof.PV.share_posK 96 (by omega) (by omega) y.val y.isLt p.val p.isLt (par V0 (ix3 b (0 : Fin 8) r)) (par V0 (ix3 b (2 : Fin 8) r)) 0x3F000000#32 0x3E800000#32 (1 / 2) Cert.Proof.WV.word_half
    (by rw [Cert.Proof.PV.word_quarter]; norm_num)
  have h2 := Cert.Proof.PV.share_posK 96 (by omega) (by omega) y.val y.isLt p.val p.isLt (par V0 (ix3 b (0 : Fin 8) r)) (par V0 (ix3 b (2 : Fin 8) r)) 0x3FC00000#32 0x3F400000#32 (3 / 2) Cert.Proof.WV.word_threehalves
    (by rw [Cert.Proof.PV.word_threequarters]; norm_num)
  exact congrArg₂ (fun u v : EReal => u + v) h1 h2

end Cert.Proof.PR

end
-- ==== Proof.PV.RefSum.lean ====
/-
  The reference's product at an index is the sum the kernel leaves.
-/
module

public import proofs.«01_k».proof.Proof.PV.RefTimes
public import proofs.«01_k».proof.Proof.PV.RefAxes
public import proofs.«01_k».proof.Proof.PV.Sweep
public import Idealize.ShloMosaic.Lib.StackMember

@[expose] public section

noncomputable section

namespace Cert.Proof.PR

open Cert.KernelReferenceIdeal Cert.KernelReferenceIdeal.Gen Cert.KernelReferenceIdeal.Value
open Idealize.ShloMosaic hiding named ix0 ix1 ix2 ix3 ix4 ix5 ix6
open Idealize.ShloMosaic.TcCoe Idealize.SL.Sem
open Cert.Proof.PV (shareR posK hatK axK nat named fin entOf fin_val cellW colSum entTerm tileOf sum_swap)
open Idealize.ShloMosaic.ValueIdx (ix0 ix1 ix2 ix3 ix4 ix5 ix6)

variable (V0 : Valuation τ sig (Elt Ideal))

theorem dot_at (A : FVec Ideal S8x6144x18816 .f32) (B : FVec Ideal S8x18816x512 .f32) (b : Fin 8) (row : Fin 6144) (n : Fin 512) :
    (Host.dotGeneral dot_S8x6144x18816_S8x18816x512_S8x6144x512_2_1_1_2_0_0 none A B (ix3 b row n) : EReal)
      = ∑ K : Fin 18816, (A (ix3 b row K) : EReal) * (B (ix3 b K n) : EReal) :=
  StackMember.dotGeneral_stack_apply _ none A B b row n

theorem seven_seven (c : ℕ) : c / 7 / 7 = c / 49 := Nat.div_div_eq_div_mul c 7 7

theorem left_at (W : FVec Ideal S8x64x96x384x7x7 .f32) (b : Fin 8) (row : Fin 6144) (K : Fin 18816) :
    shapeCast S8x6144x18816 W shapeCasts_S8x64x96x384x7x7_S8x6144x18816 (ix3 b row K)
      = W (ix6 b (⟨row.val / 96, by omega⟩ : Fin 64) (⟨row.val % 96, by omega⟩ : Fin 96) (fin 384 (K.val / 49)) (fin 7 (K.val / 7 % 7)) (fin 7 (K.val % 7))) := by
  have hK := K.isLt
  refine shapeCast_apply _ _ _ _ ?_
  rw [Shape.rowMajor_val_three, Shape.rowMajor_val_six]
  show ((((b.val * 64 + row.val / 96) * 96 + row.val % 96) * 384 + (fin 384 (K.val / 49)).val) * 7 + (fin 7 (K.val / 7 % 7)).val) * 7 + (fin 7 (K.val % 7)).val = (b.val * 6144 + row.val) * 18816 + K.val
  rw [fin_val (by omega : K.val / 49 < 384), fin_val (by omega : K.val / 7 % 7 < 7), fin_val (by omega : K.val % 7 < 7)]
  have := seven_seven K.val
  omega

theorem right_at (M : FVec Ideal S8x384x49x512 .f32) (b : Fin 8) (K : Fin 18816) (n : Fin 512) :
    shapeCast S8x18816x512 M shapeCasts_S8x384x49x512_S8x18816x512 (ix3 b K n) = M (ix4 b (fin 384 (K.val / 49)) (fin 49 (K.val % 49)) n) := by
  have hK := K.isLt
  refine shapeCast_apply _ _ _ _ ?_
  rw [Shape.rowMajor_val_three, Shape.rowMajor_val_four]
  show ((b.val * 384 + (fin 384 (K.val / 49)).val) * 49 + (fin 49 (K.val % 49)).val) * 512 + n.val = (b.val * 18816 + K.val) * 512 + n.val
  rw [fin_val (by omega : K.val / 49 < 384), fin_val (by omega : K.val % 49 < 49)]
  omega

theorem scale_at (A1 : S8x8x384.Idx → EReal) (b : Fin 8) (r : Fin 384) (k : Fin 49) (n : Fin 512) :
    broadcastInDim S8x384x49x512 ![0, 1] bcast_S8x384_S8x384x49x512_0_1 (shapeCast S8x384 (extractStridedSlice S8x1x384 ![0, 4, 0] A1 slices_S8x8x384_S8x1x384_0_4_0) shapeCasts_S8x1x384_S8x384) (ix4 b r k n)
      = A1 (ix3 b (4 : Fin 8) r) := by
  refine (broadcastInDim_apply _ _ _ _ (ix2 b r) (fun a => match a with | ⟨0, _⟩ => rfl | ⟨1, _⟩ => rfl)).trans ?_
  refine (shapeCast_apply (s := S8x1x384) (t := S8x384) _ _ (ix2 b r) (ix3 b (0 : Fin 1) r)
    (by rw [Shape.rowMajor_val_two, Shape.rowMajor_val_three]
        show (b.val * 1 + 0) * 384 + r.val = b.val * 384 + r.val
        omega)).trans ?_
  exact extractStridedSlice_apply _ _ _ _ _ (fun a => match a with | ⟨0, _⟩ => (Nat.zero_add _).symm | ⟨1, _⟩ => rfl | ⟨2, _⟩ => (Nat.zero_add _).symm)

/-- A cell's weight for a column of the product, with the column's code. -/
def colG (D : S8x384x49x512.Idx → EReal) (b : Fin 8) (row : Fin 6144) (n : Fin 512) (K : ℕ) : EReal :=
  ((wyA V0 (ix4 b (⟨row.val / 96, by omega⟩ : Fin 64) (fin 384 (K / 49)) (fin 7 (K / 7 % 7))) : EReal) * (wxA V0 (ix4 b (⟨row.val % 96, by omega⟩ : Fin 96) (fin 384 (K / 49)) (fin 7 (K % 7))) : EReal))
    * (D (ix4 b (fin 384 (K / 49)) (fin 49 (K % 49)) n) * par V0 (ix3 b (4 : Fin 8) (fin 384 (K / 49))))

/-- The roi block scaled by each roi's factor. -/
def scaled (D : FVec Ideal S8x384x49x512 .f32) (A1 : FVec Ideal S8x8x384 .f32) : FVec Ideal S8x384x49x512 .f32 :=
  mulf D (broadcastInDim S8x384x49x512 ![0, 1] bcast_S8x384_S8x384x49x512_0_1 (shapeCast S8x384 (extractStridedSlice S8x1x384 ![0, 4, 0] A1 slices_S8x8x384_S8x1x384_0_4_0) shapeCasts_S8x1x384_S8x384))

theorem scaled_at (D : FVec Ideal S8x384x49x512 .f32) (A1 : FVec Ideal S8x8x384 .f32) (b : Fin 8) (r : Fin 384) (k : Fin 49) (n : Fin 512) :
    (scaled D A1 (ix4 b r k n) : EReal) = (D (ix4 b r k n) : EReal) * (A1 (ix3 b (4 : Fin 8) r) : EReal) :=
  congrArg (fun z : EReal => (D (ix4 b r k n) : EReal) * z) (scale_at A1 b r k n)

/-- The reference's product. -/
def prod (D : FVec Ideal S8x384x49x512 .f32) : FVec Ideal S8x6144x512 .f32 :=
  Host.dotGeneral (φ₁ := .f32) (φ₂ := .f32) dot_S8x6144x18816_S8x18816x512_S8x6144x512_2_1_1_2_0_0 none
    (shapeCast S8x6144x18816 (res_main_v213 V0 : FVec Ideal S8x64x96x384x7x7 .f32) shapeCasts_S8x64x96x384x7x7_S8x6144x18816 : FVec Ideal S8x6144x18816 .f32)
    (shapeCast S8x18816x512 (scaled D (par V0)) shapeCasts_S8x384x49x512_S8x18816x512 : FVec Ideal S8x18816x512 .f32)

theorem tile_cell (row : Fin 6144) : tileOf row.val = (⟨row.val % 96, by omega⟩ : Fin 96).val / 8 * 16 + (⟨row.val / 96, by omega⟩ : Fin 64).val / 4 := by
  unfold tileOf
  with_reducible rfl

/-- One column of the product, the weights taken apart. -/
theorem col_at (Wt : S8x64x96x384x7x7.Idx → EReal) (hW : Wt = res_main_v213 V0) (A1 : S8x8x384.Idx → EReal) (D : FVec Ideal S8x384x49x512 .f32) (b : Fin 8) (row : Fin 6144) (n : Fin 512) (K : Fin 18816)
    (he : ∀ l, l < 768 → entOf (lstOf V0 b) (tileOf row.val) l < 3080) (hA : A1 = par V0) :
    (Wt (ix6 b (⟨row.val / 96, by omega⟩ : Fin 64) (⟨row.val % 96, by omega⟩ : Fin 96) (fin 384 (K.val / 49)) (fin 7 (K.val / 7 % 7)) (fin 7 (K.val % 7))) : EReal)
        * ((D (ix4 b (fin 384 (K.val / 49)) (fin 49 (K.val % 49)) n) : EReal) * A1 (ix3 b (4 : Fin 8) (fin 384 (K.val / 49))))
      = (∑ l ∈ Finset.range 768, named (entOf (lstOf V0 b) (tileOf row.val) l) K.val) * colG V0 D b row n K.val := by
  subst hA hW
  have hK := K.isLt
  have h1 := v213_at V0 b (⟨row.val / 96, by omega⟩ : Fin 64) (⟨row.val % 96, by omega⟩ : Fin 96) (fin 384 (K.val / 49)) (fin 7 (K.val / 7 % 7)) (fin 7 (K.val % 7))
  have h2 := times_at V0 b (⟨row.val / 96, by omega⟩ : Fin 64) (⟨row.val % 96, by omega⟩ : Fin 96) (fin 384 (K.val / 49)) (fin 7 (K.val / 7 % 7)) (tileOf row.val) (tile_cell row) he K.val
    (fin_val (by omega : K.val / 49 < 384)).symm (fin_val (by omega : K.val / 7 % 7 < 7)).symm
  rw [h2] at h1
  refine (congrArg (fun z : EReal => z * ((D (ix4 b (fin 384 (K.val / 49)) (fin 49 (K.val % 49)) n) : EReal) * par V0 (ix3 b (4 : Fin 8) (fin 384 (K.val / 49))))) h1).trans ?_
  unfold colG
  exact mul_assoc _ _ _

/-- The reference's product at an index. -/
theorem product_at (D : FVec Ideal S8x384x49x512 .f32) (b : Fin 8) (row : Fin 6144) (n : Fin 512) (he : ∀ l, l < 768 → entOf (lstOf V0 b) (tileOf row.val) l < 3080) :
    (prod V0 D (ix3 b row n) : EReal)
      = ∑ K ∈ Finset.range 18816, (∑ l ∈ Finset.range 768, named (entOf (lstOf V0 b) (tileOf row.val) l) K) * colG V0 D b row n K := by
  unfold prod
  refine (dot_at _ _ b row n).trans ?_
  rw [Finset.sum_range]
  refine Finset.sum_congr rfl fun K _ => ?_
  refine Eq.trans ?_ (col_at V0 (res_main_v213 V0) rfl (par V0) D b row n K he rfl)
  refine congrArg₂ (fun u v : EReal => u * v) (left_at (res_main_v213 V0) b row K) ?_
  exact (right_at (scaled D (par V0)) b K n).trans (scaled_at D (par V0) b _ _ n)

/-- One column that an entry names, as the kernel weighs it. -/
theorem col_cell (D : S8x384x49x512.Idx → EReal) (R : Cert.KernelIdeal.S1x49x384x512.Idx → BitVec 8) (P : Cert.KernelIdeal.S1x8x384.Idx → EReal) (b : Fin 8) (row : Fin 6144) (n : Fin 512)
    (hP : ∀ q r, par V0 (ix3 b q r) = P (ix3 (0 : Fin 1) q r)) (hD : ∀ r k, D (ix4 b r k n) = (FloatOps.ofBits (F := Ideal) .fp8e5m2 (R (ix4 (0 : Fin 1) k r n)) : EReal))
    (r p pw : ℕ) (hr : r < 384) (hp : p < 7) (hw : pw < 7) :
    colG V0 D b row n (r * 49 + p * 7 + pw)
      = cellW (row.val / 96) (row.val % 96) (fun q => P (ix3 (0 : Fin 1) q (fin 384 r))) p pw * (FloatOps.ofBits (F := Ideal) .fp8e5m2 (R (ix4 (0 : Fin 1) (fin 49 (7 * p + pw)) (fin 384 r) n)) : EReal) := by
  unfold colG cellW
  have k1 : (r * 49 + p * 7 + pw) / 49 = r := by omega
  have k2 : (r * 49 + p * 7 + pw) / 7 % 7 = p := by omega
  have k3 : (r * 49 + p * 7 + pw) % 7 = pw := by omega
  have k4 : (r * 49 + p * 7 + pw) % 49 = 7 * p + pw := by omega
  rw [k1, k2, k3, k4, wyA_at, wxA_at, hD, hP, hP, hP, hP, hP, fin_val hp, fin_val hw]
  generalize (FloatOps.ofBits (F := Ideal) .fp8e5m2 (R (ix4 (0 : Fin 1) (fin 49 (7 * p + pw)) (fin 384 r) n)) : EReal) = z
  rw [mul_comm z, ← mul_assoc]
  exact congrArg (fun u : EReal => u * z) (mul_right_comm _ _ _)

/-- The reference's product is the sum the kernel leaves. -/
theorem product_eq (D : FVec Ideal S8x384x49x512 .f32) (R : Cert.KernelIdeal.S1x49x384x512.Idx → BitVec 8) (P : Cert.KernelIdeal.S1x8x384.Idx → EReal) (b : Fin 8) (row : Fin 6144) (n : Fin 512)
    (hP : ∀ q r, par V0 (ix3 b q r) = P (ix3 (0 : Fin 1) q r)) (hD : ∀ r k, (D (ix4 b r k n) : EReal) = (FloatOps.ofBits (F := Ideal) .fp8e5m2 (R (ix4 (0 : Fin 1) k r n)) : EReal))
    (he : ∀ l, l < 768 → entOf (lstOf V0 b) (tileOf row.val) l < 3080) :
    (prod V0 D (ix3 b row n) : EReal)
      = colSum R P (lstOf V0 b) (tileOf row.val) 768 row n := by
  rw [product_at V0 D b row n he, sum_swap _ _ (fun l hl => he l (Finset.mem_range.1 hl))]
  unfold colSum entTerm
  refine Finset.sum_congr rfl fun l hl => Finset.sum_congr rfl fun u _ => ?_
  by_cases h : entOf (lstOf V0 b) (tileOf row.val) l / 8 < 384 ∧ entOf (lstOf V0 b) (tileOf row.val) l % 8 + u.val / 8 < 7 ∧ u.val % 8 < 7
  · rw [if_pos h, if_pos h]
    exact col_cell V0 D R P b row n hP hD _ _ _ h.1 h.2.1 h.2.2
  · rw [if_neg h, if_neg h]

end Cert.Proof.PR

end
-- ==== Proof.PV.RefDecode.lean ====
/-
  The reference's roi block: the fp8 codes decoded, bin by bin.
-/
module

public import proofs.«01_k».proof.Proof.PV.Sum
public import proofs.«01_k».proof.Proof.Gen.KernelReferenceIdeal.Run
public import Idealize.ShloMosaic.Lib.StableHlo.RunRead
public import Idealize.ShloMosaic.Lib.Pipeline.ValueKit.Geometry

@[expose] public section

noncomputable section

namespace Cert.Proof.PR

open Cert.KernelReferenceIdeal Cert.KernelReferenceIdeal.Gen Cert.KernelReferenceIdeal.Value
open Idealize.ShloMosaic hiding ix0 ix1 ix2 ix3 ix4 ix5
open Idealize.ShloMosaic.TcCoe Idealize.SL.Sem
open Idealize.ShloMosaic.ValueIdx (ix0 ix1 ix2 ix3 ix4 ix5)

variable (m : (ℓ : Loc nD τ sig) → Buf (Elt Ideal) ℓ)

theorem V_codes (c : Dev nD) : Gen.V m c main_v0 = shapeCast S150528x512 (m ((c : Thread nD τ).loc main_arg0)) shapeCasts_S8x384x7x7x512_S150528x512 := by
  show StableHlo.after hostOps0 (fun b => m (c, b)) (Proc.devRef .tc main_v0) = _
  after_results
  rfl

/-- What the decoder leaves at an index. -/
theorem out_at (x0 : Vec Ideal S150528x512 .i8) (i : S150528x512.Idx) : (out0_1 x0 : S150528x512.Idx → EReal) i = (FloatOps.ofBits (F := Ideal) .fp8e5m2 (x0 i) : EReal) := by
  refine View.canon_apply_of_pieces (Val := Elt Ideal) (e := .f32) (fun i : S150528x512.Idx => (FloatOps.ofBits (F := Ideal) .fp8e5m2 (x0 i) : EReal)) _ ?_ i (cover0_1 _ i)
  intro p hp x
  obtain rfl : p = ⟨r0_0, k0_pay1 (View.ld x0 r0_0)⟩ := List.mem_singleton.1 hp
  show (FloatOps.ofBits (F := Ideal) .fp8e5m2 (shapeCast S150528x512 (View.ld x0 r0_0) shapeCasts_S150528x512_S150528x512 x) : EReal) = _
  rw [shapeCast_apply (s := S150528x512) (t := S150528x512) _ _ x x rfl]
  rfl

theorem points_pos : 0 < cfg0.N := by decide +kernel

set_option maxRecDepth 100000 in
theorem arr_v1 (c : Dev nD) (i : S150528x512.Idx) : (reg_main_v1 m c : S150528x512.Idx → EReal) i = (FloatOps.ofBits (F := Ideal) .fp8e5m2 ((Gen.V m c main_v0 : S150528x512.Idx → BitVec 8) i) : EReal) := by
  have h := (Gen.dats m 0 c).arrAt_emb_eq_after_last 1 (⟨0, points_pos⟩ : Fin cfg0.N) (by decide +kernel) i
  rw [after0_1, cast_eq] at h
  have e : (cfg0.win 1).arr.view.emb i = i := rfl
  refine (congrArg ((Gen.dats m 0 c).arrAt 1 cfg0.N) e).symm.trans (h.trans ?_)
  refine (out_at (iblk m c 0 ⟨0, points_pos⟩) (fun a => ⟨(i a).val, (i a).isLt⟩)).trans ?_
  refine congrArg (fun v : BitVec 8 => (FloatOps.ofBits (F := Ideal) .fp8e5m2 v : EReal)) (congrArg (Gen.V m c main_v0) ?_)
  funext a
  refine Fin.ext ?_
  match a with
  | ⟨0, _⟩ => show 0 * 150528 + 1 * (i 0).val = (i 0).val; omega
  | ⟨1, _⟩ => show 0 * 512 + 1 * (i 1).val = (i 1).val; omega

/-- The roi block, at an image, a roi, a bin and a channel. -/
theorem decode_at (c : Dev nD) (b : Fin 8) (r : Fin 384) (k : Fin 49) (n : Fin 512) :
    (shapeCast S8x384x49x512 (exitV m c (Proc.devRef .tc main_v1)) shapeCasts_S150528x512_S8x384x49x512 : S8x384x49x512.Idx → EReal) (ix4 b r k n)
      = (FloatOps.ofBits (F := Ideal) .fp8e5m2 ((m ((c : Thread nD τ).loc main_arg0) : S8x384x7x7x512.Idx → BitVec 8)
          (ix5 b r (⟨k.val / 7, by omega⟩ : Fin 7) (⟨k.val % 7, by omega⟩ : Fin 7) n)) : EReal) := by
  rw [exit_main_v1]
  have hb := b.isLt
  have hr := r.isLt
  have hk := k.isLt
  rw [shapeCast_apply _ _ _ (ix2 (⟨(b.val * 384 + r.val) * 49 + k.val, by omega⟩ : Fin 150528) n : S150528x512.Idx)
    (by rw [Shape.rowMajor_val_two, Shape.rowMajor_val_four]
        rfl)]
  refine (arr_v1 m c _).trans ?_
  refine congrArg (fun v : BitVec 8 => (FloatOps.ofBits (F := Ideal) .fp8e5m2 v : EReal)) ?_
  rw [V_codes]
  exact shapeCast_apply (s := S8x384x7x7x512) _ _ _ (ix5 b r (⟨k.val / 7, by omega⟩ : Fin 7) (⟨k.val % 7, by omega⟩ : Fin 7) n)
    (by rw [Shape.rowMajor_val_two, Shape.rowMajor_val_five]
        show (((b.val * 384 + r.val) * 7 + k.val / 7) * 7 + k.val % 7) * 512 + n.val = ((b.val * 384 + r.val) * 49 + k.val) * 512 + n.val
        omega)

end Cert.Proof.PR

end
-- ==== Proof.PV.Final.lean ====
/-
  The array the kernel leaves is the reference's product.
-/
module

public import proofs.«01_k».proof.Proof.PV.Run
public import proofs.«01_k».proof.Proof.PV.RefSum
public import proofs.«01_k».proof.Proof.PV.RefDecode
public import Idealize.ShloMosaic.Lib.StableHlo.RunRead

@[expose] public section

noncomputable section

namespace Cert.Proof.PV

open Cert.KernelIdeal Cert.KernelIdeal.Gen Cert.Proof.PI
open Idealize.ShloMosaic hiding named ix0 ix1 ix2 ix3 ix4 ix5 ix6
open Idealize.ShloMosaic.TcCoe Idealize.SL.Sem
open Idealize.ShloMosaic.ValueIdx (ix0 ix1 ix2 ix3 ix4 ix5)

variable (m : (ℓ : Loc nD τ sig) → Buf (Elt Ideal) ℓ)

/-- The rows the kernel works on: the codes with the bins before the rois. -/
theorem V_rows (c : Dev nD) : PI.V m c main_v1
    = shapeCast S8x49x384x512 (transpose S8x7x7x384x512 [0, 2, 3, 1, 4] (m ((c.tc : Thread nD τ).loc main_arg0)) transposes_S8x384x7x7x512_S8x7x7x384x512_0_2_3_1_4) shapeCasts_S8x7x7x384x512_S8x49x384x512 := by
  show StableHlo.after hostOps0 (fun b => m (c, b)) (Proc.devRef .tc main_v1) = _
  after_results
  rfl

/-- A code of an image. -/
theorem imgR_at (c : Dev nD) (b : Fin 8) (k : Fin 49) (r : Fin 384) (n : Fin 512) :
    imgR m c b (ix4 (0 : Fin 1) k r n)
      = (m ((c.tc : Thread nD τ).loc main_arg0) : S8x384x7x7x512.Idx → BitVec 8) (ix5 b r (⟨k.val / 7, by omega⟩ : Fin 7) (⟨k.val % 7, by omega⟩ : Fin 7) n) := by
  have hk := k.isLt
  have e : imgR m c b (ix4 (0 : Fin 1) k r n) = (PI.V m c main_v1 : S8x49x384x512.Idx → BitVec 8) (ix4 b k r n) :=
    congrArg (PI.V m c main_v1 : S8x49x384x512.Idx → BitVec 8) (funext fun a => match a with | ⟨0, _⟩ => rfl | ⟨1, _⟩ => rfl | ⟨2, _⟩ => rfl | ⟨3, _⟩ => rfl)
  rw [e, V_rows]
  refine (shapeCast_apply (s := S8x7x7x384x512) (t := S8x49x384x512) _ _ (ix4 b k r n) (ix5 b (⟨k.val / 7, by omega⟩ : Fin 7) (⟨k.val % 7, by omega⟩ : Fin 7) r n) ?_).trans ?_
  · rw [Shape.rowMajor_val_four, Shape.rowMajor_val_five]
    show (((b.val * 7 + k.val / 7) * 7 + k.val % 7) * 384 + r.val) * 512 + n.val = ((b.val * 49 + k.val) * 384 + r.val) * 512 + n.val
    omega
  exact transpose_apply _ _ _ _ _ (fun a => match a with | ⟨0, _⟩ => rfl | ⟨1, _⟩ => rfl | ⟨2, _⟩ => rfl | ⟨3, _⟩ => rfl | ⟨4, _⟩ => rfl)

variable (m' : (ℓ : Loc Cert.KernelReferenceIdeal.nD Cert.KernelReferenceIdeal.τ Cert.KernelReferenceIdeal.sig) → Buf (Elt Ideal) ℓ)

open Cert.KernelReferenceIdeal.Value (exitV)

/-- The reference's roi block. -/
def block (c : Dev nD) : FVec Ideal Cert.KernelReferenceIdeal.S8x384x49x512 .f32 :=
  shapeCast Cert.KernelReferenceIdeal.S8x384x49x512 (exitV m' c (Proc.devRef .tc Cert.KernelReferenceIdeal.main_v1)) Cert.KernelReferenceIdeal.Gen.shapeCasts_S150528x512_S8x384x49x512

/-- The reference's product, from the same arguments, is what the kernel leaves. -/
theorem product_same (c : Dev nD)
    (h0 : m' ((c.tc : Thread Cert.KernelReferenceIdeal.nD Cert.KernelReferenceIdeal.τ).loc Cert.KernelReferenceIdeal.main_arg0) = m ((c.tc : Thread nD τ).loc main_arg0))
    (h1 : m' ((c.tc : Thread Cert.KernelReferenceIdeal.nD Cert.KernelReferenceIdeal.τ).loc Cert.KernelReferenceIdeal.main_arg1) = m ((c.tc : Thread nD τ).loc main_arg1))
    (h2 : m' ((c.tc : Thread Cert.KernelReferenceIdeal.nD Cert.KernelReferenceIdeal.τ).loc Cert.KernelReferenceIdeal.main_arg2) = m ((c.tc : Thread nD τ).loc main_arg2))
    (hr : Ready m) (b : Fin 8) (row : Fin 6144) (n : Fin 512) :
    (PR.prod (exitV m' c) (block m' c) (ix3 b row n) : EReal) = colSum (imgR m c b) (imgP m c b) (imgL m c b) (tileOf row.val) 768 row n := by
  have hL : PR.lstOf (exitV m' c) b = imgL m c b := by
    have e : PR.lst (exitV m' c) = m ((c.tc : Thread nD τ).loc main_arg2) := (Cert.KernelReferenceIdeal.Value.exit_main_arg2 m' c).trans h2
    unfold PR.lstOf imgL
    rw [e]
    funext x
    exact congrArg (m ((c.tc : Thread nD τ).loc main_arg2)) (funext fun a => match a with | ⟨0, _⟩ => rfl | ⟨1, _⟩ => rfl | ⟨2, _⟩ => rfl)
  have hP : ∀ (q : Fin 8) (r : Fin 384), PR.par (exitV m' c) (ix3 b q r) = imgP m c b (ix3 (0 : Fin 1) q r) := by
    intro q r
    have e : PR.par (exitV m' c) = m ((c.tc : Thread nD τ).loc main_arg1) := (Cert.KernelReferenceIdeal.Value.exit_main_arg1 m' c).trans h1
    rw [e]
    exact congrArg (m ((c.tc : Thread nD τ).loc main_arg1)) (funext fun a => match a with | ⟨0, _⟩ => rfl | ⟨1, _⟩ => rfl | ⟨2, _⟩ => rfl)
  have hD : ∀ (r : Fin 384) (k : Fin 49), (block m' c (ix4 b r k n) : EReal) = (FloatOps.ofBits (F := Ideal) .fp8e5m2 (imgR m c b (ix4 (0 : Fin 1) k r n)) : EReal) := by
    intro r k
    rw [imgR_at, ← h0]
    exact PR.decode_at m' c b r k n
  have he : ∀ l, l < 768 → entOf (PR.lstOf (exitV m' c) b) (tileOf row.val) l < 3080 := fun l _ => by
    rw [hL]
    exact entOf_lt (hr c b).1 _ _
  have h := PR.product_eq (exitV m' c) (block m' c) (imgR m c b) (imgP m c b) b row n hP hD he
  rw [hL] at h
  exact h

/-- The arrays are the same. -/
theorem same (c : Dev nD)
    (h0 : m' ((c.tc : Thread Cert.KernelReferenceIdeal.nD Cert.KernelReferenceIdeal.τ).loc Cert.KernelReferenceIdeal.main_arg0) = m ((c.tc : Thread nD τ).loc main_arg0))
    (h1 : m' ((c.tc : Thread Cert.KernelReferenceIdeal.nD Cert.KernelReferenceIdeal.τ).loc Cert.KernelReferenceIdeal.main_arg1) = m ((c.tc : Thread nD τ).loc main_arg1))
    (h2 : m' ((c.tc : Thread Cert.KernelReferenceIdeal.nD Cert.KernelReferenceIdeal.τ).loc Cert.KernelReferenceIdeal.main_arg2) = m ((c.tc : Thread nD τ).loc main_arg2))
    (hr : Ready m) : PR.prod (exitV m' c) (block m' c) = result m c := by
  funext x
  have e : x = ix3 (x 0) (x 1) (x 2) := funext fun a => match a with | ⟨0, _⟩ => rfl | ⟨1, _⟩ => rfl | ⟨2, _⟩ => rfl
  exact (congrArg (PR.prod (exitV m' c) (block m' c)) e).trans (product_same m m' c h0 h1 h2 hr (x 0) (x 1) (x 2))

/-- The reference's run, its result as the product. -/
theorem run_reference (g' : Dev Cert.KernelReferenceIdeal.nD → PrngReg) :
    θ_run (Cert.KernelReferenceIdeal.defs (F := Ideal)) (onTc (τ := Cert.KernelReferenceIdeal.τ) (Cert.KernelReferenceIdeal.main (F := Ideal))) ⟨m', fun _ => 0, g'⟩ (fun r => ∀ c : Dev nD,
      r.2.mem ((c.tc : Thread Cert.KernelReferenceIdeal.nD Cert.KernelReferenceIdeal.τ).loc Cert.KernelReferenceIdeal.main_v220) = PR.prod (exitV m' c) (block m' c)
      ∧ r.2.mem ((c.tc : Thread Cert.KernelReferenceIdeal.nD Cert.KernelReferenceIdeal.τ).loc Cert.KernelReferenceIdeal.main_arg0) = m' ((c.tc : Thread Cert.KernelReferenceIdeal.nD Cert.KernelReferenceIdeal.τ).loc Cert.KernelReferenceIdeal.main_arg0)
      ∧ r.2.mem ((c.tc : Thread Cert.KernelReferenceIdeal.nD Cert.KernelReferenceIdeal.τ).loc Cert.KernelReferenceIdeal.main_arg1) = m' ((c.tc : Thread Cert.KernelReferenceIdeal.nD Cert.KernelReferenceIdeal.τ).loc Cert.KernelReferenceIdeal.main_arg1)
      ∧ r.2.mem ((c.tc : Thread Cert.KernelReferenceIdeal.nD Cert.KernelReferenceIdeal.τ).loc Cert.KernelReferenceIdeal.main_arg2) = m' ((c.tc : Thread Cert.KernelReferenceIdeal.nD Cert.KernelReferenceIdeal.τ).loc Cert.KernelReferenceIdeal.main_arg2)
      ∧ r.2.mem ((c.tc : Thread Cert.KernelReferenceIdeal.nD Cert.KernelReferenceIdeal.τ).loc Cert.KernelReferenceIdeal.main_arg3) = m' ((c.tc : Thread Cert.KernelReferenceIdeal.nD Cert.KernelReferenceIdeal.τ).loc Cert.KernelReferenceIdeal.main_arg3)) := by
  refine (θ_run Cert.KernelReferenceIdeal.defs _ _).mono (fun r h c => ⟨(h c).1.trans ?_, (h c).2⟩) (Cert.KernelReferenceIdeal.Value.run (F := Ideal) m' g')
  unfold PR.prod PR.scaled PR.par block
  with_reducible rfl

end Cert.Proof.PV

end
-- ==== Proof.P.Checks.lean ====
/-
  The side conditions the sweep assumes of the words it reads, from the bounds on those words.
-/
module

public import proofs.«01_k».proof.Kernel
public import proofs.«01_k».proof.Proof.Gen.Kernel

@[expose] public section

noncomputable section

namespace Cert.Proof.P

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The 16-bit entry chunk `a` reads out of a list word: the high half from chunk 48 on. -/
def entry (a w : BitVec 32) : BitVec 32 :=
  Scalar.andi (Scalar.shrui w (Scalar.select (Scalar.cmpi .sge a 48#32) 16#32 0#32)) 65535#32

/-- Both halves of a list word name a row of the window buffer. -/
def WordOk (w : BitVec 32) : Prop := w.toNat % 65536 < 3080 ∧ w.toNat / 65536 < 3080

theorem entry_lt {a w : BitVec 32} (h : WordOk w) : (entry a w).toNat < 3080 := by
  have h48 : (48#32 : BitVec 32).toNat = 48 := rfl
  have key : ∀ s : BitVec 32, s = 16#32 ∨ s = 0#32 → (Scalar.andi (Scalar.shrui w s) 65535#32).toNat < 3080 := by
    rintro s (rfl | rfl)
    · show ((w >>> (16 : ℕ)) &&& 65535#32).toNat < 3080
      rw [BitVec.toNat_and, BitVec.toNat_ushiftRight, Nat.shiftRight_eq_div_pow]
      show (w.toNat / 2 ^ 16) &&& (2 ^ 16 - 1) < 3080
      rw [Nat.and_two_pow_sub_one_eq_mod]
      exact lt_of_le_of_lt (Nat.mod_le _ _) h.2
    · show ((w >>> (0 : ℕ)) &&& 65535#32).toNat < 3080
      rw [BitVec.toNat_and, BitVec.toNat_ushiftRight, Nat.shiftRight_eq_div_pow]
      show (w.toNat / 2 ^ 0) &&& (2 ^ 16 - 1) < 3080
      rw [Nat.and_two_pow_sub_one_eq_mod, pow_zero, Nat.div_one]
      exact h.1
  unfold entry
  apply key
  unfold Scalar.select
  split <;> simp

/-- The four slices of the packed codes and the row of the parameters an entry names. -/
theorem chk_entry {e : BitVec 32} (h : e.toNat < 3080) :
    (Scalar.addi (Scalar.muli (Scalar.shrui e 3#32) 15#32) (Scalar.muli 2#32 (Scalar.andi e 7#32))).toNat + 8 ≤ 5784
    ∧ 8 ∣ (Scalar.muli (Scalar.shrui e 3#32) 8#32).toNat
    ∧ (Scalar.muli (Scalar.shrui e 3#32) 8#32).toNat + 8 ≤ 3080 := by
  have key : ∀ n : Fin 3080, (fun e : BitVec 32 =>
      (Scalar.addi (Scalar.muli (Scalar.shrui e 3#32) 15#32) (Scalar.muli 2#32 (Scalar.andi e 7#32))).toNat + 8 ≤ 5784
      ∧ 8 ∣ (Scalar.muli (Scalar.shrui e 3#32) 8#32).toNat
      ∧ (Scalar.muli (Scalar.shrui e 3#32) 8#32).toNat + 8 ≤ 3080) (BitVec.ofNat 32 n.val) := by decide +kernel
  have := key ⟨e.toNat, h⟩
  simpa only [BitVec.ofNat_toNat, BitVec.setWidth_eq] using this

theorem chk2_of (a w : BitVec 32) (h : WordOk w) : k0_chk2 a w := by
  have he := chk_entry (entry_lt (a := a) h)
  refine ⟨?_, ?_, ?_, ?_, he.2.1, ?_⟩
  case refine_5 =>
    intro x
    match x with
    | ⟨0, _⟩ => exact he.2.2
    | ⟨1, _⟩ => show 0 + 128 ≤ 128; omega
  all_goals
    intro x
    match x with
    | ⟨0, _⟩ => first | (show 0 + 1 ≤ 4; omega) | (show 1 + 1 ≤ 4; omega) | (show 2 + 1 ≤ 4; omega) | (show 3 + 1 ≤ 4; omega)
    | ⟨1, _⟩ => exact he.1
    | ⟨2, _⟩ => show 0 + 128 ≤ 128; omega

theorem chk3_of (a w : BitVec 32) (h : WordOk w) : k0_chk3 a w := chk2_of a w h
theorem chk4_of (a w : BitVec 32) (h : WordOk w) : k0_chk4 a w := chk2_of a w h
theorem chk5_of (a w : BitVec 32) (h : WordOk w) : k0_chk5 a w := chk2_of a w h
theorem chk6_of (a w : BitVec 32) (h : WordOk w) : k0_chk6 a w := chk2_of a w h
theorem chk7_of (a w : BitVec 32) (h : WordOk w) : k0_chk7 a w := chk2_of a w h
theorem chk8_of (a w : BitVec 32) (h : WordOk w) : k0_chk8 a w := chk2_of a w h
theorem chk9_of (a w : BitVec 32) (h : WordOk w) : k0_chk9 a w := chk2_of a w h

theorem chk10_of (t : BitVec 32) (h : t.toNat ≤ 192) : k0_chk10 t := by
  have key : ∀ n : Fin 193, k0_chk10 (BitVec.ofNat 32 n.val) := by decide +kernel
  have := key ⟨t.toNat, by omega⟩
  simpa only [BitVec.ofNat_toNat, BitVec.setWidth_eq] using this

theorem chk1_of (t a : BitVec 32) (h : t.toNat ≤ 192) (ha : a.toNat ≤ 95) : k0_chk1 t a := by
  have key : ∀ n : Fin 96, k0_chk1 0#32 (BitVec.ofNat 32 n.val) := by decide +kernel
  have h1 := key ⟨a.toNat, by omega⟩
  simp only [BitVec.ofNat_toNat, BitVec.setWidth_eq] at h1
  have ht : t.toNat + 1 ≤ 256 := by omega
  obtain ⟨p1, p2, p3, p4, p5, p6, p7, p8⟩ := h1
  have mk : ∀ f g : Fin 3 → ℕ, (∀ x, f x + S1x1x1.size x ≤ S1x384x256.size x) → g 0 = 0 → g 1 = f 1 → g 2 = t.toNat →
      ∀ x, g x + S1x1x1.size x ≤ S1x384x256.size x := by
    intro f g hf h0 h1 h2 x
    match x with
    | ⟨0, _⟩ => show g 0 + 1 ≤ 1; omega
    | ⟨1, _⟩ => have := hf 1; show g 1 + 1 ≤ 384; rw [h1]; exact this
    | ⟨2, _⟩ => show g 2 + 1 ≤ 256; omega
  exact ⟨mk _ _ p1 rfl rfl rfl, mk _ _ p2 rfl rfl rfl, mk _ _ p3 rfl rfl rfl, mk _ _ p4 rfl rfl rfl, mk _ _ p5 rfl rfl rfl,
    mk _ _ p6 rfl rfl rfl, mk _ _ p7 rfl rfl rfl, mk _ _ p8 rfl rfl rfl⟩

/-- How many chunks of column `n` entries are run: one for an empty column, else eight entries a chunk. -/
def chunksOf (n : BitVec 32) : BitVec 32 := Scalar.maxsi 1#32 (Scalar.shrsi (Scalar.addi n 7#32) 3#32)
/-- The chunk after `(t, a)` of a column of `n` entries: its tile. -/
def nextT (n t a : BitVec 32) : BitVec 32 :=
  Scalar.minsi (Scalar.select (Scalar.cmpi .sge (Scalar.addi a 1#32) (chunksOf n)) (Scalar.addi t 1#32) t) 192#32
/-- The chunk after `(t, a)` of a column of `n` entries: its number within the tile. -/
def nextC (n a : BitVec 32) : BitVec 32 :=
  Scalar.select (Scalar.cmpi .sge (Scalar.addi a 1#32) (chunksOf n)) 0#32 (Scalar.addi a 1#32)

/-- How many chunks the sweep can still take from `(t, a)`, and none from past the last tile. -/
def mu (t a : BitVec 32) : ℕ := if 192 ≤ t.toNat then 0 else (192 - t.toNat) * 97 + (96 - a.toNat)

theorem chunksOf_range {n : BitVec 32} (h : n.toInt ≤ 768) : 1 ≤ (chunksOf n).toNat ∧ (chunksOf n).toNat ≤ 96 := by
  have hr := Affine.word_range n
  have h1 : Affine.IsInt (Scalar.addi n 7#32) (n.toInt + 7) := Affine.addi (Affine.word n) (Affine.ofNat 7 ⟨rfl, by omega⟩) ⟨rfl, by omega, by omega⟩
  have h2 : Affine.IsInt (Scalar.shrsi (Scalar.addi n 7#32) 3#32) ((n.toInt + 7) / 8) :=
    Affine.shrsi h1 (Affine.ofNat (e := 3) 3 ⟨rfl, by omega⟩) 3 8 rfl ⟨rfl, rfl, by omega⟩
  have h3 : Affine.IsInt (chunksOf n) (max 1 ((n.toInt + 7) / 8)) := Affine.maxsi (Affine.ofNat 1 ⟨rfl, by omega⟩) h2 rfl
  unfold Affine.IsInt at h3
  have h5 : (chunksOf n).toInt = (chunksOf n).toNat := by
    have := BitVec.toInt_eq_toNat_cond (chunksOf n)
    have hl := (chunksOf n).isLt
    split at this <;> omega
  omega

theorem next_toNat {n t a : BitVec 32} (h : n.toInt ≤ 768) (ht : t.toNat ≤ 192) (ha : a.toNat ≤ 95) :
    (nextT n t a).toNat = (if (chunksOf n).toNat ≤ a.toNat + 1 then min (t.toNat + 1) 192 else t.toNat)
    ∧ (nextC n a).toNat = (if (chunksOf n).toNat ≤ a.toNat + 1 then 0 else a.toNat + 1) := by
  have hk := chunksOf_range h
  have h1 : (Scalar.addi a 1#32).toNat = a.toNat + 1 := by
    show (a + 1#32).toNat = _
    rw [BitVec.toNat_add]; show (a.toNat + 1) % 2 ^ 32 = _; omega
  have h2 : (Scalar.addi t 1#32).toNat = t.toNat + 1 := by
    show (t + 1#32).toNat = _
    rw [BitVec.toNat_add]; show (t.toNat + 1) % 2 ^ 32 = _; omega
  have hm : ∀ x : BitVec 32, x.toNat ≤ 193 → (Scalar.minsi x 192#32).toNat = min x.toNat 192 := by
    have key : ∀ m : Fin 194, (Scalar.minsi (BitVec.ofNat 32 m.val) 192#32).toNat = min (BitVec.ofNat 32 m.val).toNat 192 := by
      decide +kernel
    intro x hx
    have := key ⟨x.toNat, by omega⟩
    simpa only [BitVec.ofNat_toNat, BitVec.setWidth_eq] using this
  have hc : Scalar.cmpi .sge (Scalar.addi a 1#32) (chunksOf n) = 1#1 ↔ (chunksOf n).toNat ≤ a.toNat + 1 := by
    have key : ∀ x y : BitVec 32, x.toNat ≤ 96 → y.toNat ≤ 96 → (Scalar.cmpi .sge x y = 1#1 ↔ y.toNat ≤ x.toNat) := by
      have key : ∀ p q : Fin 97, (Scalar.cmpi .sge (BitVec.ofNat 32 p.val) (BitVec.ofNat 32 q.val) = 1#1
          ↔ (BitVec.ofNat 32 q.val).toNat ≤ (BitVec.ofNat 32 p.val).toNat) := by decide +kernel
      intro x y hx hy
      have := key ⟨x.toNat, by omega⟩ ⟨y.toNat, by omega⟩
      simpa only [BitVec.ofNat_toNat, BitVec.setWidth_eq] using this
    rw [key _ _ (by omega) hk.2, h1]
  unfold nextT nextC Scalar.select
  change ((Scalar.minsi (if Scalar.cmpi CmpIPredicate.sge (Scalar.addi a 1#32) (chunksOf n) = 1#1 then Scalar.addi t 1#32 else t)
      192#32).toNat = _) ∧ (if Scalar.cmpi CmpIPredicate.sge (Scalar.addi a 1#32) (chunksOf n) = 1#1 then 0#32 else Scalar.addi a 1#32).toNat = _
  by_cases hq : (chunksOf n).toNat ≤ a.toNat + 1
  · rw [if_pos (hc.2 hq), if_pos (hc.2 hq), if_pos hq, if_pos hq, hm _ (by omega), h2]; exact ⟨rfl, rfl⟩
  · rw [if_neg (fun h => hq (hc.1 h)), if_neg (fun h => hq (hc.1 h)), if_neg hq, if_neg hq, hm _ (by omega), h1]
    exact ⟨by omega, rfl⟩

/-- One chunk keeps the bounds and lowers the measure, or stays past the last tile. -/
theorem next_ok {n t a : BitVec 32} (h : n.toInt ≤ 768) (ht : t.toNat ≤ 192) (ha : a.toNat ≤ 95) :
    (nextT n t a).toNat ≤ 192 ∧ (nextC n a).toNat ≤ 95 ∧ mu (nextT n t a) (nextC n a) ≤ mu t a - 1 := by
  have hk := chunksOf_range h
  obtain ⟨h1, h2⟩ := next_toNat h ht ha
  unfold mu
  rw [h1, h2]
  split_ifs <;> first | omega | (refine ⟨by omega, by omega, ?_⟩; split_ifs <;> omega)

end Cert.Proof.P

end
-- ==== Proof.P.Chunk.lean ====
/-
  One chunk of the sweep: eight list entries weighed into one tile of the result.
-/
module

public import proofs.«01_k».proof.Kernel
public import proofs.«01_k».proof.Proof.Gen.Kernel
public import proofs.«01_k».proof.Proof.Gen.Kernel.Skeleton
public import proofs.«01_k».proof.Proof.Gen.Kernel.Loops
public import proofs.«01_k».proof.Proof.P.Checks
public import Idealize.ShloMosaic.Lib.Pipeline.Frame
public import Idealize.ShloMosaic.Lib.Tactic

@[expose] public section

noncomputable section

namespace Cert.Proof.P

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
abbrev 𝒱₀ : Variants := Variants.nat

/-- A memref's buffer held whole at raw contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The sweep's chunk, as `cc0_while1` runs it eight times a turn. -/
def chunkBody (i : grid0.Coords) (v7 : FVec F S8x128 .f32) (arg3 : Memref sig .tc .smem S1x384x256 .i32) (harg3 : arg3.IsWhole) (arg6 : Memref sig .tc .vmem S4x5784x128 .i32) (harg6 : arg6.IsWhole) (arg7 : Memref sig .tc .vmem S3080x128 .f32) (harg7 : arg7.IsWhole) (v22 : IVec S8x128 32) (v15 : FVec F S8x128 .f32) (v17 : IVec S8x128 1) (v10 : FVec F S8x128 .f32) (v20 : FVec F S8x128 .f32) (arg5 : Memref sig .tc .vmem S1x6144x512 .f32) (harg5 : arg5.IsWhole) (arg4 : Memref sig .tc .smem S1x1x256 .i32) (harg4 : arg4.IsWhole) (arg8 : BitVec 32) (arg9 : BitVec 32) :
    Fin k0_t5_loop.trips → BitVec 32 × BitVec 32 → Prog (TpuEff nD τ sig (Elt F) (Λ₀ F) .tc) (BitVec 32 × BitVec 32) :=
  fun k0_t5 (arg11, arg12) => do
      let ⟨k0_hw10, k0_hw1, v29, v31, v33, v37, v38, v41, v44, v49, k0_hw2, v52, v53, v56, v59⟩ : Σ' (k0_hw10 : k0_chk10 arg11) (k0_hw1 : k0_chk1 arg11 arg12) (v29 : BitVec 1) (v31 : BitVec 32) (v33 : BitVec 32) (v37 : BitVec 32) (v38 : BitVec 32) (v41 : FVec F S8x128 .f32) (v44 : FVec F S8x128 .f32) (v49 : Elt F .i32) (k0_hw2 : k0_chk2 arg12 v49) (v52 : BitVec 32) (v53 : BitVec 32) (v56 : BitVec 32), IVec S8x128 32 ← k0_part6 i v7 arg3 harg3 arg6 harg6 arg7 harg7 v22 v15 v17 v10 v20 arg5 harg5 arg4 harg4 arg8 arg9 0#32 1#32 k0_t5 arg11 arg12
      let ⟨v62, v65, v68, v72, v73, v78, k0_hw3, v81, v82, v88, v91, v94⟩ : Σ' (v62 : IVec S8x128 32) (v65 : IVec S8x128 32) (v68 : IVec S8x128 32) (v72 : Vec F S8x128 .f32) (v73 : IVec S8x128 32) (v78 : Elt F .i32) (k0_hw3 : k0_chk3 arg12 v78) (v81 : BitVec 32) (v82 : BitVec 32) (v88 : IVec S8x128 32) (v91 : IVec S8x128 32), IVec S8x128 32 ← k0_part7 i v7 arg3 harg3 arg6 harg6 arg7 harg7 v22 v15 v17 v10 v20 arg5 harg5 arg4 harg4 arg8 arg9 arg11 arg12 k0_hw1 v37 v38 v49 k0_hw2 v52 v53 v56
      let ⟨v97, v105, v108, v113, k0_hw4, v116, v117, v123, v126, v129, v132, c8_i32_68⟩ : Σ' (v97 : IVec S8x128 32) (v105 : Vec F S8x128 .f32) (v108 : IVec S8x128 32) (v113 : Elt F .i32) (k0_hw4 : k0_chk4 arg12 v113) (v116 : BitVec 32) (v117 : BitVec 32) (v123 : IVec S8x128 32) (v126 : IVec S8x128 32) (v129 : IVec S8x128 32) (v132 : IVec S8x128 32), BitVec 32 ← k0_part8 i v7 arg3 harg3 arg6 harg6 arg7 harg7 v22 v15 v17 v10 v20 arg5 harg5 arg4 harg4 arg8 arg9 arg11 arg12 k0_hw1 v37 v38 v72 v73 v78 k0_hw3 v81 v82
      let ⟨v140, v143, v148, k0_hw5, v152, v158, v161, v164, v167⟩ : Σ' (v140 : Vec F S8x128 .f32) (v143 : IVec S8x128 32) (v148 : Elt F .i32) (k0_hw5 : k0_chk5 arg12 v148) (v152 : BitVec 32) (v158 : IVec S8x128 32) (v161 : IVec S8x128 32) (v164 : IVec S8x128 32), IVec S8x128 32 ← k0_part9 i v7 arg3 harg3 arg6 harg6 arg7 harg7 v22 v15 v17 v10 v20 arg5 harg5 arg4 harg4 arg8 arg9 arg11 arg12 k0_hw1 v37 v38 v105 v108 v113 k0_hw4 v116 v117 c8_i32_68
      let ⟨v175, v201, v216⟩ : Σ' (v175 : Vec F S8x128 .f32) (v201 : FVec F S8x128 .f32), FVec F S8x128 .f32 ← k0_part10 i v7 arg3 harg3 arg6 harg6 arg7 harg7 v22 v15 v17 v10 v20 arg5 harg5 arg4 harg4 arg8 arg9 arg12 v140 v143 v148 k0_hw5 v152
      let ⟨v266, v267⟩ : Σ' (v266 : FVec F S32x128 .f32), BitVec 32 ← k0_part11 i v7 arg3 harg3 arg6 harg6 arg7 harg7 v22 v15 v17 v10 v20 arg5 harg5 arg4 harg4 arg8 arg9 v37 v41 v44 v175 v201 v216
      let ⟨v281, v284, v287, v290, v294, v295, v300, k0_hw7, v302, v303⟩ : Σ' (v281 : IVec S8x128 32) (v284 : IVec S8x128 32) (v287 : IVec S8x128 32) (v290 : IVec S8x128 32) (v294 : Vec F S8x128 .f32) (v295 : IVec S8x128 32) (v300 : Elt F .i32) (k0_hw7 : k0_chk7 arg12 v300) (v302 : BitVec 32), BitVec 32 ← k0_part12 i v7 arg3 harg3 arg6 harg6 arg7 harg7 v22 v15 v17 v10 v20 arg5 harg5 arg4 harg4 arg8 arg9 arg11 arg12 k0_hw1 v37 v38 v267
      let ⟨v310, v313, v316, v319, v327, v330, v335, k0_hw8, v338, v339, v340⟩ : Σ' (v310 : IVec S8x128 32) (v313 : IVec S8x128 32) (v316 : IVec S8x128 32) (v319 : IVec S8x128 32) (v327 : Vec F S8x128 .f32) (v330 : IVec S8x128 32) (v335 : Elt F .i32) (k0_hw8 : k0_chk8 arg12 v335) (v338 : BitVec 32) (v339 : BitVec 32), BitVec 32 ← k0_part13 i v7 arg3 harg3 arg6 harg6 arg7 harg7 v22 v15 v17 v10 v20 arg5 harg5 arg4 harg4 arg8 arg9 arg11 arg12 k0_hw1 v37 v38 v294 v295 v300 k0_hw7 v302 v303
      let ⟨v345, v348, v351, v354, v362, v365, v370, k0_hw9, v373, v374, v377⟩ : Σ' (v345 : IVec S8x128 32) (v348 : IVec S8x128 32) (v351 : IVec S8x128 32) (v354 : IVec S8x128 32) (v362 : Vec F S8x128 .f32) (v365 : IVec S8x128 32) (v370 : Elt F .i32) (k0_hw9 : k0_chk9 arg12 v370) (v373 : BitVec 32) (v374 : BitVec 32), BitVec 32 ← k0_part14 i v7 arg3 harg3 arg6 harg6 arg7 harg7 v22 v15 v17 v10 v20 arg5 harg5 arg4 harg4 arg8 arg9 arg11 arg12 k0_hw1 v37 v38 v327 v330 v335 k0_hw8 v338 v339 v340
      let ⟨v380, v383, v386, v389, v397, v404, v406, v408, v416, v418, v420⟩ : Σ' (v380 : IVec S8x128 32) (v383 : IVec S8x128 32) (v386 : IVec S8x128 32) (v389 : IVec S8x128 32) (v397 : Vec F S8x128 .f32) (v404 : FVec F S8x128 .f32) (v406 : FVec F S8x128 .f32) (v408 : IVec S8x128 1) (v416 : IVec S8x128 1) (v418 : FVec F S8x128 .f32), FVec F S8x128 .f32 ← k0_part15 i v7 arg3 harg3 arg6 harg6 arg7 harg7 v22 v15 v17 v10 v20 arg5 harg5 arg4 harg4 arg8 arg9 arg12 v362 v365 v370 k0_hw9 v373 v374 v377
      let ⟨v455, v464, v467, cst_207⟩ : Σ' (v455 : FVec F S8x128 .f32) (v464 : FVec F S8x128 .f32) (v467 : FVec F S8x128 .f32), F .f32 ← k0_part16 i v7 arg3 harg3 arg6 harg6 arg7 harg7 v22 v15 v17 v10 v20 arg5 harg5 arg4 harg4 arg8 arg9 v41 v44 v404 v406 v408 v416 v418 v420
      let ⟨v497, v502, v507, v512, v517, v522, v523, v524, v525, v526⟩ : Σ' (v497 : FVec F S96x256 .bf16) (v502 : FVec F S32x512 .fp8e5m2) (v507 : FVec F S32x512 .fp8e5m2) (v512 : FVec F S32x512 .fp8e5m2) (v517 : FVec F S32x512 .fp8e5m2) (v522 : FVec F S32x512 .fp8e5m2) (v523 : FVec F S32x128 .fp8e5m2) (v524 : FVec F S32x128 .fp8e5m2) (v525 : FVec F S32x128 .fp8e5m2), FVec F S32x128 .fp8e5m2 ← k0_part17 i v7 arg3 harg3 arg6 harg6 arg7 harg7 v22 v15 v17 v10 v20 arg5 harg5 arg4 harg4 arg8 arg9 v59 v62 v65 v68 v88 v91 v94 v97 v123 v126 v129 v132 v158 v161 v164 v167 v266 v281 v284 v287 v290 v310 v313 v316 v319 v397 v455 v464 v467 cst_207
      let ⟨v544, v570⟩ : Σ' (v544 : FVec F S32x512 .f32), FVec F S8x512 .f32 ← k0_part18 i v7 arg3 harg3 arg6 harg6 arg7 harg7 v22 v15 v17 v10 v20 arg5 harg5 arg4 harg4 arg8 arg9 arg11 k0_hw10 v29 v31 v33 v345 v348 v351 v354 v380 v383 v386 v389 v497 v502 v507 v512 v517 v522 v523 v524 v525 v526
      let ⟨v605, v608, c3_i32_241⟩ : Σ' (v605 : BitVec 32) (v608 : BitVec 32), BitVec 32 ← k0_part19 i v7 arg3 harg3 arg6 harg6 arg7 harg7 v22 v15 v17 v10 v20 arg5 harg5 arg4 harg4 arg8 arg9 arg11 arg12 k0_hw10 v29 v31 v33 v544 v570
      let v609 : BitVec 32 := Scalar.shrsi v608 c3_i32_241
      let v610 : BitVec 32 := Scalar.maxsi 1#32 v609
      let v611 : BitVec 1 := Scalar.cmpi .sge v605 v610
      let v612 : BitVec 32 := Scalar.addi arg11 1#32
      let v613 : BitVec 32 := Scalar.select v611 v612 arg11
      let v614 : BitVec 32 := Scalar.minsi v613 192#32
      let v615 : BitVec 32 := Scalar.select v611 0#32 v605
      pure (v614, v615)

section
variable (c : Dev nD) (i : grid0.Coords) (v7 : FVec F S8x128 .f32) (arg3 : Memref sig .tc .smem S1x384x256 .i32) (harg3 : arg3.IsWhole) (arg6 : Memref sig .tc .vmem S4x5784x128 .i32) (harg6 : arg6.IsWhole) (arg7 : Memref sig .tc .vmem S3080x128 .f32) (harg7 : arg7.IsWhole) (v22 : IVec S8x128 32) (v15 : FVec F S8x128 .f32) (v17 : IVec S8x128 1) (v10 : FVec F S8x128 .f32) (v20 : FVec F S8x128 .f32) (arg5 : Memref sig .tc .vmem S1x6144x512 .f32) (harg5 : arg5.IsWhole) (arg4 : Memref sig .tc .smem S1x1x256 .i32) (harg4 : arg4.IsWhole)

theorem chunk_run (bd : Option 𝒱₀.V) (arg8 arg9 : BitVec 32) (k : Fin k0_t5_loop.trips) (t a : BitVec 32)
    (f3 : Buf (Elt F) (arg3.view.loc (c : Thread nD τ))) (f4 : Buf (Elt F) (arg4.view.loc (c : Thread nD τ)))
    (f5 : Buf (Elt F) (arg5.view.loc (c : Thread nD τ)))
    (f6 : Buf (Elt F) (arg6.view.loc (c : Thread nD τ))) (f7 : Buf (Elt F) (arg7.view.loc (c : Thread nD τ)))
    (hL : ∀ x, WordOk (arg3.view.read (Elt F) f3 x)) (hC : ∀ x, (arg4.view.read (Elt F) f4 x : BitVec 32).toInt ≤ 768)
    (ht : t.toNat ≤ 192) (ha : a.toNat ≤ 95) :
    iprop(pt c arg3 f3 ∗ pt c arg4 f4 ∗ pt c arg5 f5 ∗ pt c arg6 f6 ∗ pt c arg7 f7) ⊢ wp frame (wpE (defs₀ (F := F)) 𝒱₀ (c : Thread nD τ) bd) Set.univ
      (chunkBody (F := F) i v7 arg3 harg3 arg6 harg6 arg7 harg7 v22 v15 v17 v10 v20 arg5 harg5 arg4 harg4 arg8 arg9 k (t, a))
      (fun r => iprop((∃ f, pt c arg5 f) ∗ pt c arg3 f3 ∗ pt c arg4 f4 ∗ pt c arg6 f6 ∗ pt c arg7 f7 ∗ ⌜∃ x, (x 2).val = t.toNat ∧ r = (nextT (arg4.view.read (Elt F) f4 x) t a, nextC (arg4.view.read (Elt F) f4 x) a)⌝)) := by
  have h10 := chk10_of t ht
  have h1 := chk1_of t a ht ha
  unfold chunkBody
  iintro ⟨H3, H4, H5, H6, H7⟩
  sl_exec (disch := (with_reducible first | refine chk2_of _ _ ?_ | refine chk3_of _ _ ?_ | refine chk4_of _ _ ?_ | refine chk5_of _ _ ?_ | refine chk6_of _ _ ?_ | refine chk7_of _ _ ?_ | refine chk8_of _ _ ?_ | refine chk9_of _ _ ?_) <;> exact hL _)
  sl_step
  isplitl [H5]; · iexists _; iexact H5
  isplitl [H3]; · iexact H3
  isplitl [H4]; · iexact H4
  isplitl [H6]; · iexact H6
  isplitl [H7]; · iexact H7
  ipureintro
  refine ⟨(Rect.unit (s := S1x1x256) (k0_off54 t) S1x1x1.size (k0_off54_inb t h10)).toLoadRect.idx (Shape.Idx.first (numel1_S1x1x1.symm ▸ Nat.one_pos)), rfl, ?_⟩
  delta chunk_run.sl.v614 chunk_run.sl.v615 chunk_run.sl.v613 chunk_run.sl.v612 chunk_run.sl.v611 chunk_run.sl.v610 chunk_run.sl.v609 chunk_run.sl.v608 chunk_run.sl.v605 chunk_run.sl.r_38
  delta nextT nextC chunksOf
  rfl

end

end Cert.Proof.P

end
-- ==== Proof.P.While.lean ====
/-
  The sweep: the label that runs chunks until the last tile is past, by induction on the chunks still ahead.
-/
module

public import proofs.«01_k».proof.Proof.P.Chunk

@[expose] public section

noncomputable section

namespace Cert.Proof.P

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (v7 : FVec F S8x128 .f32) (arg3 : Memref sig .tc .smem S1x384x256 .i32) (harg3 : arg3.IsWhole) (arg6 : Memref sig .tc .vmem S4x5784x128 .i32) (harg6 : arg6.IsWhole) (arg7 : Memref sig .tc .vmem S3080x128 .f32) (harg7 : arg7.IsWhole) (v22 : IVec S8x128 32) (v15 : FVec F S8x128 .f32) (v17 : IVec S8x128 1) (v10 : FVec F S8x128 .f32) (v20 : FVec F S8x128 .f32) (arg5 : Memref sig .tc .vmem S1x6144x512 .f32) (harg5 : arg5.IsWhole) (arg4 : Memref sig .tc .smem S1x1x256 .i32) (harg4 : arg4.IsWhole)

set_option maxRecDepth 65536 in
/-- The label's body: eight chunks and the call of itself while a tile is left. -/
theorem while_eq (t a : BitVec 32) :
    cc0_while1 (F := F) i v7 arg3 harg3 arg6 harg6 arg7 harg7 v22 v15 v17 v10 v20 arg5 harg5 arg4 harg4 t a
      = if Scalar.cmpi .slt t 192#32 = 1#1 then
          (Scf.Loop.for k0_t5_loop k0_t5_ok (t, a) (chunkBody i v7 arg3 harg3 arg6 harg6 arg7 harg7 v22 v15 v17 v10 v20 arg5 harg5 arg4 harg4 t a) >>= fun p =>
            Prog.op (.call (1 : (Λ₀ F).Label) ⟨i, v7, arg3, harg3, arg6, harg6, arg7, harg7, v22, v15, v17, v10, v20, arg5, harg5, arg4, harg4, p.1, p.2⟩) .ret)
        else Prog.ret (t, a) := by
  rw [cc0_while1_eq_skeleton]; rfl

theorem slt_iff {t : BitVec 32} (ht : t.toNat ≤ 192) : Scalar.cmpi .slt t 192#32 = 1#1 ↔ t.toNat < 192 := by
  have key : ∀ n : Fin 193, (Scalar.cmpi .slt (BitVec.ofNat 32 n.val) 192#32 = 1#1 ↔ (BitVec.ofNat 32 n.val).toNat < 192) := by decide +kernel
  have := key ⟨t.toNat, by omega⟩
  simpa only [BitVec.ofNat_toNat, BitVec.setWidth_eq] using this

variable (f3 : Buf (Elt F) (arg3.view.loc (c : Thread nD τ))) (f4 : Buf (Elt F) (arg4.view.loc (c : Thread nD τ)))
    (f6 : Buf (Elt F) (arg6.view.loc (c : Thread nD τ))) (f7 : Buf (Elt F) (arg7.view.loc (c : Thread nD τ)))

/-- What the sweep holds: what it reads at its contents and the result at `f5`. -/
abbrev held (f5 : Buf (Elt F) (arg5.view.loc (c : Thread nD τ))) : sProp 𝕄 :=
  iprop(pt c arg3 f3 ∗ pt c arg4 f4 ∗ pt c arg5 f5 ∗ pt c arg6 f6 ∗ pt c arg7 f7)

variable (J : BitVec 32 → BitVec 32 → Buf (Elt F) (arg5.view.loc (c : Thread nD τ)) → Prop)

/-- Holding the sweep's buffers with the result at contents `J` admits for the state `r`, within bounds. -/
abbrev heldJ (m : ℕ) (r : BitVec 32 × BitVec 32) : sProp 𝕄 :=
  iprop(∃ f5, held c arg3 arg6 arg7 arg5 arg4 f3 f4 f6 f7 f5 ∗ ⌜r.1.toNat ≤ 192 ∧ r.2.toNat ≤ 95 ∧ mu r.1 r.2 ≤ m ∧ J r.1 r.2 f5⌝)

/-- One chunk keeps `J`. -/
def ChunkKeeps : Prop :=
  ∀ (bd : Option 𝒱₀.V) (arg8 arg9 : BitVec 32) (k : Fin k0_t5_loop.trips) (t a : BitVec 32) (f5 : Buf (Elt F) (arg5.view.loc (c : Thread nD τ))),
    t.toNat ≤ 192 → a.toNat ≤ 95 → J t a f5 →
    held c arg3 arg6 arg7 arg5 arg4 f3 f4 f6 f7 f5 ⊢ wp frame (wpE (defs₀ (F := F)) 𝒱₀ (c : Thread nD τ) bd) Set.univ
      (chunkBody (F := F) i v7 arg3 harg3 arg6 harg6 arg7 harg7 v22 v15 v17 v10 v20 arg5 harg5 arg4 harg4 arg8 arg9 k (t, a))
      (fun r => heldJ c arg3 arg6 arg7 arg5 arg4 f3 f4 f6 f7 J (mu t a - 1) r)

variable (hJ : ChunkKeeps c i v7 arg3 harg3 arg6 harg6 arg7 harg7 v22 v15 v17 v10 v20 arg5 harg5 arg4 harg4 f3 f4 f6 f7 J)

include hJ in
set_option warn.classDefReducibility false in
/-- Eight chunks by their invariant: `k` chunks on, the measure has fallen by `k`. -/
def loopInv_t5 (bd : Option 𝒱₀.V) (t a : BitVec 32) :
    LoopInv (M := 𝕄) Idealize.ShloMosaic.frame (wpE (defs₀ (F := F)) 𝒱₀ (c : Thread nD τ) bd) Set.univ
      k0_t5_loop.lb k0_t5_loop.ub k0_t5_loop.st k0_t5_ok (t, a) (chunkBody (F := F) i v7 arg3 harg3 arg6 harg6 arg7 harg7 v22 v15 v17 v10 v20 arg5 harg5 arg4 harg4 t a) where
  inv := fun k r => heldJ c arg3 arg6 arg7 arg5 arg4 f3 f4 f6 f7 J (mu t a - k) r
  step := fun k r => by
    iintro ⟨%f5, H, %h⟩
    iapply (wp_wand_r Idealize.ShloMosaic.frame (wpE (defs₀ (F := F)) 𝒱₀ (c : Thread nD τ) bd) Set.univ)
    isplitl [H]
    · iapply (hJ bd t a k r.1 r.2 f5 h.1 h.2.1 h.2.2.2); iexact H
    · iintro %r' ⟨%f5', H, %h'⟩
      iexists f5'
      isplitl [H]; · iexact H
      ipureintro
      exact ⟨h'.1, h'.2.1, by omega, h'.2.2.2⟩

include hJ in
/-- Past the eight chunks the measure has fallen by eight. -/
theorem loop_t5 (bd : Option 𝒱₀.V) (t a : BitVec 32) {β : Type} (kk : BitVec 32 × BitVec 32 → Prog (TpuEff nD τ sig (Elt F) (Λ₀ F) .tc) β) (Q : β → sProp 𝕄) :
    heldJ c arg3 arg6 arg7 arg5 arg4 f3 f4 f6 f7 J (mu t a) (t, a)
    ⊢ iprop((∀ r, heldJ c arg3 arg6 arg7 arg5 arg4 f3 f4 f6 f7 J (mu t a - 8) r -∗ wp frame (wpE (defs₀ (F := F)) 𝒱₀ (c : Thread nD τ) bd) Set.univ (kk r) Q)
      -∗ wp frame (wpE (defs₀ (F := F)) 𝒱₀ (c : Thread nD τ) bd) Set.univ (Scf.Loop.for k0_t5_loop k0_t5_ok (t, a) (chunkBody i v7 arg3 harg3 arg6 harg6 arg7 harg7 v22 v15 v17 v10 v20 arg5 harg5 arg4 harg4 t a) >>= kk) Q) := by
  have h := exec_loop Idealize.ShloMosaic.frame (wpE (defs₀ (F := F)) 𝒱₀ (c : Thread nD τ) bd) Set.univ _ _ _ k0_t5_ok (t, a)
        (chunkBody (F := F) i v7 arg3 harg3 arg6 harg6 arg7 harg7 v22 v15 v17 v10 v20 arg5 harg5 arg4 harg4 t a) (loopInv_t5 c i v7 arg3 harg3 arg6 harg6 arg7 harg7 v22 v15 v17 v10 v20 arg5 harg5 arg4 harg4 f3 f4 f6 f7 J hJ bd t a) (kk := kk) (Q := Q)
  have htr : Scf.trips k0_t5_loop.lb k0_t5_loop.ub k0_t5_loop.st = 8 := by decide +kernel
  rw [htr] at h
  exact h

include hJ in
/-- The label at `(t, a)`, entered with at least its measure of calls to go, ends past the last tile with `J` of its state. -/
theorem while_run : ∀ (n : ℕ) (t a : BitVec 32), mu t a ≤ n → ∀ (Q : BitVec 32 × BitVec 32 → sProp 𝕄),
    iprop(heldJ c arg3 arg6 arg7 arg5 arg4 f3 f4 f6 f7 J (mu t a) (t, a)
      ∗ (∀ r, (heldJ c arg3 arg6 arg7 arg5 arg4 f3 f4 f6 f7 J 0 r ∗ ⌜192 ≤ r.1.toNat⌝) -∗ Q r))
    ⊢ wp frame (wpE (defs₀ (F := F)) 𝒱₀ (c : Thread nD τ) (some n)) Set.univ
        (cc0_while1 (F := F) i v7 arg3 harg3 arg6 harg6 arg7 harg7 v22 v15 v17 v10 v20 arg5 harg5 arg4 harg4 t a) Q := by
  intro n
  induction n using Nat.strong_induction_on with
  | _ n ih =>
    intro t a hn Q
    rw [while_eq]
    iintro ⟨⟨%f5, H, %h⟩, Hk⟩
    have ht : t.toNat ≤ 192 := h.1
    by_cases hc : Scalar.cmpi .slt t 192#32 = 1#1
    · rw [if_pos hc]
      have hlt := (slt_iff ht).1 hc
      have hpos : 0 < mu t a := by unfold mu; rw [if_neg (by omega)]; omega
      iapply (loop_t5 c i v7 arg3 harg3 arg6 harg6 arg7 harg7 v22 v15 v17 v10 v20 arg5 harg5 arg4 harg4 f3 f4 f6 f7 J hJ (some n) t a) $$ [H]
      · iexists f5
        isplitl [H]; · iexact H
        ipureintro; exact ⟨h.1, h.2.1, le_rfl, h.2.2.2⟩
      iintro %r ⟨%f5', H, %h'⟩
      iapply (wp_call 𝒱₀ (c : Thread nD τ) (some n) Set.univ (mu r.1 r.2) (fun u hu => by cases hu; show mu r.1 r.2 < n; omega))
      iapply (ih (mu r.1 r.2) (by omega) r.1 r.2 le_rfl _)
      isplitl [H]
      · iexists f5'
        isplitl [H]; · iexact H
        ipureintro; exact ⟨h'.1, h'.2.1, le_rfl, h'.2.2.2⟩
      iintro %r' H
      rw [wp_ret]; imodintro
      iapply Hk; iexact H
    · rw [if_neg hc]
      have hge : 192 ≤ t.toNat := by
        by_contra hlt; exact hc ((slt_iff ht).2 (by omega))
      rw [wp_ret]; imodintro
      iapply Hk
      isplitl [H]
      · iexists f5
        isplitl [H]; · iexact H
        ipureintro; exact ⟨h.1, h.2.1, by unfold mu; rw [if_pos hge], h.2.2.2⟩
      · ipureintro; exact hge

include hJ in
/-- The sweep called from the kernel's body. -/
theorem sweep_run {β : Type} (kk : BitVec 32 × BitVec 32 → Prog (TpuEff nD τ sig (Elt F) (Λ₀ F) .tc) β) (Q : β → sProp 𝕄)
    (f5 : Buf (Elt F) (arg5.view.loc (c : Thread nD τ))) (h0 : J 0#32 0#32 f5) :
    iprop(held c arg3 arg6 arg7 arg5 arg4 f3 f4 f6 f7 f5
      ∗ (∀ r, (heldJ c arg3 arg6 arg7 arg5 arg4 f3 f4 f6 f7 J 0 r ∗ ⌜192 ≤ r.1.toNat⌝) -∗ wp frame (wpE (defs₀ (F := F)) 𝒱₀ (c : Thread nD τ) none) Set.univ (kk r) Q))
    ⊢ wp frame (wpE (defs₀ (F := F)) 𝒱₀ (c : Thread nD τ) none) Set.univ
        (Prog.op (.call (1 : (Λ₀ F).Label) ⟨i, v7, arg3, harg3, arg6, harg6, arg7, harg7, v22, v15, v17, v10, v20, arg5, harg5, arg4, harg4, 0#32, 0#32⟩) kk) Q := by
  iintro ⟨H, Hk⟩
  iapply (wp_call 𝒱₀ (c : Thread nD τ) none Set.univ (mu 0#32 0#32) (fun u hu => nomatch hu))
  iapply (while_run c i v7 arg3 harg3 arg6 harg6 arg7 harg7 v22 v15 v17 v10 v20 arg5 harg5 arg4 harg4 f3 f4 f6 f7 J hJ (mu 0#32 0#32) 0#32 0#32 le_rfl _)
  isplitl [H]
  · iexists f5
    isplitl [H]; · iexact H
    ipureintro; exact ⟨Nat.zero_le _, Nat.zero_le _, le_rfl, h0⟩
  iintro %r H
  iapply Hk; iexact H

end

end Cert.Proof.P

end
-- ==== Proof.P.Main.lean ====
/-
  The kernel's body: the relay of the codes into packed words, the spread of the parameters, and the sweep.
-/
module

public import proofs.«01_k».proof.Proof.P.While

@[expose] public section

noncomputable section

namespace Cert.Proof.P

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg1 : Memref sig .tc .vmem S1x49x384x512 .i8) (harg1 : arg1.IsWhole)
  (arg2 : Memref sig .tc .vmem S1x8x384 .f32) (harg2 : arg2.IsWhole)
  (arg3 : Memref sig .tc .smem S1x384x256 .i32) (harg3 : arg3.IsWhole)
  (arg4 : Memref sig .tc .smem S1x1x256 .i32) (harg4 : arg4.IsWhole)
  (arg5 : Memref sig .tc .vmem S1x6144x512 .f32) (harg5 : arg5.IsWhole)
  (arg6 : Memref sig .tc .vmem S4x5784x128 .i32) (harg6 : arg6.IsWhole)
  (arg7 : Memref sig .tc .vmem S3080x128 .f32) (harg7 : arg7.IsWhole)

set_option warn.classDefReducibility false in
@[sl_loop] def loopInv_t3 (bd : Option 𝒱₀.V) (t1 : Fin k0_t1_loop.trips) (v24 : BitVec 32) (t2 : Fin k0_t2_loop.trips) (arg9 : BitVec 32)
    (f1 : Buf (Elt F) (arg1.view.loc (c : Thread nD τ))) :
    LoopInvTy_k0_t3 (F := F) Unit ℕ (UR sig nD τ) ℕ 𝒱₀ c bd Set.univ i arg1 harg1 arg2 harg2 arg3 harg3 arg4 harg4 arg5 harg5 arg6 harg6 arg7 harg7 t1 v24 t2 arg9 where
  inv := fun k _ => iprop(pt c arg1 f1 ∗ ∃ f, pt c arg6 f)
  step := fun k acc => by
    unfold k0_t3_body
    iintro ⟨H1, ⟨%f6, H6⟩⟩
    sl_exec
    sl_step
    isplitl [H1]; · iexact H1
    iexists _; iexact H6

set_option warn.classDefReducibility false in
@[sl_loop] def loopInv_t2 (bd : Option 𝒱₀.V) (t1 : Fin k0_t1_loop.trips) (v24 : BitVec 32)
    (f1 : Buf (Elt F) (arg1.view.loc (c : Thread nD τ))) :
    LoopInvTy_k0_t2 (F := F) Unit ℕ (UR sig nD τ) ℕ 𝒱₀ c bd Set.univ i arg1 harg1 arg2 harg2 arg3 harg3 arg4 harg4 arg5 harg5 arg6 harg6 arg7 harg7 t1 v24 where
  inv := fun k _ => iprop(pt c arg1 f1 ∗ ∃ f, pt c arg6 f)
  step := fun k acc => by
    unfold k0_t2_body
    iintro ⟨H1, ⟨%f6, H6⟩⟩
    sl_exec
    sl_step
    sl_close

set_option warn.classDefReducibility false in
@[sl_loop] def loopInv_t1 (bd : Option 𝒱₀.V)
    (f1 : Buf (Elt F) (arg1.view.loc (c : Thread nD τ))) :
    LoopInvTy_k0_t1 (F := F) Unit ℕ (UR sig nD τ) ℕ 𝒱₀ c bd Set.univ i arg1 harg1 arg2 harg2 arg3 harg3 arg4 harg4 arg5 harg5 arg6 harg6 arg7 harg7 where
  inv := fun k _ => iprop(pt c arg1 f1 ∗ ∃ f, pt c arg6 f)
  step := fun k acc => by
    unfold k0_t1_body
    iintro ⟨H1, ⟨%f6, H6⟩⟩
    sl_exec
    sl_step
    sl_close

set_option warn.classDefReducibility false in
@[sl_loop] def loopInv_t4 (bd : Option 𝒱₀.V)
    (f2 : Buf (Elt F) (arg2.view.loc (c : Thread nD τ))) :
    LoopInvTy_k0_t4 (F := F) Unit ℕ (UR sig nD τ) ℕ 𝒱₀ c bd Set.univ i arg1 harg1 arg2 harg2 arg3 harg3 arg4 harg4 arg5 harg5 arg6 harg6 arg7 harg7 where
  inv := fun k _ => iprop(pt c arg2 f2 ∗ ∃ f, pt c arg7 f)
  step := fun k acc => by
    unfold k0_t4_body
    iintro ⟨H2, ⟨%f7, H7⟩⟩
    sl_exec
    sl_step
    isplitl [H2]; · iexact H2
    iexists _; iexact H7

theorem chunkKeeps_true (v7 : FVec F S8x128 .f32) (arg3 : Memref sig .tc .smem S1x384x256 .i32) (harg3 : arg3.IsWhole) (arg6 : Memref sig .tc .vmem S4x5784x128 .i32) (harg6 : arg6.IsWhole) (arg7 : Memref sig .tc .vmem S3080x128 .f32) (harg7 : arg7.IsWhole) (v22 : IVec S8x128 32) (v15 : FVec F S8x128 .f32) (v17 : IVec S8x128 1) (v10 : FVec F S8x128 .f32) (v20 : FVec F S8x128 .f32) (arg5 : Memref sig .tc .vmem S1x6144x512 .f32) (harg5 : arg5.IsWhole) (arg4 : Memref sig .tc .smem S1x1x256 .i32) (harg4 : arg4.IsWhole)
    (f3 : Buf (Elt F) (arg3.view.loc (c : Thread nD τ))) (f4 : Buf (Elt F) (arg4.view.loc (c : Thread nD τ)))
    (f6 : Buf (Elt F) (arg6.view.loc (c : Thread nD τ))) (f7 : Buf (Elt F) (arg7.view.loc (c : Thread nD τ)))
    (hL : ∀ x, WordOk (arg3.view.read (Elt F) f3 x)) (hC : ∀ x, (arg4.view.read (Elt F) f4 x : BitVec 32).toInt ≤ 768) :
    ChunkKeeps c i v7 arg3 harg3 arg6 harg6 arg7 harg7 v22 v15 v17 v10 v20 arg5 harg5 arg4 harg4 f3 f4 f6 f7 (fun _ _ _ => True) := by
  intro bd arg8 arg9 k t a f5 ht ha _
  iintro H
  iapply (wp_wand_r Idealize.ShloMosaic.frame (wpE (defs₀ (F := F)) 𝒱₀ (c : Thread nD τ) bd) Set.univ)
  isplitl [H]
  · iapply (chunk_run c i v7 arg3 harg3 arg6 harg6 arg7 harg7 v22 v15 v17 v10 v20 arg5 harg5 arg4 harg4 bd arg8 arg9 k t a f3 f4 f5 f6 f7 hL hC ht ha)
    iexact H
  iintro %r ⟨⟨%f, H5⟩, H3, H4, H6, H7, %hr⟩
  obtain ⟨x, hx, rfl⟩ := hr
  iexists f
  isplitl [H3 H4 H5 H6 H7]
  · unfold held
    isplitl [H3]; · iexact H3
    isplitl [H4]; · iexact H4
    isplitl [H5]; · iexact H5
    isplitl [H6]; · iexact H6
    iexact H7
  ipureintro
  have h := next_ok (hC x) ht ha
  exact ⟨h.1, h.2.1, h.2.2, trivial⟩

theorem kernel_run (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (f7 : Buf (Elt F) (arg7.view.loc (c : Thread nD τ)))
    (hL : ∀ x, WordOk (arg3.view.read (Elt F) f3 x)) (hC : ∀ x, (arg4.view.read (Elt F) f4 x : BitVec 32).toInt ≤ 768) :
    iprop(pt c arg1 f1 ∗ pt c arg2 f2 ∗ pt c arg3 f3 ∗ pt c arg4 f4 ∗ pt c arg5 f5 ∗ pt c arg6 f6 ∗ pt c arg7 f7)
    ⊢ wp frame (wpE (defs₀ (F := F)) 𝒱₀ (c : Thread nD τ) none) Set.univ (cc0_main (F := F) i arg1 harg1 arg2 harg2 arg3 harg3 arg4 harg4 arg5 harg5 arg6 harg6 arg7 harg7)
      (fun _ => iprop(pt c arg1 f1 ∗ pt c arg2 f2 ∗ pt c arg3 f3 ∗ pt c arg4 f4 ∗ (∃ f, pt c arg5 f) ∗ (∃ f, pt c arg6 f) ∗ (∃ f, pt c arg7 f))) := by
  rw [cc0_main_eq_skeleton]; unfold cc0_main_skel
  iintro ⟨H1, H2, H3, H4, H5, H6, H7⟩
  by_cases hc : Scalar.cmpi .ne (Scalar.extui (Scalar.cmpi .eq (BitVec.ofNat 32 (i 0).val) 0#32) : BitVec 32) 0#32 = 1#1
  · sl_exec
    rename_i fL0 _ fL1
    iapply (sweep_run c i k0_pay6 arg3 harg3 arg6 harg6 arg7 harg7 k0_pay11 k0_pay8 k0_pay9 k0_pay7 k0_pay10 arg5 harg5 arg4 harg4 f3 f4 fL0 fL1
      (fun _ _ _ => True) (chunkKeeps_true c i _ arg3 harg3 arg6 harg6 arg7 harg7 _ _ _ _ _ arg5 harg5 arg4 harg4 f3 f4 fL0 fL1 hL hC) _ _ f5 trivial)
    isplitl [H3 H4 H5 H6 H7]
    · unfold held
      isplitl [H3]; · iexact H3
      isplitl [H4]; · iexact H4
      isplitl [H5]; · iexact H5
      isplitl [H6]; · iexact H6
      iexact H7
    iintro %r
    obtain ⟨r1, r2⟩ := r
    iintro ⟨⟨%f5', ⟨H3, H4, H5, H6, H7⟩, %hr⟩, %hge⟩
    sl_exec
    sl_step
    isplitl [H1]; · iexact H1
    isplitl [H2]; · iexact H2
    isplitl [H3]; · iexact H3
    isplitl [H4]; · iexact H4
    isplitl [H5]; · iexists _; iexact H5
    isplitl [H6]; · iexists _; iexact H6
    iexists _; iexact H7
  · sl_exec
    rename_i fL0 _ fL1
    iapply (sweep_run c i k0_pay6 arg3 harg3 arg6 harg6 arg7 harg7 k0_pay11 k0_pay8 k0_pay9 k0_pay7 k0_pay10 arg5 harg5 arg4 harg4 f3 f4 fL0 fL1
      (fun _ _ _ => True) (chunkKeeps_true c i _ arg3 harg3 arg6 harg6 arg7 harg7 _ _ _ _ _ arg5 harg5 arg4 harg4 f3 f4 fL0 fL1 hL hC) _ _ f5 trivial)
    isplitl [H3 H4 H5 H6 H7]
    · unfold held
      isplitl [H3]; · iexact H3
      isplitl [H4]; · iexact H4
      isplitl [H5]; · iexact H5
      isplitl [H6]; · iexact H6
      iexact H7
    iintro %r
    obtain ⟨r1, r2⟩ := r
    iintro ⟨⟨%f5', ⟨H3, H4, H5, H6, H7⟩, %hr⟩, %hge⟩
    sl_exec
    sl_step
    isplitl [H1]; · iexact H1
    isplitl [H2]; · iexact H2
    isplitl [H3]; · iexact H3
    isplitl [H4]; · iexact H4
    isplitl [H5]; · iexists _; iexact H5
    isplitl [H6]; · iexists _; iexact H6
    iexists _; iexact H7

end

end Cert.Proof.P

end
-- ==== Proof.P.Run.lean ====
/-
  The run of the whole program: the kernel's triple of `Main.lean` put into the pipeline, the arrays at the region's entry,
  and the frame of the program under the precondition that every list entry names a roi of the tables and no column is
  longer than its two halves.
-/
module

public import proofs.«01_k».proof.Defs
public import proofs.«01_k».proof.Proof.P.Main
public import proofs.«01_k».proof.Proof.Gen.Kernel.Launch
public import proofs.«01_k».proof.Proof.Gen.Kernel.Points
public import Idealize.ShloMosaic.Lib.Pipeline.Frame
public import Idealize.ShloMosaic.Lib.Pipeline.FrameBody
public import Idealize.ShloMosaic.Lib.StableHlo.RunRead

@[expose] public section

noncomputable section

namespace Cert.Proof.P

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (RDat)

variable {F : FTy → Type} [FloatOps F] [∀ e, Nonempty (Elt F e)]

variable (m : (ℓ : Loc nD τ sig) → Buf (Elt F) ℓ) (ρ : Dev nD → PrngReg)

/-- What each buffer of core `c` holds when the region begins: the launch memory after the transpose and the reshape. -/
def V (c : Dev nD) (b : Ref sig .tc) : Buf (Elt F) ((c.tc : Thread nD τ).loc b) :=
  StableHlo.after (hostOps0 (F := F)) (fun b => m (c, b)) b

/-- The program up to the region. -/
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub (by constructor <;> rfl) fun c => main_chain c

/-- An argument of the program is as it was at launch when the region begins. -/
theorem V_arg (c : Dev nD) (b : Ref sig .tc) (h : b ∉ ([main_v0, main_v1] : List (Ref sig .tc))) : V m c b = m ((c.tc : Thread nD τ).loc b) := by
  unfold V
  exact StableHlo.after_unwritten [main_v0, main_v1] rfl h _

/-- The pipeline's data on core `c`: the arrays as the region finds them, nothing said of what a point leaves in its buffers,
    the scratch at anything between the points. -/
def rdat (c : Dev nD) : RDat τ (Elt F) Unit ℕ (UR sig nD τ) ℕ (cfg0 (F := F)) c where
  A w := V m c (Pipeline.arrRef spec0 w)
  after _ _ _ _ := True
  Φ _ := Pipeline.ΦA spec0 c
  q _ := fullShare
  owed _ := 0

/-- Window 0 at a point holds the point's block of the bytes. -/
theorem found0 (c : Dev nD) (t : Fin (cfg0 (F := F)).N) (Y : (win0_0).block.Idx → Elt F .i8)
    (h : (rdat m c).Finds 0 t Y) : Y = (win0_0.blk t).view.read (Elt F) (V m c main_v1) := by
  obtain ⟨d, rfl⟩ := ((rdat m c).finds_of_fetch (fetch0_0 t) Y).mp h
  funext j
  have hm : ((cfg0 (F := F)).win 0).moved (grid0.coords t) j = true := (win0_0.moved_iff _ j).mpr fun a => (j a).isLt
  unfold RDat.fetched Pipeline.Window.fill
  exact (dif_pos hm).trans rfl

/-- Window 1 at a point holds the point's block of the roi parameters. -/
theorem found1 (c : Dev nD) (t : Fin (cfg0 (F := F)).N) (Y : (win0_1).block.Idx → Elt F .f32)
    (h : (rdat m c).Finds 1 t Y) : Y = (win0_1.blk t).view.read (Elt F) (V m c main_arg1) := by
  obtain ⟨d, rfl⟩ := ((rdat m c).finds_of_fetch (fetch0_1 t) Y).mp h
  funext j
  have hm : ((cfg0 (F := F)).win 1).moved (grid0.coords t) j = true := (win0_1.moved_iff _ j).mpr fun a => (j a).isLt
  unfold RDat.fetched Pipeline.Window.fill
  exact (dif_pos hm).trans rfl

/-- Window 2 at a point holds the point's block of the lists. -/
theorem found2 (c : Dev nD) (t : Fin (cfg0 (F := F)).N) (Y : (win0_2).block.Idx → Elt F .i32)
    (h : (rdat m c).Finds 2 t Y) : Y = (win0_2.blk t).view.read (Elt F) (V m c main_arg2) := by
  obtain ⟨d, rfl⟩ := ((rdat m c).finds_of_fetch (fetch0_2 t) Y).mp h
  funext j
  have hm : ((cfg0 (F := F)).win 2).moved (grid0.coords t) j = true := (win0_2.moved_iff _ j).mpr fun a => (j a).isLt
  unfold RDat.fetched Pipeline.Window.fill
  exact (dif_pos hm).trans rfl

/-- Window 3 at a point holds the point's block of the column lengths. -/
theorem found3 (c : Dev nD) (t : Fin (cfg0 (F := F)).N) (Y : (win0_3).block.Idx → Elt F .i32)
    (h : (rdat m c).Finds 3 t Y) : Y = (win0_3.blk t).view.read (Elt F) (V m c main_arg3) := by
  obtain ⟨d, rfl⟩ := ((rdat m c).finds_of_fetch (fetch0_3 t) Y).mp h
  funext j
  have hm : ((cfg0 (F := F)).win 3).moved (grid0.coords t) j = true := (win0_3.moved_iff _ j).mpr fun a => (j a).isLt
  unfold RDat.fetched Pipeline.Window.fill
  exact (dif_pos hm).trans rfl

/-- What the precondition says of the launch memory: every half word of the lists is below the tables' length, every column
    length at most twice the number of rois. -/
def Ok : Prop := ∀ c : Dev nD, (∀ x, WordOk ((m ((c.tc : Thread nD τ).loc main_arg2) : S8x384x256.Idx → BitVec 32) x))
  ∧ ∀ x, ((m ((c.tc : Thread nD τ).loc main_arg3) : S8x1x256.Idx → BitVec 32) x).toInt ≤ 768

theorem words_ok (hm : Ok m) (c : Dev nD) (t : Fin (cfg0 (F := F)).N) (Y : (win0_2).block.Idx → Elt F .i32)
    (h : (rdat m c).Finds 2 t Y) (x) : WordOk (Y x) := by
  rw [found2 m c t Y h, V_arg m c main_arg2 (by decide)]; exact (hm c).1 _

theorem counts_ok (hm : Ok m) (c : Dev nD) (t : Fin (cfg0 (F := F)).N) (Y : (win0_3).block.Idx → Elt F .i32)
    (h : (rdat m c).Finds 3 t Y) (x) : (Y x : BitVec 32).toInt ≤ 768 := by
  rw [found3 m c t Y h, V_arg m c main_arg3 (by decide)]; exact (hm c).2 _

/-- Owning a whole buffer's memref is holding the buffer at contents that read so. -/
theorem owns_pt (c : Dev nD) {sp : Space} {S : Shape} {e : EltTy} (M : Memref sig .tc sp S e) (hM : M.IsWhole) (X : S.Idx → Elt F e) :
    (owns (c : Thread nD τ) M fullShare X : sProp (MT nD τ sig Unit (Elt F) ℕ (UR sig nD τ) ℕ)) = iprop(∃ f, ⌜M.view.read (Elt F) f = X⌝ ∗ pt c M f) := by
  unfold owns; rw [hM.set_eq_univ]

/-- The kernel's triple of `Main.lean` with the five staged operands owned at what they read as. -/
theorem kernel_owns (c : Dev nD) (i : grid0.Coords)
    (arg1 : Memref sig .tc .vmem S1x49x384x512 .i8) (harg1 : arg1.IsWhole) (arg2 : Memref sig .tc .vmem S1x8x384 .f32) (harg2 : arg2.IsWhole)
    (arg3 : Memref sig .tc .smem S1x384x256 .i32) (harg3 : arg3.IsWhole) (arg4 : Memref sig .tc .smem S1x1x256 .i32) (harg4 : arg4.IsWhole)
    (arg5 : Memref sig .tc .vmem S1x6144x512 .f32) (harg5 : arg5.IsWhole) (arg6 : Memref sig .tc .vmem S4x5784x128 .i32) (harg6 : arg6.IsWhole)
    (arg7 : Memref sig .tc .vmem S3080x128 .f32) (harg7 : arg7.IsWhole)
    (Y0 : S1x49x384x512.Idx → Elt F .i8) (Y1 : S1x8x384.Idx → Elt F .f32) (Y2 : S1x384x256.Idx → Elt F .i32) (Y3 : S1x1x256.Idx → Elt F .i32)
    (Y4 : S1x6144x512.Idx → Elt F .f32) (hL : ∀ x, WordOk (Y2 x)) (hC : ∀ x, (Y3 x : BitVec 32).toInt ≤ 768) :
    iprop(owns (c : Thread nD τ) arg1 fullShare Y0 ∗ owns (c : Thread nD τ) arg2 fullShare Y1 ∗ owns (c : Thread nD τ) arg3 fullShare Y2
      ∗ owns (c : Thread nD τ) arg4 fullShare Y3 ∗ owns (c : Thread nD τ) arg5 fullShare Y4 ∗ (∃ f, pt c arg6 f) ∗ (∃ f, pt c arg7 f))
    ⊢ wp frame (wpE (defs₀ (F := F)) 𝒱₀ (c : Thread nD τ) none) Set.univ (cc0_main (F := F) i arg1 harg1 arg2 harg2 arg3 harg3 arg4 harg4 arg5 harg5 arg6 harg6 arg7 harg7)
      (fun _ => iprop(owns (c : Thread nD τ) arg1 fullShare Y0 ∗ owns (c : Thread nD τ) arg2 fullShare Y1 ∗ owns (c : Thread nD τ) arg3 fullShare Y2
        ∗ owns (c : Thread nD τ) arg4 fullShare Y3 ∗ (∃ X, owns (c : Thread nD τ) arg5 fullShare X) ∗ (∃ f, pt c arg6 f) ∗ (∃ f, pt c arg7 f))) := by
  simp only [owns_pt c arg1 harg1, owns_pt c arg2 harg2, owns_pt c arg3 harg3, owns_pt c arg4 harg4, owns_pt c arg5 harg5]
  iintro ⟨⟨%f1, %e1, H1⟩, ⟨%f2, %e2, H2⟩, ⟨%f3, %e3, H3⟩, ⟨%f4, %e4, H4⟩, ⟨%f5, %e5, H5⟩, ⟨%f6, H6⟩, ⟨%f7, H7⟩⟩
  subst e1 e2 e3 e4 e5
  iapply (wp_wand_r Idealize.ShloMosaic.frame (wpE (defs₀ (F := F)) 𝒱₀ (c : Thread nD τ) none) Set.univ)
  isplitl [H1 H2 H3 H4 H5 H6 H7]
  · iapply (kernel_run c i arg1 harg1 arg2 harg2 arg3 harg3 arg4 harg4 arg5 harg5 arg6 harg6 arg7 harg7 f1 f2 f3 f4 f5 f6 f7 hL hC)
    isplitl [H1]; · iexact H1
    isplitl [H2]; · iexact H2
    isplitl [H3]; · iexact H3
    isplitl [H4]; · iexact H4
    isplitl [H5]; · iexact H5
    isplitl [H6]; · iexact H6
    iexact H7
  iintro %r ⟨H1, H2, H3, H4, ⟨%g5, H5⟩, H6, H7⟩
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _, g5; isplitr; · ipureintro; rfl
    iexact H5
  isplitl [H6]; · iexact H6
  iexact H7

/-- The staging buffer of window 0 that point `t` is on. -/
abbrev sg0 (t : Fin (cfg0 (F := F)).N) := win0_0.stage ((cfg0 (F := F)).slots t 0)
/-- The staging buffer of window 1 that point `t` is on. -/
abbrev sg1 (t : Fin (cfg0 (F := F)).N) := win0_1.stage ((cfg0 (F := F)).slots t 1)
/-- The staging buffer of window 2 that point `t` is on. -/
abbrev sg2 (t : Fin (cfg0 (F := F)).N) := win0_2.stage ((cfg0 (F := F)).slots t 2)
/-- The staging buffer of window 3 that point `t` is on. -/
abbrev sg3 (t : Fin (cfg0 (F := F)).N) := win0_3.stage ((cfg0 (F := F)).slots t 3)
/-- The staging buffer of window 4 that point `t` is on. -/
abbrev sg4 (t : Fin (cfg0 (F := F)).N) := win0_4.stage ((cfg0 (F := F)).slots t 4)

/-- The scratch between two points: both buffers at some contents, the generator register at some state. -/
theorem PhiA_eq (c : Dev nD) :
    (Pipeline.ΦA spec0 c : sProp (MT nD τ sig Unit (Elt F) ℕ (UR sig nD τ) ℕ))
      = iprop(((∃ f, pt c (Memref.whole cc0_scratch0) f) ∗ (∃ f, pt c (Memref.whole cc0_scratch1) f)) ∗ ∃ r, prngReg c r) := by
  unfold Pipeline.ΦA; rw [scopedRest0_eq]

/-- The body at a point, from the staging buffers at the point's blocks. -/
theorem sound_body (hm : Ok m) (c : Dev nD) (t : Fin (cfg0 (F := F)).N)
    (Y : (w : Fin (cfg0 (F := F)).W) → ((cfg0 (F := F)).win w).block.Idx → Elt F ((cfg0 (F := F)).win w).elt) (hY : ∀ w, (rdat m c).Finds w t (Y w)) :
    iprop((rdat m c).Φ t.castSucc ∗ (rdat m c).owesAt () t.castSucc
        ∗ owns (c : Thread nD τ) (sg0 t) fullShare (Y 0) ∗ owns (c : Thread nD τ) (sg1 t) fullShare (Y 1)
        ∗ owns (c : Thread nD τ) (sg2 t) fullShare (Y 2) ∗ owns (c : Thread nD τ) (sg3 t) fullShare (Y 3)
        ∗ owns (c : Thread nD τ) (sg4 t) fullShare (Y 4))
    ⊢ wp frame (wpE (defs₀ (F := F)) 𝒱₀ (c : Thread nD τ) none) Set.univ (bodyAt0 t) fun _ =>
      iprop((rdat m c).Φ t.succ ∗ (rdat m c).owesAt () t.succ
        ∗ (∃ X, ⌜(rdat m c).after 0 t (Y 0) X⌝ ∗ owns (c : Thread nD τ) (sg0 t) fullShare X)
        ∗ (∃ X, ⌜(rdat m c).after 1 t (Y 1) X⌝ ∗ owns (c : Thread nD τ) (sg1 t) fullShare X)
        ∗ (∃ X, ⌜(rdat m c).after 2 t (Y 2) X⌝ ∗ owns (c : Thread nD τ) (sg2 t) fullShare X)
        ∗ (∃ X, ⌜(rdat m c).after 3 t (Y 3) X⌝ ∗ owns (c : Thread nD τ) (sg3 t) fullShare X)
        ∗ (∃ X, ⌜(rdat m c).after 4 t (Y 4) X⌝ ∗ owns (c : Thread nD τ) (sg4 t) fullShare X)) := by
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, PhiA_eq]
  have k2 := words_ok m hm c t _ (hY 2)
  have k3 := counts_ok m hm c t _ (hY 3)
  iintro ⟨⟨⟨H6, H7⟩, Hg⟩, HO, H1, H2, H3, H4, H5⟩
  iapply (wp_wand_r Idealize.ShloMosaic.frame (wpE (defs₀ (F := F)) 𝒱₀ (c : Thread nD τ) none) Set.univ)
  isplitl [H1 H2 H3 H4 H5 H6 H7]
  · iapply (kernel_owns c (grid0.coords t) (sg0 t) (hstage0_0 (((cfg0 (F := F)).slots t 0).cast nbuf0_0)) (sg1 t) (hstage0_1 (((cfg0 (F := F)).slots t 1).cast nbuf0_1)) (sg2 t) (hstage0_2 (((cfg0 (F := F)).slots t 2).cast nbuf0_2)) (sg3 t) (hstage0_3 (((cfg0 (F := F)).slots t 3).cast nbuf0_3))
      (sg4 t) (hstage0_4 (((cfg0 (F := F)).slots t 4).cast nbuf0_4)) (Memref.whole cc0_scratch0) (Memref.isWhole_whole _) (Memref.whole cc0_scratch1) (Memref.isWhole_whole _)
      (Y 0) (Y 1) (Y 2) (Y 3) (Y 4) k2 k3)
    isplitl [H1]; · iexact H1
    isplitl [H2]; · iexact H2
    isplitl [H3]; · iexact H3
    isplitl [H4]; · iexact H4
    isplitl [H5]; · iexact H5
    isplitl [H6]; · iexact H6
    iexact H7
  iintro %r ⟨H1, H2, H3, H4, ⟨%X5, H5⟩, H6, H7⟩
  isplitl [H6 H7 Hg]
  · isplitl [H6 H7]
    · isplitl [H6]; · iexact H6
      iexact H7
    iexact Hg
  isplitl [HO]; · iexact HO
  isplitl [H1]
  · iexists (Y 0); isplitr; · ipureintro; trivial
    iexact H1
  isplitl [H2]
  · iexists (Y 1); isplitr; · ipureintro; trivial
    iexact H2
  isplitl [H3]
  · iexists (Y 2); isplitr; · ipureintro; trivial
    iexact H3
  isplitl [H4]
  · iexists (Y 3); isplitr; · ipureintro; trivial
    iexact H4
  iexists X5; isplitr; · ipureintro; trivial
  iexact H5

/-- The body table's row at the point is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (hm : Ok m) (c : Dev nD) : (rdat m c).BodyObligation (defs₀ (F := F)) 𝒱₀ () Set.univ := fun t Y hY => by
  rw [bigSep_W0, bigSep_W0, defs₀_row]
  exact triple_restated (sound_body m hm c t Y hY) rfl .rfl fun _ => .rfl

theorem rest_arg0 : main_arg0 ∈ Pipeline.restRefs sig spec0 := by decide

set_option backward.isDefEq.respectTransparency.types false in
/-- Every execution of the program ends, every argument as it was, every counter back at zero. -/
theorem run_main (hm : Ok m) :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  RDat.θ_run_frame cfgs (0 : Fin 1) launch0 defs₀ 𝒱₀ (rdat m) m ρ main (body_obligation m hm)
    (hshare := fun c w => by unfold RDat.share; split <;> rfl) (howed := fun _ _ => rfl) (V := V m) (hmain := hmain m) (hA := fun _ _ => rfl)
    (hΦ := fun _ _ => rfl) _ fun r h => ⟨fun c => ⟨((h.1 c).2 main_arg0 rest_arg0).trans (V_arg m c main_arg0 (by decide)),
      (h.1.arr_in c 1 rfl).trans (V_arg m c main_arg1 (by decide)), (h.1.arr_in c 2 rfl).trans (V_arg m c main_arg2 (by decide)),
      (h.1.arr_in c 3 rfl).trans (V_arg m c main_arg3 (by decide))⟩, h.2⟩

end Cert.Proof.P

end
-- ==== Proof.lean ====
/-
  The certificate. The frames of the kernel and of its idealization, each under the precondition that the lists are in range,
  by the runs of `Proof/P/Run.lean` and `Proof/PI/Run.lean`. The frames of the weights' call, of its idealization and of its
  reference, and that the idealization computes the reference's two arrays: both runs end at the arrays the kernel's
  pipeline leaves (`Proof/WV/Arrays.lean`), which `Proof/WV/Ref.lean` equates to the reference's terms, index by index.
  And that the idealized kernel computes the gradient of its reference, under the precondition `ready`: its run ends at a sum over
  the entries of each tile's list (`Proof/PV/Run.lean`), which `Proof/PV/Final.lean` equates to the reference's product.
-/
module

public import proofs.«01_k».proof.Defs
public import proofs.«01_k».proof.Proof.Pre.Words
public import proofs.«01_k».proof.Proof.Gen.Pre_in_range
public import proofs.«01_k».proof.Proof.Gen.Weights
public import proofs.«01_k».proof.Proof.Gen.Weights.Frame
public import proofs.«01_k».proof.Proof.Gen.WeightsIdeal
public import proofs.«01_k».proof.Proof.Gen.WeightsIdeal.Frame
public import proofs.«01_k».proof.Proof.Gen.WeightsIdeal.Value
public import proofs.«01_k».proof.Proof.Gen.WeightsReferenceIdeal
public import proofs.«01_k».proof.Proof.Gen.WeightsReferenceIdeal.Run
public import proofs.«01_k».proof.Proof.Gen.Pre_ready
public import proofs.«01_k».proof.Proof.Gen.KernelReferenceIdeal
public import proofs.«01_k».proof.Proof.Gen.KernelReferenceIdeal.Frame
public import proofs.«01_k».proof.Proof.Gen.KernelReferenceIdeal.Run
public import proofs.«01_k».proof.Proof.WV.Ref
public import proofs.«01_k».proof.Proof.PV.Words
public import proofs.«01_k».proof.Proof.PV.Final
public import proofs.«01_k».proof.Proof.P.Run
public import proofs.«01_k».proof.Proof.PI.Run
public import Idealize.ShloMosaic.Lib.Quiescent

@[expose] public section

namespace Cert.Proof

open Idealize.ShloMosaic Idealize.SL.Sem

/-- The run of the weights' reference, read at the arguments; it declares no semaphore. -/
theorem frame_reference : Cert.quiescent_WeightsReferenceIdeal := fun m ρ _ =>
  (θ_run Cert.WeightsReferenceIdeal.defs _ _).mono (fun r h => ⟨fun c => ⟨(h c).2.2.1, (h c).2.2.2⟩,
      Idealize.ShloMosaic.sem_eq_zero_of_no_sems (by decide) r.2⟩)
    (Cert.WeightsReferenceIdeal.Value.run (F := Ideal) m ρ)

/-- The idealized weights' call and its reference end with the same two arrays. -/
theorem weights : Cert.algebraic_WeightsIdeal_WeightsReferenceIdeal := fun m g m' g' _ hm =>
  ⟨fun c => (Cert.WeightsIdeal.Gen.dats m 0 c).arrAt 2 Cert.WeightsIdeal.cfg0.N,
   fun c => (Cert.WeightsIdeal.Gen.dats m 0 c).arrAt 3 Cert.WeightsIdeal.cfg0.N,
   (θ_run Cert.WeightsIdeal.defs _ _).mono (fun r h c =>
      ⟨Cert.WeightsIdeal.Value.post2 m r h c, Cert.WeightsIdeal.Value.post3 m r h c,
       Cert.WeightsIdeal.Value.kept_main_arg0 m r h c, Cert.WeightsIdeal.Value.kept_main_arg1 m r h c⟩)
      (Cert.WeightsIdeal.Gen.run_main (F := Ideal) m g),
   (θ_run Cert.WeightsReferenceIdeal.defs _ _).mono (fun r h c =>
      ⟨(h c).1.trans (WV.same_y m m' c (hm c).2), (h c).2.1.trans (WV.same_x m m' c (hm c).2), (h c).2.2.1, (h c).2.2.2⟩)
      (Cert.WeightsReferenceIdeal.Value.run (F := Ideal) m' g')⟩

/-- The idealized kernel runs and keeps its arguments when the lists are ready. -/
theorem frame_ready : Cert.quiescent_KernelIdeal_pre_ready := fun m g h =>
  (θ_run Cert.KernelIdeal.defs _ _).mono (fun _ hr => ⟨fun c => (hr.1 c).2, hr.2⟩) (PV.run_main m g (PV.ready_of m h))

/-- The idealized kernel and its reference end with the same gradient. -/
theorem gradient : Cert.algebraic_KernelIdeal_KernelReferenceIdeal_pre_ready := fun m g m' g' h hm =>
  ⟨fun c => PV.result m c,
   (θ_run Cert.KernelIdeal.defs _ _).mono (fun _ hr => hr.1) (PV.run_main m g (PV.ready_of m h)),
   (θ_run Cert.KernelReferenceIdeal.defs _ _).mono (fun _ hr c =>
      ⟨(hr c).1.trans (PV.same m m' c (hm c).1 (hm c).2.1 (hm c).2.2.1 (PV.ready_of m h)), (hr c).2⟩)
      (PV.run_reference m' g')⟩

theorem claim : Cert.Claim := ⟨Cert.Kernel.Gen.facts, Cert.KernelIdeal.Gen.facts, Cert.KernelReferenceIdeal.Gen.facts, Cert.Weights.Gen.facts, Cert.WeightsIdeal.Gen.facts,
  Cert.WeightsReferenceIdeal.Gen.facts, Cert.Pre_in_range.Gen.facts, Cert.Pre_ready.Gen.facts,
  fun m g h => P.run_main (F := Bits) m g fun c => in_range_words _ _ _ _ (h c),
  fun m g h => PI.run_main (F := Ideal) m g fun c => in_range_words _ _ _ _ (h c),
  frame_ready,
  fun m g _ => Cert.KernelReferenceIdeal.Gen.frame m g,
  fun m g _ => Cert.Weights.Gen.frame m g,
  fun m g _ => Cert.WeightsIdeal.Gen.frame m g,
  frame_reference, trivial, gradient, trivial, weights⟩

end Cert.Proof

end
